-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2ReferenceIdeal (m : (ℓ : Loc Cert.DwFf2ReferenceIdeal.nD Cert.DwFf2ReferenceIdeal.τ Cert.DwFf2ReferenceIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1ReferenceIdeal (m : (ℓ : Loc Cert.DwFf1ReferenceIdeal.nD Cert.DwFf1ReferenceIdeal.τ Cert.DwFf1ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_DwGates (m : (ℓ : Loc Cert.DwGates.nD Cert.DwGates.τ Cert.DwGates.sig) → Buf (Elt Bits) ℓ) : Prop :=
  True

def Pre_DwGatesIdeal (m : (ℓ : Loc Cert.DwGatesIdeal.nD Cert.DwGatesIdeal.τ Cert.DwGatesIdeal.sig) → Buf (Elt Ideal) ℓ) : Prop :=
  True

def Pre_DwGatesReferenceIdeal (m : (ℓ : Loc Cert.DwGatesReferenceIdeal.nD Cert.DwGatesReferenceIdeal.τ Cert.DwGatesReferenceIdeal.sig) → Buf (Elt Ideal) ℓ) : Prop :=
  True

def Pre_DwGla (m : (ℓ : Loc Cert.DwGla.nD Cert.DwGla.τ Cert.DwGla.sig) → Buf (Elt Bits) ℓ) : Prop :=
  True

def Pre_DwGlaIdeal (m : (ℓ : Loc Cert.DwGlaIdeal.nD Cert.DwGlaIdeal.τ Cert.DwGlaIdeal.sig) → Buf (Elt Ideal) ℓ) : Prop :=
  True

def Pre_DwGlaReferenceIdeal (m : (ℓ : Loc Cert.DwGlaReferenceIdeal.nD Cert.DwGlaReferenceIdeal.τ Cert.DwGlaReferenceIdeal.sig) → Buf (Elt Ideal) ℓ) : Prop :=
  True

def Pre_DwPair (m : (ℓ : Loc Cert.DwPair.nD Cert.DwPair.τ Cert.DwPair.sig) → Buf (Elt Bits) ℓ) : Prop :=
  True

def Pre_DwPairIdeal (m : (ℓ : Loc Cert.DwPairIdeal.nD Cert.DwPairIdeal.τ Cert.DwPairIdeal.sig) → Buf (Elt Ideal) ℓ) : Prop :=
  True

def Pre_DwPairReferenceIdeal (m : (ℓ : Loc Cert.DwPairReferenceIdeal.nD Cert.DwPairReferenceIdeal.τ Cert.DwPairReferenceIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1ReferenceIdeal (m : (ℓ : Loc Cert.DH1ReferenceIdeal.nD Cert.DH1ReferenceIdeal.τ Cert.DH1ReferenceIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXReferenceIdeal (m : (ℓ : Loc Cert.DXReferenceIdeal.nD Cert.DXReferenceIdeal.τ Cert.DXReferenceIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1)
      ∧ r.2.mem ((c.tc : Thread Cert.DActReferenceIdeal.nD Cert.DActReferenceIdeal.τ).loc Cert.DActReferenceIdeal.main_arg2) = m ((c.tc : Thread Cert.DActReferenceIdeal.nD Cert.DActReferenceIdeal.τ).loc Cert.DActReferenceIdeal.main_arg2))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ r.2.sem = fun _ => 0)

def quiescent_DwFf2ReferenceIdeal [hDwFf2ReferenceIdeal : Cert.DwFf2ReferenceIdeal.Facts] : Prop :=
  ∀ (m : (ℓ : Loc Cert.DwFf2ReferenceIdeal.nD Cert.DwFf2ReferenceIdeal.τ Cert.DwFf2ReferenceIdeal.sig) → Buf (Elt Ideal) ℓ) (g : Dev Cert.DwFf2ReferenceIdeal.nD → PrngReg), Pre_DwFf2ReferenceIdeal m →
    θ_run (Cert.DwFf2ReferenceIdeal.defs (F := Ideal)) (onTc (τ := Cert.DwFf2ReferenceIdeal.τ) (Cert.DwFf2ReferenceIdeal.main (F := Ideal))) ⟨m, fun _ => 0, g⟩ (fun r => (∀ c : Dev Cert.DwFf2ReferenceIdeal.nD,
      r.2.mem ((c.tc : Thread Cert.DwFf2ReferenceIdeal.nD Cert.DwFf2ReferenceIdeal.τ).loc Cert.DwFf2ReferenceIdeal.main_arg0) = m ((c.tc : Thread Cert.DwFf2ReferenceIdeal.nD Cert.DwFf2ReferenceIdeal.τ).loc Cert.DwFf2ReferenceIdeal.main_arg0)
      ∧ r.2.mem ((c.tc : Thread Cert.DwFf2ReferenceIdeal.nD Cert.DwFf2ReferenceIdeal.τ).loc Cert.DwFf2ReferenceIdeal.main_arg1) = m ((c.tc : Thread Cert.DwFf2ReferenceIdeal.nD Cert.DwFf2ReferenceIdeal.τ).loc Cert.DwFf2ReferenceIdeal.main_arg1))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ r.2.sem = fun _ => 0)

def quiescent_DwFf1ReferenceIdeal [hDwFf1ReferenceIdeal : Cert.DwFf1ReferenceIdeal.Facts] : Prop :=
  ∀ (m : (ℓ : Loc Cert.DwFf1ReferenceIdeal.nD Cert.DwFf1ReferenceIdeal.τ Cert.DwFf1ReferenceIdeal.sig) → Buf (Elt Ideal) ℓ) (g : Dev Cert.DwFf1ReferenceIdeal.nD → PrngReg), Pre_DwFf1ReferenceIdeal m →
    θ_run (Cert.DwFf1ReferenceIdeal.defs (F := Ideal)) (onTc (τ := Cert.DwFf1ReferenceIdeal.τ) (Cert.DwFf1ReferenceIdeal.main (F := Ideal))) ⟨m, fun _ => 0, g⟩ (fun r => (∀ c : Dev Cert.DwFf1ReferenceIdeal.nD,
      r.2.mem ((c.tc : Thread Cert.DwFf1ReferenceIdeal.nD Cert.DwFf1ReferenceIdeal.τ).loc Cert.DwFf1ReferenceIdeal.main_arg0) = m ((c.tc : Thread Cert.DwFf1ReferenceIdeal.nD Cert.DwFf1ReferenceIdeal.τ).loc Cert.DwFf1ReferenceIdeal.main_arg0)
      ∧ r.2.mem ((c.tc : Thread Cert.DwFf1ReferenceIdeal.nD Cert.DwFf1ReferenceIdeal.τ).loc Cert.DwFf1ReferenceIdeal.main_arg1) = m ((c.tc : Thread Cert.DwFf1ReferenceIdeal.nD Cert.DwFf1ReferenceIdeal.τ).loc Cert.DwFf1ReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_DwGates [hDwGates : Cert.DwGates.Facts] : Prop :=
  ∀ (m : (ℓ : Loc Cert.DwGates.nD Cert.DwGates.τ Cert.DwGates.sig) → Buf (Elt Bits) ℓ) (g : Dev Cert.DwGates.nD → PrngReg), Pre_DwGates m →
    θ_run (Cert.DwGates.defs (F := Bits)) (onTc (τ := Cert.DwGates.τ) (Cert.DwGates.main (F := Bits))) ⟨m, fun _ => 0, g⟩ (fun r => (∀ c : Dev Cert.DwGates.nD,
      r.2.mem ((c.tc : Thread Cert.DwGates.nD Cert.DwGates.τ).loc Cert.DwGates.main_arg0) = m ((c.tc : Thread Cert.DwGates.nD Cert.DwGates.τ).loc Cert.DwGates.main_arg0)
      ∧ r.2.mem ((c.tc : Thread Cert.DwGates.nD Cert.DwGates.τ).loc Cert.DwGates.main_arg1) = m ((c.tc : Thread Cert.DwGates.nD Cert.DwGates.τ).loc Cert.DwGates.main_arg1))
      ∧ r.2.sem = fun _ => 0)

def quiescent_DwGatesIdeal [hDwGatesIdeal : Cert.DwGatesIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg), Pre_DwGatesIdeal m →
    θ_run (Cert.DwGatesIdeal.defs (F := Ideal)) (onTc (τ := Cert.DwGatesIdeal.τ) (Cert.DwGatesIdeal.main (F := Ideal))) ⟨m, fun _ => 0, g⟩ (fun r => (∀ c : Dev Cert.DwGatesIdeal.nD,
      r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
      ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ r.2.sem = fun _ => 0)

def quiescent_DwGatesReferenceIdeal [hDwGatesReferenceIdeal : Cert.DwGatesReferenceIdeal.Facts] : Prop :=
  ∀ (m : (ℓ : Loc Cert.DwGatesReferenceIdeal.nD Cert.DwGatesReferenceIdeal.τ Cert.DwGatesReferenceIdeal.sig) → Buf (Elt Ideal) ℓ) (g : Dev Cert.DwGatesReferenceIdeal.nD → PrngReg), Pre_DwGatesReferenceIdeal m →
    θ_run (Cert.DwGatesReferenceIdeal.defs (F := Ideal)) (onTc (τ := Cert.DwGatesReferenceIdeal.τ) (Cert.DwGatesReferenceIdeal.main (F := Ideal))) ⟨m, fun _ => 0, g⟩ (fun r => (∀ c : Dev Cert.DwGatesReferenceIdeal.nD,
      r.2.mem ((c.tc : Thread Cert.DwGatesReferenceIdeal.nD Cert.DwGatesReferenceIdeal.τ).loc Cert.DwGatesReferenceIdeal.main_arg0) = m ((c.tc : Thread Cert.DwGatesReferenceIdeal.nD Cert.DwGatesReferenceIdeal.τ).loc Cert.DwGatesReferenceIdeal.main_arg0)
      ∧ r.2.mem ((c.tc : Thread Cert.DwGatesReferenceIdeal.nD Cert.DwGatesReferenceIdeal.τ).loc Cert.DwGatesReferenceIdeal.main_arg1) = m ((c.tc : Thread Cert.DwGatesReferenceIdeal.nD Cert.DwGatesReferenceIdeal.τ).loc Cert.DwGatesReferenceIdeal.main_arg1))
      ∧ r.2.sem = fun _ => 0)

def quiescent_DwGla [hDwGla : Cert.DwGla.Facts] : Prop :=
  ∀ (m : (ℓ : Loc Cert.DwGla.nD Cert.DwGla.τ Cert.DwGla.sig) → Buf (Elt Bits) ℓ) (g : Dev Cert.DwGla.nD → PrngReg), Pre_DwGla m →
    θ_run (Cert.DwGla.defs (F := Bits)) (onTc (τ := Cert.DwGla.τ) (Cert.DwGla.main (F := Bits))) ⟨m, fun _ => 0, g⟩ (fun r => (∀ c : Dev Cert.DwGla.nD,
      r.2.mem ((c.tc : Thread Cert.DwGla.nD Cert.DwGla.τ).loc Cert.DwGla.main_arg0) = m ((c.tc : Thread Cert.DwGla.nD Cert.DwGla.τ).loc Cert.DwGla.main_arg0)
      ∧ r.2.mem ((c.tc : Thread Cert.DwGla.nD Cert.DwGla.τ).loc Cert.DwGla.main_arg1) = m ((c.tc : Thread Cert.DwGla.nD Cert.DwGla.τ).loc Cert.DwGla.main_arg1)
      ∧ r.2.mem ((c.tc : Thread Cert.DwGla.nD Cert.DwGla.τ).loc Cert.DwGla.main_arg2) = m ((c.tc : Thread Cert.DwGla.nD Cert.DwGla.τ).loc Cert.DwGla.main_arg2)
      ∧ r.2.mem ((c.tc : Thread Cert.DwGla.nD Cert.DwGla.τ).loc Cert.DwGla.main_arg3) = m ((c.tc : Thread Cert.DwGla.nD Cert.DwGla.τ).loc Cert.DwGla.main_arg3))
      ∧ r.2.sem = fun _ => 0)

def quiescent_DwGlaIdeal [hDwGlaIdeal : Cert.DwGlaIdeal.Facts] : Prop :=
  ∀ (m : (ℓ : Loc Cert.DwGlaIdeal.nD Cert.DwGlaIdeal.τ Cert.DwGlaIdeal.sig) → Buf (Elt Ideal) ℓ) (g : Dev Cert.DwGlaIdeal.nD → PrngReg), Pre_DwGlaIdeal m →
    θ_run (Cert.DwGlaIdeal.defs (F := Ideal)) (onTc (τ := Cert.DwGlaIdeal.τ) (Cert.DwGlaIdeal.main (F := Ideal))) ⟨m, fun _ => 0, g⟩ (fun r => (∀ c : Dev Cert.DwGlaIdeal.nD,
      r.2.mem ((c.tc : Thread Cert.DwGlaIdeal.nD Cert.DwGlaIdeal.τ).loc Cert.DwGlaIdeal.main_arg0) = m ((c.tc : Thread Cert.DwGlaIdeal.nD Cert.DwGlaIdeal.τ).loc Cert.DwGlaIdeal.main_arg0)
      ∧ r.2.mem ((c.tc : Thread Cert.DwGlaIdeal.nD Cert.DwGlaIdeal.τ).loc Cert.DwGlaIdeal.main_arg1) = m ((c.tc : Thread Cert.DwGlaIdeal.nD Cert.DwGlaIdeal.τ).loc Cert.DwGlaIdeal.main_arg1)
      ∧ r.2.mem ((c.tc : Thread Cert.DwGlaIdeal.nD Cert.DwGlaIdeal.τ).loc Cert.DwGlaIdeal.main_arg2) = m ((c.tc : Thread Cert.DwGlaIdeal.nD Cert.DwGlaIdeal.τ).loc Cert.DwGlaIdeal.main_arg2)
      ∧ r.2.mem ((c.tc : Thread Cert.DwGlaIdeal.nD Cert.DwGlaIdeal.τ).loc Cert.DwGlaIdeal.main_arg3) = m ((c.tc : Thread Cert.DwGlaIdeal.nD Cert.DwGlaIdeal.τ).loc Cert.DwGlaIdeal.main_arg3))
      ∧ r.2.sem = fun _ => 0)

def quiescent_DwGlaReferenceIdeal [hDwGlaReferenceIdeal : Cert.DwGlaReferenceIdeal.Facts] : Prop :=
  ∀ (m : (ℓ : Loc Cert.DwGlaReferenceIdeal.nD Cert.DwGlaReferenceIdeal.τ Cert.DwGlaReferenceIdeal.sig) → Buf (Elt Ideal) ℓ) (g : Dev Cert.DwGlaReferenceIdeal.nD → PrngReg), Pre_DwGlaReferenceIdeal m →
    θ_run (Cert.DwGlaReferenceIdeal.defs (F := Ideal)) (onTc (τ := Cert.DwGlaReferenceIdeal.τ) (Cert.DwGlaReferenceIdeal.main (F := Ideal))) ⟨m, fun _ => 0, g⟩ (fun r => (∀ c : Dev Cert.DwGlaReferenceIdeal.nD,
      r.2.mem ((c.tc : Thread Cert.DwGlaReferenceIdeal.nD Cert.DwGlaReferenceIdeal.τ).loc Cert.DwGlaReferenceIdeal.main_arg0) = m ((c.tc : Thread Cert.DwGlaReferenceIdeal.nD Cert.DwGlaReferenceIdeal.τ).loc Cert.DwGlaReferenceIdeal.main_arg0)
      ∧ r.2.mem ((c.tc : Thread Cert.DwGlaReferenceIdeal.nD Cert.DwGlaReferenceIdeal.τ).loc Cert.DwGlaReferenceIdeal.main_arg1) = m ((c.tc : Thread Cert.DwGlaReferenceIdeal.nD Cert.DwGlaReferenceIdeal.τ).loc Cert.DwGlaReferenceIdeal.main_arg1)
      ∧ r.2.mem ((c.tc : Thread Cert.DwGlaReferenceIdeal.nD Cert.DwGlaReferenceIdeal.τ).loc Cert.DwGlaReferenceIdeal.main_arg2) = m ((c.tc : Thread Cert.DwGlaReferenceIdeal.nD Cert.DwGlaReferenceIdeal.τ).loc Cert.DwGlaReferenceIdeal.main_arg2)
      ∧ r.2.mem ((c.tc : Thread Cert.DwGlaReferenceIdeal.nD Cert.DwGlaReferenceIdeal.τ).loc Cert.DwGlaReferenceIdeal.main_arg3) = m ((c.tc : Thread Cert.DwGlaReferenceIdeal.nD Cert.DwGlaReferenceIdeal.τ).loc Cert.DwGlaReferenceIdeal.main_arg3))
      ∧ r.2.sem = fun _ => 0)

def quiescent_DwPair [hDwPair : Cert.DwPair.Facts] : Prop :=
  ∀ (m : (ℓ : Loc Cert.DwPair.nD Cert.DwPair.τ Cert.DwPair.sig) → Buf (Elt Bits) ℓ) (g : Dev Cert.DwPair.nD → PrngReg), Pre_DwPair m →
    θ_run (Cert.DwPair.defs (F := Bits)) (onTc (τ := Cert.DwPair.τ) (Cert.DwPair.main (F := Bits))) ⟨m, fun _ => 0, g⟩ (fun r => (∀ c : Dev Cert.DwPair.nD,
      r.2.mem ((c.tc : Thread Cert.DwPair.nD Cert.DwPair.τ).loc Cert.DwPair.main_arg0) = m ((c.tc : Thread Cert.DwPair.nD Cert.DwPair.τ).loc Cert.DwPair.main_arg0)
      ∧ r.2.mem ((c.tc : Thread Cert.DwPair.nD Cert.DwPair.τ).loc Cert.DwPair.main_arg1) = m ((c.tc : Thread Cert.DwPair.nD Cert.DwPair.τ).loc Cert.DwPair.main_arg1)
      ∧ r.2.mem ((c.tc : Thread Cert.DwPair.nD Cert.DwPair.τ).loc Cert.DwPair.main_arg2) = m ((c.tc : Thread Cert.DwPair.nD Cert.DwPair.τ).loc Cert.DwPair.main_arg2))
      ∧ r.2.sem = fun _ => 0)

def quiescent_DwPairIdeal [hDwPairIdeal : Cert.DwPairIdeal.Facts] : Prop :=
  ∀ (m : (ℓ : Loc Cert.DwPairIdeal.nD Cert.DwPairIdeal.τ Cert.DwPairIdeal.sig) → Buf (Elt Ideal) ℓ) (g : Dev Cert.DwPairIdeal.nD → PrngReg), Pre_DwPairIdeal m →
    θ_run (Cert.DwPairIdeal.defs (F := Ideal)) (onTc (τ := Cert.DwPairIdeal.τ) (Cert.DwPairIdeal.main (F := Ideal))) ⟨m, fun _ => 0, g⟩ (fun r => (∀ c : Dev Cert.DwPairIdeal.nD,
      r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
      ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1)
      ∧ r.2.mem ((c.tc : Thread Cert.DwPairIdeal.nD Cert.DwPairIdeal.τ).loc Cert.DwPairIdeal.main_arg2) = m ((c.tc : Thread Cert.DwPairIdeal.nD Cert.DwPairIdeal.τ).loc Cert.DwPairIdeal.main_arg2))
      ∧ r.2.sem = fun _ => 0)

def quiescent_DwPairReferenceIdeal [hDwPairReferenceIdeal : Cert.DwPairReferenceIdeal.Facts] : Prop :=
  ∀ (m : (ℓ : Loc Cert.DwPairReferenceIdeal.nD Cert.DwPairReferenceIdeal.τ Cert.DwPairReferenceIdeal.sig) → Buf (Elt Ideal) ℓ) (g : Dev Cert.DwPairReferenceIdeal.nD → PrngReg), Pre_DwPairReferenceIdeal m →
    θ_run (Cert.DwPairReferenceIdeal.defs (F := Ideal)) (onTc (τ := Cert.DwPairReferenceIdeal.τ) (Cert.DwPairReferenceIdeal.main (F := Ideal))) ⟨m, fun _ => 0, g⟩ (fun r => (∀ c : Dev Cert.DwPairReferenceIdeal.nD,
      r.2.mem ((c.tc : Thread Cert.DwPairReferenceIdeal.nD Cert.DwPairReferenceIdeal.τ).loc Cert.DwPairReferenceIdeal.main_arg0) = m ((c.tc : Thread Cert.DwPairReferenceIdeal.nD Cert.DwPairReferenceIdeal.τ).loc Cert.DwPairReferenceIdeal.main_arg0)
      ∧ r.2.mem ((c.tc : Thread Cert.DwPairReferenceIdeal.nD Cert.DwPairReferenceIdeal.τ).loc Cert.DwPairReferenceIdeal.main_arg1) = m ((c.tc : Thread Cert.DwPairReferenceIdeal.nD Cert.DwPairReferenceIdeal.τ).loc Cert.DwPairReferenceIdeal.main_arg1)
      ∧ r.2.mem ((c.tc : Thread Cert.DwPairReferenceIdeal.nD Cert.DwPairReferenceIdeal.τ).loc Cert.DwPairReferenceIdeal.main_arg2) = m ((c.tc : Thread Cert.DwPairReferenceIdeal.nD Cert.DwPairReferenceIdeal.τ).loc Cert.DwPairReferenceIdeal.main_arg2))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ r.2.sem = fun _ => 0)

def quiescent_DH1ReferenceIdeal [hDH1ReferenceIdeal : Cert.DH1ReferenceIdeal.Facts] : Prop :=
  ∀ (m : (ℓ : Loc Cert.DH1ReferenceIdeal.nD Cert.DH1ReferenceIdeal.τ Cert.DH1ReferenceIdeal.sig) → Buf (Elt Ideal) ℓ) (g : Dev Cert.DH1ReferenceIdeal.nD → PrngReg), Pre_DH1ReferenceIdeal m →
    θ_run (Cert.DH1ReferenceIdeal.defs (F := Ideal)) (onTc (τ := Cert.DH1ReferenceIdeal.τ) (Cert.DH1ReferenceIdeal.main (F := Ideal))) ⟨m, fun _ => 0, g⟩ (fun r => (∀ c : Dev Cert.DH1ReferenceIdeal.nD,
      r.2.mem ((c.tc : Thread Cert.DH1ReferenceIdeal.nD Cert.DH1ReferenceIdeal.τ).loc Cert.DH1ReferenceIdeal.main_arg0) = m ((c.tc : Thread Cert.DH1ReferenceIdeal.nD Cert.DH1ReferenceIdeal.τ).loc Cert.DH1ReferenceIdeal.main_arg0)
      ∧ r.2.mem ((c.tc : Thread Cert.DH1ReferenceIdeal.nD Cert.DH1ReferenceIdeal.τ).loc Cert.DH1ReferenceIdeal.main_arg1) = m ((c.tc : Thread Cert.DH1ReferenceIdeal.nD Cert.DH1ReferenceIdeal.τ).loc Cert.DH1ReferenceIdeal.main_arg1)
      ∧ r.2.mem ((c.tc : Thread Cert.DH1ReferenceIdeal.nD Cert.DH1ReferenceIdeal.τ).loc Cert.DH1ReferenceIdeal.main_arg2) = m ((c.tc : Thread Cert.DH1ReferenceIdeal.nD Cert.DH1ReferenceIdeal.τ).loc Cert.DH1ReferenceIdeal.main_arg2)
      ∧ r.2.mem ((c.tc : Thread Cert.DH1ReferenceIdeal.nD Cert.DH1ReferenceIdeal.τ).loc Cert.DH1ReferenceIdeal.main_arg3) = m ((c.tc : Thread Cert.DH1ReferenceIdeal.nD Cert.DH1ReferenceIdeal.τ).loc Cert.DH1ReferenceIdeal.main_arg3)
      ∧ r.2.mem ((c.tc : Thread Cert.DH1ReferenceIdeal.nD Cert.DH1ReferenceIdeal.τ).loc Cert.DH1ReferenceIdeal.main_arg4) = m ((c.tc : Thread Cert.DH1ReferenceIdeal.nD Cert.DH1ReferenceIdeal.τ).loc Cert.DH1ReferenceIdeal.main_arg4))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2)
      ∧ r.2.mem ((c.tc : Thread Cert.DX.nD Cert.DX.τ).loc Cert.DX.main_arg3) = m ((c.tc : Thread Cert.DX.nD Cert.DX.τ).loc Cert.DX.main_arg3)
      ∧ r.2.mem ((c.tc : Thread Cert.DX.nD Cert.DX.τ).loc Cert.DX.main_arg4) = m ((c.tc : Thread Cert.DX.nD Cert.DX.τ).loc Cert.DX.main_arg4)
      ∧ r.2.mem ((c.tc : Thread Cert.DX.nD Cert.DX.τ).loc Cert.DX.main_arg5) = m ((c.tc : Thread Cert.DX.nD Cert.DX.τ).loc Cert.DX.main_arg5)
      ∧ r.2.mem ((c.tc : Thread Cert.DX.nD Cert.DX.τ).loc Cert.DX.main_arg6) = m ((c.tc : Thread Cert.DX.nD Cert.DX.τ).loc Cert.DX.main_arg6)
      ∧ r.2.mem ((c.tc : Thread Cert.DX.nD Cert.DX.τ).loc Cert.DX.main_arg7) = m ((c.tc : Thread Cert.DX.nD Cert.DX.τ).loc Cert.DX.main_arg7)
      ∧ r.2.mem ((c.tc : Thread Cert.DX.nD Cert.DX.τ).loc Cert.DX.main_arg8) = m ((c.tc : Thread Cert.DX.nD Cert.DX.τ).loc Cert.DX.main_arg8)
      ∧ r.2.mem ((c.tc : Thread Cert.DX.nD Cert.DX.τ).loc Cert.DX.main_arg9) = m ((c.tc : Thread Cert.DX.nD Cert.DX.τ).loc Cert.DX.main_arg9)
      ∧ r.2.mem ((c.tc : Thread Cert.DX.nD Cert.DX.τ).loc Cert.DX.main_arg10) = m ((c.tc : Thread Cert.DX.nD Cert.DX.τ).loc Cert.DX.main_arg10)
      ∧ r.2.mem ((c.tc : Thread Cert.DX.nD Cert.DX.τ).loc Cert.DX.main_arg11) = m ((c.tc : Thread Cert.DX.nD Cert.DX.τ).loc Cert.DX.main_arg11)
      ∧ r.2.mem ((c.tc : Thread Cert.DX.nD Cert.DX.τ).loc Cert.DX.main_arg12) = m ((c.tc : Thread Cert.DX.nD Cert.DX.τ).loc Cert.DX.main_arg12)
      ∧ r.2.mem ((c.tc : Thread Cert.DX.nD Cert.DX.τ).loc Cert.DX.main_arg13) = m ((c.tc : Thread Cert.DX.nD Cert.DX.τ).loc Cert.DX.main_arg13))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
      ∧ r.2.mem ((c.tc : Thread Cert.DXIdeal.nD Cert.DXIdeal.τ).loc Cert.DXIdeal.main_arg3) = m ((c.tc : Thread Cert.DXIdeal.nD Cert.DXIdeal.τ).loc Cert.DXIdeal.main_arg3)
      ∧ r.2.mem ((c.tc : Thread Cert.DXIdeal.nD Cert.DXIdeal.τ).loc Cert.DXIdeal.main_arg4) = m ((c.tc : Thread Cert.DXIdeal.nD Cert.DXIdeal.τ).loc Cert.DXIdeal.main_arg4)
      ∧ r.2.mem ((c.tc : Thread Cert.DXIdeal.nD Cert.DXIdeal.τ).loc Cert.DXIdeal.main_arg5) = m ((c.tc : Thread Cert.DXIdeal.nD Cert.DXIdeal.τ).loc Cert.DXIdeal.main_arg5)
      ∧ r.2.mem ((c.tc : Thread Cert.DXIdeal.nD Cert.DXIdeal.τ).loc Cert.DXIdeal.main_arg6) = m ((c.tc : Thread Cert.DXIdeal.nD Cert.DXIdeal.τ).loc Cert.DXIdeal.main_arg6)
      ∧ r.2.mem ((c.tc : Thread Cert.DXIdeal.nD Cert.DXIdeal.τ).loc Cert.DXIdeal.main_arg7) = m ((c.tc : Thread Cert.DXIdeal.nD Cert.DXIdeal.τ).loc Cert.DXIdeal.main_arg7)
      ∧ r.2.mem ((c.tc : Thread Cert.DXIdeal.nD Cert.DXIdeal.τ).loc Cert.DXIdeal.main_arg8) = m ((c.tc : Thread Cert.DXIdeal.nD Cert.DXIdeal.τ).loc Cert.DXIdeal.main_arg8)
      ∧ r.2.mem ((c.tc : Thread Cert.DXIdeal.nD Cert.DXIdeal.τ).loc Cert.DXIdeal.main_arg9) = m ((c.tc : Thread Cert.DXIdeal.nD Cert.DXIdeal.τ).loc Cert.DXIdeal.main_arg9)
      ∧ r.2.mem ((c.tc : Thread Cert.DXIdeal.nD Cert.DXIdeal.τ).loc Cert.DXIdeal.main_arg10) = m ((c.tc : Thread Cert.DXIdeal.nD Cert.DXIdeal.τ).loc Cert.DXIdeal.main_arg10)
      ∧ r.2.mem ((c.tc : Thread Cert.DXIdeal.nD Cert.DXIdeal.τ).loc Cert.DXIdeal.main_arg11) = m ((c.tc : Thread Cert.DXIdeal.nD Cert.DXIdeal.τ).loc Cert.DXIdeal.main_arg11)
      ∧ r.2.mem ((c.tc : Thread Cert.DXIdeal.nD Cert.DXIdeal.τ).loc Cert.DXIdeal.main_arg12) = m ((c.tc : Thread Cert.DXIdeal.nD Cert.DXIdeal.τ).loc Cert.DXIdeal.main_arg12)
      ∧ r.2.mem ((c.tc : Thread Cert.DXIdeal.nD Cert.DXIdeal.τ).loc Cert.DXIdeal.main_arg13) = m ((c.tc : Thread Cert.DXIdeal.nD Cert.DXIdeal.τ).loc Cert.DXIdeal.main_arg13))
      ∧ r.2.sem = fun _ => 0)

def quiescent_DXReferenceIdeal [hDXReferenceIdeal : Cert.DXReferenceIdeal.Facts] : Prop :=
  ∀ (m : (ℓ : Loc Cert.DXReferenceIdeal.nD Cert.DXReferenceIdeal.τ Cert.DXReferenceIdeal.sig) → Buf (Elt Ideal) ℓ) (g : Dev Cert.DXReferenceIdeal.nD → PrngReg), Pre_DXReferenceIdeal m →
    θ_run (Cert.DXReferenceIdeal.defs (F := Ideal)) (onTc (τ := Cert.DXReferenceIdeal.τ) (Cert.DXReferenceIdeal.main (F := Ideal))) ⟨m, fun _ => 0, g⟩ (fun r => (∀ c : Dev Cert.DXReferenceIdeal.nD,
      r.2.mem ((c.tc : Thread Cert.DXReferenceIdeal.nD Cert.DXReferenceIdeal.τ).loc Cert.DXReferenceIdeal.main_arg0) = m ((c.tc : Thread Cert.DXReferenceIdeal.nD Cert.DXReferenceIdeal.τ).loc Cert.DXReferenceIdeal.main_arg0)
      ∧ r.2.mem ((c.tc : Thread Cert.DXReferenceIdeal.nD Cert.DXReferenceIdeal.τ).loc Cert.DXReferenceIdeal.main_arg1) = m ((c.tc : Thread Cert.DXReferenceIdeal.nD Cert.DXReferenceIdeal.τ).loc Cert.DXReferenceIdeal.main_arg1)
      ∧ r.2.mem ((c.tc : Thread Cert.DXReferenceIdeal.nD Cert.DXReferenceIdeal.τ).loc Cert.DXReferenceIdeal.main_arg2) = m ((c.tc : Thread Cert.DXReferenceIdeal.nD Cert.DXReferenceIdeal.τ).loc Cert.DXReferenceIdeal.main_arg2)
      ∧ r.2.mem ((c.tc : Thread Cert.DXReferenceIdeal.nD Cert.DXReferenceIdeal.τ).loc Cert.DXReferenceIdeal.main_arg3) = m ((c.tc : Thread Cert.DXReferenceIdeal.nD Cert.DXReferenceIdeal.τ).loc Cert.DXReferenceIdeal.main_arg3)
      ∧ r.2.mem ((c.tc : Thread Cert.DXReferenceIdeal.nD Cert.DXReferenceIdeal.τ).loc Cert.DXReferenceIdeal.main_arg4) = m ((c.tc : Thread Cert.DXReferenceIdeal.nD Cert.DXReferenceIdeal.τ).loc Cert.DXReferenceIdeal.main_arg4)
      ∧ r.2.mem ((c.tc : Thread Cert.DXReferenceIdeal.nD Cert.DXReferenceIdeal.τ).loc Cert.DXReferenceIdeal.main_arg5) = m ((c.tc : Thread Cert.DXReferenceIdeal.nD Cert.DXReferenceIdeal.τ).loc Cert.DXReferenceIdeal.main_arg5)
      ∧ r.2.mem ((c.tc : Thread Cert.DXReferenceIdeal.nD Cert.DXReferenceIdeal.τ).loc Cert.DXReferenceIdeal.main_arg6) = m ((c.tc : Thread Cert.DXReferenceIdeal.nD Cert.DXReferenceIdeal.τ).loc Cert.DXReferenceIdeal.main_arg6)
      ∧ r.2.mem ((c.tc : Thread Cert.DXReferenceIdeal.nD Cert.DXReferenceIdeal.τ).loc Cert.DXReferenceIdeal.main_arg7) = m ((c.tc : Thread Cert.DXReferenceIdeal.nD Cert.DXReferenceIdeal.τ).loc Cert.DXReferenceIdeal.main_arg7)
      ∧ r.2.mem ((c.tc : Thread Cert.DXReferenceIdeal.nD Cert.DXReferenceIdeal.τ).loc Cert.DXReferenceIdeal.main_arg8) = m ((c.tc : Thread Cert.DXReferenceIdeal.nD Cert.DXReferenceIdeal.τ).loc Cert.DXReferenceIdeal.main_arg8)
      ∧ r.2.mem ((c.tc : Thread Cert.DXReferenceIdeal.nD Cert.DXReferenceIdeal.τ).loc Cert.DXReferenceIdeal.main_arg9) = m ((c.tc : Thread Cert.DXReferenceIdeal.nD Cert.DXReferenceIdeal.τ).loc Cert.DXReferenceIdeal.main_arg9)
      ∧ r.2.mem ((c.tc : Thread Cert.DXReferenceIdeal.nD Cert.DXReferenceIdeal.τ).loc Cert.DXReferenceIdeal.main_arg10) = m ((c.tc : Thread Cert.DXReferenceIdeal.nD Cert.DXReferenceIdeal.τ).loc Cert.DXReferenceIdeal.main_arg10)
      ∧ r.2.mem ((c.tc : Thread Cert.DXReferenceIdeal.nD Cert.DXReferenceIdeal.τ).loc Cert.DXReferenceIdeal.main_arg11) = m ((c.tc : Thread Cert.DXReferenceIdeal.nD Cert.DXReferenceIdeal.τ).loc Cert.DXReferenceIdeal.main_arg11)
      ∧ r.2.mem ((c.tc : Thread Cert.DXReferenceIdeal.nD Cert.DXReferenceIdeal.τ).loc Cert.DXReferenceIdeal.main_arg12) = m ((c.tc : Thread Cert.DXReferenceIdeal.nD Cert.DXReferenceIdeal.τ).loc Cert.DXReferenceIdeal.main_arg12)
      ∧ r.2.mem ((c.tc : Thread Cert.DXReferenceIdeal.nD Cert.DXReferenceIdeal.τ).loc Cert.DXReferenceIdeal.main_arg13) = m ((c.tc : Thread Cert.DXReferenceIdeal.nD Cert.DXReferenceIdeal.τ).loc Cert.DXReferenceIdeal.main_arg13))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3)
      ∧ r.2.mem ((c.tc : Thread Cert.Ff2.nD Cert.Ff2.τ).loc Cert.Ff2.main_arg4) = m ((c.tc : Thread Cert.Ff2.nD Cert.Ff2.τ).loc Cert.Ff2.main_arg4))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
      ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2)
      ∧ r.2.mem ((c.tc : Thread Cert.Ff2ReferenceIdeal.nD Cert.Ff2ReferenceIdeal.τ).loc Cert.Ff2ReferenceIdeal.main_arg3) = m ((c.tc : Thread Cert.Ff2ReferenceIdeal.nD Cert.Ff2ReferenceIdeal.τ).loc Cert.Ff2ReferenceIdeal.main_arg3)
      ∧ r.2.mem ((c.tc : Thread Cert.Ff2ReferenceIdeal.nD Cert.Ff2ReferenceIdeal.τ).loc Cert.Ff2ReferenceIdeal.main_arg4) = m ((c.tc : Thread Cert.Ff2ReferenceIdeal.nD Cert.Ff2ReferenceIdeal.τ).loc Cert.Ff2ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_1)) (v2 : (c : Dev Cert.KernelIdeal.nD) → Buf (Elt Ideal) ((c.tc : Thread Cert.KernelIdeal.nD Cert.KernelIdeal.τ).loc Cert.KernelIdeal.main_v111_2)) (v3 : (c : Dev Cert.KernelIdeal.nD) → Buf (Elt Ideal) ((c.tc : Thread Cert.KernelIdeal.nD Cert.KernelIdeal.τ).loc Cert.KernelIdeal.main_v111_3)) (v4 : (c : Dev Cert.KernelIdeal.nD) → Buf (Elt Ideal) ((c.tc : Thread Cert.KernelIdeal.nD Cert.KernelIdeal.τ).loc Cert.KernelIdeal.main_v111_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_1) = v1 c
          ∧ r.2.mem ((c.tc : Thread Cert.KernelIdeal.nD Cert.KernelIdeal.τ).loc Cert.KernelIdeal.main_v111_2) = v2 c
          ∧ r.2.mem ((c.tc : Thread Cert.KernelIdeal.nD Cert.KernelIdeal.τ).loc Cert.KernelIdeal.main_v111_3) = v3 c
          ∧ r.2.mem ((c.tc : Thread Cert.KernelIdeal.nD Cert.KernelIdeal.τ).loc Cert.KernelIdeal.main_v111_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ff1_Ff1Ideal : Prop :=
  True

def algebraic_Ff1Ideal_Ff1ReferenceIdeal [hFf1Ideal : Cert.Ff1Ideal.Facts] [hFf1ReferenceIdeal : Cert.Ff1ReferenceIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1Ideal m →
    (∀ c : Dev Cert.Ff1Ideal.nD,
      m' ((c.tc : Thread Cert.Ff1ReferenceIdeal.nD Cert.Ff1ReferenceIdeal.τ).loc Cert.Ff1ReferenceIdeal.main_arg0) = m ((c.tc : Thread Cert.Ff1Ideal.nD Cert.Ff1Ideal.τ).loc Cert.Ff1Ideal.main_arg0)
      ∧ m' ((c.tc : Thread Cert.Ff1ReferenceIdeal.nD Cert.Ff1ReferenceIdeal.τ).loc Cert.Ff1ReferenceIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v2)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v2) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v1) = v0 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)
      ∧ m' ((c.tc : Thread Cert.DActReferenceIdeal.nD Cert.DActReferenceIdeal.τ).loc Cert.DActReferenceIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v4)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v4) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v12) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1)
          ∧ r.2.mem ((c.tc : Thread Cert.DActReferenceIdeal.nD Cert.DActReferenceIdeal.τ).loc Cert.DActReferenceIdeal.main_arg2) = m' ((c.tc : Thread Cert.DActReferenceIdeal.nD Cert.DActReferenceIdeal.τ).loc Cert.DActReferenceIdeal.main_arg2))

def preserves_DwFf2_DwFf2Ideal : Prop :=
  True

def algebraic_DwFf2Ideal_DwFf2ReferenceIdeal [hDwFf2Ideal : Cert.DwFf2Ideal.Facts] [hDwFf2ReferenceIdeal : Cert.DwFf2ReferenceIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2ReferenceIdeal.nD Cert.DwFf2ReferenceIdeal.τ Cert.DwFf2ReferenceIdeal.sig) → Buf (Elt Ideal) ℓ) (g' : Dev Cert.DwFf2ReferenceIdeal.nD → PrngReg), Pre_DwFf2Ideal m →
    (∀ c : Dev Cert.DwFf2Ideal.nD,
      m' ((c.tc : Thread Cert.DwFf2ReferenceIdeal.nD Cert.DwFf2ReferenceIdeal.τ).loc Cert.DwFf2ReferenceIdeal.main_arg0) = m ((c.tc : Thread Cert.DwFf2Ideal.nD Cert.DwFf2Ideal.τ).loc Cert.DwFf2Ideal.main_arg0)
      ∧ m' ((c.tc : Thread Cert.DwFf2ReferenceIdeal.nD Cert.DwFf2ReferenceIdeal.τ).loc Cert.DwFf2ReferenceIdeal.main_arg1) = m ((c.tc : Thread Cert.DwFf2Ideal.nD Cert.DwFf2Ideal.τ).loc Cert.DwFf2Ideal.main_arg1)) →
    ∃ (v0 : (c : Dev Cert.DwFf2Ideal.nD) → Buf (Elt Ideal) ((c.tc : Thread Cert.DwFf2Ideal.nD Cert.DwFf2Ideal.τ).loc Cert.DwFf2Ideal.main_v2)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v2) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1))
      ∧ θ_run (Cert.DwFf2ReferenceIdeal.defs (F := Ideal)) (onTc (τ := Cert.DwFf2ReferenceIdeal.τ) (Cert.DwFf2ReferenceIdeal.main (F := Ideal))) ⟨m', fun _ => 0, g'⟩ (fun r => ∀ c : Dev Cert.DwFf2ReferenceIdeal.nD,
          r.2.mem ((c.tc : Thread Cert.DwFf2ReferenceIdeal.nD Cert.DwFf2ReferenceIdeal.τ).loc Cert.DwFf2ReferenceIdeal.main_v5) = v0 c
          ∧ r.2.mem ((c.tc : Thread Cert.DwFf2ReferenceIdeal.nD Cert.DwFf2ReferenceIdeal.τ).loc Cert.DwFf2ReferenceIdeal.main_arg0) = m' ((c.tc : Thread Cert.DwFf2ReferenceIdeal.nD Cert.DwFf2ReferenceIdeal.τ).loc Cert.DwFf2ReferenceIdeal.main_arg0)
          ∧ r.2.mem ((c.tc : Thread Cert.DwFf2ReferenceIdeal.nD Cert.DwFf2ReferenceIdeal.τ).loc Cert.DwFf2ReferenceIdeal.main_arg1) = m' ((c.tc : Thread Cert.DwFf2ReferenceIdeal.nD Cert.DwFf2ReferenceIdeal.τ).loc Cert.DwFf2ReferenceIdeal.main_arg1))

def preserves_DwFf1_DwFf1Ideal : Prop :=
  True

def algebraic_DwFf1Ideal_DwFf1ReferenceIdeal [hDwFf1Ideal : Cert.DwFf1Ideal.Facts] [hDwFf1ReferenceIdeal : Cert.DwFf1ReferenceIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1ReferenceIdeal.nD Cert.DwFf1ReferenceIdeal.τ Cert.DwFf1ReferenceIdeal.sig) → Buf (Elt Ideal) ℓ) (g' : Dev Cert.DwFf1ReferenceIdeal.nD → PrngReg), Pre_DwFf1Ideal m →
    (∀ c : Dev Cert.DwFf1Ideal.nD,
      m' ((c.tc : Thread Cert.DwFf1ReferenceIdeal.nD Cert.DwFf1ReferenceIdeal.τ).loc Cert.DwFf1ReferenceIdeal.main_arg0) = m ((c.tc : Thread Cert.DwFf1Ideal.nD Cert.DwFf1Ideal.τ).loc Cert.DwFf1Ideal.main_arg0)
      ∧ m' ((c.tc : Thread Cert.DwFf1ReferenceIdeal.nD Cert.DwFf1ReferenceIdeal.τ).loc Cert.DwFf1ReferenceIdeal.main_arg1) = m ((c.tc : Thread Cert.DwFf1Ideal.nD Cert.DwFf1Ideal.τ).loc Cert.DwFf1Ideal.main_arg1)) →
    ∃ (v0 : (c : Dev Cert.DwFf1Ideal.nD) → Buf (Elt Ideal) ((c.tc : Thread Cert.DwFf1Ideal.nD Cert.DwFf1Ideal.τ).loc Cert.DwFf1Ideal.main_v2)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v2) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1))
      ∧ θ_run (Cert.DwFf1ReferenceIdeal.defs (F := Ideal)) (onTc (τ := Cert.DwFf1ReferenceIdeal.τ) (Cert.DwFf1ReferenceIdeal.main (F := Ideal))) ⟨m', fun _ => 0, g'⟩ (fun r => ∀ c : Dev Cert.DwFf1ReferenceIdeal.nD,
          r.2.mem ((c.tc : Thread Cert.DwFf1ReferenceIdeal.nD Cert.DwFf1ReferenceIdeal.τ).loc Cert.DwFf1ReferenceIdeal.main_v3) = v0 c
          ∧ r.2.mem ((c.tc : Thread Cert.DwFf1ReferenceIdeal.nD Cert.DwFf1ReferenceIdeal.τ).loc Cert.DwFf1ReferenceIdeal.main_arg0) = m' ((c.tc : Thread Cert.DwFf1ReferenceIdeal.nD Cert.DwFf1ReferenceIdeal.τ).loc Cert.DwFf1ReferenceIdeal.main_arg0)
          ∧ r.2.mem ((c.tc : Thread Cert.DwFf1ReferenceIdeal.nD Cert.DwFf1ReferenceIdeal.τ).loc Cert.DwFf1ReferenceIdeal.main_arg1) = m' ((c.tc : Thread Cert.DwFf1ReferenceIdeal.nD Cert.DwFf1ReferenceIdeal.τ).loc Cert.DwFf1ReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_v2) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_DwGates_DwGatesIdeal : Prop :=
  True

def algebraic_DwGatesIdeal_DwGatesReferenceIdeal [hDwGatesIdeal : Cert.DwGatesIdeal.Facts] [hDwGatesReferenceIdeal : Cert.DwGatesReferenceIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg)
    (m' : (ℓ : Loc Cert.DwGatesReferenceIdeal.nD Cert.DwGatesReferenceIdeal.τ Cert.DwGatesReferenceIdeal.sig) → Buf (Elt Ideal) ℓ) (g' : Dev Cert.DwGatesReferenceIdeal.nD → PrngReg), Pre_DwGatesIdeal m →
    (∀ c : Dev Cert.DwGatesIdeal.nD,
      m' ((c.tc : Thread Cert.DwGatesReferenceIdeal.nD Cert.DwGatesReferenceIdeal.τ).loc Cert.DwGatesReferenceIdeal.main_arg0) = m ((c.tc : Thread Cert.DwGatesIdeal.nD Cert.DwGatesIdeal.τ).loc Cert.DwGatesIdeal.main_arg0)
      ∧ m' ((c.tc : Thread Cert.DwGatesReferenceIdeal.nD Cert.DwGatesReferenceIdeal.τ).loc Cert.DwGatesReferenceIdeal.main_arg1) = m ((c.tc : Thread Cert.DwGatesIdeal.nD Cert.DwGatesIdeal.τ).loc Cert.DwGatesIdeal.main_arg1)) →
    ∃ (v0 : (c : Dev Cert.DwGatesIdeal.nD) → Buf (Elt Ideal) ((c.tc : Thread Cert.DwGatesIdeal.nD Cert.DwGatesIdeal.τ).loc Cert.DwGatesIdeal.main_v2)),
      θ_run (Cert.DwGatesIdeal.defs (F := Ideal)) (onTc (τ := Cert.DwGatesIdeal.τ) (Cert.DwGatesIdeal.main (F := Ideal))) ⟨m, fun _ => 0, g⟩ (fun r => ∀ c : Dev Cert.DwGatesIdeal.nD,
          r.2.mem ((c.tc : Thread Cert.DwGatesIdeal.nD Cert.DwGatesIdeal.τ).loc Cert.DwGatesIdeal.main_v2) = v0 c
          ∧ r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
          ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ θ_run (Cert.DwGatesReferenceIdeal.defs (F := Ideal)) (onTc (τ := Cert.DwGatesReferenceIdeal.τ) (Cert.DwGatesReferenceIdeal.main (F := Ideal))) ⟨m', fun _ => 0, g'⟩ (fun r => ∀ c : Dev Cert.DwGatesReferenceIdeal.nD,
          r.2.mem ((c.tc : Thread Cert.DwGatesReferenceIdeal.nD Cert.DwGatesReferenceIdeal.τ).loc Cert.DwGatesReferenceIdeal.main_v3) = v0 c
          ∧ r.2.mem ((c.tc : Thread Cert.DwGatesReferenceIdeal.nD Cert.DwGatesReferenceIdeal.τ).loc Cert.DwGatesReferenceIdeal.main_arg0) = m' ((c.tc : Thread Cert.DwGatesReferenceIdeal.nD Cert.DwGatesReferenceIdeal.τ).loc Cert.DwGatesReferenceIdeal.main_arg0)
          ∧ r.2.mem ((c.tc : Thread Cert.DwGatesReferenceIdeal.nD Cert.DwGatesReferenceIdeal.τ).loc Cert.DwGatesReferenceIdeal.main_arg1) = m' ((c.tc : Thread Cert.DwGatesReferenceIdeal.nD Cert.DwGatesReferenceIdeal.τ).loc Cert.DwGatesReferenceIdeal.main_arg1))

def preserves_DwGla_DwGlaIdeal : Prop :=
  True

def algebraic_DwGlaIdeal_DwGlaReferenceIdeal [hDwGlaIdeal : Cert.DwGlaIdeal.Facts] [hDwGlaReferenceIdeal : Cert.DwGlaReferenceIdeal.Facts] : Prop :=
  ∀ (m : (ℓ : Loc Cert.DwGlaIdeal.nD Cert.DwGlaIdeal.τ Cert.DwGlaIdeal.sig) → Buf (Elt Ideal) ℓ) (g : Dev Cert.DwGlaIdeal.nD → PrngReg)
    (m' : (ℓ : Loc Cert.DwGlaReferenceIdeal.nD Cert.DwGlaReferenceIdeal.τ Cert.DwGlaReferenceIdeal.sig) → Buf (Elt Ideal) ℓ) (g' : Dev Cert.DwGlaReferenceIdeal.nD → PrngReg), Pre_DwGlaIdeal m →
    (∀ c : Dev Cert.DwGlaIdeal.nD,
      m' ((c.tc : Thread Cert.DwGlaReferenceIdeal.nD Cert.DwGlaReferenceIdeal.τ).loc Cert.DwGlaReferenceIdeal.main_arg0) = m ((c.tc : Thread Cert.DwGlaIdeal.nD Cert.DwGlaIdeal.τ).loc Cert.DwGlaIdeal.main_arg0)
      ∧ m' ((c.tc : Thread Cert.DwGlaReferenceIdeal.nD Cert.DwGlaReferenceIdeal.τ).loc Cert.DwGlaReferenceIdeal.main_arg1) = m ((c.tc : Thread Cert.DwGlaIdeal.nD Cert.DwGlaIdeal.τ).loc Cert.DwGlaIdeal.main_arg1)
      ∧ m' ((c.tc : Thread Cert.DwGlaReferenceIdeal.nD Cert.DwGlaReferenceIdeal.τ).loc Cert.DwGlaReferenceIdeal.main_arg2) = m ((c.tc : Thread Cert.DwGlaIdeal.nD Cert.DwGlaIdeal.τ).loc Cert.DwGlaIdeal.main_arg2)
      ∧ m' ((c.tc : Thread Cert.DwGlaReferenceIdeal.nD Cert.DwGlaReferenceIdeal.τ).loc Cert.DwGlaReferenceIdeal.main_arg3) = m ((c.tc : Thread Cert.DwGlaIdeal.nD Cert.DwGlaIdeal.τ).loc Cert.DwGlaIdeal.main_arg3)) →
    ∃ (v0 : (c : Dev Cert.DwGlaIdeal.nD) → Buf (Elt Ideal) ((c.tc : Thread Cert.DwGlaIdeal.nD Cert.DwGlaIdeal.τ).loc Cert.DwGlaIdeal.main_v4)),
      θ_run (Cert.DwGlaIdeal.defs (F := Ideal)) (onTc (τ := Cert.DwGlaIdeal.τ) (Cert.DwGlaIdeal.main (F := Ideal))) ⟨m, fun _ => 0, g⟩ (fun r => ∀ c : Dev Cert.DwGlaIdeal.nD,
          r.2.mem ((c.tc : Thread Cert.DwGlaIdeal.nD Cert.DwGlaIdeal.τ).loc Cert.DwGlaIdeal.main_v4) = v0 c
          ∧ r.2.mem ((c.tc : Thread Cert.DwGlaIdeal.nD Cert.DwGlaIdeal.τ).loc Cert.DwGlaIdeal.main_arg0) = m ((c.tc : Thread Cert.DwGlaIdeal.nD Cert.DwGlaIdeal.τ).loc Cert.DwGlaIdeal.main_arg0)
          ∧ r.2.mem ((c.tc : Thread Cert.DwGlaIdeal.nD Cert.DwGlaIdeal.τ).loc Cert.DwGlaIdeal.main_arg1) = m ((c.tc : Thread Cert.DwGlaIdeal.nD Cert.DwGlaIdeal.τ).loc Cert.DwGlaIdeal.main_arg1)
          ∧ r.2.mem ((c.tc : Thread Cert.DwGlaIdeal.nD Cert.DwGlaIdeal.τ).loc Cert.DwGlaIdeal.main_arg2) = m ((c.tc : Thread Cert.DwGlaIdeal.nD Cert.DwGlaIdeal.τ).loc Cert.DwGlaIdeal.main_arg2)
          ∧ r.2.mem ((c.tc : Thread Cert.DwGlaIdeal.nD Cert.DwGlaIdeal.τ).loc Cert.DwGlaIdeal.main_arg3) = m ((c.tc : Thread Cert.DwGlaIdeal.nD Cert.DwGlaIdeal.τ).loc Cert.DwGlaIdeal.main_arg3))
      ∧ θ_run (Cert.DwGlaReferenceIdeal.defs (F := Ideal)) (onTc (τ := Cert.DwGlaReferenceIdeal.τ) (Cert.DwGlaReferenceIdeal.main (F := Ideal))) ⟨m', fun _ => 0, g'⟩ (fun r => ∀ c : Dev Cert.DwGlaReferenceIdeal.nD,
          r.2.mem ((c.tc : Thread Cert.DwGlaReferenceIdeal.nD Cert.DwGlaReferenceIdeal.τ).loc Cert.DwGlaReferenceIdeal.main_v4) = v0 c
          ∧ r.2.mem ((c.tc : Thread Cert.DwGlaReferenceIdeal.nD Cert.DwGlaReferenceIdeal.τ).loc Cert.DwGlaReferenceIdeal.main_arg0) = m' ((c.tc : Thread Cert.DwGlaReferenceIdeal.nD Cert.DwGlaReferenceIdeal.τ).loc Cert.DwGlaReferenceIdeal.main_arg0)
          ∧ r.2.mem ((c.tc : Thread Cert.DwGlaReferenceIdeal.nD Cert.DwGlaReferenceIdeal.τ).loc Cert.DwGlaReferenceIdeal.main_arg1) = m' ((c.tc : Thread Cert.DwGlaReferenceIdeal.nD Cert.DwGlaReferenceIdeal.τ).loc Cert.DwGlaReferenceIdeal.main_arg1)
          ∧ r.2.mem ((c.tc : Thread Cert.DwGlaReferenceIdeal.nD Cert.DwGlaReferenceIdeal.τ).loc Cert.DwGlaReferenceIdeal.main_arg2) = m' ((c.tc : Thread Cert.DwGlaReferenceIdeal.nD Cert.DwGlaReferenceIdeal.τ).loc Cert.DwGlaReferenceIdeal.main_arg2)
          ∧ r.2.mem ((c.tc : Thread Cert.DwGlaReferenceIdeal.nD Cert.DwGlaReferenceIdeal.τ).loc Cert.DwGlaReferenceIdeal.main_arg3) = m' ((c.tc : Thread Cert.DwGlaReferenceIdeal.nD Cert.DwGlaReferenceIdeal.τ).loc Cert.DwGlaReferenceIdeal.main_arg3))

def preserves_DwPair_DwPairIdeal : Prop :=
  True

def algebraic_DwPairIdeal_DwPairReferenceIdeal [hDwPairIdeal : Cert.DwPairIdeal.Facts] [hDwPairReferenceIdeal : Cert.DwPairReferenceIdeal.Facts] : Prop :=
  ∀ (m : (ℓ : Loc Cert.DwPairIdeal.nD Cert.DwPairIdeal.τ Cert.DwPairIdeal.sig) → Buf (Elt Ideal) ℓ) (g : Dev Cert.DwPairIdeal.nD → PrngReg)
    (m' : (ℓ : Loc Cert.DwPairReferenceIdeal.nD Cert.DwPairReferenceIdeal.τ Cert.DwPairReferenceIdeal.sig) → Buf (Elt Ideal) ℓ) (g' : Dev Cert.DwPairReferenceIdeal.nD → PrngReg), Pre_DwPairIdeal m →
    (∀ c : Dev Cert.DwPairIdeal.nD,
      m' ((c.tc : Thread Cert.DwPairReferenceIdeal.nD Cert.DwPairReferenceIdeal.τ).loc Cert.DwPairReferenceIdeal.main_arg0) = m ((c.tc : Thread Cert.DwPairIdeal.nD Cert.DwPairIdeal.τ).loc Cert.DwPairIdeal.main_arg0)
      ∧ m' ((c.tc : Thread Cert.DwPairReferenceIdeal.nD Cert.DwPairReferenceIdeal.τ).loc Cert.DwPairReferenceIdeal.main_arg1) = m ((c.tc : Thread Cert.DwPairIdeal.nD Cert.DwPairIdeal.τ).loc Cert.DwPairIdeal.main_arg1)
      ∧ m' ((c.tc : Thread Cert.DwPairReferenceIdeal.nD Cert.DwPairReferenceIdeal.τ).loc Cert.DwPairReferenceIdeal.main_arg2) = m ((c.tc : Thread Cert.DwPairIdeal.nD Cert.DwPairIdeal.τ).loc Cert.DwPairIdeal.main_arg2)) →
    ∃ (v0 : (c : Dev Cert.DwPairIdeal.nD) → Buf (Elt Ideal) ((c.tc : Thread Cert.DwPairIdeal.nD Cert.DwPairIdeal.τ).loc Cert.DwPairIdeal.main_v3)),
      θ_run (Cert.DwPairIdeal.defs (F := Ideal)) (onTc (τ := Cert.DwPairIdeal.τ) (Cert.DwPairIdeal.main (F := Ideal))) ⟨m, fun _ => 0, g⟩ (fun r => ∀ c : Dev Cert.DwPairIdeal.nD,
          r.2.mem ((c.tc : Thread Cert.DwPairIdeal.nD Cert.DwPairIdeal.τ).loc Cert.DwPairIdeal.main_v3) = v0 c
          ∧ r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
          ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1)
          ∧ r.2.mem ((c.tc : Thread Cert.DwPairIdeal.nD Cert.DwPairIdeal.τ).loc Cert.DwPairIdeal.main_arg2) = m ((c.tc : Thread Cert.DwPairIdeal.nD Cert.DwPairIdeal.τ).loc Cert.DwPairIdeal.main_arg2))
      ∧ θ_run (Cert.DwPairReferenceIdeal.defs (F := Ideal)) (onTc (τ := Cert.DwPairReferenceIdeal.τ) (Cert.DwPairReferenceIdeal.main (F := Ideal))) ⟨m', fun _ => 0, g'⟩ (fun r => ∀ c : Dev Cert.DwPairReferenceIdeal.nD,
          r.2.mem ((c.tc : Thread Cert.DwPairReferenceIdeal.nD Cert.DwPairReferenceIdeal.τ).loc Cert.DwPairReferenceIdeal.main_v4) = v0 c
          ∧ r.2.mem ((c.tc : Thread Cert.DwPairReferenceIdeal.nD Cert.DwPairReferenceIdeal.τ).loc Cert.DwPairReferenceIdeal.main_arg0) = m' ((c.tc : Thread Cert.DwPairReferenceIdeal.nD Cert.DwPairReferenceIdeal.τ).loc Cert.DwPairReferenceIdeal.main_arg0)
          ∧ r.2.mem ((c.tc : Thread Cert.DwPairReferenceIdeal.nD Cert.DwPairReferenceIdeal.τ).loc Cert.DwPairReferenceIdeal.main_arg1) = m' ((c.tc : Thread Cert.DwPairReferenceIdeal.nD Cert.DwPairReferenceIdeal.τ).loc Cert.DwPairReferenceIdeal.main_arg1)
          ∧ r.2.mem ((c.tc : Thread Cert.DwPairReferenceIdeal.nD Cert.DwPairReferenceIdeal.τ).loc Cert.DwPairReferenceIdeal.main_arg2) = m' ((c.tc : Thread Cert.DwPairReferenceIdeal.nD Cert.DwPairReferenceIdeal.τ).loc Cert.DwPairReferenceIdeal.main_arg2))

def preserves_DH1_DH1Ideal : Prop :=
  True

def algebraic_DH1Ideal_DH1ReferenceIdeal [hDH1Ideal : Cert.DH1Ideal.Facts] [hDH1ReferenceIdeal : Cert.DH1ReferenceIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1ReferenceIdeal.nD Cert.DH1ReferenceIdeal.τ Cert.DH1ReferenceIdeal.sig) → Buf (Elt Ideal) ℓ) (g' : Dev Cert.DH1ReferenceIdeal.nD → PrngReg), Pre_DH1Ideal m →
    (∀ c : Dev Cert.DH1Ideal.nD,
      m' ((c.tc : Thread Cert.DH1ReferenceIdeal.nD Cert.DH1ReferenceIdeal.τ).loc Cert.DH1ReferenceIdeal.main_arg0) = m ((c.tc : Thread Cert.DH1Ideal.nD Cert.DH1Ideal.τ).loc Cert.DH1Ideal.main_arg0)
      ∧ m' ((c.tc : Thread Cert.DH1ReferenceIdeal.nD Cert.DH1ReferenceIdeal.τ).loc Cert.DH1ReferenceIdeal.main_arg1) = m ((c.tc : Thread Cert.DH1Ideal.nD Cert.DH1Ideal.τ).loc Cert.DH1Ideal.main_arg1)
      ∧ m' ((c.tc : Thread Cert.DH1ReferenceIdeal.nD Cert.DH1ReferenceIdeal.τ).loc Cert.DH1ReferenceIdeal.main_arg2) = m ((c.tc : Thread Cert.DH1Ideal.nD Cert.DH1Ideal.τ).loc Cert.DH1Ideal.main_arg2)
      ∧ m' ((c.tc : Thread Cert.DH1ReferenceIdeal.nD Cert.DH1ReferenceIdeal.τ).loc Cert.DH1ReferenceIdeal.main_arg3) = m ((c.tc : Thread Cert.DH1Ideal.nD Cert.DH1Ideal.τ).loc Cert.DH1Ideal.main_arg3)
      ∧ m' ((c.tc : Thread Cert.DH1ReferenceIdeal.nD Cert.DH1ReferenceIdeal.τ).loc Cert.DH1ReferenceIdeal.main_arg4) = m ((c.tc : Thread Cert.DH1Ideal.nD Cert.DH1Ideal.τ).loc Cert.DH1Ideal.main_arg4)) →
    ∃ (v0 : (c : Dev Cert.DH1Ideal.nD) → Buf (Elt Ideal) ((c.tc : Thread Cert.DH1Ideal.nD Cert.DH1Ideal.τ).loc Cert.DH1Ideal.main_v11_0)) (v1 : (c : Dev Cert.DH1Ideal.nD) → Buf (Elt Ideal) ((c.tc : Thread Cert.DH1Ideal.nD Cert.DH1Ideal.τ).loc Cert.DH1Ideal.main_v11_1)) (v2 : (c : Dev Cert.DH1Ideal.nD) → Buf (Elt Ideal) ((c.tc : Thread Cert.DH1Ideal.nD Cert.DH1Ideal.τ).loc Cert.DH1Ideal.main_v11_2)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v11_0) = v0 c
          ∧ r.2.mem ((c.tc : Thread Cert.DH1Ideal.nD Cert.DH1Ideal.τ).loc Cert.DH1Ideal.main_v11_1) = v1 c
          ∧ r.2.mem ((c.tc : Thread Cert.DH1Ideal.nD Cert.DH1Ideal.τ).loc Cert.DH1Ideal.main_v11_2) = v2 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ θ_run (Cert.DH1ReferenceIdeal.defs (F := Ideal)) (onTc (τ := Cert.DH1ReferenceIdeal.τ) (Cert.DH1ReferenceIdeal.main (F := Ideal))) ⟨m', fun _ => 0, g'⟩ (fun r => ∀ c : Dev Cert.DH1ReferenceIdeal.nD,
          r.2.mem ((c.tc : Thread Cert.DH1ReferenceIdeal.nD Cert.DH1ReferenceIdeal.τ).loc Cert.DH1ReferenceIdeal.main_v35) = v0 c
          ∧ r.2.mem ((c.tc : Thread Cert.DH1ReferenceIdeal.nD Cert.DH1ReferenceIdeal.τ).loc Cert.DH1ReferenceIdeal.main_v38) = v1 c
          ∧ r.2.mem ((c.tc : Thread Cert.DH1ReferenceIdeal.nD Cert.DH1ReferenceIdeal.τ).loc Cert.DH1ReferenceIdeal.main_v37) = v2 c
          ∧ r.2.mem ((c.tc : Thread Cert.DH1ReferenceIdeal.nD Cert.DH1ReferenceIdeal.τ).loc Cert.DH1ReferenceIdeal.main_arg0) = m' ((c.tc : Thread Cert.DH1ReferenceIdeal.nD Cert.DH1ReferenceIdeal.τ).loc Cert.DH1ReferenceIdeal.main_arg0)
          ∧ r.2.mem ((c.tc : Thread Cert.DH1ReferenceIdeal.nD Cert.DH1ReferenceIdeal.τ).loc Cert.DH1ReferenceIdeal.main_arg1) = m' ((c.tc : Thread Cert.DH1ReferenceIdeal.nD Cert.DH1ReferenceIdeal.τ).loc Cert.DH1ReferenceIdeal.main_arg1)
          ∧ r.2.mem ((c.tc : Thread Cert.DH1ReferenceIdeal.nD Cert.DH1ReferenceIdeal.τ).loc Cert.DH1ReferenceIdeal.main_arg2) = m' ((c.tc : Thread Cert.DH1ReferenceIdeal.nD Cert.DH1ReferenceIdeal.τ).loc Cert.DH1ReferenceIdeal.main_arg2)
          ∧ r.2.mem ((c.tc : Thread Cert.DH1ReferenceIdeal.nD Cert.DH1ReferenceIdeal.τ).loc Cert.DH1ReferenceIdeal.main_arg3) = m' ((c.tc : Thread Cert.DH1ReferenceIdeal.nD Cert.DH1ReferenceIdeal.τ).loc Cert.DH1ReferenceIdeal.main_arg3)
          ∧ r.2.mem ((c.tc : Thread Cert.DH1ReferenceIdeal.nD Cert.DH1ReferenceIdeal.τ).loc Cert.DH1ReferenceIdeal.main_arg4) = m' ((c.tc : Thread Cert.DH1ReferenceIdeal.nD Cert.DH1ReferenceIdeal.τ).loc Cert.DH1ReferenceIdeal.main_arg4))

def preserves_DX_DXIdeal : Prop :=
  True

def algebraic_DXIdeal_DXReferenceIdeal [hDXIdeal : Cert.DXIdeal.Facts] [hDXReferenceIdeal : Cert.DXReferenceIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXReferenceIdeal.nD Cert.DXReferenceIdeal.τ Cert.DXReferenceIdeal.sig) → Buf (Elt Ideal) ℓ) (g' : Dev Cert.DXReferenceIdeal.nD → PrngReg), Pre_DXIdeal m →
    (∀ c : Dev Cert.DXIdeal.nD,
      m' ((c.tc : Thread Cert.DXReferenceIdeal.nD Cert.DXReferenceIdeal.τ).loc Cert.DXReferenceIdeal.main_arg0) = m ((c.tc : Thread Cert.DXIdeal.nD Cert.DXIdeal.τ).loc Cert.DXIdeal.main_arg0)
      ∧ m' ((c.tc : Thread Cert.DXReferenceIdeal.nD Cert.DXReferenceIdeal.τ).loc Cert.DXReferenceIdeal.main_arg1) = m ((c.tc : Thread Cert.DXIdeal.nD Cert.DXIdeal.τ).loc Cert.DXIdeal.main_arg1)
      ∧ m' ((c.tc : Thread Cert.DXReferenceIdeal.nD Cert.DXReferenceIdeal.τ).loc Cert.DXReferenceIdeal.main_arg2) = m ((c.tc : Thread Cert.DXIdeal.nD Cert.DXIdeal.τ).loc Cert.DXIdeal.main_arg2)
      ∧ m' ((c.tc : Thread Cert.DXReferenceIdeal.nD Cert.DXReferenceIdeal.τ).loc Cert.DXReferenceIdeal.main_arg3) = m ((c.tc : Thread Cert.DXIdeal.nD Cert.DXIdeal.τ).loc Cert.DXIdeal.main_arg3)
      ∧ m' ((c.tc : Thread Cert.DXReferenceIdeal.nD Cert.DXReferenceIdeal.τ).loc Cert.DXReferenceIdeal.main_arg4) = m ((c.tc : Thread Cert.DXIdeal.nD Cert.DXIdeal.τ).loc Cert.DXIdeal.main_arg4)
      ∧ m' ((c.tc : Thread Cert.DXReferenceIdeal.nD Cert.DXReferenceIdeal.τ).loc Cert.DXReferenceIdeal.main_arg5) = m ((c.tc : Thread Cert.DXIdeal.nD Cert.DXIdeal.τ).loc Cert.DXIdeal.main_arg5)
      ∧ m' ((c.tc : Thread Cert.DXReferenceIdeal.nD Cert.DXReferenceIdeal.τ).loc Cert.DXReferenceIdeal.main_arg6) = m ((c.tc : Thread Cert.DXIdeal.nD Cert.DXIdeal.τ).loc Cert.DXIdeal.main_arg6)
      ∧ m' ((c.tc : Thread Cert.DXReferenceIdeal.nD Cert.DXReferenceIdeal.τ).loc Cert.DXReferenceIdeal.main_arg7) = m ((c.tc : Thread Cert.DXIdeal.nD Cert.DXIdeal.τ).loc Cert.DXIdeal.main_arg7)
      ∧ m' ((c.tc : Thread Cert.DXReferenceIdeal.nD Cert.DXReferenceIdeal.τ).loc Cert.DXReferenceIdeal.main_arg8) = m ((c.tc : Thread Cert.DXIdeal.nD Cert.DXIdeal.τ).loc Cert.DXIdeal.main_arg8)
      ∧ m' ((c.tc : Thread Cert.DXReferenceIdeal.nD Cert.DXReferenceIdeal.τ).loc Cert.DXReferenceIdeal.main_arg9) = m ((c.tc : Thread Cert.DXIdeal.nD Cert.DXIdeal.τ).loc Cert.DXIdeal.main_arg9)
      ∧ m' ((c.tc : Thread Cert.DXReferenceIdeal.nD Cert.DXReferenceIdeal.τ).loc Cert.DXReferenceIdeal.main_arg10) = m ((c.tc : Thread Cert.DXIdeal.nD Cert.DXIdeal.τ).loc Cert.DXIdeal.main_arg10)
      ∧ m' ((c.tc : Thread Cert.DXReferenceIdeal.nD Cert.DXReferenceIdeal.τ).loc Cert.DXReferenceIdeal.main_arg11) = m ((c.tc : Thread Cert.DXIdeal.nD Cert.DXIdeal.τ).loc Cert.DXIdeal.main_arg11)
      ∧ m' ((c.tc : Thread Cert.DXReferenceIdeal.nD Cert.DXReferenceIdeal.τ).loc Cert.DXReferenceIdeal.main_arg12) = m ((c.tc : Thread Cert.DXIdeal.nD Cert.DXIdeal.τ).loc Cert.DXIdeal.main_arg12)
      ∧ m' ((c.tc : Thread Cert.DXReferenceIdeal.nD Cert.DXReferenceIdeal.τ).loc Cert.DXReferenceIdeal.main_arg13) = m ((c.tc : Thread Cert.DXIdeal.nD Cert.DXIdeal.τ).loc Cert.DXIdeal.main_arg13)) →
    ∃ (v0 : (c : Dev Cert.DXIdeal.nD) → Buf (Elt Ideal) ((c.tc : Thread Cert.DXIdeal.nD Cert.DXIdeal.τ).loc Cert.DXIdeal.main_v30_0)) (v1 : (c : Dev Cert.DXIdeal.nD) → Buf (Elt Ideal) ((c.tc : Thread Cert.DXIdeal.nD Cert.DXIdeal.τ).loc Cert.DXIdeal.main_v30_1)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v30_0) = v0 c
          ∧ r.2.mem ((c.tc : Thread Cert.DXIdeal.nD Cert.DXIdeal.τ).loc Cert.DXIdeal.main_v30_1) = v1 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
          ∧ r.2.mem ((c.tc : Thread Cert.DXIdeal.nD Cert.DXIdeal.τ).loc Cert.DXIdeal.main_arg3) = m ((c.tc : Thread Cert.DXIdeal.nD Cert.DXIdeal.τ).loc Cert.DXIdeal.main_arg3)
          ∧ r.2.mem ((c.tc : Thread Cert.DXIdeal.nD Cert.DXIdeal.τ).loc Cert.DXIdeal.main_arg4) = m ((c.tc : Thread Cert.DXIdeal.nD Cert.DXIdeal.τ).loc Cert.DXIdeal.main_arg4)
          ∧ r.2.mem ((c.tc : Thread Cert.DXIdeal.nD Cert.DXIdeal.τ).loc Cert.DXIdeal.main_arg5) = m ((c.tc : Thread Cert.DXIdeal.nD Cert.DXIdeal.τ).loc Cert.DXIdeal.main_arg5)
          ∧ r.2.mem ((c.tc : Thread Cert.DXIdeal.nD Cert.DXIdeal.τ).loc Cert.DXIdeal.main_arg6) = m ((c.tc : Thread Cert.DXIdeal.nD Cert.DXIdeal.τ).loc Cert.DXIdeal.main_arg6)
          ∧ r.2.mem ((c.tc : Thread Cert.DXIdeal.nD Cert.DXIdeal.τ).loc Cert.DXIdeal.main_arg7) = m ((c.tc : Thread Cert.DXIdeal.nD Cert.DXIdeal.τ).loc Cert.DXIdeal.main_arg7)
          ∧ r.2.mem ((c.tc : Thread Cert.DXIdeal.nD Cert.DXIdeal.τ).loc Cert.DXIdeal.main_arg8) = m ((c.tc : Thread Cert.DXIdeal.nD Cert.DXIdeal.τ).loc Cert.DXIdeal.main_arg8)
          ∧ r.2.mem ((c.tc : Thread Cert.DXIdeal.nD Cert.DXIdeal.τ).loc Cert.DXIdeal.main_arg9) = m ((c.tc : Thread Cert.DXIdeal.nD Cert.DXIdeal.τ).loc Cert.DXIdeal.main_arg9)
          ∧ r.2.mem ((c.tc : Thread Cert.DXIdeal.nD Cert.DXIdeal.τ).loc Cert.DXIdeal.main_arg10) = m ((c.tc : Thread Cert.DXIdeal.nD Cert.DXIdeal.τ).loc Cert.DXIdeal.main_arg10)
          ∧ r.2.mem ((c.tc : Thread Cert.DXIdeal.nD Cert.DXIdeal.τ).loc Cert.DXIdeal.main_arg11) = m ((c.tc : Thread Cert.DXIdeal.nD Cert.DXIdeal.τ).loc Cert.DXIdeal.main_arg11)
          ∧ r.2.mem ((c.tc : Thread Cert.DXIdeal.nD Cert.DXIdeal.τ).loc Cert.DXIdeal.main_arg12) = m ((c.tc : Thread Cert.DXIdeal.nD Cert.DXIdeal.τ).loc Cert.DXIdeal.main_arg12)
          ∧ r.2.mem ((c.tc : Thread Cert.DXIdeal.nD Cert.DXIdeal.τ).loc Cert.DXIdeal.main_arg13) = m ((c.tc : Thread Cert.DXIdeal.nD Cert.DXIdeal.τ).loc Cert.DXIdeal.main_arg13))
      ∧ θ_run (Cert.DXReferenceIdeal.defs (F := Ideal)) (onTc (τ := Cert.DXReferenceIdeal.τ) (Cert.DXReferenceIdeal.main (F := Ideal))) ⟨m', fun _ => 0, g'⟩ (fun r => ∀ c : Dev Cert.DXReferenceIdeal.nD,
          r.2.mem ((c.tc : Thread Cert.DXReferenceIdeal.nD Cert.DXReferenceIdeal.τ).loc Cert.DXReferenceIdeal.main_v38) = v0 c
          ∧ r.2.mem ((c.tc : Thread Cert.DXReferenceIdeal.nD Cert.DXReferenceIdeal.τ).loc Cert.DXReferenceIdeal.main_v40) = v1 c
          ∧ r.2.mem ((c.tc : Thread Cert.DXReferenceIdeal.nD Cert.DXReferenceIdeal.τ).loc Cert.DXReferenceIdeal.main_arg0) = m' ((c.tc : Thread Cert.DXReferenceIdeal.nD Cert.DXReferenceIdeal.τ).loc Cert.DXReferenceIdeal.main_arg0)
          ∧ r.2.mem ((c.tc : Thread Cert.DXReferenceIdeal.nD Cert.DXReferenceIdeal.τ).loc Cert.DXReferenceIdeal.main_arg1) = m' ((c.tc : Thread Cert.DXReferenceIdeal.nD Cert.DXReferenceIdeal.τ).loc Cert.DXReferenceIdeal.main_arg1)
          ∧ r.2.mem ((c.tc : Thread Cert.DXReferenceIdeal.nD Cert.DXReferenceIdeal.τ).loc Cert.DXReferenceIdeal.main_arg2) = m' ((c.tc : Thread Cert.DXReferenceIdeal.nD Cert.DXReferenceIdeal.τ).loc Cert.DXReferenceIdeal.main_arg2)
          ∧ r.2.mem ((c.tc : Thread Cert.DXReferenceIdeal.nD Cert.DXReferenceIdeal.τ).loc Cert.DXReferenceIdeal.main_arg3) = m' ((c.tc : Thread Cert.DXReferenceIdeal.nD Cert.DXReferenceIdeal.τ).loc Cert.DXReferenceIdeal.main_arg3)
          ∧ r.2.mem ((c.tc : Thread Cert.DXReferenceIdeal.nD Cert.DXReferenceIdeal.τ).loc Cert.DXReferenceIdeal.main_arg4) = m' ((c.tc : Thread Cert.DXReferenceIdeal.nD Cert.DXReferenceIdeal.τ).loc Cert.DXReferenceIdeal.main_arg4)
          ∧ r.2.mem ((c.tc : Thread Cert.DXReferenceIdeal.nD Cert.DXReferenceIdeal.τ).loc Cert.DXReferenceIdeal.main_arg5) = m' ((c.tc : Thread Cert.DXReferenceIdeal.nD Cert.DXReferenceIdeal.τ).loc Cert.DXReferenceIdeal.main_arg5)
          ∧ r.2.mem ((c.tc : Thread Cert.DXReferenceIdeal.nD Cert.DXReferenceIdeal.τ).loc Cert.DXReferenceIdeal.main_arg6) = m' ((c.tc : Thread Cert.DXReferenceIdeal.nD Cert.DXReferenceIdeal.τ).loc Cert.DXReferenceIdeal.main_arg6)
          ∧ r.2.mem ((c.tc : Thread Cert.DXReferenceIdeal.nD Cert.DXReferenceIdeal.τ).loc Cert.DXReferenceIdeal.main_arg7) = m' ((c.tc : Thread Cert.DXReferenceIdeal.nD Cert.DXReferenceIdeal.τ).loc Cert.DXReferenceIdeal.main_arg7)
          ∧ r.2.mem ((c.tc : Thread Cert.DXReferenceIdeal.nD Cert.DXReferenceIdeal.τ).loc Cert.DXReferenceIdeal.main_arg8) = m' ((c.tc : Thread Cert.DXReferenceIdeal.nD Cert.DXReferenceIdeal.τ).loc Cert.DXReferenceIdeal.main_arg8)
          ∧ r.2.mem ((c.tc : Thread Cert.DXReferenceIdeal.nD Cert.DXReferenceIdeal.τ).loc Cert.DXReferenceIdeal.main_arg9) = m' ((c.tc : Thread Cert.DXReferenceIdeal.nD Cert.DXReferenceIdeal.τ).loc Cert.DXReferenceIdeal.main_arg9)
          ∧ r.2.mem ((c.tc : Thread Cert.DXReferenceIdeal.nD Cert.DXReferenceIdeal.τ).loc Cert.DXReferenceIdeal.main_arg10) = m' ((c.tc : Thread Cert.DXReferenceIdeal.nD Cert.DXReferenceIdeal.τ).loc Cert.DXReferenceIdeal.main_arg10)
          ∧ r.2.mem ((c.tc : Thread Cert.DXReferenceIdeal.nD Cert.DXReferenceIdeal.τ).loc Cert.DXReferenceIdeal.main_arg11) = m' ((c.tc : Thread Cert.DXReferenceIdeal.nD Cert.DXReferenceIdeal.τ).loc Cert.DXReferenceIdeal.main_arg11)
          ∧ r.2.mem ((c.tc : Thread Cert.DXReferenceIdeal.nD Cert.DXReferenceIdeal.τ).loc Cert.DXReferenceIdeal.main_arg12) = m' ((c.tc : Thread Cert.DXReferenceIdeal.nD Cert.DXReferenceIdeal.τ).loc Cert.DXReferenceIdeal.main_arg12)
          ∧ r.2.mem ((c.tc : Thread Cert.DXReferenceIdeal.nD Cert.DXReferenceIdeal.τ).loc Cert.DXReferenceIdeal.main_arg13) = m' ((c.tc : Thread Cert.DXReferenceIdeal.nD Cert.DXReferenceIdeal.τ).loc Cert.DXReferenceIdeal.main_arg13))

def preserves_Ff2_Ff2Ideal : Prop :=
  True

def algebraic_Ff2Ideal_Ff2ReferenceIdeal [hFf2Ideal : Cert.Ff2Ideal.Facts] [hFf2ReferenceIdeal : Cert.Ff2ReferenceIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2Ideal m →
    (∀ c : Dev Cert.Ff2Ideal.nD,
      m' ((c.tc : Thread Cert.Ff2ReferenceIdeal.nD Cert.Ff2ReferenceIdeal.τ).loc Cert.Ff2ReferenceIdeal.main_arg0) = m ((c.tc : Thread Cert.Ff2Ideal.nD Cert.Ff2Ideal.τ).loc Cert.Ff2Ideal.main_arg0)
      ∧ m' ((c.tc : Thread Cert.Ff2ReferenceIdeal.nD Cert.Ff2ReferenceIdeal.τ).loc Cert.Ff2ReferenceIdeal.main_arg1) = m ((c.tc : Thread Cert.Ff2Ideal.nD Cert.Ff2Ideal.τ).loc Cert.Ff2Ideal.main_arg1)
      ∧ m' ((c.tc : Thread Cert.Ff2ReferenceIdeal.nD Cert.Ff2ReferenceIdeal.τ).loc Cert.Ff2ReferenceIdeal.main_arg2) = m ((c.tc : Thread Cert.Ff2Ideal.nD Cert.Ff2Ideal.τ).loc Cert.Ff2Ideal.main_arg2)
      ∧ m' ((c.tc : Thread Cert.Ff2ReferenceIdeal.nD Cert.Ff2ReferenceIdeal.τ).loc Cert.Ff2ReferenceIdeal.main_arg3) = m ((c.tc : Thread Cert.Ff2Ideal.nD Cert.Ff2Ideal.τ).loc Cert.Ff2Ideal.main_arg3)
      ∧ m' ((c.tc : Thread Cert.Ff2ReferenceIdeal.nD Cert.Ff2ReferenceIdeal.τ).loc Cert.Ff2ReferenceIdeal.main_arg4) = m ((c.tc : Thread Cert.Ff2Ideal.nD Cert.Ff2Ideal.τ).loc Cert.Ff2Ideal.main_arg4)) →
    ∃ (v0 : (c : Dev Cert.Ff2Ideal.nD) → Buf (Elt Ideal) ((c.tc : Thread Cert.Ff2Ideal.nD Cert.Ff2Ideal.τ).loc Cert.Ff2Ideal.main_v2_0)) (v1 : (c : Dev Cert.Ff2Ideal.nD) → Buf (Elt Ideal) ((c.tc : Thread Cert.Ff2Ideal.nD Cert.Ff2Ideal.τ).loc Cert.Ff2Ideal.main_v2_1)) (v2 : (c : Dev Cert.Ff2Ideal.nD) → Buf (Elt Ideal) ((c.tc : Thread Cert.Ff2Ideal.nD Cert.Ff2Ideal.τ).loc Cert.Ff2Ideal.main_v2_2)) (v3 : (c : Dev Cert.Ff2Ideal.nD) → Buf (Elt Ideal) ((c.tc : Thread Cert.Ff2Ideal.nD Cert.Ff2Ideal.τ).loc Cert.Ff2Ideal.main_v2_3)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2_0) = v0 c
          ∧ r.2.mem ((c.tc : Thread Cert.Ff2Ideal.nD Cert.Ff2Ideal.τ).loc Cert.Ff2Ideal.main_v2_1) = v1 c
          ∧ r.2.mem ((c.tc : Thread Cert.Ff2Ideal.nD Cert.Ff2Ideal.τ).loc Cert.Ff2Ideal.main_v2_2) = v2 c
          ∧ r.2.mem ((c.tc : Thread Cert.Ff2Ideal.nD Cert.Ff2Ideal.τ).loc Cert.Ff2Ideal.main_v2_3) = v3 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3)
          ∧ r.2.mem ((c.tc : Thread Cert.Ff2Ideal.nD Cert.Ff2Ideal.τ).loc Cert.Ff2Ideal.main_arg4) = m ((c.tc : Thread Cert.Ff2Ideal.nD Cert.Ff2Ideal.τ).loc Cert.Ff2Ideal.main_arg4))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v54) = v0 c
          ∧ r.2.mem ((c.tc : Thread Cert.Ff2ReferenceIdeal.nD Cert.Ff2ReferenceIdeal.τ).loc Cert.Ff2ReferenceIdeal.main_v61) = v1 c
          ∧ r.2.mem ((c.tc : Thread Cert.Ff2ReferenceIdeal.nD Cert.Ff2ReferenceIdeal.τ).loc Cert.Ff2ReferenceIdeal.main_v60) = v2 c
          ∧ r.2.mem ((c.tc : Thread Cert.Ff2ReferenceIdeal.nD Cert.Ff2ReferenceIdeal.τ).loc Cert.Ff2ReferenceIdeal.main_v56) = v3 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2)
          ∧ r.2.mem ((c.tc : Thread Cert.Ff2ReferenceIdeal.nD Cert.Ff2ReferenceIdeal.τ).loc Cert.Ff2ReferenceIdeal.main_arg3) = m' ((c.tc : Thread Cert.Ff2ReferenceIdeal.nD Cert.Ff2ReferenceIdeal.τ).loc Cert.Ff2ReferenceIdeal.main_arg3)
          ∧ r.2.mem ((c.tc : Thread Cert.Ff2ReferenceIdeal.nD Cert.Ff2ReferenceIdeal.τ).loc Cert.Ff2ReferenceIdeal.main_arg4) = m' ((c.tc : Thread Cert.Ff2ReferenceIdeal.nD Cert.Ff2ReferenceIdeal.τ).loc Cert.Ff2ReferenceIdeal.main_arg4))

def Claim : Prop :=
  ∃ (hKernel : Cert.Kernel.Facts) (hKernelIdeal : Cert.KernelIdeal.Facts) (hReferenceIdeal : Cert.ReferenceIdeal.Facts) (hFf1 : Cert.Ff1.Facts) (hFf1Ideal : Cert.Ff1Ideal.Facts) (hFf1ReferenceIdeal : Cert.Ff1ReferenceIdeal.Facts) (hDAct : Cert.DAct.Facts) (hDActIdeal : Cert.DActIdeal.Facts) (hDActReferenceIdeal : Cert.DActReferenceIdeal.Facts) (hDwFf2 : Cert.DwFf2.Facts) (hDwFf2Ideal : Cert.DwFf2Ideal.Facts) (hDwFf2ReferenceIdeal : Cert.DwFf2ReferenceIdeal.Facts) (hDwFf1 : Cert.DwFf1.Facts) (hDwFf1Ideal : Cert.DwFf1Ideal.Facts) (hDwFf1ReferenceIdeal : Cert.DwFf1ReferenceIdeal.Facts) (hProj : Cert.Proj.Facts) (hProjIdeal : Cert.ProjIdeal.Facts) (hProjReferenceIdeal : Cert.ProjReferenceIdeal.Facts) (hDwGates : Cert.DwGates.Facts) (hDwGatesIdeal : Cert.DwGatesIdeal.Facts) (hDwGatesReferenceIdeal : Cert.DwGatesReferenceIdeal.Facts) (hDwGla : Cert.DwGla.Facts) (hDwGlaIdeal : Cert.DwGlaIdeal.Facts) (hDwGlaReferenceIdeal : Cert.DwGlaReferenceIdeal.Facts) (hDwPair : Cert.DwPair.Facts) (hDwPairIdeal : Cert.DwPairIdeal.Facts) (hDwPairReferenceIdeal : Cert.DwPairReferenceIdeal.Facts) (hDH1 : Cert.DH1.Facts) (hDH1Ideal : Cert.DH1Ideal.Facts) (hDH1ReferenceIdeal : Cert.DH1ReferenceIdeal.Facts) (hDX : Cert.DX.Facts) (hDXIdeal : Cert.DXIdeal.Facts) (hDXReferenceIdeal : Cert.DXReferenceIdeal.Facts) (hFf2 : Cert.Ff2.Facts) (hFf2Ideal : Cert.Ff2Ideal.Facts) (hFf2ReferenceIdeal : Cert.Ff2ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff1 (hFf1 := hFf1)
    ∧ quiescent_Ff1Ideal (hFf1Ideal := hFf1Ideal)
    ∧ quiescent_Ff1ReferenceIdeal (hFf1ReferenceIdeal := hFf1ReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_DwFf2 (hDwFf2 := hDwFf2)
    ∧ quiescent_DwFf2Ideal (hDwFf2Ideal := hDwFf2Ideal)
    ∧ quiescent_DwFf2ReferenceIdeal (hDwFf2ReferenceIdeal := hDwFf2ReferenceIdeal)
    ∧ quiescent_DwFf1 (hDwFf1 := hDwFf1)
    ∧ quiescent_DwFf1Ideal (hDwFf1Ideal := hDwFf1Ideal)
    ∧ quiescent_DwFf1ReferenceIdeal (hDwFf1ReferenceIdeal := hDwFf1ReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_DwGates (hDwGates := hDwGates)
    ∧ quiescent_DwGatesIdeal (hDwGatesIdeal := hDwGatesIdeal)
    ∧ quiescent_DwGatesReferenceIdeal (hDwGatesReferenceIdeal := hDwGatesReferenceIdeal)
    ∧ quiescent_DwGla (hDwGla := hDwGla)
    ∧ quiescent_DwGlaIdeal (hDwGlaIdeal := hDwGlaIdeal)
    ∧ quiescent_DwGlaReferenceIdeal (hDwGlaReferenceIdeal := hDwGlaReferenceIdeal)
    ∧ quiescent_DwPair (hDwPair := hDwPair)
    ∧ quiescent_DwPairIdeal (hDwPairIdeal := hDwPairIdeal)
    ∧ quiescent_DwPairReferenceIdeal (hDwPairReferenceIdeal := hDwPairReferenceIdeal)
    ∧ quiescent_DH1 (hDH1 := hDH1)
    ∧ quiescent_DH1Ideal (hDH1Ideal := hDH1Ideal)
    ∧ quiescent_DH1ReferenceIdeal (hDH1ReferenceIdeal := hDH1ReferenceIdeal)
    ∧ quiescent_DX (hDX := hDX)
    ∧ quiescent_DXIdeal (hDXIdeal := hDXIdeal)
    ∧ quiescent_DXReferenceIdeal (hDXReferenceIdeal := hDXReferenceIdeal)
    ∧ quiescent_Ff2 (hFf2 := hFf2)
    ∧ quiescent_Ff2Ideal (hFf2Ideal := hFf2Ideal)
    ∧ quiescent_Ff2ReferenceIdeal (hFf2ReferenceIdeal := hFf2ReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff1_Ff1Ideal
    ∧ algebraic_Ff1Ideal_Ff1ReferenceIdeal (hFf1Ideal := hFf1Ideal) (hFf1ReferenceIdeal := hFf1ReferenceIdeal)
    ∧ preserves_DAct_DActIdeal
    ∧ algebraic_DActIdeal_DActReferenceIdeal (hDActIdeal := hDActIdeal) (hDActReferenceIdeal := hDActReferenceIdeal)
    ∧ preserves_DwFf2_DwFf2Ideal
    ∧ algebraic_DwFf2Ideal_DwFf2ReferenceIdeal (hDwFf2Ideal := hDwFf2Ideal) (hDwFf2ReferenceIdeal := hDwFf2ReferenceIdeal)
    ∧ preserves_DwFf1_DwFf1Ideal
    ∧ algebraic_DwFf1Ideal_DwFf1ReferenceIdeal (hDwFf1Ideal := hDwFf1Ideal) (hDwFf1ReferenceIdeal := hDwFf1ReferenceIdeal)
    ∧ preserves_Proj_ProjIdeal
    ∧ algebraic_ProjIdeal_ProjReferenceIdeal (hProjIdeal := hProjIdeal) (hProjReferenceIdeal := hProjReferenceIdeal)
    ∧ preserves_DwGates_DwGatesIdeal
    ∧ algebraic_DwGatesIdeal_DwGatesReferenceIdeal (hDwGatesIdeal := hDwGatesIdeal) (hDwGatesReferenceIdeal := hDwGatesReferenceIdeal)
    ∧ preserves_DwGla_DwGlaIdeal
    ∧ algebraic_DwGlaIdeal_DwGlaReferenceIdeal (hDwGlaIdeal := hDwGlaIdeal) (hDwGlaReferenceIdeal := hDwGlaReferenceIdeal)
    ∧ preserves_DwPair_DwPairIdeal
    ∧ algebraic_DwPairIdeal_DwPairReferenceIdeal (hDwPairIdeal := hDwPairIdeal) (hDwPairReferenceIdeal := hDwPairReferenceIdeal)
    ∧ preserves_DH1_DH1Ideal
    ∧ algebraic_DH1Ideal_DH1ReferenceIdeal (hDH1Ideal := hDH1Ideal) (hDH1ReferenceIdeal := hDH1ReferenceIdeal)
    ∧ preserves_DX_DXIdeal
    ∧ algebraic_DXIdeal_DXReferenceIdeal (hDXIdeal := hDXIdeal) (hDXReferenceIdeal := hDXReferenceIdeal)
    ∧ preserves_Ff2_Ff2Ideal
    ∧ algebraic_Ff2Ideal_Ff2ReferenceIdeal (hFf2Ideal := hFf2Ideal) (hFf2ReferenceIdeal := hFf2ReferenceIdeal)
-- ==== Pre_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)

variable [Facts]

def fn {F : FTy → Type} [FloatOps F] (main_arg0 : FVec F S16384x512 .f32) (main_arg1 : FVec F S16384x512 .f32) (main_arg2 : FVec F S16384x512 .f32) (main_arg3 : FVec F S16384x8 .f32) (main_arg4 : FVec F S16384x512 .f32) : IVec S16384x512 1 × IVec S16384x512 1 × IVec S16384x512 1 × IVec S16384x8 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_v12 : FVec F S16384x512 .f32 := Host.absf main_arg4
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  (main_v2, main_v5, main_v8, main_v11, main_v14)
-- ==== Kernel.lean ====
abbrev S16384x512 : Shape := ⟨2, ![16384, 512]⟩
abbrev S16384x8 : Shape := ⟨2, ![16384, 8]⟩
abbrev S16384x8x64 : Shape := ⟨3, ![16384, 8, 64]⟩
abbrev S_ : Shape := ⟨0, ![]⟩
abbrev S8x16384 : Shape := ⟨2, ![8, 16384]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S16384x8x3 : Shape := ⟨3, ![16384, 8, 3]⟩
abbrev S16384x8x58 : Shape := ⟨3, ![16384, 8, 58]⟩
abbrev S16384x8x1 : Shape := ⟨3, ![16384, 8, 1]⟩
abbrev S16384x8x128 : Shape := ⟨3, ![16384, 8, 128]⟩
abbrev S16384x1024 : Shape := ⟨2, ![16384, 1024]⟩
abbrev S16384x8x61 : Shape := ⟨3, ![16384, 8, 61]⟩
abbrev S512x16384 : Shape := ⟨2, ![512, 16384]⟩
abbrev S8x8x16384 : Shape := ⟨3, ![8, 8, 16384]⟩
abbrev S2048x128 : Shape := ⟨2, ![2048, 128]⟩
abbrev S16384x128 : Shape := ⟨2, ![16384, 128]⟩
abbrev S64x16384 : Shape := ⟨2, ![64, 16384]⟩
abbrev S64x2048 : Shape := ⟨2, ![64, 2048]⟩
abbrev S1x8x16384 : Shape := ⟨3, ![1, 8, 16384]⟩
abbrev S1x1x2048 : Shape := ⟨3, ![1, 1, 2048]⟩
abbrev S16x2048 : Shape := ⟨2, ![16, 2048]⟩
abbrev S80x2048 : Shape := ⟨2, ![80, 2048]⟩
abbrev S512x512 : Shape := ⟨2, ![512, 512]⟩
abbrev S512x128 : Shape := ⟨2, ![512, 128]⟩
abbrev S80x512 : Shape := ⟨2, ![80, 512]⟩
abbrev S64x512 : Shape := ⟨2, ![64, 512]⟩
abbrev S1x8x512 : Shape := ⟨3, ![1, 8, 512]⟩
abbrev S8x512 : Shape := ⟨2, ![8, 512]⟩
abbrev S16x512 : Shape := ⟨2, ![16, 512]⟩
abbrev S80x1536 : Shape := ⟨2, ![80, 1536]⟩
abbrev S64x1536 : Shape := ⟨2, ![64, 1536]⟩
abbrev S1024x128 : Shape := ⟨2, ![1024, 128]⟩
abbrev S512x1024 : Shape := ⟨2, ![512, 1024]⟩
abbrev S80x1024 : Shape := ⟨2, ![80, 1024]⟩
abbrev S64x1024 : Shape := ⟨2, ![64, 1024]⟩
abbrev S1536x128 : Shape := ⟨2, ![1536, 128]⟩
abbrev S512x1536 : Shape := ⟨2, ![512, 1536]⟩
abbrev S512x2048 : Shape := ⟨2, ![512, 2048]⟩
abbrev S1x2048 : Shape := ⟨2, ![1, 2048]⟩

abbrev nBuf : Space → Nat
  | .hbm => 140
  | .vmem => 20
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S16384x512, .f32⟩
  | 5 => ⟨S16384x8x64, .f32⟩
  | 6 => ⟨S16384x8x64, .f32⟩
  | 7 => ⟨S16384x8x64, .f32⟩
  | 8 => ⟨S16384x8x64, .f32⟩
  | 9 => ⟨S_, .f32⟩
  | 10 => ⟨S_, .f32⟩
  | 11 => ⟨S16384x8, .f32⟩
  | 12 => ⟨S8x16384, .f32⟩
  | 13 => ⟨S8x16384x16384, .f32⟩
  | 14 => ⟨S_, .f32⟩
  | 15 => ⟨S8x16384x16384, .f32⟩
  | 16 => ⟨S8x16384x16384, .f32⟩
  | 17 => ⟨S8x16384x1, .f32⟩
  | 18 => ⟨S8x16384x16384, .f32⟩
  | 19 => ⟨S8x16384x16384, .f32⟩
  | 20 => ⟨S8x1x16384, .f32⟩
  | 21 => ⟨S8x16384x16384, .f32⟩
  | 22 => ⟨S8x16384x16384, .f32⟩
  | 23 => ⟨S16384, .i32⟩
  | 24 => ⟨S1x16384, .i32⟩
  | 25 => ⟨S16384, .i32⟩
  | 26 => ⟨S16384x1, .i32⟩
  | 27 => ⟨S16384x16384, .i32⟩
  | 28 => ⟨S16384x16384, .i32⟩
  | 29 => ⟨S16384x16384, .i1⟩
  | 30 => ⟨S_, .f32⟩
  | 31 => ⟨S_, .f32⟩
  | 32 => ⟨S8x16384x16384, .i1⟩
  | 33 => ⟨S8x16384x16384, .f32⟩
  | 34 => ⟨S8x16384x16384, .f32⟩
  | 35 => ⟨S_, .f32⟩
  | 36 => ⟨S8x16384, .f32⟩
  | 37 => ⟨S8x16384x1, .f32⟩
  | 38 => ⟨S8x16384x16384, .f32⟩
  | 39 => ⟨S8x16384x16384, .f32⟩
  | 40 => ⟨S8x16384x16384, .f32⟩
  | 41 => ⟨S_, .f32⟩
  | 42 => ⟨S8x16384, .f32⟩
  | 43 => ⟨S8x16384x1, .f32⟩
  | 44 => ⟨S8x16384x16384, .f32⟩
  | 45 => ⟨S8x16384x16384, .f32⟩
  | 46 => ⟨S8x64x16384, .f32⟩
  | 47 => ⟨S16384x8x64, .f32⟩
  | 48 => ⟨S16384x8, .f32⟩
  | 49 => ⟨S8x16384x1, .f32⟩
  | 50 => ⟨S8x16384x1, .f32⟩
  | 51 => ⟨S8x16384, .f32⟩
  | 52 => ⟨S16384x8, .f32⟩
  | 53 => ⟨S_, .bf16⟩
  | 54 => ⟨S16384x8x3, .bf16⟩
  | 55 => ⟨S_, .bf16⟩
  | 56 => ⟨S16384x8x58, .bf16⟩
  | 57 => ⟨S_, .f32⟩
  | 58 => ⟨S_, .f32⟩
  | 59 => ⟨S_, .f32⟩
  | 60 => ⟨S_, .f32⟩
  | 61 => ⟨S16384x8, .f32⟩
  | 62 => ⟨S16384x8, .f32⟩
  | 63 => ⟨S16384x8, .f32⟩
  | 64 => ⟨S16384x8, .f32⟩
  | 65 => ⟨S16384x8, .f32⟩
  | 66 => ⟨S16384x8x1, .f32⟩
  | 67 => ⟨S16384x8x1, .bf16⟩
  | 68 => ⟨S16384x8x1, .f32⟩
  | 69 => ⟨S16384x8x1, .f32⟩
  | 70 => ⟨S16384x8x1, .bf16⟩
  | 71 => ⟨S16384x8x1, .f32⟩
  | 72 => ⟨S16384x8x1, .f32⟩
  | 73 => ⟨S16384x8x1, .bf16⟩
  | 74 => ⟨S16384x8x3, .bf16⟩
  | 75 => ⟨S16384x8, .f32⟩
  | 76 => ⟨S16384x8, .f32⟩
  | 77 => ⟨S16384x8x1, .f32⟩
  | 78 => ⟨S16384x8x1, .bf16⟩
  | 79 => ⟨S16384x8x1, .f32⟩
  | 80 => ⟨S16384x8x1, .f32⟩
  | 81 => ⟨S16384x8x1, .bf16⟩
  | 82 => ⟨S16384x8x1, .f32⟩
  | 83 => ⟨S16384x8x1, .f32⟩
  | 84 => ⟨S16384x8x1, .bf16⟩
  | 85 => ⟨S16384x8x3, .bf16⟩
  | 86 => ⟨S16384x8x64, .f32⟩
  | 87 => ⟨S_, .f32⟩
  | 88 => ⟨S16384x8, .f32⟩
  | 89 => ⟨S16384x8x1, .f32⟩
  | 90 => ⟨S16384x8x1, .bf16⟩
  | 91 => ⟨S16384x8x1, .f32⟩
  | 92 => ⟨S16384x8x1, .f32⟩
  | 93 => ⟨S16384x8x1, .bf16⟩
  | 94 => ⟨S16384x8x1, .f32⟩
  | 95 => ⟨S16384x8x1, .f32⟩
  | 96 => ⟨S16384x8x1, .bf16⟩
  | 97 => ⟨S16384x8x3, .bf16⟩
  | 98 => ⟨S_, .f32⟩
  | 99 => ⟨S_, .f32⟩
  | 100 => ⟨S16384x8x64, .f32⟩
  | 101 => ⟨S16384x8x64, .f32⟩
  | 102 => ⟨S16384x8x64, .bf16⟩
  | 103 => ⟨S16384x8x128, .bf16⟩
  | 104 => ⟨S16384x1024, .bf16⟩
  | 105 => ⟨S16384x8x64, .bf16⟩
  | 106 => ⟨S16384x8x3, .bf16⟩
  | 107 => ⟨S16384x8x128, .bf16⟩
  | 108 => ⟨S16384x1024, .bf16⟩
  | 109 => ⟨S16384x8x64, .bf16⟩
  | 110 => ⟨S16384x8x3, .bf16⟩
  | 111 => ⟨S_, .bf16⟩
  | 112 => ⟨S16384x8x61, .bf16⟩
  | 113 => ⟨S16384x8x128, .bf16⟩
  | 114 => ⟨S16384x1024, .bf16⟩
  | 115 => ⟨S16384x8x64, .bf16⟩
  | 116 => ⟨S_, .bf16⟩
  | 117 => ⟨S16384x8x61, .bf16⟩
  | 118 => ⟨S16384x8x128, .bf16⟩
  | 119 => ⟨S16384x1024, .bf16⟩
  | 120 => ⟨S_, .f32⟩
  | 121 => ⟨S16384x8x64, .f32⟩
  | 122 => ⟨S16384x8x64, .f32⟩
  | 123 => ⟨S16384x8x64, .bf16⟩
  | 124 => ⟨S16384x512, .bf16⟩
  | 125 => ⟨S512x16384, .bf16⟩
  | 126 => ⟨S_, .f32⟩
  | 127 => ⟨S16384x8x64, .f32⟩
  | _ => ⟨S16384x512, .f32⟩

abbrev hbmTy0_1 (i : Nat) : BufTy := match i % 128 with
  | 0 => ⟨S16384x8x64, .f32⟩
  | 1 => ⟨S16384x8x64, .bf16⟩
  | 2 => ⟨S16384x512, .bf16⟩
  | 3 => ⟨S512x16384, .bf16⟩
  | 4 => ⟨S16384x8x64, .bf16⟩
  | 5 => ⟨S16384x512, .bf16⟩
  | 6 => ⟨S512x16384, .bf16⟩
  | 7 => ⟨S512x16384, .f32⟩
  | 8 => ⟨S8x8x16384, .f32⟩
  | 9 => ⟨S512x16384, .bf16⟩
  | 10 => ⟨S512x16384, .bf16⟩
  | 11 => ⟨S8x1x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S16384x128, .bf16⟩
  | .local _ .vmem, ⟨3, _⟩ => ⟨S16384x128, .bf16⟩
  | .local _ .vmem, ⟨4, _⟩ => ⟨S64x16384, .bf16⟩
  | .local _ .vmem, ⟨5, _⟩ => ⟨S64x16384, .bf16⟩
  | .local _ .vmem, ⟨6, _⟩ => ⟨S2048x128, .bf16⟩
  | .local _ .vmem, ⟨7, _⟩ => ⟨S2048x128, .bf16⟩
  | .local _ .vmem, ⟨8, _⟩ => ⟨S64x2048, .bf16⟩
  | .local _ .vmem, ⟨9, _⟩ => ⟨S64x2048, .bf16⟩
  | .local _ .vmem, ⟨10, _⟩ => ⟨S64x16384, .f32⟩
  | .local _ .vmem, ⟨11, _⟩ => ⟨S64x16384, .f32⟩
  | .local _ .vmem, ⟨12, _⟩ => ⟨S1x8x16384, .f32⟩
  | .local _ .vmem, ⟨13, _⟩ => ⟨S1x8x16384, .f32⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S1x1x2048, .f32⟩
  | .local _ .vmem, ⟨19, _⟩ => ⟨S1x1x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_9 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_10 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_11 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_12 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111_0 : Ref sig .tc := ⟨.hbm, 135, rfl⟩
abbrev main_v111_1 : Ref sig .tc := ⟨.hbm, 136, rfl⟩
abbrev main_v111_2 : Ref sig .tc := ⟨.hbm, 137, rfl⟩
abbrev main_v111_3 : Ref sig .tc := ⟨.hbm, 138, rfl⟩
abbrev main_v111_4 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4_i32 : BitVec 32 := 4#32
  let v21 : BitVec 32 := Scalar.muli arg1 c4_i32
  let c0_i32_8 : BitVec 32 := 0#32
  let v22 : BitVec 32 := Scalar.addi v21 c0_i32_8
  let c512_i32 : BitVec 32 := 512#32
  let v23 : BitVec 32 := Scalar.muli v22 c512_i32
  v23
def k0_off1 (i : grid0.Coords) (c0_i32_8 : BitVec 32) : Fin 2 → Nat :=
  let arg1 : BitVec 32 := BitVec.ofNat 32 (i 1).val
  let c4_i32 : BitVec 32 := 4#32
  let v21 : BitVec 32 := Scalar.muli arg1 c4_i32
  let v22 : BitVec 32 := Scalar.addi v21 c0_i32_8
  let c512_i32 : BitVec 32 := 512#32
  let v23 : BitVec 32 := Scalar.muli v22 c512_i32
  let v24 : BitVec 32 := v23
  let v25 : Index := Scalar.indexCast v24
  let c0_9 : Index := 0#32
  ![v25.toNat, 0]
def k0_off2 (i : grid0.Coords) (c0_i32_8 : BitVec 32) : Fin 2 → Nat :=
  let c0_15 : Index := 0#32
  let arg1 : BitVec 32 := BitVec.ofNat 32 (i 1).val
  let c4_i32 : BitVec 32 := 4#32
  let v21 : BitVec 32 := Scalar.muli arg1 c4_i32
  let v22 : BitVec 32 := Scalar.addi v21 c0_i32_8
  let c512_i32 : BitVec 32 := 512#32
  let v23 : BitVec 32 := Scalar.muli v22 c512_i32
  let v24 : BitVec 32 := v23
  let v42 : Index := Scalar.indexCast v24
  ![0, v42.toNat]
def k0_off3 (i : grid0.Coords) (c0_i32_8 : BitVec 32) : Fin 3 → Nat :=
  let c0_17 : Index := 0#32
  let c0_18 : Index := 0#32
  let arg1 : BitVec 32 := BitVec.ofNat 32 (i 1).val
  let c4_i32 : BitVec 32 := 4#32
  let v21 : BitVec 32 := Scalar.muli arg1 c4_i32
  let v22 : BitVec 32 := Scalar.addi v21 c0_i32_8
  let c512_i32 : BitVec 32 := 512#32
  let v23 : BitVec 32 := Scalar.muli v22 c512_i32
  let v24 : BitVec 32 := v23
  let v49 : Index := Scalar.indexCast v24
  ![0, 0, v49.toNat]
def k0_mult2 (i : grid0.Coords) : BitVec 32 :=
  let arg1 : BitVec 32 := BitVec.ofNat 32 (i 1).val
  let c4_i32_25 : BitVec 32 := 4#32
  let v77 : BitVec 32 := Scalar.muli arg1 c4_i32_25
  let c1_i32 : BitVec 32 := 1#32
  let v78 : BitVec 32 := Scalar.addi v77 c1_i32
  let c512_i32_26 : BitVec 32 := 512#32
  let v79 : BitVec 32 := Scalar.muli v78 c512_i32_26
  v79
def k0_mult3 (i : grid0.Coords) : BitVec 32 :=
  let arg1 : BitVec 32 := BitVec.ofNat 32 (i 1).val
  let c4_i32_43 : BitVec 32 := 4#32
  let v136 : BitVec 32 := Scalar.muli arg1 c4_i32_43
  let c2_i32 : BitVec 32 := 2#32
  let v137 : BitVec 32 := Scalar.addi v136 c2_i32
  let c512_i32_44 : BitVec 32 := 512#32
  let v138 : BitVec 32 := Scalar.muli v137 c512_i32_44
  v138
def k0_mult4 (i : grid0.Coords) : BitVec 32 :=
  let arg1 : BitVec 32 := BitVec.ofNat 32 (i 1).val
  let c4_i32_61 : BitVec 32 := 4#32
  let v195 : BitVec 32 := Scalar.muli arg1 c4_i32_61
  let c3_i32 : BitVec 32 := 3#32
  let v196 : BitVec 32 := Scalar.addi v195 c3_i32
  let c512_i32_62 : BitVec 32 := 512#32
  let v197 : BitVec 32 := Scalar.muli v196 c512_i32_62
  v197
@[reducible] def k0_t1_loop (i : grid0.Coords) : Scf.Loop 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_82 : BitVec 32 := 1#32
  ⟨v246, v251, c1_i32_82⟩
def k0_mult5 (i : grid0.Coords) (k0_t1 : Fin (k0_t1_loop i).trips) : BitVec 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  v263
def k0_off4 (i : grid0.Coords) (k0_t1 : Fin (k0_t1_loop i).trips) : Fin 2 → Nat :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  let v264 : BitVec 32 := v263
  let v265 : Index := Scalar.indexCast v264
  let c0_92 : Index := 0#32
  ![v265.toNat, 0]
def k0_off5 (i : grid0.Coords) (k0_t1 : Fin (k0_t1_loop i).trips) : Fin 2 → Nat :=
  let c0_97 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  let v264 : BitVec 32 := v263
  let v277 : Index := Scalar.indexCast v264
  ![0, v277.toNat]
def k0_off6 (i : grid0.Coords) (k0_t1 : Fin (k0_t1_loop i).trips) : Fin 3 → Nat :=
  let c0_99 : Index := 0#32
  let c0_100 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c1_i32_82 : BitVec 32 := 1#32
  let arg14 : BitVec 32 := Scf.iv v246 c1_i32_82 k0_t1
  let c512_i32_91 : BitVec 32 := 512#32
  let v263 : BitVec 32 := Scalar.muli arg14 c512_i32_91
  let v264 : BitVec 32 := v263
  let v284 : Index := Scalar.indexCast v264
  ![0, 0, v284.toNat]
@[reducible] def k0_t2_loop (i : grid0.Coords) : Scf.Loop 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let v248 : BitVec 32 := Scalar.addi v246 v247
  let c1_i32_83 : BitVec 32 := 1#32
  ⟨v251, v248, c1_i32_83⟩
def k0_mult6 (i : grid0.Coords) (k0_t2 : Fin (k0_t2_loop i).trips) : BitVec 32 :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  v263
def k0_off7 (i : grid0.Coords) (k0_t2 : Fin (k0_t2_loop i).trips) : Fin 2 → Nat :=
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  let v264 : BitVec 32 := v263
  let v265 : Index := Scalar.indexCast v264
  let c0_92 : Index := 0#32
  ![v265.toNat, 0]
def k0_off8 (i : grid0.Coords) (k0_t2 : Fin (k0_t2_loop i).trips) : Fin 2 → Nat :=
  let c0_97 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  let v264 : BitVec 32 := v263
  let v277 : Index := Scalar.indexCast v264
  ![0, v277.toNat]
def k0_off9 (i : grid0.Coords) (k0_t2 : Fin (k0_t2_loop i).trips) : Fin 3 → Nat :=
  let c0_99 : Index := 0#32
  let c0_100 : Index := 0#32
  let arg1 : BitVec 32 := BitVec.ofNat 32 (i 1).val
  let c1_i32_79 : BitVec 32 := 1#32
  let v245 : BitVec 32 := Scalar.addi arg1 c1_i32_79
  let c4_i32_80 : BitVec 32 := 4#32
  let v246 : BitVec 32 := Scalar.muli v245 c4_i32_80
  let c32_i32 : BitVec 32 := 32#32
  let v247 : BitVec 32 := Scalar.subi c32_i32 v246
  let c1_i32_81 : BitVec 32 := 1#32
  let v249 : BitVec 32 := Scalar.divsi v247 c1_i32_81
  let v250 : BitVec 32 := Scalar.muli v249 c1_i32_81
  let v251 : BitVec 32 := Scalar.addi v246 v250
  let c1_i32_83 : BitVec 32 := 1#32
  let arg14 : BitVec 32 := Scf.iv v251 c1_i32_83 k0_t2
  let c512_i32_91 : BitVec 32 := 512#32
  let v263 : BitVec 32 := Scalar.muli arg14 c512_i32_91
  let v264 : BitVec 32 := v263
  let v284 : Index := Scalar.indexCast v264
  ![0, 0, v284.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S64x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S64x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S16384x8 : Shape := ⟨2, ![16384, 8]⟩
abbrev S16384x8x64 : Shape := ⟨3, ![16384, 8, 64]⟩
abbrev S_ : Shape := ⟨0, ![]⟩
abbrev S8x16384 : Shape := ⟨2, ![8, 16384]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩
abbrev S8x8x16384 : Shape := ⟨3, ![8, 8, 16384]⟩
abbrev S512x16384 : Shape := ⟨2, ![512, 16384]⟩

abbrev nBuf : Space → Nat
  | .hbm => 130
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S16384x512, .f32⟩
  | 5 => ⟨S16384x8x64, .f32⟩
  | 6 => ⟨S16384x8x64, .f32⟩
  | 7 => ⟨S16384x8x64, .f32⟩
  | 8 => ⟨S16384x8x64, .f32⟩
  | 9 => ⟨S_, .f32⟩
  | 10 => ⟨S_, .f32⟩
  | 11 => ⟨S16384x8, .f32⟩
  | 12 => ⟨S8x16384, .f32⟩
  | 13 => ⟨S8x16384x16384, .f32⟩
  | 14 => ⟨S_, .f32⟩
  | 15 => ⟨S8x16384x16384, .f32⟩
  | 16 => ⟨S8x16384x16384, .f32⟩
  | 17 => ⟨S8x16384x1, .f32⟩
  | 18 => ⟨S8x16384x16384, .f32⟩
  | 19 => ⟨S8x16384x16384, .f32⟩
  | 20 => ⟨S8x1x16384, .f32⟩
  | 21 => ⟨S8x16384x16384, .f32⟩
  | 22 => ⟨S8x16384x16384, .f32⟩
  | 23 => ⟨S16384, .i32⟩
  | 24 => ⟨S1x16384, .i32⟩
  | 25 => ⟨S16384, .i32⟩
  | 26 => ⟨S16384x1, .i32⟩
  | 27 => ⟨S16384x16384, .i32⟩
  | 28 => ⟨S16384x16384, .i32⟩
  | 29 => ⟨S16384x16384, .i1⟩
  | 30 => ⟨S_, .f32⟩
  | 31 => ⟨S_, .f32⟩
  | 32 => ⟨S8x16384x16384, .i1⟩
  | 33 => ⟨S8x16384x16384, .f32⟩
  | 34 => ⟨S8x16384x16384, .f32⟩
  | 35 => ⟨S_, .f32⟩
  | 36 => ⟨S8x16384x16384, .f32⟩
  | 37 => ⟨S_, .f32⟩
  | 38 => ⟨S8x16384, .f32⟩
  | 39 => ⟨S8x16384x1, .f32⟩
  | 40 => ⟨S8x16384x16384, .f32⟩
  | 41 => ⟨S8x16384x16384, .i1⟩
  | 42 => ⟨S8x16384x16384, .f32⟩
  | 43 => ⟨S_, .f32⟩
  | 44 => ⟨S8x16384, .f32⟩
  | 45 => ⟨S_, .f32⟩
  | 46 => ⟨S8x16384, .f32⟩
  | 47 => ⟨S8x16384, .f32⟩
  | 48 => ⟨S_, .f32⟩
  | 49 => ⟨S8x16384, .f32⟩
  | 50 => ⟨S8x16384, .i1⟩
  | 51 => ⟨S_, .f32⟩
  | 52 => ⟨S8x16384, .f32⟩
  | 53 => ⟨S8x16384, .i1⟩
  | 54 => ⟨S_, .f32⟩
  | 55 => ⟨S8x16384, .f32⟩
  | 56 => ⟨S_, .f32⟩
  | 57 => ⟨S8x16384, .f32⟩
  | 58 => ⟨S_, .f32⟩
  | 59 => ⟨S8x16384, .f32⟩
  | 60 => ⟨S8x16384, .f32⟩
  | 61 => ⟨S8x16384, .f32⟩
  | 62 => ⟨S8x16384x1, .f32⟩
  | 63 => ⟨S8x16384x16384, .f32⟩
  | 64 => ⟨S8x16384x16384, .f32⟩
  | 65 => ⟨S8x16384x16384, .f32⟩
  | 66 => ⟨S_, .f32⟩
  | 67 => ⟨S8x16384, .f32⟩
  | 68 => ⟨S8x16384x1, .f32⟩
  | 69 => ⟨S8x16384x16384, .f32⟩
  | 70 => ⟨S8x16384x16384, .f32⟩
  | 71 => ⟨S8x16384x1, .f32⟩
  | 72 => ⟨S_, .f32⟩
  | 73 => ⟨S8x16384x1, .f32⟩
  | 74 => ⟨S8x16384x1, .f32⟩
  | 75 => ⟨S8x64x16384, .f32⟩
  | 76 => ⟨S16384x8x64, .f32⟩
  | 77 => ⟨S8x64x16384, .f32⟩
  | 78 => ⟨S8x16384x16384, .f32⟩
  | 79 => ⟨S8x64x16384, .f32⟩
  | 80 => ⟨S16384x8x64, .f32⟩
  | 81 => ⟨S8x16384x16384, .f32⟩
  | 82 => ⟨S8x16384x16384, .f32⟩
  | 83 => ⟨S8x16384x16384, .f32⟩
  | 84 => ⟨S_, .f32⟩
  | 85 => ⟨S8x16384, .f32⟩
  | 86 => ⟨S8x16384x1, .f32⟩
  | 87 => ⟨S8x16384x1, .f32⟩
  | 88 => ⟨S8x16384x16384, .f32⟩
  | 89 => ⟨S8x16384x16384, .f32⟩
  | 90 => ⟨S_, .f32⟩
  | 91 => ⟨S8x16384, .f32⟩
  | 92 => ⟨S8x16384x16384, .f32⟩
  | 93 => ⟨S8x16384x16384, .f32⟩
  | 94 => ⟨S8x16384x16384, .f32⟩
  | 95 => ⟨S_, .f32⟩
  | 96 => ⟨S8x16384x16384, .f32⟩
  | 97 => ⟨S8x16384x16384, .f32⟩
  | 98 => ⟨S8x16384x16384, .f32⟩
  | 99 => ⟨S_, .f32⟩
  | 100 => ⟨S8x16384, .f32⟩
  | 101 => ⟨S8x1x16384, .f32⟩
  | 102 => ⟨S_, .f32⟩
  | 103 => ⟨S8x16384, .f32⟩
  | 104 => ⟨S_, .f32⟩
  | 105 => ⟨S8x16384, .f32⟩
  | 106 => ⟨S8x16384x1, .f32⟩
  | 107 => ⟨S_, .f32⟩
  | 108 => ⟨S8x16384, .f32⟩
  | 109 => ⟨S_, .f32⟩
  | 110 => ⟨S8x16384x16384, .f32⟩
  | 111 => ⟨S8x16384x16384, .f32⟩
  | 112 => ⟨S8x16384x64, .f32⟩
  | 113 => ⟨S16384x8x64, .f32⟩
  | 114 => ⟨S8x16384x64, .f32⟩
  | 115 => ⟨S16384x8x64, .f32⟩
  | 116 => ⟨S8x1x16384, .f32⟩
  | 117 => ⟨S_, .i32⟩
  | 118 => ⟨S_, .f32⟩
  | 119 => ⟨S8x8x16384, .f32⟩
  | 120 => ⟨S16384x512, .f32⟩
  | 121 => ⟨S512x16384, .f32⟩
  | 122 => ⟨S16384x512, .f32⟩
  | 123 => ⟨S512x16384, .f32⟩
  | 124 => ⟨S512x16384, .bf16⟩
  | 125 => ⟨S16384x512, .f32⟩
  | 126 => ⟨S512x16384, .f32⟩
  | 127 => ⟨S512x16384, .bf16⟩
  | _ => ⟨S16384x512, .f32⟩

abbrev hbmTy0_1 (i : Nat) : BufTy := match i % 128 with
  | 0 => ⟨S8x1x16384, .f32⟩
  | 1 => ⟨S8x1x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_call1_v0 : Ref sig .tc := ⟨.hbm, 31, rfl⟩
abbrev main_v22_1 : Ref sig .tc := ⟨.hbm, 32, rfl⟩
abbrev main_call1_v2 : Ref sig .tc := ⟨.hbm, 33, rfl⟩
abbrev main_v22_0 : Ref sig .tc := ⟨.hbm, 34, rfl⟩
abbrev main_call1_cst : Ref sig .tc := ⟨.hbm, 35, rfl⟩
abbrev main_v22_2 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_cst_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c : Ref sig .tc := ⟨.hbm, 117, rfl⟩
abbrev main_call3_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]
-- ==== Ff1.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Ff1ReferenceIdeal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DAct.lean ====
abbrev S16384x4096 : Shape := ⟨2, ![16384, 4096]⟩
abbrev S4096x1024 : Shape := ⟨2, ![4096, 1024]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x4096, .bf16⟩
  | .hbm, ⟨4, _⟩ => ⟨S4096x1024, .bf16⟩
  | .hbm, ⟨5, _⟩ => ⟨S16384x1024, .bf16⟩
  | .hbm, ⟨6, _⟩ => ⟨S1024x4096, .bf16⟩
  | .hbm, ⟨7, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DActReferenceIdeal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DwFf2.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x4096, .bf16⟩
  | .hbm, ⟨3, _⟩ => ⟨S16384x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2ReferenceIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S1024x4096, .f32⟩
  | .hbm, ⟨10, _⟩ => ⟨S4096x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DwFf1.lean ====
abbrev S16384x1024 : Shape := ⟨2, ![16384, 1024]⟩
abbrev S16384x4096 : Shape := ⟨2, ![16384, 4096]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1ReferenceIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S16384x1024 : Shape := ⟨2, ![16384, 1024]⟩
abbrev S1024x6656 : Shape := ⟨2, ![1024, 6656]⟩
abbrev S1024x128 : Shape := ⟨2, ![1024, 128]⟩
abbrev S16384x6656 : Shape := ⟨2, ![16384, 6656]⟩
abbrev S16384x128 : Shape := ⟨2, ![16384, 128]⟩
abbrev S1024x1024 : Shape := ⟨2, ![1024, 1024]⟩
abbrev S1024x1664 : Shape := ⟨2, ![1024, 1664]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x6656, .f32⟩
  | .hbm, ⟨2, _⟩ => ⟨S1024x128, .f32⟩
  | .hbm, ⟨3, _⟩ => ⟨S16384x1024, .bf16⟩
  | .hbm, ⟨4, _⟩ => ⟨S1024x6656, .bf16⟩
  | .hbm, ⟨5, _⟩ => ⟨S1024x128, .bf16⟩
  | .hbm, ⟨6, _⟩ => ⟨S16384x6656, .bf16⟩
  | .hbm, ⟨7, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x128, .bf16⟩
  | .local _ .vmem, ⟨5, _⟩ => ⟨S1024x1664, .bf16⟩
  | .local _ .vmem, ⟨6, _⟩ => ⟨S1024x1664, .bf16⟩
  | .local _ .vmem, ⟨7, _⟩ => ⟨S1024x128, .f32⟩
  | .local _ .vmem, ⟨8, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjReferenceIdeal.lean ====
abbrev S16384x1024 : Shape := ⟨2, ![16384, 1024]⟩
abbrev S1024x6656 : Shape := ⟨2, ![1024, 6656]⟩
abbrev S1024x128 : Shape := ⟨2, ![1024, 128]⟩
abbrev S16384x6656 : Shape := ⟨2, ![16384, 6656]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6656, .f32⟩
  | .hbm, ⟨2, _⟩ => ⟨S1024x128, .f32⟩
  | .hbm, ⟨3, _⟩ => ⟨S16384x6656, .f32⟩
  | .hbm, ⟨4, _⟩ => ⟨S16384x6656, .bf16⟩
  | .hbm, ⟨5, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwGates.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x1024, .bf16⟩
  | .hbm, ⟨3, _⟩ => ⟨S16384x3072, .bf16⟩
  | .hbm, ⟨4, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGatesReferenceIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S_, .f32⟩
  | .hbm, ⟨3, _⟩ => ⟨S1024x3072, .f32⟩
  | .hbm, ⟨4, _⟩ => ⟨S16384x3072, .f32⟩
  | .hbm, ⟨5, _⟩ => ⟨S3072x1024, .f32⟩
  | .hbm, ⟨6, _⟩ => ⟨S1024x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwGla.lean ====
abbrev S16384x1024 : Shape := ⟨2, ![16384, 1024]⟩
abbrev S16384x256 : Shape := ⟨2, ![16384, 256]⟩
abbrev S16384x512 : Shape := ⟨2, ![16384, 512]⟩
abbrev S1024x1024 : Shape := ⟨2, ![1024, 1024]⟩
abbrev S1024x256 : Shape := ⟨2, ![1024, 256]⟩
abbrev S1024x512 : Shape := ⟨2, ![1024, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S16384x1024, .bf16⟩
  | .hbm, ⟨5, _⟩ => ⟨S16384x256, .bf16⟩
  | .hbm, ⟨6, _⟩ => ⟨S16384x256, .bf16⟩
  | .hbm, ⟨7, _⟩ => ⟨S16384x512, .bf16⟩
  | .hbm, ⟨8, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwGlaReferenceIdeal.lean ====
abbrev S16384x1024 : Shape := ⟨2, ![16384, 1024]⟩
abbrev S16384x256 : Shape := ⟨2, ![16384, 256]⟩
abbrev S16384x512 : Shape := ⟨2, ![16384, 512]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x512, .f32⟩
  | .hbm, ⟨4, _⟩ => ⟨S16384x1024, .f32⟩
  | .hbm, ⟨5, _⟩ => ⟨S_, .f32⟩
  | .hbm, ⟨6, _⟩ => ⟨S1024x1024, .f32⟩
  | .hbm, ⟨7, _⟩ => ⟨S16384x1024, .f32⟩
  | .hbm, ⟨8, _⟩ => ⟨S1024x1024, .f32⟩
  | .hbm, ⟨9, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== DwPair.lean ====
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .bf16⟩
  | .hbm, ⟨4, _⟩ => ⟨S16384x512, .bf16⟩
  | .hbm, ⟨5, _⟩ => ⟨S16384x512, .bf16⟩
  | .hbm, ⟨6, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v16 : BitVec 1 := Scalar.cmpi .eq arg0 c15_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DwPairReferenceIdeal.lean ====
abbrev S16384x1024 : Shape := ⟨2, ![16384, 1024]⟩
abbrev S16384x512 : Shape := ⟨2, ![16384, 512]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DH1.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S8x1024 : Shape := ⟨2, ![8, 1024]⟩
abbrev S512x4096 : Shape := ⟨2, ![512, 4096]⟩
abbrev S512x1024 : Shape := ⟨2, ![512, 1024]⟩
abbrev S512x1 : Shape := ⟨2, ![512, 1]⟩
abbrev S64x8x1024 : Shape := ⟨3, ![64, 8, 1024]⟩
abbrev S512 : Shape := ⟨1, ![512]⟩

abbrev nBuf : Space → Nat
  | .hbm => 22
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S16384x4096, .bf16⟩
  | .hbm, ⟨6, _⟩ => ⟨S1024x4096, .bf16⟩
  | .hbm, ⟨7, _⟩ => ⟨S4096x1024, .bf16⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .bf16⟩
  | .hbm, ⟨21, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DH1ReferenceIdeal.lean ====
abbrev S16384x1024 : Shape := ⟨2, ![16384, 1024]⟩
abbrev S1x1024 : Shape := ⟨2, ![1, 1024]⟩
abbrev S1024x4096 : Shape := ⟨2, ![1024, 4096]⟩
abbrev S16384x4096 : Shape := ⟨2, ![16384, 4096]⟩
abbrev S8x1024 : Shape := ⟨2, ![8, 1024]⟩
abbrev S2048x8x1024 : Shape := ⟨3, ![2048, 8, 1024]⟩
abbrev S_ : Shape := ⟨0, ![]⟩
abbrev S16384 : Shape := ⟨1, ![16384]⟩
abbrev S16384x1 : Shape := ⟨2, ![16384, 1]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S16384x4096, .f32⟩
  | .hbm, ⟨4, _⟩ => ⟨S16384x1024, .f32⟩
  | .hbm, ⟨5, _⟩ => ⟨S8x1024, .f32⟩
  | .hbm, ⟨6, _⟩ => ⟨S2048x8x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S2048x8x1024, .f32⟩
  | .hbm, ⟨49, _⟩ => ⟨S_, .f32⟩
  | .hbm, ⟨50, _⟩ => ⟨S8x1024, .f32⟩
  | .hbm, ⟨51, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DX.lean ====
abbrev S16384x1024 : Shape := ⟨2, ![16384, 1024]⟩
abbrev S1x1024 : Shape := ⟨2, ![1, 1024]⟩
abbrev S1024x6680 : Shape := ⟨2, ![1024, 6680]⟩
abbrev S16384x3072 : Shape := ⟨2, ![16384, 3072]⟩
abbrev S16384x256 : Shape := ⟨2, ![16384, 256]⟩
abbrev S16384x512 : Shape := ⟨2, ![16384, 512]⟩
abbrev S16384x128 : Shape := ⟨2, ![16384, 128]⟩
abbrev S1024x3072 : Shape := ⟨2, ![1024, 3072]⟩
abbrev S1024x1536 : Shape := ⟨2, ![1024, 1536]⟩
abbrev S1024x512 : Shape := ⟨2, ![1024, 512]⟩
abbrev S1024x6656 : Shape := ⟨2, ![1024, 6656]⟩
abbrev S1024x16 : Shape := ⟨2, ![1024, 16]⟩
abbrev S1024x8 : Shape := ⟨2, ![1024, 8]⟩
abbrev S_ : Shape := ⟨0, ![]⟩
abbrev S1024x104 : Shape := ⟨2, ![1024, 104]⟩
abbrev S1024x128 : Shape := ⟨2, ![1024, 128]⟩
abbrev S1024x6784 : Shape := ⟨2, ![1024, 6784]⟩
abbrev S6784x1024 : Shape := ⟨2, ![6784, 1024]⟩
abbrev S16384 : Shape := ⟨1, ![16384]⟩
abbrev S16384x1 : Shape := ⟨2, ![16384, 1]⟩
abbrev S8x1024 : Shape := ⟨2, ![8, 1024]⟩
abbrev S512x3072 : Shape := ⟨2, ![512, 3072]⟩
abbrev S512x256 : Shape := ⟨2, ![512, 256]⟩
abbrev S512x512 : Shape := ⟨2, ![512, 512]⟩
abbrev S512x128 : Shape := ⟨2, ![512, 128]⟩
abbrev S512x1024 : Shape := ⟨2, ![512, 1024]⟩
abbrev S512x1 : Shape := ⟨2, ![512, 1]⟩
abbrev S3072x1024 : Shape := ⟨2, ![3072, 1024]⟩
abbrev S256x1024 : Shape := ⟨2, ![256, 1024]⟩
abbrev S128x1024 : Shape := ⟨2, ![128, 1024]⟩
abbrev S64x8x1024 : Shape := ⟨3, ![64, 8, 1024]⟩
abbrev S512 : Shape := ⟨1, ![512]⟩

abbrev nBuf : Space → Nat
  | .hbm => 50
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6680, .f32⟩
  | .hbm, ⟨3, _⟩ => ⟨S16384x1024, .f32⟩
  | .hbm, ⟨4, _⟩ => ⟨S16384x3072, .f32⟩
  | .hbm, ⟨5, _⟩ => ⟨S16384x256, .f32⟩
  | .hbm, ⟨6, _⟩ => ⟨S16384x256, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x128, .f32⟩
  | .hbm, ⟨14, _⟩ => ⟨S1024x6680, .bf16⟩
  | .hbm, ⟨15, _⟩ => ⟨S1024x3072, .bf16⟩
  | .hbm, ⟨16, _⟩ => ⟨S1024x1536, .bf16⟩
  | .hbm, ⟨17, _⟩ => ⟨S1024x1536, .bf16⟩
  | .hbm, ⟨18, _⟩ => ⟨S1024x512, .bf16⟩
  | .hbm, ⟨19, _⟩ => ⟨S1024x6656, .bf16⟩
  | .hbm, ⟨20, _⟩ => ⟨S1024x16, .bf16⟩
  | .hbm, ⟨21, _⟩ => ⟨S1024x8, .bf16⟩
  | .hbm, ⟨22, _⟩ => ⟨S_, .bf16⟩
  | .hbm, ⟨23, _⟩ => ⟨S1024x104, .bf16⟩
  | .hbm, ⟨24, _⟩ => ⟨S1024x128, .bf16⟩
  | .hbm, ⟨25, _⟩ => ⟨S16384x3072, .bf16⟩
  | .hbm, ⟨26, _⟩ => ⟨S16384x256, .bf16⟩
  | .hbm, ⟨27, _⟩ => ⟨S16384x256, .bf16⟩
  | .hbm, ⟨28, _⟩ => ⟨S16384x512, .bf16⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S16384x512, .bf16⟩
  | .hbm, ⟨33, _⟩ => ⟨S16384x512, .bf16⟩
  | .hbm, ⟨34, _⟩ => ⟨S16384x128, .bf16⟩
  | .hbm, ⟨35, _⟩ => ⟨S1024x6784, .bf16⟩
  | .hbm, ⟨36, _⟩ => ⟨S6784x1024, .bf16⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S6784x1024, .bf16⟩
  | .local _ .vmem, ⟨21, _⟩ => ⟨S512x1024, .f32⟩
  | .local _ .vmem, ⟨22, _⟩ => ⟨S512x1024, .f32⟩
  | .local _ .vmem, ⟨23, _⟩ => ⟨S512x1, .f32⟩
  | .local _ .vmem, ⟨24, _⟩ => ⟨S512x1, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S6784x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== DXReferenceIdeal.lean ====
abbrev S16384x1024 : Shape := ⟨2, ![16384, 1024]⟩
abbrev S1x1024 : Shape := ⟨2, ![1, 1024]⟩
abbrev S1024x6680 : Shape := ⟨2, ![1024, 6680]⟩
abbrev S16384x3072 : Shape := ⟨2, ![16384, 3072]⟩
abbrev S16384x256 : Shape := ⟨2, ![16384, 256]⟩
abbrev S16384x512 : Shape := ⟨2, ![16384, 512]⟩
abbrev S16384x128 : Shape := ⟨2, ![16384, 128]⟩
abbrev S16384x16 : Shape := ⟨2, ![16384, 16]⟩
abbrev S16384x8 : Shape := ⟨2, ![16384, 8]⟩
abbrev S16384x6680 : Shape := ⟨2, ![16384, 6680]⟩
abbrev S8x1024 : Shape := ⟨2, ![8, 1024]⟩
abbrev S2048x8x1024 : Shape := ⟨3, ![2048, 8, 1024]⟩
abbrev S_ : Shape := ⟨0, ![]⟩
abbrev S16384 : Shape := ⟨1, ![16384]⟩
abbrev S16384x1 : Shape := ⟨2, ![16384, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6680, .f32⟩
  | .hbm, ⟨3, _⟩ => ⟨S16384x1024, .f32⟩
  | .hbm, ⟨4, _⟩ => ⟨S16384x3072, .f32⟩
  | .hbm, ⟨5, _⟩ => ⟨S16384x256, .f32⟩
  | .hbm, ⟨6, _⟩ => ⟨S16384x256, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x128, .f32⟩
  | .hbm, ⟨14, _⟩ => ⟨S16384x16, .f32⟩
  | .hbm, ⟨15, _⟩ => ⟨S16384x8, .f32⟩
  | .hbm, ⟨16, _⟩ => ⟨S16384x6680, .f32⟩
  | .hbm, ⟨17, _⟩ => ⟨S8x1024, .f32⟩
  | .hbm, ⟨18, _⟩ => ⟨S2048x8x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x6680, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S2048x8x1024, .f32⟩
  | .hbm, ⟨61, _⟩ => ⟨S_, .f32⟩
  | .hbm, ⟨62, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Ff2.lean ====
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S8x128 : Shape := ⟨2, ![8, 128]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x4096, .bf16⟩
  | .hbm, ⟨6, _⟩ => ⟨S4096x1024, .bf16⟩
  | .hbm, ⟨7, _⟩ => ⟨S16384x1024, .f32⟩
  | .hbm, ⟨8, _⟩ => ⟨S16384x1024, .bf16⟩
  | .hbm, ⟨9, _⟩ => ⟨S8x128, .f32⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S8x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Ff2ReferenceIdeal.lean ====
abbrev S16384x4096 : Shape := ⟨2, ![16384, 4096]⟩
abbrev S4096x1024 : Shape := ⟨2, ![4096, 1024]⟩
abbrev S16384x1024 : Shape := ⟨2, ![16384, 1024]⟩
abbrev S1x1024 : Shape := ⟨2, ![1, 1024]⟩
abbrev S_ : Shape := ⟨0, ![]⟩
abbrev S8x1024 : Shape := ⟨2, ![8, 1024]⟩
abbrev S2048x8x1024 : Shape := ⟨3, ![2048, 8, 1024]⟩
abbrev S16384 : Shape := ⟨1, ![16384]⟩
abbrev S16384x1 : Shape := ⟨2, ![16384, 1]⟩
abbrev S8x8x128 : Shape := ⟨3, ![8, 8, 128]⟩
abbrev S8x128 : Shape := ⟨2, ![8, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S16384x1024, .f32⟩
  | .hbm, ⟨11, _⟩ => ⟨S8x1024, .f32⟩
  | .hbm, ⟨12, _⟩ => ⟨S2048x8x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S_, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S2048x8x1024, .f32⟩
  | .hbm, ⟨78, _⟩ => ⟨S_, .f32⟩
  | .hbm, ⟨79, _⟩ => ⟨S8x1024, .f32⟩
  | .hbm, ⟨80, _⟩ => ⟨S2048x8x1024, .f32⟩
  | .hbm, ⟨81, _⟩ => ⟨S_, .f32⟩
  | .hbm, ⟨82, _⟩ => ⟨S8x1024, .f32⟩
  | .hbm, ⟨83, _⟩ => ⟨S8x8x128, .f32⟩
  | .hbm, ⟨84, _⟩ => ⟨S_, .f32⟩
  | .hbm, ⟨85, _⟩ => ⟨S8x128, .f32⟩
  | .hbm, ⟨86, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Launched.Run.lean ====
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Proof.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- One run of the body, whatever the outputs' buffers hold: it ends with the inputs' buffers as they were. -/
theorem body_run (c : Dev nD) (i : grid0.Coords)
    (arg2 : Memref sig .tc .vmem S2048x128 .bf16) (harg2 : arg2.IsWhole)
    (arg3 : Memref sig .tc .vmem S16384x128 .bf16) (harg3 : arg3.IsWhole)
    (arg4 : Memref sig .tc .vmem S16384x128 .bf16) (harg4 : arg4.IsWhole)
    (arg5 : Memref sig .tc .vmem S64x16384 .bf16) (harg5 : arg5.IsWhole)
    (arg6 : Memref sig .tc .vmem S64x16384 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (x0 x5 : Vec F S2048x128 .bf16) (x1 x2 : Vec F S16384x128 .bf16) (x3 x4 : Vec F S64x16384 .bf16) (x6 : Vec F S64x2048 .bf16) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
        ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K := by
  by_cases hc0 : (Scalar.cmpi .ne (Scalar.extui (Scalar.cmpi .eq (BitVec.ofNat 32 (i 1).val) 0#32) : BitVec 32) 0#32) = 1#1
  all_goals
    simp only [cc0_fox_bwd_eq_skeleton]; unfold cc0_fox_bwd_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]; · iexists _; isplitr; · ipureintro; exact harg2.read_unread _
                    · iexact H0
    isplitl [H1]; · iexists _; isplitr; · ipureintro; exact harg3.read_unread _
                    · iexact H1
    isplitl [H2]; · iexists _; isplitr; · ipureintro; exact harg4.read_unread _
                    · iexact H2
    isplitl [H3]; · iexists _; isplitr; · ipureintro; exact harg5.read_unread _
                    · iexact H3
    isplitl [H4]; · iexists _; isplitr; · ipureintro; exact harg6.read_unread _
                    · iexact H4
    isplitl [H5]; · iexists _; isplitr; · ipureintro; exact harg7.read_unread _
                    · iexact H5
    isplitl [H6]; · iexists _; isplitr; · ipureintro; exact harg8.read_unread _
                    · iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Proof.Launched
end
-- ==== Proof.Launched.Frame.lean ====
module

public import proofs.«01_k».proof.Proof.Launched.Run
public import Idealize.ShloMosaic.Lib.Pipeline.TableIdle

@[expose] public section

set_option maxRecDepth 16384

noncomputable section

namespace Cert.Proof.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five outputs' windows, whose contents this frame does not name. -/
def outputs : Fin 12 → Bool := fun w => w.val == 7 || w.val == 8 || w.val == 9 || w.val == 10 || w.val == 11

/-- The launch's proof data: every input's buffer holds its block, the outputs' anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl]; dsimp only [dats]
theorem before_1 (c : Dev nD) (t : Fin cfg0.N) (d) : (dats m 0 c).before 1 t d = iblk m c 1 t :=
  before0_1_of m (dats m 0 c) (A_eq m c 1) (fun t => by dsimp only [dats]) t d
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl]; dsimp only [dats]
theorem before_2 (c : Dev nD) (t : Fin cfg0.N) (d) : (dats m 0 c).before 2 t d = iblk m c 2 t :=
  before0_2_of m (dats m 0 c) (A_eq m c 2) (fun t => by dsimp only [dats]) t d
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl]; dsimp only [dats]
theorem before_3 (c : Dev nD) (t : Fin cfg0.N) (d) : (dats m 0 c).before 3 t d = iblk m c 3 t :=
  before0_3_of m (dats m 0 c) (A_eq m c 3) (fun t => by dsimp only [dats]) t d
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl]; dsimp only [dats]
theorem before_4 (c : Dev nD) (t : Fin cfg0.N) (d) : (dats m 0 c).before 4 t d = iblk m c 4 t :=
  before0_4_of m (dats m 0 c) (A_eq m c 4) (fun t => by dsimp only [dats]) t d
theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl]; dsimp only [dats]
theorem before_5 (c : Dev nD) (t : Fin cfg0.N) (d) : (dats m 0 c).before 5 t d = iblk m c 5 t :=
  before0_5_of m (dats m 0 c) (A_eq m c 5) (fun t => by dsimp only [dats]) t d
theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl]; dsimp only [dats]
theorem before_6 (c : Dev nD) (t : Fin cfg0.N) (d) : (dats m 0 c).before 6 t d = iblk m c 6 t :=
  before0_6_of m (dats m 0 c) (A_eq m c 6) (fun t => by dsimp only [dats]) t d
theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl]; dsimp only [dats]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 2400000 in
theorem body_sound (c : Dev nD) (t : Fin cfg0.N) :
    pre m c t ⊢ wp frame (wpE (defs₀ (F := F)) Variants.none c none) Set.univ (bodyAt0 t) (fun _ => post m c t) := by
  unfold pre post bodyAt0
  simp only [before_0, leaves_0, before_1, leaves_1, before_2, leaves_2, before_3, leaves_3, before_4, leaves_4, before_5, leaves_5, before_6, leaves_6]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) _ _ _ _ _ _ _ _ _ _ _ _ _ _ _ _ _ _ _ _ _ _ _ _ (iblk m c 0 t) (iblk m c 5 t) (iblk m c 1 t) (iblk m c 2 t) (iblk m c 3 t) (iblk m c 4 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ outputs := fun t => by
  rw [bigSep_W0, bigSep_W0, row]
  exact triple_restated (body_sound m c t) rfl .rfl fun _ => .rfl

set_option backward.isDefEq.respectTransparency.types false in
theorem run_main : θ_run defs (onTc (τ := τ) (main (F := F))) (s₀ m ρ)
    (fun r => (Pipeline.RDat.FramePost (cfgs 0) (fun c => (dats m 0 c).toRForget outputs) (V m)) r ∧ r.2.sem = fun _ => 0) :=
  Pipeline.θ_run_frame_forget (Q' := _) cfgs (dats m) (0 : Fin 1) launch0 defs₀ Variants.none outputs m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program as compiled runs to its end, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  exact ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

end Cert.Proof.Launched
end
-- ==== Proof.Tile.lean ====
/- One tile of the attention gradient: 512 query rows against a block of 2048 keys. The payloads of the kernel's body
   (the four tiles of growing width over the diagonal and the full tile below it) are read here at an index, all of them
   as the same functions of a tile: the diagonal tiles leave out the columns that the causal mask would clear. -/
module

public import proofs.«01_k».proof.Proof.Gen.KernelIdeal.Skeleton
public import Idealize.ShloMosaic.Lib.Pointwise
public import Idealize.ShloMosaic.Lib.WordCmp

@[expose] public section
set_option maxRecDepth 16384
noncomputable section
namespace Cert.Proof
open Cert.KernelIdeal Cert.KernelIdeal.Gen
open Idealize.ShloMosaic

/-- The weight of key `k` of the block for query row `q` of a tile that starts `512 r` rows below the block: 2 to the
    score on and below the diagonal, 0 above it. -/
def pT (r : ℕ) (A : FVec Ideal S512x128 .bf16) (B : FVec Ideal S2048x128 .bf16) (q : Fin 512) (k : Fin 2048) : EReal :=
  if k.val ≤ 512 * r + q.val then Ideal.exp2 (∑ c : Fin 128, A (ix2 q c) * B (ix2 k c)) else 0

/-- The gradient of the score. -/
def dsT (r : ℕ) (A D : FVec Ideal S512x128 .bf16) (B V : FVec Ideal S2048x128 .bf16) (q : Fin 512) (k : Fin 2048) : EReal :=
  pT r A B q k * ∑ c : Fin 128, D (ix2 q c) * V (ix2 k c)

/-- 64 rows with a row of ones and 15 rows of zeros below. -/
def aug {n : ℕ} (X : FVec Ideal ⟨2, ![64, n]⟩ .bf16) (d : Fin 80) (k : Fin n) : EReal :=
  if h : d.val < 64 then X (ix2 ⟨d.val, h⟩ k) else if d.val = 64 then 1 else 0

/-- What a tile adds to the query gradient's rows. -/
def dqT (r : ℕ) (A D : FVec Ideal S512x128 .bf16) (B V : FVec Ideal S2048x128 .bf16) (K : FVec Ideal S64x2048 .bf16)
    (d : Fin 80) (q : Fin 512) : EReal := ∑ k : Fin 2048, aug K d k * dsT r A D B V q k

/-- What a tile adds to the key gradient's rows. -/
def dkT (r : ℕ) (A D : FVec Ideal S512x128 .bf16) (B V : FVec Ideal S2048x128 .bf16) (Q : FVec Ideal S64x512 .bf16)
    (d : Fin 80) (k : Fin 2048) : EReal := ∑ q : Fin 512, aug Q d q * dsT r A D B V q k

/-- What a tile adds to the value gradient's rows. -/
def dvT (r : ℕ) (A : FVec Ideal S512x128 .bf16) (B : FVec Ideal S2048x128 .bf16) (O : FVec Ideal S64x512 .bf16)
    (d : Fin 64) (k : Fin 2048) : EReal := ∑ q : Fin 512, O (ix2 d q) * pT r A B q k

theorem mask_eq : (Named.named κ "mask" 0xF149F2CA#32 : Ideal .f32) = (⊥ : EReal) := rfl

/-- A sum over the first `w` of 2048 columns, where the columns beyond hold 0. -/
theorem sum_narrow {w : ℕ} (hw : w ≤ 2048) (f : Fin w → EReal) (g : Fin 2048 → EReal)
    (h : ∀ k : Fin w, f k = g ⟨k.val, k.isLt.trans_le hw⟩) (h0 : ∀ k : Fin 2048, w ≤ k.val → g k = 0) :
    ∑ k, f k = ∑ k, g k := by
  rw [← Finset.sum_subset (Finset.subset_univ (Finset.univ.map (Fin.castLEEmb hw))), Finset.sum_map]
  · exact Finset.sum_congr rfl fun k _ => h k
  · intro k _ hk
    refine h0 k (Nat.le_of_not_lt fun hlt => hk ?_)
    exact Finset.mem_map.mpr ⟨⟨k.val, hlt⟩, Finset.mem_univ _, rfl⟩

theorem sel_mask (a b : ℕ) (ha : a < 2 ^ 31) (hb : b < 2 ^ 31) (x : EReal) :
    Ideal.exp2 (Scalar.select (IntOp.cmpi .sge (BitVec.ofNat 32 a) (BitVec.ofNat 32 b)) x (Named.named (F := Ideal) (φ := .f32) κ "mask" 0xF149F2CA#32))
      = if b ≤ a then Ideal.exp2 x else 0 := by
  rw [Idealize.ShloMosaic.WordCmp.cmpi_sge_ofNat ha hb, Idealize.ShloMosaic.WordCmp.select_ofBool]
  by_cases h : b ≤ a <;> simp [h, mask_eq]

theorem pT_of_lt {r : ℕ} {A : FVec Ideal S512x128 .bf16} {B : FVec Ideal S2048x128 .bf16} {q : Fin 512} {k : Fin 2048}
    (h : 512 * (r + 1) ≤ k.val) : pT r A B q k = 0 := if_neg (by omega)

theorem dsT_of_lt {r : ℕ} {A D : FVec Ideal S512x128 .bf16} {B V : FVec Ideal S2048x128 .bf16} {q : Fin 512} {k : Fin 2048}
    (h : 512 * (r + 1) ≤ k.val) : dsT r A D B V q k = 0 := by
  unfold dsT; rw [pT_of_lt h, zero_mul]

theorem dkT_of_lt {r : ℕ} {A D : FVec Ideal S512x128 .bf16} {B V : FVec Ideal S2048x128 .bf16} {Q : FVec Ideal S64x512 .bf16}
    {d : Fin 80} {k : Fin 2048} (h : 512 * (r + 1) ≤ k.val) : dkT r A D B V Q d k = 0 :=
  Finset.sum_eq_zero fun q _ => by rw [dsT_of_lt h, mul_zero]

theorem dvT_of_lt {r : ℕ} {A : FVec Ideal S512x128 .bf16} {B : FVec Ideal S2048x128 .bf16} {O : FVec Ideal S64x512 .bf16}
    {d : Fin 64} {k : Fin 2048} (h : 512 * (r + 1) ≤ k.val) : dvT r A B O d k = 0 :=
  Finset.sum_eq_zero fun q _ => by rw [pT_of_lt h, mul_zero]

/-- The row of ones, as the body makes it. -/
theorem ones_row (n : ℕ) (hn : n < 16) :
    FloatOps.sitofp (F := Ideal) .f32 (BitVec.setWidth 32 (IntOp.cmpi .eq (BitVec.ofNat 32 n) 0#32)) = if n = 0 then (1 : EReal) else 0 := by
  interval_cases n <;> simp [FloatOps.sitofp, IntOp.cmpi]

section rows
variable (A D : FVec Ideal S512x128 .bf16) (B V : FVec Ideal S2048x128 .bf16)
variable (K : FVec Ideal S64x2048 .bf16) (Q O : FVec Ideal S64x512 .bf16)
variable (G : FVec Ideal S64x512 .f32) (R : FVec Ideal S1x8x512 .f32)
variable (X : FVec Ideal S80x2048 .f32) (Y : FVec Ideal S64x2048 .f32)

theorem pay20_eq : k0_pay20 B = B := by
  funext i; obtain ⟨a, b, rfl⟩ : ∃ (a : Fin 2048) (b : Fin 128), i = ix2 a b := ⟨i 0, i 1, eq_ix2 i⟩
  pointwise [k0_pay20]

theorem pay21_eq : k0_pay21 B = B := by
  funext i; obtain ⟨a, b, rfl⟩ : ∃ (a : Fin 2048) (b : Fin 128), i = ix2 a b := ⟨i 0, i 1, eq_ix2 i⟩
  pointwise [k0_pay21]

theorem pay22_apply (d : Fin 80) (k : Fin 2048) : k0_pay22 (F := Ideal) K (ix2 d k) = aug K d k := by
  pointwise [k0_pay22, k0_pay19]
  unfold aug
  split
  · rfl
  · exact (ones_row _ (by omega)).trans (if_congr (by omega) rfl rfl)

theorem pay19_apply (d : Fin 16) (k : Fin 2048) : k0_pay19 (F := Ideal) (ix2 d k) = if d.val = 0 then (1 : EReal) else 0 := by
  pointwise [k0_pay19]
  exact ones_row _ (by omega)

/-! The weights. -/

theorem pay26_apply (q k : Fin 512) : k0_pay26 (F := Ideal) B A (ix2 q k) = pT 0 A B q ⟨k.val, by omega⟩ := by
  pointwise [k0_pay26, k0_pay23, k0_pay20]
  refine (sel_mask _ _ (by omega) (by omega) _).trans ?_
  simp only [pT, Nat.mul_zero, Nat.zero_add]

theorem pay34_apply (q : Fin 512) (k : Fin 1024) :
    k0_pay34 (F := Ideal) B k0_pay23 A (ix2 q k) = pT 1 A B q ⟨k.val, by omega⟩ := by
  pointwise [k0_pay34, k0_pay23]
  unfold pT
  split
  · rw [if_pos (by first | omega | (simp only; omega))]; rfl
  · refine (sel_mask _ _ (by omega) (by omega) _).trans ?_
    refine if_congr (by first | omega | (simp only; omega)) ?_ rfl
    congr 1; refine Finset.sum_congr rfl fun c _ => ?_
    congr 3; ext; simp only; omega

theorem pay42_apply (q : Fin 512) (k : Fin 1536) :
    k0_pay42 (F := Ideal) B k0_pay23 A (ix2 q k) = pT 2 A B q ⟨k.val, by omega⟩ := by
  pointwise [k0_pay42, k0_pay23]
  unfold pT
  split
  · rw [if_pos (by first | omega | (simp only; omega))]; rfl
  · refine (sel_mask _ _ (by omega) (by omega) _).trans ?_
    refine if_congr (by first | omega | (simp only; omega)) ?_ rfl
    congr 1; refine Finset.sum_congr rfl fun c _ => ?_
    congr 3; ext; simp only; omega

theorem pay50_apply (q : Fin 512) (k : Fin 2048) :
    k0_pay50 (F := Ideal) B k0_pay23 A (ix2 q k) = pT 3 A B q ⟨k.val, by omega⟩ := by
  pointwise [k0_pay50, k0_pay23]
  unfold pT
  split
  · rw [if_pos (by first | omega | (simp only; omega))]; rfl
  · refine (sel_mask _ _ (by omega) (by omega) _).trans ?_
    refine if_congr (by first | omega | (simp only; omega)) ?_ rfl
    congr 1; refine Finset.sum_congr rfl fun c _ => ?_
    congr 3; ext; simp only; omega

theorem pay3_apply {r : ℕ} (hr : 4 ≤ r) (q : Fin 512) (k : Fin 2048) :
    k0_pay3 (F := Ideal) B A (ix2 q k) = pT r A B q k := by
  pointwise [k0_pay3]
  unfold pT
  rw [if_pos (by omega)]; rfl

/-! The gradients of the scores. -/

theorem pay28_apply (q k : Fin 512) :
    k0_pay28 (F := Ideal) (k0_pay26 B A) (k0_pay27 V D) (ix2 q k) = dsT 0 A D B V q ⟨k.val, by omega⟩ := by
  pointwise [k0_pay28, k0_pay27, k0_pay21]
  rw [pay26_apply]; rfl

theorem pay35_apply (q : Fin 512) (k : Fin 1024) :
    k0_pay35 (F := Ideal) B V k0_pay23 A D (ix2 q k) = dsT 1 A D B V q ⟨k.val, by omega⟩ := by
  pointwise [k0_pay35]
  rw [pay34_apply]; rfl

theorem pay43_apply (q : Fin 512) (k : Fin 1536) :
    k0_pay43 (F := Ideal) B V k0_pay23 A D (ix2 q k) = dsT 2 A D B V q ⟨k.val, by omega⟩ := by
  pointwise [k0_pay43]
  rw [pay42_apply]; rfl

theorem pay51_apply (q : Fin 512) (k : Fin 2048) :
    k0_pay51 (F := Ideal) B V k0_pay23 A D (ix2 q k) = dsT 3 A D B V q ⟨k.val, by omega⟩ := by
  pointwise [k0_pay51]
  rw [pay50_apply]; rfl

theorem pay4_apply {r : ℕ} (hr : 4 ≤ r) (q : Fin 512) (k : Fin 2048) :
    k0_pay4 (F := Ideal) B V A D (ix2 q k) = dsT r A D B V q k := by
  pointwise [k0_pay4]
  rw [pay3_apply A B hr]; rfl

/-! What a tile adds to the query gradient. -/

theorem pay29_apply (d : Fin 80) (q : Fin 512) :
    k0_pay29 (F := Ideal) (k0_pay22 K) (k0_pay26 B A) (k0_pay27 V D) (ix2 d q) = dqT 0 A D B V K d q := by
  pointwise [k0_pay29]
  refine sum_narrow (by omega) _ _ (fun k => ?_) fun k hk => by rw [dsT_of_lt (by omega), mul_zero]
  rw [pay22_apply, pay28_apply]

theorem pay36_apply (d : Fin 80) (q : Fin 512) :
    k0_pay36 (F := Ideal) B V (k0_pay22 K) k0_pay23 A D (ix2 d q) = dqT 1 A D B V K d q := by
  pointwise [k0_pay36]
  refine sum_narrow (by omega) _ _ (fun k => ?_) fun k hk => by rw [dsT_of_lt (by omega), mul_zero]
  rw [pay22_apply, pay35_apply]

theorem pay44_apply (d : Fin 80) (q : Fin 512) :
    k0_pay44 (F := Ideal) B V (k0_pay22 K) k0_pay23 A D (ix2 d q) = dqT 2 A D B V K d q := by
  pointwise [k0_pay44]
  refine sum_narrow (by omega) _ _ (fun k => ?_) fun k hk => by rw [dsT_of_lt (by omega), mul_zero]
  rw [pay22_apply, pay43_apply]

theorem pay52_apply (d : Fin 80) (q : Fin 512) :
    k0_pay52 (F := Ideal) (k0_pay22 K) (k0_pay51 B V k0_pay23 A D) (ix2 d q) = dqT 3 A D B V K d q := by
  pointwise [k0_pay52]
  refine sum_narrow (by omega) _ _ (fun k => ?_) fun k hk => by rw [dsT_of_lt (by omega), mul_zero]
  rw [pay22_apply, pay51_apply]

theorem pay5_apply {r : ℕ} (hr : 4 ≤ r) (d : Fin 80) (q : Fin 512) :
    k0_pay5 (F := Ideal) B V (k0_pay22 K) A D (ix2 d q) = dqT r A D B V K d q := by
  pointwise [k0_pay5]
  exact Finset.sum_congr rfl fun k _ => by rw [pay22_apply, pay4_apply A D B V hr]

theorem pay30_apply (d : Fin 64) (q : Fin 512) :
    k0_pay30 (F := Ideal) (k0_pay22 K) (k0_pay26 B A) (k0_pay27 V D) G (ix2 d q) = G (ix2 d q) + dqT 0 A D B V K ⟨d.val, by omega⟩ q := by
  pointwise [k0_pay30]
  rw [pay29_apply A D B V K]

theorem pay37_apply (d : Fin 64) (q : Fin 512) :
    k0_pay37 (F := Ideal) B V (k0_pay22 K) k0_pay23 A D G (ix2 d q) = G (ix2 d q) + dqT 1 A D B V K ⟨d.val, by omega⟩ q := by
  pointwise [k0_pay37]
  rw [pay36_apply A D B V K]

theorem pay45_apply (d : Fin 64) (q : Fin 512) :
    k0_pay45 (F := Ideal) B V (k0_pay22 K) k0_pay23 A D G (ix2 d q) = G (ix2 d q) + dqT 2 A D B V K ⟨d.val, by omega⟩ q := by
  pointwise [k0_pay45]
  rw [pay44_apply A D B V K]

theorem pay53_apply (d : Fin 64) (q : Fin 512) :
    k0_pay53 (F := Ideal) (k0_pay22 K) (k0_pay51 B V k0_pay23 A D) G (ix2 d q) = G (ix2 d q) + dqT 3 A D B V K ⟨d.val, by omega⟩ q := by
  pointwise [k0_pay53]
  rw [pay52_apply A D B V K]

theorem pay6_apply {r : ℕ} (hr : 4 ≤ r) (d : Fin 64) (q : Fin 512) :
    k0_pay6 (F := Ideal) B V (k0_pay22 K) A D G (ix2 d q) = G (ix2 d q) + dqT r A D B V K ⟨d.val, by omega⟩ q := by
  pointwise [k0_pay6]
  rw [pay5_apply A D B V K hr]

theorem pay31_apply (d : Fin 8) (q : Fin 512) :
    k0_pay31 (F := Ideal) (k0_pay22 K) (k0_pay26 B A) (k0_pay27 V D) R (ix3 0 d q) = R (ix3 0 d q) + dqT 0 A D B V K ⟨64 + d.val, by omega⟩ q := by
  pointwise [k0_pay31]
  rw [pay29_apply A D B V K]

theorem pay38_apply (d : Fin 8) (q : Fin 512) :
    k0_pay38 (F := Ideal) B V (k0_pay22 K) k0_pay23 A D R (ix3 0 d q) = R (ix3 0 d q) + dqT 1 A D B V K ⟨64 + d.val, by omega⟩ q := by
  pointwise [k0_pay38]
  rw [pay36_apply A D B V K]

theorem pay54_apply (d : Fin 8) (q : Fin 512) :
    k0_pay54 (F := Ideal) (k0_pay22 K) (k0_pay51 B V k0_pay23 A D) R (ix3 0 d q) = R (ix3 0 d q) + dqT 3 A D B V K ⟨64 + d.val, by omega⟩ q := by
  pointwise [k0_pay54]
  rw [pay52_apply A D B V K]

theorem pay7_apply {r : ℕ} (hr : 4 ≤ r) (d : Fin 8) (q : Fin 512) :
    k0_pay7 (F := Ideal) B V (k0_pay22 K) A D R (ix3 0 d q) = R (ix3 0 d q) + dqT r A D B V K ⟨64 + d.val, by omega⟩ q := by
  pointwise [k0_pay7]
  rw [pay5_apply A D B V K hr]

theorem pay47_apply (d : Fin 8) (q : Fin 512) :
    k0_pay47 (F := Ideal) (k0_pay44 B V (k0_pay22 K) k0_pay23 A D) (k0_pay46 R) (ix3 0 d q) = R (ix3 0 d q) + dqT 2 A D B V K ⟨64 + d.val, by omega⟩ q := by
  pointwise [k0_pay47, k0_pay46]
  rw [pay44_apply]

/-! What a tile adds to the key and value gradients. -/

theorem aug_ones (d : Fin 80) (q : Fin 512) (h : ¬ d.val < 64) :
    k0_pay19 (F := Ideal) (ix2 ⟨d.val - 64, by omega⟩ ⟨q.val, by omega⟩) = aug Q d q := by
  rw [pay19_apply]; unfold aug
  rw [dif_neg h]; exact if_congr (by first | omega | (simp only; omega)) rfl rfl

/-- One factor of the key gradient's sum, the row read by cases. -/
theorem aug_cases (d : Fin 80) (q : Fin 512) (k : Fin 2048) :
    (if h : d.val < 64 then Q (ix2 ⟨d.val, h⟩ q) else k0_pay19 (F := Ideal) (ix2 ⟨d.val - 64, by omega⟩ ⟨q.val, by omega⟩)) = aug Q d q := by
  by_cases h : d.val < 64
  · rw [dif_pos h]; unfold aug; rw [dif_pos h]
  · rw [dif_neg h]; exact aug_ones Q d q h

theorem pay32_apply (d : Fin 80) (k : Fin 2048) :
    k0_pay32 (F := Ideal) k0_pay19 X (k0_pay26 B A) (k0_pay27 V D) Q (ix2 d k) = X (ix2 d k) + dkT 0 A D B V Q d k := by
  pointwise [k0_pay32]
  split
  · refine congrArg (X (ix2 d k) + ·) (Finset.sum_congr rfl fun q _ => ?_)
    rw [pay28_apply]; exact congrArg (· * _) (aug_cases Q d q k)
  · rw [dkT_of_lt (by omega), add_zero]
    congr 2; ext; simp only; omega

theorem pay39_apply (d : Fin 80) (k : Fin 1024) :
    k0_pay39 (F := Ideal) k0_pay19 B V k0_pay23 A D Q (ix2 d k) = dkT 1 A D B V Q d ⟨k.val, by omega⟩ := by
  pointwise [k0_pay39]
  refine Finset.sum_congr rfl fun q _ => ?_
  rw [pay35_apply]; exact congrArg (· * _) (aug_cases Q d q ⟨k.val, by omega⟩)

theorem pay40_apply (d : Fin 80) (k : Fin 2048) :
    k0_pay40 (F := Ideal) X (k0_pay39 k0_pay19 B V k0_pay23 A D Q) (ix2 d k) = X (ix2 d k) + dkT 1 A D B V Q d k := by
  pointwise [k0_pay40]
  split
  · rw [pay39_apply]
  · rw [dkT_of_lt (by omega), add_zero]
    congr 2; ext; simp only; omega

theorem pay48_apply (d : Fin 80) (k : Fin 2048) :
    k0_pay48 (F := Ideal) k0_pay19 X (k0_pay43 B V k0_pay23 A D) Q (ix2 d k) = X (ix2 d k) + dkT 2 A D B V Q d k := by
  pointwise [k0_pay48]
  split
  · refine congrArg (X (ix2 d k) + ·) (Finset.sum_congr rfl fun q _ => ?_)
    rw [pay43_apply]; exact congrArg (· * _) (aug_cases Q d q k)
  · rw [dkT_of_lt (by omega), add_zero]
    congr 2; ext; simp only; omega

theorem pay55_apply (d : Fin 80) (k : Fin 2048) :
    k0_pay55 (F := Ideal) k0_pay19 X (k0_pay51 B V k0_pay23 A D) Q (ix2 d k) = X (ix2 d k) + dkT 3 A D B V Q d k := by
  pointwise [k0_pay55]
  refine congrArg (X (ix2 d k) + ·) (Finset.sum_congr rfl fun q _ => ?_)
  rw [pay51_apply]; exact congrArg (· * _) (aug_cases Q d q k)

theorem pay57_apply {r : ℕ} (hr : 4 ≤ r) (d : Fin 80) (k : Fin 2048) :
    k0_pay57 (F := Ideal) X (k0_pay8 k0_pay19 B V A D Q) (ix2 d k) = X (ix2 d k) + dkT r A D B V Q d k := by
  pointwise [k0_pay57, k0_pay8]
  refine congrArg (X (ix2 d k) + ·) (Finset.sum_congr rfl fun q _ => ?_)
  rw [pay4_apply A D B V hr]; exact congrArg (· * _) (aug_cases Q d q k)

theorem pay33_apply (d : Fin 64) (k : Fin 2048) :
    k0_pay33 (F := Ideal) Y (k0_pay26 B A) O (ix2 d k) = Y (ix2 d k) + dvT 0 A B O d k := by
  pointwise [k0_pay33]
  split
  · exact congrArg (Y (ix2 d k) + ·) (Finset.sum_congr rfl fun q _ => by rw [pay26_apply])
  · rw [dvT_of_lt (by omega), add_zero]
    congr 2; ext; simp only; omega

theorem pay41_apply (d : Fin 64) (k : Fin 2048) :
    k0_pay41 (F := Ideal) Y (k0_pay34 B k0_pay23 A) O (ix2 d k) = Y (ix2 d k) + dvT 1 A B O d k := by
  pointwise [k0_pay41]
  split
  · exact congrArg (Y (ix2 d k) + ·) (Finset.sum_congr rfl fun q _ => by rw [pay34_apply])
  · rw [dvT_of_lt (by omega), add_zero]
    congr 2; ext; simp only; omega

theorem pay49_apply (d : Fin 64) (k : Fin 2048) :
    k0_pay49 (F := Ideal) Y (k0_pay42 B k0_pay23 A) O (ix2 d k) = Y (ix2 d k) + dvT 2 A B O d k := by
  pointwise [k0_pay49]
  split
  · exact congrArg (Y (ix2 d k) + ·) (Finset.sum_congr rfl fun q _ => by rw [pay42_apply])
  · rw [dvT_of_lt (by omega), add_zero]
    congr 2; ext; simp only; omega

theorem pay56_apply (d : Fin 64) (k : Fin 2048) :
    k0_pay56 (F := Ideal) Y (k0_pay50 B k0_pay23 A) O (ix2 d k) = Y (ix2 d k) + dvT 3 A B O d k := by
  pointwise [k0_pay56]
  exact congrArg (Y (ix2 d k) + ·) (Finset.sum_congr rfl fun q _ => by rw [pay50_apply])

theorem pay58_apply {r : ℕ} (hr : 4 ≤ r) (d : Fin 64) (k : Fin 2048) :
    k0_pay58 (F := Ideal) Y (k0_pay9 B A O) (ix2 d k) = Y (ix2 d k) + dvT r A B O d k := by
  pointwise [k0_pay58, k0_pay9]
  exact congrArg (Y (ix2 d k) + ·) (Finset.sum_congr rfl fun q _ => by rw [pay3_apply A B hr])

/-! The first and last payloads. -/

theorem pay17_apply (i : S64x16384.Idx) : k0_pay17 (F := Ideal) i = (0 : EReal) := by
  pointwise [k0_pay17]

theorem pay18_apply (i : S1x8x16384.Idx) : k0_pay18 (F := Ideal) i = (0 : EReal) := by
  pointwise [k0_pay18]

theorem pay24_apply (i : S80x2048.Idx) : k0_pay24 (F := Ideal) i = (0 : EReal) := by
  pointwise [k0_pay24]

theorem pay25_apply (i : S64x2048.Idx) : k0_pay25 (F := Ideal) i = (0 : EReal) := by
  pointwise [k0_pay25]

theorem pay61_apply (d : Fin 64) (k : Fin 2048) : k0_pay61 (F := Ideal) X (ix2 d k) = X (ix2 ⟨d.val, by omega⟩ k) := by
  pointwise [k0_pay61]

theorem pay1_apply (d : Fin 64) (k : Fin 2048) : k0_pay1 (F := Ideal) Y (ix2 d k) = Y (ix2 d k) := by
  pointwise [k0_pay1]

theorem pay2_apply (k : Fin 2048) : k0_pay2 (F := Ideal) X (ix3 0 0 k) = X (ix2 64 k) := by
  pointwise [k0_pay2]

end rows
end Cert.Proof
end
-- ==== Proof.Block.lean ====
/- One grid point: all 16384 query rows of a head against key block `j`, and how far its tiles have come. `P`, `DS` are
   the weight and the score's gradient at a query row and a key of the block; `DQ` is what the block adds to the query
   gradient; `accK`, `accV` are the key and value gradients over the query rows below a bound. A tile of 512 rows
   moves each bound by 512. -/
module

public import proofs.«01_k».proof.Proof.Tile
public import Idealize.ShloMosaic.Lib.VecWindow
public import Idealize.ShloMosaic.Lib.Pipeline.ValueKit.Geometry

@[expose] public section
set_option maxRecDepth 16384
noncomputable section
namespace Cert.Proof
open Cert.KernelIdeal Cert.KernelIdeal.Gen
open Idealize.ShloMosaic

section
variable (j : ℕ) (x0 x5 : FVec Ideal S2048x128 .bf16) (x1 x2 : FVec Ideal S16384x128 .bf16)
  (x3 x4 : FVec Ideal S64x16384 .bf16) (x6 : FVec Ideal S64x2048 .bf16)

/-- The weight of key `k` of block `j` for query row `q`. -/
def P (q : Fin 16384) (k : Fin 2048) : EReal :=
  if 2048 * j + k.val ≤ q.val then Ideal.exp2 (∑ c : Fin 128, x1 (ix2 q c) * x0 (ix2 k c)) else 0

/-- The gradient of the score. -/
def DS (q : Fin 16384) (k : Fin 2048) : EReal :=
  P j x0 x1 q k * ∑ c : Fin 128, x2 (ix2 q c) * x5 (ix2 k c)

/-- What the block adds to the query gradient's rows (row 64: the sums of the scores' gradients). -/
def DQ (d : Fin 80) (q : Fin 16384) : EReal := ∑ k : Fin 2048, aug x6 d k * DS j x0 x5 x1 x2 q k

/-- A sum over the query rows below `N`. -/
def below (N : ℕ) (f : Fin 16384 → EReal) : EReal := ∑ q ∈ Finset.range N, if h : q < 16384 then f ⟨q, h⟩ else 0

/-- The key gradient's rows over the query rows below `N` (row 64: the sums of the scores' gradients). -/
def accK (N : ℕ) (d : Fin 80) (k : Fin 2048) : EReal := below N fun q => aug x3 d q * DS j x0 x5 x1 x2 q k

/-- The value gradient's rows over the query rows below `N`. -/
def accV (N : ℕ) (d : Fin 64) (k : Fin 2048) : EReal := below N fun q => x4 (ix2 d q) * P j x0 x1 q k

theorem below_step (N : ℕ) (hN : N + 512 ≤ 16384) (f : Fin 16384 → EReal) :
    below (N + 512) f = below N f + ∑ q : Fin 512, f ⟨N + q.val, by omega⟩ := by
  unfold below
  rw [Finset.sum_range_add, Finset.sum_range (n := 512)]
  exact congrArg _ (Finset.sum_congr rfl fun q _ => dif_pos _)

theorem below_all (f : Fin 16384 → EReal) : below 16384 f = ∑ q, f q := by
  unfold below
  rw [Finset.sum_range]
  exact Finset.sum_congr rfl fun q _ => dif_pos _

theorem below_zero (N : ℕ) (f : Fin 16384 → EReal) (h : ∀ q : Fin 16384, q.val < N → f q = 0) : below N f = 0 :=
  Finset.sum_eq_zero fun q hq => by
    split
    · exact h _ (Finset.mem_range.mp hq)
    · rfl

theorem P_of_lt {q : Fin 16384} (h : q.val < 2048 * j) (k : Fin 2048) : P j x0 x1 q k = 0 := if_neg (by omega)

theorem DS_of_lt {q : Fin 16384} (h : q.val < 2048 * j) (k : Fin 2048) : DS j x0 x5 x1 x2 q k = 0 := by
  unfold DS; rw [P_of_lt _ _ _ h, zero_mul]

theorem DQ_of_lt {q : Fin 16384} (h : q.val < 2048 * j) (d : Fin 80) : DQ j x0 x5 x1 x2 x6 d q = 0 :=
  Finset.sum_eq_zero fun k _ => by rw [DS_of_lt _ _ _ _ _ h, mul_zero]

theorem accK_start (d : Fin 80) (k : Fin 2048) : accK j x0 x5 x1 x2 x3 (2048 * j) d k = 0 :=
  below_zero _ _ fun q hq => by rw [DS_of_lt _ _ _ _ _ hq, mul_zero]

theorem accV_start (d : Fin 64) (k : Fin 2048) : accV j x0 x1 x4 (2048 * j) d k = 0 :=
  below_zero _ _ fun q hq => by rw [P_of_lt _ _ _ hq, mul_zero]

/-- The rows `512 r` below the start of the block, as a tile. -/
def rowsAt (N : ℕ) (hN : N + 512 ≤ 16384) (x : FVec Ideal S16384x128 .bf16) : FVec Ideal S512x128 .bf16 :=
  VecWindow.window x ![N, 0] S512x128.size (by intro a; fin_cases a <;> simp [S512x128, S16384x128] <;> omega)

/-- The same rows as columns of a transposed array. -/
def colsAt (N : ℕ) (hN : N + 512 ≤ 16384) (x : FVec Ideal S64x16384 .bf16) : FVec Ideal S64x512 .bf16 :=
  VecWindow.window x ![0, N] S64x512.size (by intro a; fin_cases a <;> simp [S64x512, S64x16384] <;> omega)

theorem rowsAt_apply (N : ℕ) (hN : N + 512 ≤ 16384) (x : FVec Ideal S16384x128 .bf16) (q : Fin 512) (c : Fin 128) :
    rowsAt N hN x (ix2 q c) = x (ix2 ⟨N + q.val, by omega⟩ c) := by
  unfold rowsAt VecWindow.window
  refine congrArg x (funext fun a => ?_)
  ext; refine (ValueKit.rect_emb_unit_val _ _ _ _ _).trans ?_
  fin_cases a <;> simp [ix2]

theorem colsAt_apply (N : ℕ) (hN : N + 512 ≤ 16384) (x : FVec Ideal S64x16384 .bf16) (d : Fin 64) (q : Fin 512) :
    colsAt N hN x (ix2 d q) = x (ix2 d ⟨N + q.val, by omega⟩) := by
  unfold colsAt VecWindow.window
  refine congrArg x (funext fun a => ?_)
  ext; refine (ValueKit.rect_emb_unit_val _ _ _ _ _).trans ?_
  fin_cases a <;> simp [ix2]

/-- The query gradient's array when the rows below `N` have been added to what it held. -/
def dqUpTo (N : ℕ) (G : FVec Ideal S64x16384 .f32) : FVec Ideal S64x16384 .f32 := fun y =>
  G y + if (y 1).val < N then DQ j x0 x5 x1 x2 x6 ⟨(y 0).val, (y 0).isLt.trans (by decide)⟩ (y 1) else 0

/-- The row sums' array when the rows below `N` have been added to what it held. -/
def rsUpTo (N : ℕ) (R : FVec Ideal S1x8x16384 .f32) : FVec Ideal S1x8x16384 .f32 := fun y =>
  R y + if (y 2).val < N then DQ j x0 x5 x1 x2 x6 ⟨64 + (y 1).val, (Nat.add_lt_add_left (y 1).isLt 64).trans (by decide)⟩ (y 2) else 0

/-- The key gradient's block. -/
def dkBlk : FVec Ideal S64x2048 .bf16 := fun y => accK j x0 x5 x1 x2 x3 16384 ⟨(y 0).val, (y 0).isLt.trans (by decide)⟩ (y 1)

/-- The value gradient's block. -/
def dvBlk : FVec Ideal S64x2048 .bf16 := fun y => accV j x0 x1 x4 16384 (y 0) (y 1)

/-- The key side's share of the gate's gradient. -/
def dfBlk : FVec Ideal S1x1x2048 .f32 := fun y => accK j x0 x5 x1 x2 x3 16384 64 (y 2)

variable {r N : ℕ} (hr : N = 2048 * j + 512 * r) (hN : N + 512 ≤ 16384)
include hr

theorem pT_rows (q : Fin 512) (k : Fin 2048) : pT r (rowsAt N hN x1) x0 q k = P j x0 x1 ⟨N + q.val, by omega⟩ k := by
  unfold pT P
  refine if_congr (by simp only; omega) ?_ rfl
  simp only [rowsAt_apply]

theorem dsT_rows (q : Fin 512) (k : Fin 2048) :
    dsT r (rowsAt N hN x1) (rowsAt N hN x2) x0 x5 q k = DS j x0 x5 x1 x2 ⟨N + q.val, by omega⟩ k := by
  unfold dsT DS
  simp only [pT_rows j x0 x1 hr hN, rowsAt_apply]

theorem dqT_rows (d : Fin 80) (q : Fin 512) :
    dqT r (rowsAt N hN x1) (rowsAt N hN x2) x0 x5 x6 d q = DQ j x0 x5 x1 x2 x6 d ⟨N + q.val, by omega⟩ := by
  unfold dqT DQ
  simp only [dsT_rows j x0 x5 x1 x2 hr hN]

theorem accK_step (d : Fin 80) (k : Fin 2048) :
    accK j x0 x5 x1 x2 x3 N d k + dkT r (rowsAt N hN x1) (rowsAt N hN x2) x0 x5 (colsAt N hN x3) d k
      = accK j x0 x5 x1 x2 x3 (N + 512) d k := by
  unfold accK
  rw [below_step N hN]
  refine congrArg _ (Finset.sum_congr rfl fun q _ => ?_)
  rw [dsT_rows j x0 x5 x1 x2 hr hN]
  unfold aug
  simp only [colsAt_apply]

theorem accV_step (d : Fin 64) (k : Fin 2048) :
    accV j x0 x1 x4 N d k + dvT r (rowsAt N hN x1) x0 (colsAt N hN x4) d k = accV j x0 x1 x4 (N + 512) d k := by
  unfold accV
  rw [below_step N hN]
  refine congrArg _ (Finset.sum_congr rfl fun q _ => ?_)
  rw [pT_rows j x0 x1 hr hN, colsAt_apply]

omit hr

theorem dqUpTo_start (G : FVec Ideal S64x16384 .f32) : dqUpTo j x0 x5 x1 x2 x6 (2048 * j) G = G := by
  funext y; unfold dqUpTo
  split
  · rename_i h; rw [DQ_of_lt _ _ _ _ _ _ h, add_zero]
  · rw [add_zero]

theorem rsUpTo_start (R : FVec Ideal S1x8x16384 .f32) : rsUpTo j x0 x5 x1 x2 x6 (2048 * j) R = R := by
  funext y; unfold rsUpTo
  split
  · rename_i h; rw [DQ_of_lt _ _ _ _ _ _ h, add_zero]
  · rw [add_zero]

theorem window_ix2 (x : S64x16384.Idx → EReal) (inb) (d : Fin 64) (q : Fin 512) (h : N + q.val < 16384) :
    VecWindow.window (s := S64x16384) x ![0, N] S64x512.size inb (ix2 d q) = x (ix2 d ⟨N + q.val, h⟩) := by
  unfold VecWindow.window
  refine congrArg x (funext fun a => ?_)
  ext; refine (ValueKit.rect_emb_unit_val _ _ _ _ _).trans ?_
  fin_cases a <;> simp [ix2]

theorem window_ix3 (x : S1x8x16384.Idx → EReal) (inb) (d : Fin 8) (q : Fin 512) (h : N + q.val < 16384) :
    VecWindow.window (s := S1x8x16384) x ![0, 0, N] S1x8x512.size inb (ix3 0 d q) = x (ix3 0 d ⟨N + q.val, h⟩) := by
  unfold VecWindow.window
  refine congrArg x (funext fun a => ?_)
  ext; refine (ValueKit.rect_emb_unit_val _ _ _ _ _).trans ?_
  fin_cases a <;> simp [ix3]

include hr in
/-- A tile's store into the query gradient. -/
theorem dq_step (G : FVec Ideal S64x16384 .f32) (inb) (w : FVec Ideal S64x512 .f32)
    (hw : ∀ d q, w (ix2 d q) = VecWindow.window (s := S64x16384) (dqUpTo j x0 x5 x1 x2 x6 N G) ![0, N] S64x512.size inb (ix2 d q)
        + dqT r (rowsAt N hN x1) (rowsAt N hN x2) x0 x5 x6 ⟨d.val, by omega⟩ q) :
    VecWindow.put (s := S64x16384) (dqUpTo j x0 x5 x1 x2 x6 N G) ![0, N] S64x512.size w = dqUpTo j x0 x5 x1 x2 x6 (N + 512) G := by
  funext y
  obtain ⟨d, q, rfl⟩ : ∃ (a : Fin 64) (b : Fin 16384), y = ix2 a b := ⟨y 0, y 1, eq_ix2 y⟩
  by_cases h : N ≤ q.val ∧ q.val < N + 512
  · obtain ⟨t, ht, rfl⟩ : ∃ (t : Fin 512) (ht : N + t.val < 16384), q = ⟨N + t.val, ht⟩ :=
      ⟨⟨q.val - N, by omega⟩, by simp only; omega, by ext; simp only; omega⟩
    have e : VecWindow.put (s := S64x16384) (dqUpTo j x0 x5 x1 x2 x6 N G) ![0, N] S64x512.size w (ix2 d ⟨N + t.val, ht⟩) = w (ix2 d t) := by
      have := congrFun (VecWindow.window_put_same (s := S64x16384) (dqUpTo j x0 x5 x1 x2 x6 N G) ![0, N] S64x512.size inb w) (ix2 d t)
      rw [window_ix2 _ _ _ _ (by omega)] at this
      exact this
    rw [e, hw, window_ix2 _ _ _ _ (by omega), dqT_rows j x0 x5 x1 x2 x6 hr hN]
    unfold dqUpTo
    rw [if_neg (by simp [ix2]), if_pos (by simp [ix2]), add_zero]
    rfl
  · have e : VecWindow.put (s := S64x16384) (dqUpTo j x0 x5 x1 x2 x6 N G) ![0, N] S64x512.size w (ix2 d q) = dqUpTo j x0 x5 x1 x2 x6 N G (ix2 d q) :=
      dif_neg fun hh => h (hh 1)
    rw [e]
    unfold dqUpTo
    refine congrArg _ (if_congr ?_ rfl rfl)
    simp only [ix2, Matrix.cons_val_one]
    show q.val < N ↔ q.val < N + 512
    omega

include hr in
/-- A tile's store into the row sums. -/
theorem rs_step (R : FVec Ideal S1x8x16384 .f32) (inb) (w : FVec Ideal S1x8x512 .f32)
    (hw : ∀ d q, w (ix3 0 d q) = VecWindow.window (s := S1x8x16384) (rsUpTo j x0 x5 x1 x2 x6 N R) ![0, 0, N] S1x8x512.size inb (ix3 0 d q)
        + dqT r (rowsAt N hN x1) (rowsAt N hN x2) x0 x5 x6 ⟨64 + d.val, by omega⟩ q) :
    VecWindow.put (s := S1x8x16384) (rsUpTo j x0 x5 x1 x2 x6 N R) ![0, 0, N] S1x8x512.size w = rsUpTo j x0 x5 x1 x2 x6 (N + 512) R := by
  funext y
  obtain ⟨z, d, q, rfl⟩ : ∃ (z : Fin 1) (a : Fin 8) (b : Fin 16384), y = ix3 z a b := ⟨y 0, y 1, y 2, eq_ix3 y⟩
  obtain rfl : z = 0 := Subsingleton.elim _ _
  by_cases h : N ≤ q.val ∧ q.val < N + 512
  · obtain ⟨t, ht, rfl⟩ : ∃ (t : Fin 512) (ht : N + t.val < 16384), q = ⟨N + t.val, ht⟩ :=
      ⟨⟨q.val - N, by omega⟩, by simp only; omega, by ext; simp only; omega⟩
    have e : VecWindow.put (s := S1x8x16384) (rsUpTo j x0 x5 x1 x2 x6 N R) ![0, 0, N] S1x8x512.size w (ix3 0 d ⟨N + t.val, ht⟩) = w (ix3 0 d t) := by
      have := congrFun (VecWindow.window_put_same (s := S1x8x16384) (rsUpTo j x0 x5 x1 x2 x6 N R) ![0, 0, N] S1x8x512.size inb w) (ix3 0 d t)
      rw [window_ix3 _ _ _ _ (by omega)] at this
      exact this
    rw [e, hw, window_ix3 _ _ _ _ (by omega), dqT_rows j x0 x5 x1 x2 x6 hr hN]
    unfold rsUpTo
    rw [if_neg (by simp [ix3]), if_pos (by simp [ix3]), add_zero]
    rfl
  · have e : VecWindow.put (s := S1x8x16384) (rsUpTo j x0 x5 x1 x2 x6 N R) ![0, 0, N] S1x8x512.size w (ix3 0 d q) = rsUpTo j x0 x5 x1 x2 x6 N R (ix3 0 d q) :=
      dif_neg fun hh => h (hh 2)
    rw [e]
    unfold rsUpTo
    refine congrArg _ (if_congr ?_ rfl rfl)
    show q.val < N ↔ q.val < N + 512
    omega

end
end Cert.Proof
end
-- ==== Proof.Offsets.lean ====
/- Where the tiles of a grid point lie: the offsets the body computes as words, and the trip counts of its two loops,
   in terms of the key block `i 1`. -/
module

public import proofs.«01_k».proof.Proof.Gen.KernelIdeal.Skeleton

@[expose] public section
set_option maxRecDepth 16384
namespace Cert.Proof
open Cert.KernelIdeal Cert.KernelIdeal.Gen
open Idealize.ShloMosaic

theorem off_word : ∀ (j : Fin 8) (r : Fin 4),
    (Scalar.muli (Scalar.addi (Scalar.muli (BitVec.ofNat 32 j.val) 4#32) (BitVec.ofNat 32 r.val)) 512#32).toNat = 2048 * j.val + 512 * r.val := by
  decide

theorem off1_eq (i : grid0.Coords) (r : Fin 4) : k0_off1 i (BitVec.ofNat 32 r.val) = ![2048 * (i 1).val + 512 * r.val, 0] :=
  congrArg (fun n => ![n, 0]) (off_word (i 1) r)

theorem off2_eq (i : grid0.Coords) (r : Fin 4) : k0_off2 i (BitVec.ofNat 32 r.val) = ![0, 2048 * (i 1).val + 512 * r.val] :=
  congrArg (fun n => ![0, n]) (off_word (i 1) r)

theorem off3_eq (i : grid0.Coords) (r : Fin 4) : k0_off3 i (BitVec.ofNat 32 r.val) = ![0, 0, 2048 * (i 1).val + 512 * r.val] :=
  congrArg (fun n => ![0, 0, n]) (off_word (i 1) r)

def trips1 (j : Fin 8) : ℕ :=
  let v246 : BitVec 32 := Scalar.muli (Scalar.addi (BitVec.ofNat 32 j.val) 1#32) 4#32
  Scf.trips v246 (Scalar.addi v246 (Scalar.muli (Scalar.divsi (Scalar.subi 32#32 v246) 1#32) 1#32)) 1#32

theorem trips1_eq : ∀ j : Fin 8, trips1 j = 28 - 4 * j.val := by decide

theorem t1_trips (i : grid0.Coords) : (k0_t1_loop i).trips = 28 - 4 * (i 1).val := trips1_eq (i 1)

theorem iv_word : ∀ (j : Fin 8) (k : Fin 28), k.val < 28 - 4 * j.val →
    (Scalar.muli (Scf.iv (Scalar.muli (Scalar.addi (BitVec.ofNat 32 j.val) 1#32) 4#32) 1#32 k.val) 512#32).toNat
      = 2048 * j.val + 512 * (4 + k.val) := by decide

theorem iv_word' (i : grid0.Coords) (k : Fin (k0_t1_loop i).trips) :
    (Scalar.muli (Scf.iv (Scalar.muli (Scalar.addi (BitVec.ofNat 32 (i 1).val) 1#32) 4#32) 1#32 k.val) 512#32).toNat
      = 2048 * (i 1).val + 512 * (4 + k.val) := by
  have h := k.isLt
  have e := t1_trips i
  exact iv_word (i 1) ⟨k.val, by omega⟩ (by simp only; omega)

theorem off4_eq (i : grid0.Coords) (k : Fin (k0_t1_loop i).trips) : k0_off4 i k = ![2048 * (i 1).val + 512 * (4 + k.val), 0] :=
  congrArg (fun n => ![n, 0]) (iv_word' i k)

theorem off5_eq (i : grid0.Coords) (k : Fin (k0_t1_loop i).trips) : k0_off5 i k = ![0, 2048 * (i 1).val + 512 * (4 + k.val)] :=
  congrArg (fun n => ![0, n]) (iv_word' i k)

theorem off6_eq (i : grid0.Coords) (k : Fin (k0_t1_loop i).trips) : k0_off6 i k = ![0, 0, 2048 * (i 1).val + 512 * (4 + k.val)] :=
  congrArg (fun n => ![0, 0, n]) (iv_word' i k)

def trips2 (j : Fin 8) : ℕ :=
  let v246 : BitVec 32 := Scalar.muli (Scalar.addi (BitVec.ofNat 32 j.val) 1#32) 4#32
  Scf.trips (Scalar.addi v246 (Scalar.muli (Scalar.divsi (Scalar.subi 32#32 v246) 1#32) 1#32)) (Scalar.addi v246 (Scalar.subi 32#32 v246)) 1#32

theorem trips2_eq : ∀ j : Fin 8, trips2 j = 0 := by decide

theorem t2_trips (i : grid0.Coords) : (k0_t2_loop i).trips = 0 := trips2_eq (i 1)

/-- The first key block of a head, as the body tests it. -/
theorem first_word : ∀ j : Fin 8, (Scalar.cmpi .ne (Scalar.extui (Scalar.cmpi .eq (BitVec.ofNat 32 j.val) 0#32)) 0#32 : BitVec 1) = 1#1 ↔ j.val = 0 := by
  decide

end Cert.Proof
end
-- ==== Proof.Loop.lean ====
/- The loop over the full tiles below the diagonal: after `n` trips the carried gradients and the arrays written hold the
   query rows below `2048 j + 512 (4 + n)`. -/
module

public import proofs.«01_k».proof.Proof.Gen.KernelIdeal.Loops
public import proofs.«01_k».proof.Proof.Block
public import proofs.«01_k».proof.Proof.Offsets

@[expose] public section
set_option maxRecDepth 16384
noncomputable section
namespace Cert.Proof
open Cert.KernelIdeal Cert.KernelIdeal.Gen
open Idealize.ShloMosaic Idealize.ShloMosaic.TcCoe

variable (𝒱 : Variants) (c : Dev nD) (bd : Option 𝒱.V) (i : grid0.Coords)
  (arg2 : Memref sig .tc .vmem S2048x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S64x16384 .bf16) (harg5 : arg5.IsWhole)
  (arg6 : Memref sig .tc .vmem S64x16384 .bf16) (harg6 : arg6.IsWhole)
  (arg7 : Memref sig .tc .vmem S2048x128 .bf16) (harg7 : arg7.IsWhole)
  (arg8 : Memref sig .tc .vmem S64x2048 .bf16) (harg8 : arg8.IsWhole)
  (arg9 : Memref sig .tc .vmem S64x16384 .f32) (harg9 : arg9.IsWhole)
  (arg10 : Memref sig .tc .vmem S1x8x16384 .f32) (harg10 : arg10.IsWhole)
  (arg11 : Memref sig .tc .vmem S64x2048 .bf16) (harg11 : arg11.IsWhole)
  (arg12 : Memref sig .tc .vmem S64x2048 .bf16) (harg12 : arg12.IsWhole)
  (arg13 : Memref sig .tc .vmem S1x1x2048 .f32) (harg13 : arg13.IsWhole)
  (arg1 : BitVec 32) (v8 : FVec Ideal S16x2048 .bf16) (v10 v12 : FVec Ideal S2048x128 .bf16) (v15 : FVec Ideal S80x2048 .bf16)
  (v190 : FVec Ideal S80x2048 .f32) (v194 : FVec Ideal S64x2048 .f32) (v198 : BitVec 32) (v208 : FVec Ideal S512x2048 .f32)
  (v214 : FVec Ideal S512x2048 .bf16) (v246 : BitVec 32)
  (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)

section trip
variable (k : Fin (k0_t1_loop i).trips) (acc : FVec Ideal S80x2048 .f32 × FVec Ideal S64x2048 .f32)
  (f9 : BufTy.Contents (Elt Ideal) arg9.view.ty) (f10 : BufTy.Contents (Elt Ideal) arg10.view.ty)

theorem tripR_eq : tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6 k acc f9 f10
    = (k0_pay57 acc.1 (k0_pay8 v8 v10 v12 (arg3.view.readAt (Elt Ideal) (Rect.unit (s := S16384x128) (k0_off4 i k) S512x128.size (k0_off4_inb i k)).toLoadRect X3)
          (arg4.view.readAt (Elt Ideal) (Rect.unit (s := S16384x128) (k0_off4 i k) S512x128.size (k0_off4_inb i k)).toLoadRect X4)
          (arg5.view.readAt (Elt Ideal) (Rect.unit (s := S64x16384) (k0_off5 i k) S64x512.size (k0_off5_inb i k)).toLoadRect X5)),
        k0_pay58 acc.2 (k0_pay9 v10 (arg3.view.readAt (Elt Ideal) (Rect.unit (s := S16384x128) (k0_off4 i k) S512x128.size (k0_off4_inb i k)).toLoadRect X3)
          (arg6.view.readAt (Elt Ideal) (Rect.unit (s := S64x16384) (k0_off5 i k) S64x512.size (k0_off5_inb i k)).toLoadRect X6))) := by
  unfold tripR_k0_t1 trip_k0_t1; rfl

theorem tripL_eq : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6 k acc f9 f10
    = ([⟨Rect.unit (s := S64x16384) (k0_off5 i k) S64x512.size (k0_off5_inb i k),
          k0_pay6 v10 v12 v15 (arg3.view.readAt (Elt Ideal) (Rect.unit (s := S16384x128) (k0_off4 i k) S512x128.size (k0_off4_inb i k)).toLoadRect X3)
            (arg4.view.readAt (Elt Ideal) (Rect.unit (s := S16384x128) (k0_off4 i k) S512x128.size (k0_off4_inb i k)).toLoadRect X4)
            (arg9.view.readAt (Elt Ideal) (Rect.unit (s := S64x16384) (k0_off5 i k) S64x512.size (k0_off5_inb i k)).toLoadRect f9)⟩],
       [⟨Rect.unit (s := S1x8x16384) (k0_off6 i k) S1x8x512.size (k0_off6_inb i k),
          k0_pay7 v10 v12 v15 (arg3.view.readAt (Elt Ideal) (Rect.unit (s := S16384x128) (k0_off4 i k) S512x128.size (k0_off4_inb i k)).toLoadRect X3)
            (arg4.view.readAt (Elt Ideal) (Rect.unit (s := S16384x128) (k0_off4 i k) S512x128.size (k0_off4_inb i k)).toLoadRect X4)
            (arg10.view.readAt (Elt Ideal) (Rect.unit (s := S1x8x16384) (k0_off6 i k) S1x8x512.size (k0_off6_inb i k)).toLoadRect f10)⟩]) := by
  unfold tripL_k0_t1 trip_k0_t1; rfl
end trip

section loads
variable {N : ℕ} (hN : N + 512 ≤ 16384)

theorem load_rows {off : Fin 2 → ℕ} (hoff : off = ![N, 0]) (arg : Memref sig .tc .vmem S16384x128 .bf16) (X : BufTy.Contents (Elt Ideal) arg.view.ty)
    {x : Vec Ideal S16384x128 .bf16} (hx : arg.view.read (Elt Ideal) X = x) (inb) :
    arg.view.readAt (Elt Ideal) (Rect.unit (s := S16384x128) off S512x128.size inb).toLoadRect X = rowsAt N hN x := by
  subst hx; exact View.readAt_unit _ _ _ hoff _

theorem load_cols {off : Fin 2 → ℕ} (hoff : off = ![0, N]) (arg : Memref sig .tc .vmem S64x16384 .bf16) (X : BufTy.Contents (Elt Ideal) arg.view.ty)
    {x : Vec Ideal S64x16384 .bf16} (hx : arg.view.read (Elt Ideal) X = x) (inb) :
    arg.view.readAt (Elt Ideal) (Rect.unit (s := S64x16384) off S64x512.size inb).toLoadRect X = colsAt N hN x := by
  subst hx; exact View.readAt_unit _ _ _ hoff _
end loads

variable (x0 x5 : FVec Ideal S2048x128 .bf16) (x1 x2 : FVec Ideal S16384x128 .bf16)
  (x3 x4 : FVec Ideal S64x16384 .bf16) (x6 : FVec Ideal S64x2048 .bf16)
  (G : FVec Ideal S64x16384 .f32) (R : FVec Ideal S1x8x16384 .f32)

/-- What holds when the query rows below `N` are done: the carried values and the two arrays' contents. -/
def Upto (j N : ℕ) (a1 : FVec Ideal S80x2048 .f32) (a2 : FVec Ideal S64x2048 .f32) (g9 : Vec Ideal S64x16384 .f32) (g10 : Vec Ideal S1x8x16384 .f32) : Prop :=
  (∀ d k, a1 (ix2 d k) = accK j x0 x5 x1 x2 x3 N d k) ∧ (∀ d k, a2 (ix2 d k) = accV j x0 x1 x4 N d k) ∧
    g9 = dqUpTo j x0 x5 x1 x2 x6 N G ∧ g10 = rsUpTo j x0 x5 x1 x2 x6 N R

variable (h8 : v8 = k0_pay19) (h10 : v10 = x0) (h12 : v12 = x5) (h15 : v15 = k0_pay22 x6)
  (hX3 : arg3.view.read (Elt Ideal) X3 = x1) (hX4 : arg4.view.read (Elt Ideal) X4 = x2)
  (hX5 : arg5.view.read (Elt Ideal) X5 = x3) (hX6 : arg6.view.read (Elt Ideal) X6 = x4)
  (G9 : BufTy.Contents (Elt Ideal) arg9.view.ty) (G10 : BufTy.Contents (Elt Ideal) arg10.view.ty)
  (init : FVec Ideal S80x2048 .f32 × FVec Ideal S64x2048 .f32)
include h8 h10 h12 h15 hX3 hX4 hX5 hX6

theorem loop1 (h0 : Upto x0 x5 x1 x2 x3 x4 x6 G R (i 1).val (2048 * (i 1).val + 512 * 4) init.1 init.2
      (arg9.view.read (Elt Ideal) G9) (arg10.view.read (Elt Ideal) G10)) (n : ℕ) (hn : n ≤ (k0_t1_loop i).trips) :
    let S := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6 G9 G10 init n
    Upto x0 x5 x1 x2 x3 x4 x6 G R (i 1).val (2048 * (i 1).val + 512 * (4 + n)) S.1.1 S.1.2
      (arg9.view.read (Elt Ideal) (arg9.view.writes (Elt Ideal) G9 S.2.1)) (arg10.view.read (Elt Ideal) (arg10.view.writes (Elt Ideal) G10 S.2.2)) := by
  induction n with
  | zero => exact h0
  | succ n ih =>
    obtain ⟨i1, i2, i9, i10⟩ := ih (by omega)
    have hk : n < (k0_t1_loop i).trips := by omega
    have hi : (i 1).val < 8 := (i 1).isLt
    have ht := t1_trips i
    have hN : 2048 * (i 1).val + 512 * (4 + n) + 512 ≤ 16384 := by omega
    have e4 := off4_eq i ⟨n, hk⟩
    have e5 := off5_eq i ⟨n, hk⟩
    have e6 := off6_eq i ⟨n, hk⟩
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6 G9 G10 init ⟨n, hk⟩]
    generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6 G9 G10 init n = S at *
    rw [tripR_eq, tripL_eq]
    subst h8 h10 h12 h15
    rw [show 2048 * (i 1).val + 512 * (4 + (n + 1)) = 2048 * (i 1).val + 512 * (4 + n) + 512 by ring]
    rw [load_rows hN e4 arg3 X3 hX3, load_rows hN e4 arg4 X4 hX4, load_cols hN e5 arg5 X5 hX5, load_cols hN e5 arg6 X6 hX6]
    refine ⟨fun d k => ?_, fun d k => ?_, ?_, ?_⟩
    · refine (pay57_apply _ _ _ _ _ _ (r := 4 + n) (by omega) d k).trans ?_
      rw [i1]; exact accK_step _ _ _ _ _ _ rfl hN d k
    · refine (pay58_apply _ _ _ _ (r := 4 + n) (by omega) d k).trans ?_
      rw [i2]; exact accV_step _ _ _ _ rfl hN d k
    · refine (View.read_writes_cons_put _ _ _ _ _ e5).trans ?_
      refine (congrArg (fun g => VecWindow.put g _ _ _) i9).trans ?_
      refine dq_step _ _ _ _ _ _ rfl hN G (by rw [← e5]; exact k0_off5_inb i ⟨n, hk⟩) _ fun d q => ?_
      refine (pay6_apply _ _ _ _ _ _ (r := 4 + n) (by omega) d q).trans ?_
      rw [View.readAt_unit _ _ _ e5 (by rw [← e5]; exact k0_off5_inb i ⟨n, hk⟩), i9]
    · refine (View.read_writes_cons_put _ _ _ _ _ e6).trans ?_
      refine (congrArg (fun g => VecWindow.put g _ _ _) i10).trans ?_
      refine rs_step _ _ _ _ _ _ rfl hN R (by rw [← e6]; exact k0_off6_inb i ⟨n, hk⟩) _ fun d q => ?_
      refine (pay7_apply _ _ _ _ _ _ (r := 4 + n) (by omega) d q).trans ?_
      rw [View.readAt_unit _ _ _ e6 (by rw [← e6]; exact k0_off6_inb i ⟨n, hk⟩), i10]

variable (L9 : List (View.Piece (Elt Ideal) S64x16384 .f32)) (L10 : List (View.Piece (Elt Ideal) S1x8x16384 .f32))

/-- After the loop the carried values and the arrays hold every query row. -/
theorem final1 (h0 : Upto x0 x5 x1 x2 x3 x4 x6 G R (i 1).val (2048 * (i 1).val + 512 * 4) init.1 init.2
      (arg9.view.read (Elt Ideal) (arg9.view.writes (Elt Ideal) G9 L9)) (arg10.view.read (Elt Ideal) (arg10.view.writes (Elt Ideal) G10 L10)))
    (n : ℕ) (hn : n = (k0_t1_loop i).trips) :
    let S := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6
      (arg9.view.writes (Elt Ideal) G9 L9) (arg10.view.writes (Elt Ideal) G10 L10) init n
    arg9.view.read (Elt Ideal) (arg9.view.writes (Elt Ideal) G9 (S.2.1 ++ L9)) = dqUpTo (i 1).val x0 x5 x1 x2 x6 16384 G
    ∧ arg10.view.read (Elt Ideal) (arg10.view.writes (Elt Ideal) G10 (S.2.2 ++ L10)) = rsUpTo (i 1).val x0 x5 x1 x2 x6 16384 R
    ∧ (∀ d k, S.1.1 (ix2 d k) = accK (i 1).val x0 x5 x1 x2 x3 16384 d k) ∧ (∀ d k, S.1.2 (ix2 d k) = accV (i 1).val x0 x1 x4 16384 d k) := by
  subst hn
  have hi : (i 1).val < 8 := (i 1).isLt
  obtain ⟨a, b, p, q⟩ := loop1 𝒱 c bd i arg2 harg2 arg3 harg3 arg4 harg4 arg5 harg5 arg6 harg6 arg7 harg7 arg8 harg8 arg9 harg9 arg10 harg10 arg11 harg11 arg12 harg12 arg13 harg13 arg1 v8 v10 v12 v15 v190 v194 v198 v208 v214 v246 X3 X4 X5 X6
    x0 x5 x1 x2 x3 x4 x6 G R h8 h10 h12 h15 hX3 hX4 hX5 hX6 _ _ init h0 _ le_rfl
  have e : 2048 * (i 1).val + 512 * (4 + (k0_t1_loop i).trips) = 16384 := by rw [t1_trips i]; omega
  rw [e] at a b p q
  refine ⟨?_, ?_, a, b⟩
  · rw [View.writes_append]; exact p
  · rw [View.writes_append]; exact q

end Cert.Proof
end
-- ==== Proof.Diag.lean ====
/- The four tiles on the diagonal: what the carried gradients and the two accumulated arrays hold after them, and a tile's
   store into each of the two arrays. -/
module

public import proofs.«01_k».proof.Proof.Loop

@[expose] public section
set_option maxRecDepth 16384
noncomputable section
namespace Cert.Proof
open Cert.KernelIdeal Cert.KernelIdeal.Gen
open Idealize.ShloMosaic Idealize.ShloMosaic.TcCoe

section loads
variable {j N : ℕ} (x0 x5 : FVec Ideal S2048x128 .bf16) (x1 x2 : FVec Ideal S16384x128 .bf16) (x6 : FVec Ideal S64x2048 .bf16)
  (hN : N + 512 ≤ 16384)

theorem dq_load {off : Fin 2 → ℕ} (hoff : off = ![0, N]) (arg9 : Memref sig .tc .vmem S64x16384 .f32) (X : BufTy.Contents (Elt Ideal) arg9.view.ty)
    {G : FVec Ideal S64x16384 .f32} (hX : arg9.view.read (Elt Ideal) X = dqUpTo j x0 x5 x1 x2 x6 N G) (inb) (d : Fin 64) (q : Fin 512) :
    (arg9.view.readAt (Elt Ideal) (Rect.unit (s := S64x16384) off S64x512.size inb).toLoadRect X : FVec Ideal S64x512 .f32) (ix2 d q)
      = G (ix2 d ⟨N + q.val, by omega⟩) := by
  subst hoff
  rw [View.readAt_unit _ _ _ rfl inb, hX]
  refine (window_ix2 _ _ _ _ (by omega)).trans ?_
  unfold dqUpTo
  rw [if_neg (by simp [ix2]), add_zero]

theorem rs_load {off : Fin 3 → ℕ} (hoff : off = ![0, 0, N]) (arg10 : Memref sig .tc .vmem S1x8x16384 .f32) (X : BufTy.Contents (Elt Ideal) arg10.view.ty)
    {R : FVec Ideal S1x8x16384 .f32} (hX : arg10.view.read (Elt Ideal) X = rsUpTo j x0 x5 x1 x2 x6 N R) (inb) (d : Fin 8) (q : Fin 512) :
    (arg10.view.readAt (Elt Ideal) (Rect.unit (s := S1x8x16384) off S1x8x512.size inb).toLoadRect X : FVec Ideal S1x8x512 .f32) (ix3 0 d q)
      = R (ix3 0 d ⟨N + q.val, by omega⟩) := by
  subst hoff
  rw [View.readAt_unit _ _ _ rfl inb, hX]
  refine (window_ix3 _ _ _ _ (by omega)).trans ?_
  unfold rsUpTo
  rw [if_neg (by simp [ix3]), add_zero]

theorem dq_load' {off : Fin 2 → ℕ} (hoff : off = ![0, N]) (arg9 : Memref sig .tc .vmem S64x16384 .f32) (X : BufTy.Contents (Elt Ideal) arg9.view.ty)
    {G : FVec Ideal S64x16384 .f32} (hX : arg9.view.read (Elt Ideal) X = G) (inb) (d : Fin 64) (q : Fin 512) :
    (arg9.view.readAt (Elt Ideal) (Rect.unit (s := S64x16384) off S64x512.size inb).toLoadRect X : FVec Ideal S64x512 .f32) (ix2 d q)
      = G (ix2 d ⟨N + q.val, by omega⟩) := by
  subst hoff
  rw [View.readAt_unit _ _ _ rfl inb, hX]
  exact window_ix2 _ _ _ _ (by omega)

theorem rs_load' {off : Fin 3 → ℕ} (hoff : off = ![0, 0, N]) (arg10 : Memref sig .tc .vmem S1x8x16384 .f32) (X : BufTy.Contents (Elt Ideal) arg10.view.ty)
    {R : FVec Ideal S1x8x16384 .f32} (hX : arg10.view.read (Elt Ideal) X = R) (inb) (d : Fin 8) (q : Fin 512) :
    (arg10.view.readAt (Elt Ideal) (Rect.unit (s := S1x8x16384) off S1x8x512.size inb).toLoadRect X : FVec Ideal S1x8x512 .f32) (ix3 0 d q)
      = R (ix3 0 d ⟨N + q.val, by omega⟩) := by
  subst hoff
  rw [View.readAt_unit _ _ _ rfl inb, hX]
  exact window_ix3 _ _ _ _ (by omega)
end loads

section tiles
variable {j N : ℕ} (x0 x5 : FVec Ideal S2048x128 .bf16) (x1 x2 : FVec Ideal S16384x128 .bf16) (x6 : FVec Ideal S64x2048 .bf16)
  {r : ℕ} (hr : N = 2048 * j + 512 * r) (hN : N + 512 ≤ 16384)

include hr in
theorem dq_tile {N' : ℕ} (hN' : N' = N + 512) {off : Fin 2 → ℕ} (hoff : off = ![0, N]) (arg9 : Memref sig .tc .vmem S64x16384 .f32)
    (base : BufTy.Contents (Elt Ideal) arg9.view.ty) (L : List (View.Piece (Elt Ideal) S64x16384 .f32)) {G : FVec Ideal S64x16384 .f32}
    (hL : arg9.view.read (Elt Ideal) (arg9.view.writes (Elt Ideal) base L) = dqUpTo j x0 x5 x1 x2 x6 N G)
    {ld : FVec Ideal S64x512 .f32} (hld : ∀ d q, ld (ix2 d q) = G (ix2 d ⟨N + q.val, by omega⟩)) {w : FVec Ideal S64x512 .f32}
    (hw : ∀ d q, w (ix2 d q) = ld (ix2 d q) + dqT r (rowsAt N hN x1) (rowsAt N hN x2) x0 x5 x6 ⟨d.val, by omega⟩ q) (inb) :
    arg9.view.read (Elt Ideal) (arg9.view.writes (Elt Ideal) base (⟨Rect.unit (s := S64x16384) off S64x512.size inb, w⟩ :: L))
      = dqUpTo j x0 x5 x1 x2 x6 N' G := by
  subst hN' hoff
  refine (View.read_writes_cons_put _ _ _ _ _ rfl).trans ?_
  refine (congrArg (fun g => VecWindow.put g _ _ _) hL).trans ?_
  refine dq_step _ _ _ _ _ _ hr hN G inb _ fun d q => ?_
  rw [hw, hld, window_ix2 _ _ _ _ (by omega)]
  unfold dqUpTo
  rw [if_neg (by simp [ix2]), add_zero]

include hr in
theorem rs_tile {N' : ℕ} (hN' : N' = N + 512) {off : Fin 3 → ℕ} (hoff : off = ![0, 0, N]) (arg10 : Memref sig .tc .vmem S1x8x16384 .f32)
    (base : BufTy.Contents (Elt Ideal) arg10.view.ty) (L : List (View.Piece (Elt Ideal) S1x8x16384 .f32)) {R : FVec Ideal S1x8x16384 .f32}
    (hL : arg10.view.read (Elt Ideal) (arg10.view.writes (Elt Ideal) base L) = rsUpTo j x0 x5 x1 x2 x6 N R)
    {ld : FVec Ideal S1x8x512 .f32} (hld : ∀ d q, ld (ix3 0 d q) = R (ix3 0 d ⟨N + q.val, by omega⟩)) {w : FVec Ideal S1x8x512 .f32}
    (hw : ∀ d q, w (ix3 0 d q) = ld (ix3 0 d q) + dqT r (rowsAt N hN x1) (rowsAt N hN x2) x0 x5 x6 ⟨64 + d.val, by omega⟩ q) (inb) :
    arg10.view.read (Elt Ideal) (arg10.view.writes (Elt Ideal) base (⟨Rect.unit (s := S1x8x16384) off S1x8x512.size inb, w⟩ :: L))
      = rsUpTo j x0 x5 x1 x2 x6 N' R := by
  subst hN' hoff
  refine (View.read_writes_cons_put _ _ _ _ _ rfl).trans ?_
  refine (congrArg (fun g => VecWindow.put g _ _ _) hL).trans ?_
  refine rs_step _ _ _ _ _ _ hr hN R inb _ fun d q => ?_
  rw [hw, hld, window_ix3 _ _ _ _ (by omega)]
  unfold rsUpTo
  rw [if_neg (by simp [ix3]), add_zero]

include hr in
theorem dq_tile' {N' : ℕ} (hN' : N' = N + 512) {off : Fin 2 → ℕ} (hoff : off = ![0, N]) (arg9 : Memref sig .tc .vmem S64x16384 .f32)
    (base : BufTy.Contents (Elt Ideal) arg9.view.ty) (L : List (View.Piece (Elt Ideal) S64x16384 .f32)) {G : FVec Ideal S64x16384 .f32}
    (hL : arg9.view.read (Elt Ideal) (arg9.view.writes (Elt Ideal) base L) = dqUpTo j x0 x5 x1 x2 x6 N G)
    (inb') {w : FVec Ideal S64x512 .f32}
    (hw : ∀ d q, w (ix2 d q) = (arg9.view.readAt (Elt Ideal) (Rect.unit (s := S64x16384) off S64x512.size inb').toLoadRect (arg9.view.writes (Elt Ideal) base L) : FVec Ideal S64x512 .f32) (ix2 d q) + dqT r (rowsAt N hN x1) (rowsAt N hN x2) x0 x5 x6 ⟨d.val, by omega⟩ q) (inb) :
    arg9.view.read (Elt Ideal) (arg9.view.writes (Elt Ideal) base (⟨Rect.unit (s := S64x16384) off S64x512.size inb, w⟩ :: L))
      = dqUpTo j x0 x5 x1 x2 x6 N' G :=
  dq_tile x0 x5 x1 x2 x6 hr hN hN' hoff arg9 base L hL (dq_load x0 x5 x1 x2 x6 hN hoff arg9 _ hL inb') hw inb

include hr in
theorem rs_tile' {N' : ℕ} (hN' : N' = N + 512) {off : Fin 3 → ℕ} (hoff : off = ![0, 0, N]) (arg10 : Memref sig .tc .vmem S1x8x16384 .f32)
    (base : BufTy.Contents (Elt Ideal) arg10.view.ty) (L : List (View.Piece (Elt Ideal) S1x8x16384 .f32)) {R : FVec Ideal S1x8x16384 .f32}
    (hL : arg10.view.read (Elt Ideal) (arg10.view.writes (Elt Ideal) base L) = rsUpTo j x0 x5 x1 x2 x6 N R)
    (inb') {w : FVec Ideal S1x8x512 .f32}
    (hw : ∀ d q, w (ix3 0 d q) = (arg10.view.readAt (Elt Ideal) (Rect.unit (s := S1x8x16384) off S1x8x512.size inb').toLoadRect (arg10.view.writes (Elt Ideal) base L) : FVec Ideal S1x8x512 .f32) (ix3 0 d q) + dqT r (rowsAt N hN x1) (rowsAt N hN x2) x0 x5 x6 ⟨64 + d.val, by omega⟩ q) (inb) :
    arg10.view.read (Elt Ideal) (arg10.view.writes (Elt Ideal) base (⟨Rect.unit (s := S1x8x16384) off S1x8x512.size inb, w⟩ :: L))
      = rsUpTo j x0 x5 x1 x2 x6 N' R :=
  rs_tile x0 x5 x1 x2 x6 hr hN hN' hoff arg10 base L hL (rs_load x0 x5 x1 x2 x6 hN hoff arg10 _ hL inb') hw inb
end tiles

section carries
variable {j N0 N1 N2 N3 : ℕ} (x0 x5 : FVec Ideal S2048x128 .bf16) (x1 x2 : FVec Ideal S16384x128 .bf16) (x3 x4 : FVec Ideal S64x16384 .bf16)
  (h0 : N0 = 2048 * j + 512 * 0) (h1 : N1 = 2048 * j + 512 * 1) (h2 : N2 = 2048 * j + 512 * 2) (h3 : N3 = 2048 * j + 512 * 3)
  (hN0 : N0 + 512 ≤ 16384) (hN1 : N1 + 512 ≤ 16384) (hN2 : N2 + 512 ≤ 16384) (hN3 : N3 + 512 ≤ 16384)
include h0 h1 h2 h3

/-- The key gradient after the diagonal. -/
theorem carryK (d : Fin 80) (k : Fin 2048) :
    (k0_pay55 (F := Ideal) k0_pay19
      (k0_pay48 k0_pay19
        (k0_pay40 (k0_pay32 k0_pay19 k0_pay24 (k0_pay26 x0 (rowsAt N0 hN0 x1)) (k0_pay27 x5 (rowsAt N0 hN0 x2)) (colsAt N0 hN0 x3))
          (k0_pay39 k0_pay19 x0 x5 k0_pay23 (rowsAt N1 hN1 x1) (rowsAt N1 hN1 x2) (colsAt N1 hN1 x3)))
        (k0_pay43 x0 x5 k0_pay23 (rowsAt N2 hN2 x1) (rowsAt N2 hN2 x2)) (colsAt N2 hN2 x3))
      (k0_pay51 x0 x5 k0_pay23 (rowsAt N3 hN3 x1) (rowsAt N3 hN3 x2)) (colsAt N3 hN3 x3)) (ix2 d k)
    = accK j x0 x5 x1 x2 x3 (2048 * j + 512 * 4) d k := by
  rw [pay55_apply, pay48_apply, pay40_apply, pay32_apply, pay24_apply]
  have e : (0 : EReal) = accK j x0 x5 x1 x2 x3 N0 d k := by
    rw [h0, Nat.mul_zero, Nat.add_zero]; exact (accK_start _ _ _ _ _ _ _ _).symm
  rw [e, accK_step _ _ _ _ _ _ h0 hN0, show N0 + 512 = N1 by omega, accK_step _ _ _ _ _ _ h1 hN1, show N1 + 512 = N2 by omega,
    accK_step _ _ _ _ _ _ h2 hN2, show N2 + 512 = N3 by omega, accK_step _ _ _ _ _ _ h3 hN3, show N3 + 512 = 2048 * j + 512 * 4 by omega]

/-- The value gradient after the diagonal. -/
theorem carryV (d : Fin 64) (k : Fin 2048) :
    (k0_pay56 (F := Ideal)
      (k0_pay49
        (k0_pay41 (k0_pay33 k0_pay25 (k0_pay26 x0 (rowsAt N0 hN0 x1)) (colsAt N0 hN0 x4)) (k0_pay34 x0 k0_pay23 (rowsAt N1 hN1 x1)) (colsAt N1 hN1 x4))
        (k0_pay42 x0 k0_pay23 (rowsAt N2 hN2 x1)) (colsAt N2 hN2 x4))
      (k0_pay50 x0 k0_pay23 (rowsAt N3 hN3 x1)) (colsAt N3 hN3 x4)) (ix2 d k)
    = accV j x0 x1 x4 (2048 * j + 512 * 4) d k := by
  rw [pay56_apply, pay49_apply, pay41_apply, pay33_apply, pay25_apply]
  have e : (0 : EReal) = accV j x0 x1 x4 N0 d k := by
    rw [h0, Nat.mul_zero, Nat.add_zero]; exact (accV_start _ _ _ _ _ _).symm
  rw [e, accV_step _ _ _ _ h0 hN0, show N0 + 512 = N1 by omega, accV_step _ _ _ _ h1 hN1, show N1 + 512 = N2 by omega,
    accV_step _ _ _ _ h2 hN2, show N2 + 512 = N3 by omega, accV_step _ _ _ _ h3 hN3, show N3 + 512 = 2048 * j + 512 * 4 by omega]
end carries

section outputs
variable {j : ℕ} (x0 x5 : FVec Ideal S2048x128 .bf16) (x1 x2 : FVec Ideal S16384x128 .bf16) (x3 x4 : FVec Ideal S64x16384 .bf16)

theorem out11 {X : FVec Ideal S80x2048 .f32} (h : ∀ d k, X (ix2 d k) = accK j x0 x5 x1 x2 x3 16384 d k) :
    (k0_pay61 X : FVec Ideal _ _) = dkBlk j x0 x5 x1 x2 x3 := by
  funext y
  obtain ⟨d, k, rfl⟩ : ∃ (d : Fin 64) (k : Fin 2048), y = ix2 d k := ⟨y 0, y 1, eq_ix2 y⟩
  rw [pay61_apply, h]; rfl

theorem out12 {Y : FVec Ideal S64x2048 .f32} (h : ∀ d k, Y (ix2 d k) = accV j x0 x1 x4 16384 d k) :
    (k0_pay1 Y : FVec Ideal _ _) = dvBlk j x0 x1 x4 := by
  funext y
  obtain ⟨d, k, rfl⟩ : ∃ (d : Fin 64) (k : Fin 2048), y = ix2 d k := ⟨y 0, y 1, eq_ix2 y⟩
  rw [pay1_apply, h]; rfl

theorem out13 {X : FVec Ideal S80x2048 .f32} (h : ∀ d k, X (ix2 d k) = accK j x0 x5 x1 x2 x3 16384 d k) :
    (k0_pay2 X : FVec Ideal _ _) = dfBlk j x0 x5 x1 x2 x3 := by
  funext y
  obtain ⟨z, d, k, rfl⟩ : ∃ (z : Fin 1) (d : Fin 1) (k : Fin 2048), y = ix3 z d k := ⟨y 0, y 1, y 2, eq_ix3 y⟩
  obtain rfl : z = 0 := Subsingleton.elim _ _
  obtain rfl : d = 0 := Subsingleton.elim _ _
  rw [pay2_apply, h]; rfl
end outputs

end Cert.Proof
end
-- ==== Proof.RunA.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- One run of the body at a key block that is the first of its head: what its stores leave in each output's
    buffer, as the pieces written, with the proof that the body runs to a continuation holding the inputs as they were
    and the outputs with those pieces written. -/
def runA (c : Dev nD) (i : grid0.Coords)
    (arg2 : Memref sig .tc .vmem S2048x128 .bf16) (harg2 : arg2.IsWhole)
    (arg3 : Memref sig .tc .vmem S16384x128 .bf16) (harg3 : arg3.IsWhole)
    (arg4 : Memref sig .tc .vmem S16384x128 .bf16) (harg4 : arg4.IsWhole)
    (arg5 : Memref sig .tc .vmem S64x16384 .bf16) (harg5 : arg5.IsWhole)
    (arg6 : Memref sig .tc .vmem S64x16384 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (hc0 : (Scalar.cmpi .ne (Scalar.extui (Scalar.cmpi .eq (BitVec.ofNat 32 (i 1).val) 0#32) : BitVec 32) 0#32) = 1#1)
    (x0 x5 : Vec Ideal S2048x128 .bf16) (x1 x2 : Vec Ideal S16384x128 .bf16) (x3 x4 : Vec Ideal S64x16384 .bf16) (x6 : Vec Ideal S64x2048 .bf16) :
    Σ' (L7 : List (View.Piece (Elt Ideal) S64x16384 .f32)), Σ' (L8 : List (View.Piece (Elt Ideal) S1x8x16384 .f32)),
    Σ' (L9 : List (View.Piece (Elt Ideal) S64x2048 .bf16)), Σ' (L10 : List (View.Piece (Elt Ideal) S64x2048 .bf16)),
    { L11 : List (View.Piece (Elt Ideal) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt Ideal) arg9.view.junk L7) ∗ (arg10.view.loc (c : Thread nD τ) ↦[arg10.view.set]{fullShare} arg10.view.writes (Elt Ideal) arg10.view.junk L8) ∗ (∃ f, arg11.view.loc (c : Thread nD τ) ↦[arg11.view.set]{fullShare} arg11.view.writes (Elt Ideal) f L9) ∗ (∃ f, arg12.view.loc (c : Thread nD τ) ↦[arg12.view.set]{fullShare} arg12.view.writes (Elt Ideal) f L10) ∗ (∃ f, arg13.view.loc (c : Thread nD τ) ↦[arg13.view.set]{fullShare} arg13.view.writes (Elt Ideal) f L11)) -∗ K ⟨⟩))
          ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fox_bwd_eq_skeleton]; unfold cc0_fox_bwd_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]; · iexists _; isplitr; · ipureintro; exact harg2.read_unread _
                    · iexact H0
    isplitl [H1]; · iexists _; isplitr; · ipureintro; exact harg3.read_unread _
                    · iexact H1
    isplitl [H2]; · iexists _; isplitr; · ipureintro; exact harg4.read_unread _
                    · iexact H2
    isplitl [H3]; · iexists _; isplitr; · ipureintro; exact harg5.read_unread _
                    · iexact H3
    isplitl [H4]; · iexists _; isplitr; · ipureintro; exact harg6.read_unread _
                    · iexact H4
    isplitl [H5]; · iexists _; isplitr; · ipureintro; exact harg7.read_unread _
                    · iexact H5
    isplitl [H6]; · iexists _; isplitr; · ipureintro; exact harg8.read_unread _
                    · iexact H6
    isplitl [H7]; · iexact H7
    isplitl [H8]; · iexact H8
    isplitl [H9]; · iexists _; iexact H9
    isplitl [H10]; · iexists _; iexact H10
    iexists _; iexact H11

end Cert.Proof
end
-- ==== Proof.ValA.lean ====
/- What the body leaves at a key block that is the first of its head: the closed forms of `Block`. -/
module

public import proofs.«01_k».proof.Proof.Diag
public import proofs.«01_k».proof.Proof.RunA

@[expose] public section
set_option maxRecDepth 16384
noncomputable section
namespace Cert.Proof
open Cert.KernelIdeal Cert.KernelIdeal.Gen
open Idealize.ShloMosaic Idealize.ShloMosaic.TcCoe

variable (c : Dev nD) (i : grid0.Coords)
    (arg2 : Memref sig .tc .vmem S2048x128 .bf16) (harg2 : arg2.IsWhole)
    (arg3 : Memref sig .tc .vmem S16384x128 .bf16) (harg3 : arg3.IsWhole)
    (arg4 : Memref sig .tc .vmem S16384x128 .bf16) (harg4 : arg4.IsWhole)
    (arg5 : Memref sig .tc .vmem S64x16384 .bf16) (harg5 : arg5.IsWhole)
    (arg6 : Memref sig .tc .vmem S64x16384 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (x0 x5 : Vec Ideal S2048x128 .bf16) (x1 x2 : Vec Ideal S16384x128 .bf16) (x3 x4 : Vec Ideal S64x16384 .bf16) (x6 : Vec Ideal S64x2048 .bf16)
    (hc0 : (Scalar.cmpi .ne (Scalar.extui (Scalar.cmpi .eq (BitVec.ofNat 32 (i 1).val) 0#32) : BitVec 32) 0#32) = 1#1)

set_option maxHeartbeats 1500000 in
theorem values_A :
    let W := runA c i arg2 harg2 arg3 harg3 arg4 harg4 arg5 harg5 arg6 harg6 arg7 harg7 arg8 harg8 arg9 harg9 arg10 harg10 arg11 harg11 arg12 harg12 arg13 harg13 hc0 x0 x5 x1 x2 x3 x4 x6
    arg9.view.read (Elt Ideal) (arg9.view.writes (Elt Ideal) (arg9.view.junk) W.1) = dqUpTo (i 1).val x0 x5 x1 x2 x6 16384 (fun _ => 0)
    ∧ arg10.view.read (Elt Ideal) (arg10.view.writes (Elt Ideal) (arg10.view.junk) W.2.1) = rsUpTo (i 1).val x0 x5 x1 x2 x6 16384 (fun _ => 0)
    ∧ (∀ f, arg11.view.read (Elt Ideal) (arg11.view.writes (Elt Ideal) f W.2.2.1) = dkBlk (i 1).val x0 x5 x1 x2 x3)
    ∧ (∀ f, arg12.view.read (Elt Ideal) (arg12.view.writes (Elt Ideal) f W.2.2.2.1) = dvBlk (i 1).val x0 x1 x4)
    ∧ (∀ f, arg13.view.read (Elt Ideal) (arg13.view.writes (Elt Ideal) f W.2.2.2.2.1) = dfBlk (i 1).val x0 x5 x1 x2 x3) := by
  have hi : (i 1).val < 8 := (i 1).isLt
  obtain ⟨N0, h0⟩ : ∃ N, N = 2048 * (i 1).val + 512 * 0 := ⟨_, rfl⟩
  have n0 : N0 + 512 ≤ 16384 := by omega
  have o10 : k0_off1 i 0#32 = ![N0, 0] := h0 ▸ off1_eq i 0
  have o20 : k0_off2 i 0#32 = ![0, N0] := h0 ▸ off2_eq i 0
  have o30 : k0_off3 i 0#32 = ![0, 0, N0] := h0 ▸ off3_eq i 0
  obtain ⟨N1, h1⟩ : ∃ N, N = 2048 * (i 1).val + 512 * 1 := ⟨_, rfl⟩
  have n1 : N1 + 512 ≤ 16384 := by omega
  have o11 : k0_off1 i 1#32 = ![N1, 0] := h1 ▸ off1_eq i 1
  have o21 : k0_off2 i 1#32 = ![0, N1] := h1 ▸ off2_eq i 1
  have o31 : k0_off3 i 1#32 = ![0, 0, N1] := h1 ▸ off3_eq i 1
  obtain ⟨N2, h2⟩ : ∃ N, N = 2048 * (i 1).val + 512 * 2 := ⟨_, rfl⟩
  have n2 : N2 + 512 ≤ 16384 := by omega
  have o12 : k0_off1 i 2#32 = ![N2, 0] := h2 ▸ off1_eq i 2
  have o22 : k0_off2 i 2#32 = ![0, N2] := h2 ▸ off2_eq i 2
  have o32 : k0_off3 i 2#32 = ![0, 0, N2] := h2 ▸ off3_eq i 2
  obtain ⟨N3, h3⟩ : ∃ N, N = 2048 * (i 1).val + 512 * 3 := ⟨_, rfl⟩
  have n3 : N3 + 512 ≤ 16384 := by omega
  have o13 : k0_off1 i 3#32 = ![N3, 0] := h3 ▸ off1_eq i 3
  have o23 : k0_off2 i 3#32 = ![0, N3] := h3 ▸ off2_eq i 3
  have o33 : k0_off3 i 3#32 = ![0, 0, N3] := h3 ▸ off3_eq i 3
  have e10 : k0_pay20 (arg2.view.readAt (Elt Ideal) (Rect.unit (s := S2048x128) ![0, 0] S2048x128.size inb_S2048x128_S2048x128_0_0).toLoadRect (harg2.unread x0)) = x0 := by
    rw [View.readAt_full, harg2.read_unread, pay20_eq]
  have e12 : k0_pay21 (arg7.view.readAt (Elt Ideal) (Rect.unit (s := S2048x128) ![0, 0] S2048x128.size inb_S2048x128_S2048x128_0_0).toLoadRect (harg7.unread x5)) = x5 := by
    rw [View.readAt_full, harg7.read_unread, pay21_eq]
  have f2 : arg2.view.readAt (Elt Ideal) (Rect.unit (s := S2048x128) ![0, 0] S2048x128.size inb_S2048x128_S2048x128_0_0).toLoadRect (harg2.unread x0) = x0 := by
    rw [View.readAt_full, harg2.read_unread]
  have f7 : arg7.view.readAt (Elt Ideal) (Rect.unit (s := S2048x128) ![0, 0] S2048x128.size inb_S2048x128_S2048x128_0_0).toLoadRect (harg7.unread x5) = x5 := by
    rw [View.readAt_full, harg7.read_unread]
  have e15 : arg8.view.readAt (Elt Ideal) (Rect.unit (s := S64x2048) ![0, 0] S64x2048.size inb_S64x2048_S64x2048_0_0).toLoadRect (harg8.unread x6) = x6 := by
    rw [View.readAt_full, harg8.read_unread]
  have e30 : arg3.view.readAt (Elt Ideal) (Rect.unit (s := S16384x128) (k0_off1 i 0#32) S512x128.size (k0_off1_inb i 0)).toLoadRect (harg3.unread x1) = rowsAt _ n0 x1 := load_rows n0 o10 arg3 _ (harg3.read_unread _) _
  have e31 : arg3.view.readAt (Elt Ideal) (Rect.unit (s := S16384x128) (k0_off1 i 1#32) S512x128.size (k0_off1_inb i 1)).toLoadRect (harg3.unread x1) = rowsAt _ n1 x1 := load_rows n1 o11 arg3 _ (harg3.read_unread _) _
  have e32 : arg3.view.readAt (Elt Ideal) (Rect.unit (s := S16384x128) (k0_off1 i 2#32) S512x128.size (k0_off1_inb i 2)).toLoadRect (harg3.unread x1) = rowsAt _ n2 x1 := load_rows n2 o12 arg3 _ (harg3.read_unread _) _
  have e33 : arg3.view.readAt (Elt Ideal) (Rect.unit (s := S16384x128) (k0_off1 i 3#32) S512x128.size (k0_off1_inb i 3)).toLoadRect (harg3.unread x1) = rowsAt _ n3 x1 := load_rows n3 o13 arg3 _ (harg3.read_unread _) _
  have e40 : arg4.view.readAt (Elt Ideal) (Rect.unit (s := S16384x128) (k0_off1 i 0#32) S512x128.size (k0_off1_inb i 0)).toLoadRect (harg4.unread x2) = rowsAt _ n0 x2 := load_rows n0 o10 arg4 _ (harg4.read_unread _) _
  have e41 : arg4.view.readAt (Elt Ideal) (Rect.unit (s := S16384x128) (k0_off1 i 1#32) S512x128.size (k0_off1_inb i 1)).toLoadRect (harg4.unread x2) = rowsAt _ n1 x2 := load_rows n1 o11 arg4 _ (harg4.read_unread _) _
  have e42 : arg4.view.readAt (Elt Ideal) (Rect.unit (s := S16384x128) (k0_off1 i 2#32) S512x128.size (k0_off1_inb i 2)).toLoadRect (harg4.unread x2) = rowsAt _ n2 x2 := load_rows n2 o12 arg4 _ (harg4.read_unread _) _
  have e43 : arg4.view.readAt (Elt Ideal) (Rect.unit (s := S16384x128) (k0_off1 i 3#32) S512x128.size (k0_off1_inb i 3)).toLoadRect (harg4.unread x2) = rowsAt _ n3 x2 := load_rows n3 o13 arg4 _ (harg4.read_unread _) _
  have e50 : arg5.view.readAt (Elt Ideal) (Rect.unit (s := S64x16384) (k0_off2 i 0#32) S64x512.size (k0_off2_inb i 0)).toLoadRect (harg5.unread x3) = colsAt _ n0 x3 := load_cols n0 o20 arg5 _ (harg5.read_unread _) _
  have e51 : arg5.view.readAt (Elt Ideal) (Rect.unit (s := S64x16384) (k0_off2 i 1#32) S64x512.size (k0_off2_inb i 1)).toLoadRect (harg5.unread x3) = colsAt _ n1 x3 := load_cols n1 o21 arg5 _ (harg5.read_unread _) _
  have e52 : arg5.view.readAt (Elt Ideal) (Rect.unit (s := S64x16384) (k0_off2 i 2#32) S64x512.size (k0_off2_inb i 2)).toLoadRect (harg5.unread x3) = colsAt _ n2 x3 := load_cols n2 o22 arg5 _ (harg5.read_unread _) _
  have e53 : arg5.view.readAt (Elt Ideal) (Rect.unit (s := S64x16384) (k0_off2 i 3#32) S64x512.size (k0_off2_inb i 3)).toLoadRect (harg5.unread x3) = colsAt _ n3 x3 := load_cols n3 o23 arg5 _ (harg5.read_unread _) _
  have e60 : arg6.view.readAt (Elt Ideal) (Rect.unit (s := S64x16384) (k0_off2 i 0#32) S64x512.size (k0_off2_inb i 0)).toLoadRect (harg6.unread x4) = colsAt _ n0 x4 := load_cols n0 o20 arg6 _ (harg6.read_unread _) _
  have e61 : arg6.view.readAt (Elt Ideal) (Rect.unit (s := S64x16384) (k0_off2 i 1#32) S64x512.size (k0_off2_inb i 1)).toLoadRect (harg6.unread x4) = colsAt _ n1 x4 := load_cols n1 o21 arg6 _ (harg6.read_unread _) _
  have e62 : arg6.view.readAt (Elt Ideal) (Rect.unit (s := S64x16384) (k0_off2 i 2#32) S64x512.size (k0_off2_inb i 2)).toLoadRect (harg6.unread x4) = colsAt _ n2 x4 := load_cols n2 o22 arg6 _ (harg6.read_unread _) _
  have e63 : arg6.view.readAt (Elt Ideal) (Rect.unit (s := S64x16384) (k0_off2 i 3#32) S64x512.size (k0_off2_inb i 3)).toLoadRect (harg6.unread x4) = colsAt _ n3 x4 := load_cols n3 o23 arg6 _ (harg6.read_unread _) _
  have t1 := t1_trips i
  have t2 := t2_trips i
  dsimp only [k0_t1_loop, k0_t2_loop, Scf.Loop.trips] at t1 t2
  unfold runA
  dsimp only
  simp only [runA.sl.r, runA.sl.r_1, runA.sl.r_2, runA.sl.r_20, runA.sl.r_21, runA.sl.r_22, e10, e12, e15, t1, t2, st_k0_t2_zero, List.nil_append]
  have key := fun v190 v194 v198 v208 v214 v246 init L9 L10 U => final1 Variants.none c none i arg2 harg2 arg3 harg3 arg4 harg4 arg5 harg5 arg6 harg6 arg7 harg7 arg8 harg8 arg9 harg9 arg10 harg10 arg11 harg11 arg12 harg12 arg13 harg13 (BitVec.ofNat 32 (i 1).val) k0_pay19 x0 x5 (k0_pay22 x6) v190 v194 v198 v208 v214 v246 (harg3.unread x1) (harg4.unread x2) (harg5.unread x3) (harg6.unread x4) x0 x5 x1 x2 x3 x4 x6 (fun _ => 0) (fun _ => 0) rfl rfl rfl rfl (harg3.read_unread _) (harg4.read_unread _) (harg5.read_unread _) (harg6.read_unread _) (arg9.view.junk) (arg10.view.junk) init L9 L10 U _ (t1_trips i).symm
  refine (fun U => ⟨(key _ _ _ _ _ _ _ _ _ U).1, (key _ _ _ _ _ _ _ _ _ U).2.1, ?o11, ?o12, ?o13⟩) ?h0
  case o11 => intro f; rw [View.read_writes_full]; exact out11 _ _ _ _ _ (key _ _ _ _ _ _ _ _ _ U).2.2.1
  case o12 => intro f; rw [View.read_writes_full]; exact out12 _ _ _ (key _ _ _ _ _ _ _ _ _ U).2.2.2
  case o13 => intro f; rw [View.read_writes_full]; exact out13 _ _ _ _ _ (key _ _ _ _ _ _ _ _ _ U).2.2.1
  refine ⟨fun d k => ?_, fun d k => ?_, ?_, ?_⟩
  · simp only [runA.sl.r_3, runA.sl.r_4, runA.sl.r_5, runA.sl.r_6, runA.sl.r_7, runA.sl.r_8, runA.sl.r_9, runA.sl.r_10, runA.sl.r_11, runA.sl.r_12, runA.sl.r_13,
      runA.sl.r_16, runA.sl.r_17, runA.sl.r_18, runA.sl.r_19, runA.sl.r, runA.sl.r_1, runA.sl.r_2, pay20_eq, pay21_eq, e15, f2, f7, e30, e31, e32, e33, e40, e41, e42, e43, e50, e51, e52, e53]
    exact carryK x0 x5 x1 x2 x3 h0 h1 h2 h3 n0 n1 n2 n3 d k
  · simp only [runA.sl.r_3, runA.sl.r_4, runA.sl.r_5, runA.sl.r_6, runA.sl.r_7, runA.sl.r_8, runA.sl.r_9, runA.sl.r_10, runA.sl.r_11, runA.sl.r_12, runA.sl.r_13,
      runA.sl.r_16, runA.sl.r_17, runA.sl.r_18, runA.sl.r_19, runA.sl.r, runA.sl.r_1, runA.sl.r_2, pay20_eq, pay21_eq, e15, f2, f7, e30, e31, e32, e33, e60, e61, e62, e63]
    exact carryV x0 x1 x4 h0 h1 h2 h3 n0 n1 n2 n3 d k
  · simp only [runA.sl.r_3, runA.sl.r_4, runA.sl.r_14, runA.sl.r_15, runA.sl.r_19, runA.sl.r, runA.sl.r_1, runA.sl.r_2, pay20_eq, pay21_eq, e15, f2, f7, e30, e31, e32, e33, e40, e41, e42, e43, runA.sl.v43, runA.sl.v102, runA.sl.v161, runA.sl.v217, runA.sl.H7_1, runA.sl.H7_2, runA.sl.H7_3, runA.sl.H7_4]
    have L0 : arg9.view.read (Elt Ideal) (arg9.view.writes (Elt Ideal) arg9.view.junk [⟨Rect.unit (s := S64x16384) ![0, 0] S64x16384.size inb_S64x16384_S64x16384_0_0, k0_pay17 (F := Ideal)⟩])
        = dqUpTo (i 1).val x0 x5 x1 x2 x6 N0 (fun _ => 0) := by
      rw [View.read_writes_full, h0, Nat.mul_zero, Nat.add_zero, dqUpTo_start]; exact funext fun y => pay17_apply y
    exact dq_tile' _ _ _ _ _ h3 n3 (by omega) o23 arg9 _ _
      (dq_tile' _ _ _ _ _ h2 n2 (by omega : N3 = N2 + 512) o22 arg9 _ _
        (dq_tile' _ _ _ _ _ h1 n1 (by omega : N2 = N1 + 512) o21 arg9 _ _
          (dq_tile' _ _ _ _ _ h0 n0 (by omega : N1 = N0 + 512) o20 arg9 _ _ L0 _ (pay30_apply _ _ _ _ _ _) _)
          _ (pay37_apply _ _ _ _ _ _) _)
        _ (pay45_apply _ _ _ _ _ _) _)
      _ (pay53_apply _ _ _ _ _ _) _
  · simp only [runA.sl.r_3, runA.sl.r_4, runA.sl.r_14, runA.sl.r_15, runA.sl.r_19, runA.sl.r, runA.sl.r_1, runA.sl.r_2, pay20_eq, pay21_eq, e15, f2, f7, e30, e31, e32, e33, e40, e41, e42, e43, runA.sl.v50, runA.sl.v109, runA.sl.v168, runA.sl.v224, runA.sl.H8_1, runA.sl.H8_2, runA.sl.H8_3, runA.sl.H8_4]
    have L0 : arg10.view.read (Elt Ideal) (arg10.view.writes (Elt Ideal) arg10.view.junk [⟨Rect.unit (s := S1x8x16384) ![0, 0, 0] S1x8x16384.size inb_S1x8x16384_S1x8x16384_0_0_0, k0_pay18 (F := Ideal)⟩])
        = rsUpTo (i 1).val x0 x5 x1 x2 x6 N0 (fun _ => 0) := by
      rw [View.read_writes_full, h0, Nat.mul_zero, Nat.add_zero, rsUpTo_start]; exact funext fun y => pay18_apply y
    exact rs_tile' _ _ _ _ _ h3 n3 (by omega) o33 arg10 _ _
      (rs_tile' _ _ _ _ _ h2 n2 (by omega : N3 = N2 + 512) o32 arg10 _ _
        (rs_tile' _ _ _ _ _ h1 n1 (by omega : N2 = N1 + 512) o31 arg10 _ _
          (rs_tile' _ _ _ _ _ h0 n0 (by omega : N1 = N0 + 512) o30 arg10 _ _ L0 _ (pay31_apply _ _ _ _ _ _) _)
          _ (pay38_apply _ _ _ _ _ _) _)
        _ (pay47_apply _ _ _ _ _ _) _)
      _ (pay54_apply _ _ _ _ _ _) _

end Cert.Proof
end
-- ==== Proof.RunB.lean ====
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- One run of the body at a key block that is not the first of its head: what its stores leave in each output's
    buffer, as the pieces written, with the proof that the body runs to a continuation holding the inputs as they were
    and the outputs with those pieces written. -/
def runB (c : Dev nD) (i : grid0.Coords)
    (arg2 : Memref sig .tc .vmem S2048x128 .bf16) (harg2 : arg2.IsWhole)
    (arg3 : Memref sig .tc .vmem S16384x128 .bf16) (harg3 : arg3.IsWhole)
    (arg4 : Memref sig .tc .vmem S16384x128 .bf16) (harg4 : arg4.IsWhole)
    (arg5 : Memref sig .tc .vmem S64x16384 .bf16) (harg5 : arg5.IsWhole)
    (arg6 : Memref sig .tc .vmem S64x16384 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (hc0 : ¬ (Scalar.cmpi .ne (Scalar.extui (Scalar.cmpi .eq (BitVec.ofNat 32 (i 1).val) 0#32) : BitVec 32) 0#32) = 1#1)
    (x0 x5 : Vec Ideal S2048x128 .bf16) (x1 x2 : Vec Ideal S16384x128 .bf16) (x3 x4 : Vec Ideal S64x16384 .bf16) (x6 : Vec Ideal S64x2048 .bf16)
    (xo7 : Vec Ideal S64x16384 .f32) (xo8 : Vec Ideal S1x8x16384 .f32) :
    Σ' (L7 : List (View.Piece (Elt Ideal) S64x16384 .f32)), Σ' (L8 : List (View.Piece (Elt Ideal) S1x8x16384 .f32)),
    Σ' (L9 : List (View.Piece (Elt Ideal) S64x2048 .bf16)), Σ' (L10 : List (View.Piece (Elt Ideal) S64x2048 .bf16)),
    { L11 : List (View.Piece (Elt Ideal) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt Ideal) (harg9.unread xo7) L7) ∗ (arg10.view.loc (c : Thread nD τ) ↦[arg10.view.set]{fullShare} arg10.view.writes (Elt Ideal) (harg10.unread xo8) L8) ∗ (∃ f, arg11.view.loc (c : Thread nD τ) ↦[arg11.view.set]{fullShare} arg11.view.writes (Elt Ideal) f L9) ∗ (∃ f, arg12.view.loc (c : Thread nD τ) ↦[arg12.view.set]{fullShare} arg12.view.writes (Elt Ideal) f L10) ∗ (∃ f, arg13.view.loc (c : Thread nD τ) ↦[arg13.view.set]{fullShare} arg13.view.writes (Elt Ideal) f L11)) -∗ K ⟨⟩))
          ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fox_bwd_eq_skeleton]; unfold cc0_fox_bwd_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]; · iexists _; isplitr; · ipureintro; exact harg2.read_unread _
                    · iexact H0
    isplitl [H1]; · iexists _; isplitr; · ipureintro; exact harg3.read_unread _
                    · iexact H1
    isplitl [H2]; · iexists _; isplitr; · ipureintro; exact harg4.read_unread _
                    · iexact H2
    isplitl [H3]; · iexists _; isplitr; · ipureintro; exact harg5.read_unread _
                    · iexact H3
    isplitl [H4]; · iexists _; isplitr; · ipureintro; exact harg6.read_unread _
                    · iexact H4
    isplitl [H5]; · iexists _; isplitr; · ipureintro; exact harg7.read_unread _
                    · iexact H5
    isplitl [H6]; · iexists _; isplitr; · ipureintro; exact harg8.read_unread _
                    · iexact H6
    isplitl [H7]; · iexact H7
    isplitl [H8]; · iexact H8
    isplitl [H9]; · iexists _; iexact H9
    isplitl [H10]; · iexists _; iexact H10
    iexists _; iexact H11

end Cert.Proof
end
-- ==== Proof.ValB.lean ====
/- What the body leaves at a key block that is not the first of its head: the closed forms of `Block`. -/
module

public import proofs.«01_k».proof.Proof.Diag
public import proofs.«01_k».proof.Proof.RunB

@[expose] public section
set_option maxRecDepth 16384
noncomputable section
namespace Cert.Proof
open Cert.KernelIdeal Cert.KernelIdeal.Gen
open Idealize.ShloMosaic Idealize.ShloMosaic.TcCoe

variable (c : Dev nD) (i : grid0.Coords)
    (arg2 : Memref sig .tc .vmem S2048x128 .bf16) (harg2 : arg2.IsWhole)
    (arg3 : Memref sig .tc .vmem S16384x128 .bf16) (harg3 : arg3.IsWhole)
    (arg4 : Memref sig .tc .vmem S16384x128 .bf16) (harg4 : arg4.IsWhole)
    (arg5 : Memref sig .tc .vmem S64x16384 .bf16) (harg5 : arg5.IsWhole)
    (arg6 : Memref sig .tc .vmem S64x16384 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (x0 x5 : Vec Ideal S2048x128 .bf16) (x1 x2 : Vec Ideal S16384x128 .bf16) (x3 x4 : Vec Ideal S64x16384 .bf16) (x6 : Vec Ideal S64x2048 .bf16)
    (hc0 : ¬ (Scalar.cmpi .ne (Scalar.extui (Scalar.cmpi .eq (BitVec.ofNat 32 (i 1).val) 0#32) : BitVec 32) 0#32) = 1#1)
    (xo7 : Vec Ideal S64x16384 .f32) (xo8 : Vec Ideal S1x8x16384 .f32)

set_option maxHeartbeats 1500000 in
theorem values_B :
    let W := runB c i arg2 harg2 arg3 harg3 arg4 harg4 arg5 harg5 arg6 harg6 arg7 harg7 arg8 harg8 arg9 harg9 arg10 harg10 arg11 harg11 arg12 harg12 arg13 harg13 hc0 x0 x5 x1 x2 x3 x4 x6 xo7 xo8
    arg9.view.read (Elt Ideal) (arg9.view.writes (Elt Ideal) (harg9.unread xo7) W.1) = dqUpTo (i 1).val x0 x5 x1 x2 x6 16384 xo7
    ∧ arg10.view.read (Elt Ideal) (arg10.view.writes (Elt Ideal) (harg10.unread xo8) W.2.1) = rsUpTo (i 1).val x0 x5 x1 x2 x6 16384 xo8
    ∧ (∀ f, arg11.view.read (Elt Ideal) (arg11.view.writes (Elt Ideal) f W.2.2.1) = dkBlk (i 1).val x0 x5 x1 x2 x3)
    ∧ (∀ f, arg12.view.read (Elt Ideal) (arg12.view.writes (Elt Ideal) f W.2.2.2.1) = dvBlk (i 1).val x0 x1 x4)
    ∧ (∀ f, arg13.view.read (Elt Ideal) (arg13.view.writes (Elt Ideal) f W.2.2.2.2.1) = dfBlk (i 1).val x0 x5 x1 x2 x3) := by
  have hi : (i 1).val < 8 := (i 1).isLt
  obtain ⟨N0, h0⟩ : ∃ N, N = 2048 * (i 1).val + 512 * 0 := ⟨_, rfl⟩
  have n0 : N0 + 512 ≤ 16384 := by omega
  have o10 : k0_off1 i 0#32 = ![N0, 0] := h0 ▸ off1_eq i 0
  have o20 : k0_off2 i 0#32 = ![0, N0] := h0 ▸ off2_eq i 0
  have o30 : k0_off3 i 0#32 = ![0, 0, N0] := h0 ▸ off3_eq i 0
  obtain ⟨N1, h1⟩ : ∃ N, N = 2048 * (i 1).val + 512 * 1 := ⟨_, rfl⟩
  have n1 : N1 + 512 ≤ 16384 := by omega
  have o11 : k0_off1 i 1#32 = ![N1, 0] := h1 ▸ off1_eq i 1
  have o21 : k0_off2 i 1#32 = ![0, N1] := h1 ▸ off2_eq i 1
  have o31 : k0_off3 i 1#32 = ![0, 0, N1] := h1 ▸ off3_eq i 1
  obtain ⟨N2, h2⟩ : ∃ N, N = 2048 * (i 1).val + 512 * 2 := ⟨_, rfl⟩
  have n2 : N2 + 512 ≤ 16384 := by omega
  have o12 : k0_off1 i 2#32 = ![N2, 0] := h2 ▸ off1_eq i 2
  have o22 : k0_off2 i 2#32 = ![0, N2] := h2 ▸ off2_eq i 2
  have o32 : k0_off3 i 2#32 = ![0, 0, N2] := h2 ▸ off3_eq i 2
  obtain ⟨N3, h3⟩ : ∃ N, N = 2048 * (i 1).val + 512 * 3 := ⟨_, rfl⟩
  have n3 : N3 + 512 ≤ 16384 := by omega
  have o13 : k0_off1 i 3#32 = ![N3, 0] := h3 ▸ off1_eq i 3
  have o23 : k0_off2 i 3#32 = ![0, N3] := h3 ▸ off2_eq i 3
  have o33 : k0_off3 i 3#32 = ![0, 0, N3] := h3 ▸ off3_eq i 3
  have e10 : k0_pay20 (arg2.view.readAt (Elt Ideal) (Rect.unit (s := S2048x128) ![0, 0] S2048x128.size inb_S2048x128_S2048x128_0_0).toLoadRect (harg2.unread x0)) = x0 := by
    rw [View.readAt_full, harg2.read_unread, pay20_eq]
  have e12 : k0_pay21 (arg7.view.readAt (Elt Ideal) (Rect.unit (s := S2048x128) ![0, 0] S2048x128.size inb_S2048x128_S2048x128_0_0).toLoadRect (harg7.unread x5)) = x5 := by
    rw [View.readAt_full, harg7.read_unread, pay21_eq]
  have f2 : arg2.view.readAt (Elt Ideal) (Rect.unit (s := S2048x128) ![0, 0] S2048x128.size inb_S2048x128_S2048x128_0_0).toLoadRect (harg2.unread x0) = x0 := by
    rw [View.readAt_full, harg2.read_unread]
  have f7 : arg7.view.readAt (Elt Ideal) (Rect.unit (s := S2048x128) ![0, 0] S2048x128.size inb_S2048x128_S2048x128_0_0).toLoadRect (harg7.unread x5) = x5 := by
    rw [View.readAt_full, harg7.read_unread]
  have e15 : arg8.view.readAt (Elt Ideal) (Rect.unit (s := S64x2048) ![0, 0] S64x2048.size inb_S64x2048_S64x2048_0_0).toLoadRect (harg8.unread x6) = x6 := by
    rw [View.readAt_full, harg8.read_unread]
  have e30 : arg3.view.readAt (Elt Ideal) (Rect.unit (s := S16384x128) (k0_off1 i 0#32) S512x128.size (k0_off1_inb i 0)).toLoadRect (harg3.unread x1) = rowsAt _ n0 x1 := load_rows n0 o10 arg3 _ (harg3.read_unread _) _
  have e31 : arg3.view.readAt (Elt Ideal) (Rect.unit (s := S16384x128) (k0_off1 i 1#32) S512x128.size (k0_off1_inb i 1)).toLoadRect (harg3.unread x1) = rowsAt _ n1 x1 := load_rows n1 o11 arg3 _ (harg3.read_unread _) _
  have e32 : arg3.view.readAt (Elt Ideal) (Rect.unit (s := S16384x128) (k0_off1 i 2#32) S512x128.size (k0_off1_inb i 2)).toLoadRect (harg3.unread x1) = rowsAt _ n2 x1 := load_rows n2 o12 arg3 _ (harg3.read_unread _) _
  have e33 : arg3.view.readAt (Elt Ideal) (Rect.unit (s := S16384x128) (k0_off1 i 3#32) S512x128.size (k0_off1_inb i 3)).toLoadRect (harg3.unread x1) = rowsAt _ n3 x1 := load_rows n3 o13 arg3 _ (harg3.read_unread _) _
  have e40 : arg4.view.readAt (Elt Ideal) (Rect.unit (s := S16384x128) (k0_off1 i 0#32) S512x128.size (k0_off1_inb i 0)).toLoadRect (harg4.unread x2) = rowsAt _ n0 x2 := load_rows n0 o10 arg4 _ (harg4.read_unread _) _
  have e41 : arg4.view.readAt (Elt Ideal) (Rect.unit (s := S16384x128) (k0_off1 i 1#32) S512x128.size (k0_off1_inb i 1)).toLoadRect (harg4.unread x2) = rowsAt _ n1 x2 := load_rows n1 o11 arg4 _ (harg4.read_unread _) _
  have e42 : arg4.view.readAt (Elt Ideal) (Rect.unit (s := S16384x128) (k0_off1 i 2#32) S512x128.size (k0_off1_inb i 2)).toLoadRect (harg4.unread x2) = rowsAt _ n2 x2 := load_rows n2 o12 arg4 _ (harg4.read_unread _) _
  have e43 : arg4.view.readAt (Elt Ideal) (Rect.unit (s := S16384x128) (k0_off1 i 3#32) S512x128.size (k0_off1_inb i 3)).toLoadRect (harg4.unread x2) = rowsAt _ n3 x2 := load_rows n3 o13 arg4 _ (harg4.read_unread _) _
  have e50 : arg5.view.readAt (Elt Ideal) (Rect.unit (s := S64x16384) (k0_off2 i 0#32) S64x512.size (k0_off2_inb i 0)).toLoadRect (harg5.unread x3) = colsAt _ n0 x3 := load_cols n0 o20 arg5 _ (harg5.read_unread _) _
  have e51 : arg5.view.readAt (Elt Ideal) (Rect.unit (s := S64x16384) (k0_off2 i 1#32) S64x512.size (k0_off2_inb i 1)).toLoadRect (harg5.unread x3) = colsAt _ n1 x3 := load_cols n1 o21 arg5 _ (harg5.read_unread _) _
  have e52 : arg5.view.readAt (Elt Ideal) (Rect.unit (s := S64x16384) (k0_off2 i 2#32) S64x512.size (k0_off2_inb i 2)).toLoadRect (harg5.unread x3) = colsAt _ n2 x3 := load_cols n2 o22 arg5 _ (harg5.read_unread _) _
  have e53 : arg5.view.readAt (Elt Ideal) (Rect.unit (s := S64x16384) (k0_off2 i 3#32) S64x512.size (k0_off2_inb i 3)).toLoadRect (harg5.unread x3) = colsAt _ n3 x3 := load_cols n3 o23 arg5 _ (harg5.read_unread _) _
  have e60 : arg6.view.readAt (Elt Ideal) (Rect.unit (s := S64x16384) (k0_off2 i 0#32) S64x512.size (k0_off2_inb i 0)).toLoadRect (harg6.unread x4) = colsAt _ n0 x4 := load_cols n0 o20 arg6 _ (harg6.read_unread _) _
  have e61 : arg6.view.readAt (Elt Ideal) (Rect.unit (s := S64x16384) (k0_off2 i 1#32) S64x512.size (k0_off2_inb i 1)).toLoadRect (harg6.unread x4) = colsAt _ n1 x4 := load_cols n1 o21 arg6 _ (harg6.read_unread _) _
  have e62 : arg6.view.readAt (Elt Ideal) (Rect.unit (s := S64x16384) (k0_off2 i 2#32) S64x512.size (k0_off2_inb i 2)).toLoadRect (harg6.unread x4) = colsAt _ n2 x4 := load_cols n2 o22 arg6 _ (harg6.read_unread _) _
  have e63 : arg6.view.readAt (Elt Ideal) (Rect.unit (s := S64x16384) (k0_off2 i 3#32) S64x512.size (k0_off2_inb i 3)).toLoadRect (harg6.unread x4) = colsAt _ n3 x4 := load_cols n3 o23 arg6 _ (harg6.read_unread _) _
  have t1 := t1_trips i
  have t2 := t2_trips i
  dsimp only [k0_t1_loop, k0_t2_loop, Scf.Loop.trips] at t1 t2
  unfold runB
  dsimp only
  simp only [runB.sl.r, runB.sl.r_1, runB.sl.r_2, runB.sl.r_20, runB.sl.r_21, runB.sl.r_22, e10, e12, e15, t1, t2, st_k0_t2_zero, List.nil_append]
  have key := fun v190 v194 v198 v208 v214 v246 init L9 L10 U => final1 Variants.none c none i arg2 harg2 arg3 harg3 arg4 harg4 arg5 harg5 arg6 harg6 arg7 harg7 arg8 harg8 arg9 harg9 arg10 harg10 arg11 harg11 arg12 harg12 arg13 harg13 (BitVec.ofNat 32 (i 1).val) k0_pay19 x0 x5 (k0_pay22 x6) v190 v194 v198 v208 v214 v246 (harg3.unread x1) (harg4.unread x2) (harg5.unread x3) (harg6.unread x4) x0 x5 x1 x2 x3 x4 x6 xo7 xo8 rfl rfl rfl rfl (harg3.read_unread _) (harg4.read_unread _) (harg5.read_unread _) (harg6.read_unread _) (harg9.unread xo7) (harg10.unread xo8) init L9 L10 U _ (t1_trips i).symm
  refine (fun U => ⟨(key _ _ _ _ _ _ _ _ _ U).1, (key _ _ _ _ _ _ _ _ _ U).2.1, ?o11, ?o12, ?o13⟩) ?h0
  case o11 => intro f; rw [View.read_writes_full]; exact out11 _ _ _ _ _ (key _ _ _ _ _ _ _ _ _ U).2.2.1
  case o12 => intro f; rw [View.read_writes_full]; exact out12 _ _ _ (key _ _ _ _ _ _ _ _ _ U).2.2.2
  case o13 => intro f; rw [View.read_writes_full]; exact out13 _ _ _ _ _ (key _ _ _ _ _ _ _ _ _ U).2.2.1
  refine ⟨fun d k => ?_, fun d k => ?_, ?_, ?_⟩
  · simp only [runB.sl.r_3, runB.sl.r_4, runB.sl.r_5, runB.sl.r_6, runB.sl.r_7, runB.sl.r_8, runB.sl.r_9, runB.sl.r_10, runB.sl.r_11, runB.sl.r_12, runB.sl.r_13,
      runB.sl.r_16, runB.sl.r_17, runB.sl.r_18, runB.sl.r_19, runB.sl.r, runB.sl.r_1, runB.sl.r_2, pay20_eq, pay21_eq, e15, f2, f7, e30, e31, e32, e33, e40, e41, e42, e43, e50, e51, e52, e53]
    exact carryK x0 x5 x1 x2 x3 h0 h1 h2 h3 n0 n1 n2 n3 d k
  · simp only [runB.sl.r_3, runB.sl.r_4, runB.sl.r_5, runB.sl.r_6, runB.sl.r_7, runB.sl.r_8, runB.sl.r_9, runB.sl.r_10, runB.sl.r_11, runB.sl.r_12, runB.sl.r_13,
      runB.sl.r_16, runB.sl.r_17, runB.sl.r_18, runB.sl.r_19, runB.sl.r, runB.sl.r_1, runB.sl.r_2, pay20_eq, pay21_eq, e15, f2, f7, e30, e31, e32, e33, e60, e61, e62, e63]
    exact carryV x0 x1 x4 h0 h1 h2 h3 n0 n1 n2 n3 d k
  · simp only [runB.sl.r_3, runB.sl.r_4, runB.sl.r_19, runB.sl.r, runB.sl.r_1, pay20_eq, pay21_eq, f2, f7, e30, e31, e32, e33, e40, e41, e42, e43]
    have L0 : arg9.view.read (Elt Ideal) (arg9.view.writes (Elt Ideal) (harg9.unread xo7) []) = dqUpTo (i 1).val x0 x5 x1 x2 x6 (N0) xo7 := by
      rw [h0, Nat.mul_zero, Nat.add_zero]; exact (harg9.read_unread _).trans (dqUpTo_start _ _ _ _ _ _ _).symm
    exact dq_tile _ _ _ _ _ h3 n3 (by omega) o23 arg9 _ _
      (dq_tile _ _ _ _ _ h2 n2 (by omega : N3 = N2 + 512) o22 arg9 _ _
        (dq_tile _ _ _ _ _ h1 n1 (by omega : N2 = N1 + 512) o21 arg9 _ _
          (dq_tile _ _ _ _ _ h0 n0 (by omega : N1 = N0 + 512) o20 arg9 _ _ L0 (dq_load' n0 o20 arg9 _ (harg9.read_unread _) _) (pay30_apply _ _ _ _ _ _) _)
          (dq_load' n1 o21 arg9 _ (harg9.read_unread _) _) (pay37_apply _ _ _ _ _ _) _)
        (dq_load' n2 o22 arg9 _ (harg9.read_unread _) _) (pay45_apply _ _ _ _ _ _) _)
      (dq_load' n3 o23 arg9 _ (harg9.read_unread _) _) (pay53_apply _ _ _ _ _ _) _
  · simp only [runB.sl.r_3, runB.sl.r_4, runB.sl.r_14, runB.sl.r_15, runB.sl.r_19, runB.sl.r, runB.sl.r_1, runB.sl.r_2, pay20_eq, pay21_eq, e15, f2, f7, e30, e31, e32, e33, e40, e41, e42, e43]
    have L0 : arg10.view.read (Elt Ideal) (arg10.view.writes (Elt Ideal) (harg10.unread xo8) []) = rsUpTo (i 1).val x0 x5 x1 x2 x6 (N0) xo8 := by
      rw [h0, Nat.mul_zero, Nat.add_zero]; exact (harg10.read_unread _).trans (rsUpTo_start _ _ _ _ _ _ _).symm
    exact rs_tile _ _ _ _ _ h3 n3 (by omega) o33 arg10 _ _
      (rs_tile _ _ _ _ _ h2 n2 (by omega : N3 = N2 + 512) o32 arg10 _ _
        (rs_tile _ _ _ _ _ h1 n1 (by omega : N2 = N1 + 512) o31 arg10 _ _
          (rs_tile _ _ _ _ _ h0 n0 (by omega : N1 = N0 + 512) o30 arg10 _ _ L0 (rs_load' n0 o30 arg10 _ (harg10.read_unread _) _) (pay31_apply _ _ _ _ _ _) _)
          (rs_load' n1 o31 arg10 _ (harg10.read_unread _) _) (pay38_apply _ _ _ _ _ _) _)
        (rs_load' n2 o32 arg10 _ (harg10.read_unread _) _) (pay47_apply _ _ _ _ _ _) _)
      (rs_load' n3 o33 arg10 _ (harg10.read_unread _) _) (pay54_apply _ _ _ _ _ _) _

end Cert.Proof
end
-- ==== Proof.Body.lean ====
/- The body's run at a grid point, with what it leaves stated in closed form. -/
module

public import proofs.«01_k».proof.Proof.ValA
public import proofs.«01_k».proof.Proof.ValB

@[expose] public section
set_option maxRecDepth 16384
noncomputable section
namespace Cert.Proof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
    (arg2 : Memref sig .tc .vmem S2048x128 .bf16) (harg2 : arg2.IsWhole)
    (arg3 : Memref sig .tc .vmem S16384x128 .bf16) (harg3 : arg3.IsWhole)
    (arg4 : Memref sig .tc .vmem S16384x128 .bf16) (harg4 : arg4.IsWhole)
    (arg5 : Memref sig .tc .vmem S64x16384 .bf16) (harg5 : arg5.IsWhole)
    (arg6 : Memref sig .tc .vmem S64x16384 .bf16) (harg6 : arg6.IsWhole)
    (arg7 : Memref sig .tc .vmem S2048x128 .bf16) (harg7 : arg7.IsWhole)
    (arg8 : Memref sig .tc .vmem S64x2048 .bf16) (harg8 : arg8.IsWhole)
    (arg9 : Memref sig .tc .vmem S64x16384 .f32) (harg9 : arg9.IsWhole)
    (arg10 : Memref sig .tc .vmem S1x8x16384 .f32) (harg10 : arg10.IsWhole)
    (arg11 : Memref sig .tc .vmem S64x2048 .bf16) (harg11 : arg11.IsWhole)
    (arg12 : Memref sig .tc .vmem S64x2048 .bf16) (harg12 : arg12.IsWhole)
    (arg13 : Memref sig .tc .vmem S1x1x2048 .f32) (harg13 : arg13.IsWhole)
    (x0 x5 : Vec Ideal S2048x128 .bf16) (x1 x2 : Vec Ideal S16384x128 .bf16) (x3 x4 : Vec Ideal S64x16384 .bf16) (x6 : Vec Ideal S64x2048 .bf16)

theorem body_A (hc0 : (Scalar.cmpi .ne (Scalar.extui (Scalar.cmpi .eq (BitVec.ofNat 32 (i 1).val) 0#32) : BitVec 32) 0#32) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqUpTo (i 1).val x0 x5 x1 x2 x6 16384 (fun _ => 0)) ∗ owns (c : Thread nD τ) arg10 fullShare (rsUpTo (i 1).val x0 x5 x1 x2 x6 16384 (fun _ => 0)) ∗ owns (c : Thread nD τ) arg11 fullShare (dkBlk (i 1).val x0 x5 x1 x2 x3) ∗ owns (c : Thread nD τ) arg12 fullShare (dvBlk (i 1).val x0 x1 x4) ∗ owns (c : Thread nD τ) arg13 fullShare (dfBlk (i 1).val x0 x5 x1 x2 x3)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  obtain ⟨v7, v8, v9, v10, v11⟩ := values_A c i arg2 harg2 arg3 harg3 arg4 harg4 arg5 harg5 arg6 harg6 arg7 harg7 arg8 harg8 arg9 harg9 arg10 harg10 arg11 harg11 arg12 harg12 arg13 harg13 x0 x5 x1 x2 x3 x4 x6 hc0
  refine Laws.entails_trans ?_ ((runA c i arg2 harg2 arg3 harg3 arg4 harg4 arg5 harg5 arg6 harg6 arg7 harg7 arg8 harg8 arg9 harg9 arg10 harg10 arg11 harg11 arg12 harg12 arg13 harg13 hc0 x0 x5 x1 x2 x3 x4 x6).2.2.2.2.2 E K)
  iintro ⟨H0, H1, H2, H3, H4, H5, H6, H7, H8, H9, H10, H11, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, ⟨%f9, H9⟩, ⟨%f10, H10⟩, ⟨%f11, H11⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]
  · iexists _; isplitr; swap; · iexact H7
    ipureintro; exact v7
  isplitl [H8]
  · iexists _; isplitr; swap; · iexact H8
    ipureintro; exact v8
  isplitl [H9]
  · iexists _; isplitr; swap; · iexact H9
    ipureintro; exact v9 f9
  isplitl [H10]
  · iexists _; isplitr; swap; · iexact H10
    ipureintro; exact v10 f10
  iexists _; isplitr; swap; · iexact H11
  ipureintro; exact v11 f11

theorem body_B (hc0 : ¬ (Scalar.cmpi .ne (Scalar.extui (Scalar.cmpi .eq (BitVec.ofNat 32 (i 1).val) 0#32) : BitVec 32) 0#32) = 1#1) (xo7 : Vec Ideal S64x16384 .f32) (xo8 : Vec Ideal S1x8x16384 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (dqUpTo (i 1).val x0 x5 x1 x2 x6 16384 xo7) ∗ owns (c : Thread nD τ) arg10 fullShare (rsUpTo (i 1).val x0 x5 x1 x2 x6 16384 xo8) ∗ owns (c : Thread nD τ) arg11 fullShare (dkBlk (i 1).val x0 x5 x1 x2 x3) ∗ owns (c : Thread nD τ) arg12 fullShare (dvBlk (i 1).val x0 x1 x4) ∗ owns (c : Thread nD τ) arg13 fullShare (dfBlk (i 1).val x0 x5 x1 x2 x3)) -∗ K ⟨⟩))
      ⊢ wp frame (wpE (defs₀ (F := Ideal)) Variants.none c none) E (cc0_fox_bwd i arg2 harg2 arg3 harg3 arg4 harg4 arg5 harg5 arg6 harg6 arg7 harg7 arg8 harg8 arg9 harg9 arg10 harg10 arg11 harg11 arg12 harg12 arg13 harg13) K := by
  obtain ⟨v7, v8, v9, v10, v11⟩ := values_B c i arg2 harg2 arg3 harg3 arg4 harg4 arg5 harg5 arg6 harg6 arg7 harg7 arg8 harg8 arg9 harg9 arg10 harg10 arg11 harg11 arg12 harg12 arg13 harg13 x0 x5 x1 x2 x3 x4 x6 hc0 xo7 xo8
  refine Laws.entails_trans ?_ ((runB c i arg2 harg2 arg3 harg3 arg4 harg4 arg5 harg5 arg6 harg6 arg7 harg7 arg8 harg8 arg9 harg9 arg10 harg10 arg11 harg11 arg12 harg12 arg13 harg13 hc0 x0 x5 x1 x2 x3 x4 x6 xo7 xo8).2.2.2.2.2 E K)
  iintro ⟨H0, H1, H2, H3, H4, H5, H6, H7, H8, H9, H10, H11, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, ⟨%f9, H9⟩, ⟨%f10, H10⟩, ⟨%f11, H11⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]
  · iexists _; isplitr; swap; · iexact H7
    ipureintro; exact v7
  isplitl [H8]
  · iexists _; isplitr; swap; · iexact H8
    ipureintro; exact v8
  isplitl [H9]
  · iexists _; isplitr; swap; · iexact H9
    ipureintro; exact v9 f9
  isplitl [H10]
  · iexists _; isplitr; swap; · iexact H10
    ipureintro; exact v10 f10
  iexists _; isplitr; swap; · iexact H11
  ipureintro; exact v11 f11

end Cert.Proof
end
-- ==== Proof.Outs.lean ====
/- The launch with its outputs named: what each output's buffer holds after each grid point, the body's obligation at
   those contents, and the run of the whole program from them. -/
module

public import proofs.«01_k».proof.Proof.Body
public import proofs.«01_k».proof.Proof.Gen.KernelIdeal.Frame
public import Idealize.ShloMosaic.Lib.Pipeline.TableIdle

@[expose] public section
set_option maxRecDepth 16384
noncomputable section
namespace Cert.Proof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- One point's addition to the query gradient's array and to the row sums'. -/
def addQ (c : Dev nD) (t : Fin cfg0.N) (p : FVec Ideal S64x16384 .f32 × FVec Ideal S1x8x16384 .f32) : FVec Ideal S64x16384 .f32 × FVec Ideal S1x8x16384 .f32 :=
  (dqUpTo (grid0.coords t 1).val (iblk m c 0 t) (iblk m c 5 t) (iblk m c 1 t) (iblk m c 2 t) (iblk m c 6 t) 16384 p.1,
   rsUpTo (grid0.coords t 1).val (iblk m c 0 t) (iblk m c 5 t) (iblk m c 1 t) (iblk m c 2 t) (iblk m c 6 t) 16384 p.2)

/-- The two accumulated arrays after point `n`: from zero at a head's first block. -/
def accQ (c : Dev nD) : (n : ℕ) → n < cfg0.N → FVec Ideal S64x16384 .f32 × FVec Ideal S1x8x16384 .f32
  | 0, h => addQ m c ⟨0, h⟩ (fun _ => 0, fun _ => 0)
  | n + 1, h => addQ m c ⟨n + 1, h⟩ (if (n + 1) % 8 = 0 then (fun _ => 0, fun _ => 0) else accQ c n (Nat.lt_of_succ_lt h))

theorem accQ_first (c : Dev nD) (t : Fin cfg0.N) (h : t.val % 8 = 0) : accQ m c t.val t.isLt = addQ m c t (fun _ => 0, fun _ => 0) := by
  obtain ⟨n, hn⟩ := t
  cases n with
  | zero => rfl
  | succ n => unfold accQ; rw [if_pos h]

theorem accQ_next (c : Dev nD) (t : Fin cfg0.N) (h : ¬ t.val % 8 = 0) :
    accQ m c t.val t.isLt = addQ m c t (accQ m c (t.val - 1) (Nat.lt_of_le_of_lt (Nat.sub_le _ _) t.isLt)) := by
  obtain ⟨n, hn⟩ := t
  cases n with
  | zero => exact absurd rfl h
  | succ n => rw [accQ, if_neg h]; rfl

/-- The launch's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (accQ m c t.val t.isLt).1
    | ⟨8, _⟩ => (accQ m c t.val t.isLt).2
    | ⟨9, _⟩ => dkBlk (grid0.coords t 1).val (iblk m c 0 t) (iblk m c 5 t) (iblk m c 1 t) (iblk m c 2 t) (iblk m c 3 t)
    | ⟨10, _⟩ => dvBlk (grid0.coords t 1).val (iblk m c 0 t) (iblk m c 1 t) (iblk m c 4 t)
    | ⟨11, _⟩ => dfBlk (grid0.coords t 1).val (iblk m c 0 t) (iblk m c 5 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl]; dsimp only [dats]
theorem before_1 (c : Dev nD) (t : Fin cfg0.N) (d) : (dats m 0 c).before 1 t d = iblk m c 1 t :=
  before0_1_of m (dats m 0 c) (A_eq m c 1) (fun t => by dsimp only [dats]) t d
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl]; dsimp only [dats]
theorem before_2 (c : Dev nD) (t : Fin cfg0.N) (d) : (dats m 0 c).before 2 t d = iblk m c 2 t :=
  before0_2_of m (dats m 0 c) (A_eq m c 2) (fun t => by dsimp only [dats]) t d
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl]; dsimp only [dats]
theorem before_3 (c : Dev nD) (t : Fin cfg0.N) (d) : (dats m 0 c).before 3 t d = iblk m c 3 t :=
  before0_3_of m (dats m 0 c) (A_eq m c 3) (fun t => by dsimp only [dats]) t d
theorem leaves_3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl]; dsimp only [dats]
theorem before_4 (c : Dev nD) (t : Fin cfg0.N) (d) : (dats m 0 c).before 4 t d = iblk m c 4 t :=
  before0_4_of m (dats m 0 c) (A_eq m c 4) (fun t => by dsimp only [dats]) t d
theorem leaves_4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl]; dsimp only [dats]
theorem before_5 (c : Dev nD) (t : Fin cfg0.N) (d) : (dats m 0 c).before 5 t d = iblk m c 5 t :=
  before0_5_of m (dats m 0 c) (A_eq m c 5) (fun t => by dsimp only [dats]) t d
theorem leaves_5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl]; dsimp only [dats]
theorem before_6 (c : Dev nD) (t : Fin cfg0.N) (d) : (dats m 0 c).before 6 t d = iblk m c 6 t :=
  before0_6_of m (dats m 0 c) (A_eq m c 6) (fun t => by dsimp only [dats]) t d
theorem leaves_6 (c : Dev nD) (t : Fin cfg0.N) :
    (dats m 0 c).leavesExact 6 t = owns (c : Thread nD τ) (st0_6 t) fullShare (iblk m c 6 t) := by
  unfold Dat.leavesExact; rw [show cfg0.idle 6 (grid0.coords t) = false from rfl]; dsimp only [dats]

theorem leaves_7 (c : Dev nD) (t : Fin cfg0.N) :
    (dats m 0 c).leavesExact 7 t = owns (c : Thread nD τ) (st0_7 t) fullShare ((dats m 0 c).after 7 t) := by
  unfold Dat.leavesExact; rw [show cfg0.idle 7 (grid0.coords t) = false from rfl]
theorem leaves_8 (c : Dev nD) (t : Fin cfg0.N) :
    (dats m 0 c).leavesExact 8 t = owns (c : Thread nD τ) (st0_8 t) fullShare ((dats m 0 c).after 8 t) := by
  unfold Dat.leavesExact; rw [show cfg0.idle 8 (grid0.coords t) = false from rfl]
theorem leaves_9 (c : Dev nD) (t : Fin cfg0.N) :
    (dats m 0 c).leavesExact 9 t = owns (c : Thread nD τ) (st0_9 t) fullShare ((dats m 0 c).after 9 t) := by
  unfold Dat.leavesExact; rw [show cfg0.idle 9 (grid0.coords t) = false from rfl]
theorem leaves_10 (c : Dev nD) (t : Fin cfg0.N) :
    (dats m 0 c).leavesExact 10 t = owns (c : Thread nD τ) (st0_10 t) fullShare ((dats m 0 c).after 10 t) := by
  unfold Dat.leavesExact; rw [show cfg0.idle 10 (grid0.coords t) = false from rfl]
theorem leaves_11 (c : Dev nD) (t : Fin cfg0.N) :
    (dats m 0 c).leavesExact 11 t = owns (c : Thread nD τ) (st0_11 t) fullShare ((dats m 0 c).after 11 t) := by
  unfold Dat.leavesExact; rw [show cfg0.idle 11 (grid0.coords t) = false from rfl]

theorem after_9 (c : Dev nD) (t : Fin cfg0.N) :
    (dats m 0 c).after 9 t = dkBlk (grid0.coords t 1).val (iblk m c 0 t) (iblk m c 5 t) (iblk m c 1 t) (iblk m c 2 t) (iblk m c 3 t) := by
  dsimp only [dats]

theorem after_10 (c : Dev nD) (t : Fin cfg0.N) :
    (dats m 0 c).after 10 t = dvBlk (grid0.coords t 1).val (iblk m c 0 t) (iblk m c 1 t) (iblk m c 4 t) := by
  dsimp only [dats]

theorem after_11 (c : Dev nD) (t : Fin cfg0.N) :
    (dats m 0 c).after 11 t = dfBlk (grid0.coords t 1).val (iblk m c 0 t) (iblk m c 5 t) (iblk m c 1 t) (iblk m c 2 t) (iblk m c 3 t) := by
  dsimp only [dats]

theorem coord1 (t : Fin cfg0.N) : (grid0.coords t 1).val = t.val % 8 := by
  have e : (grid0.coords t 1).val = t.val / 1 % 8 := Pipeline.Grid.coords_val t 1 (by decide) rfl
  rwa [Nat.div_one] at e

theorem first_iff (t : Fin cfg0.N) :
    ((Scalar.cmpi .ne (Scalar.extui (Scalar.cmpi .eq (BitVec.ofNat 32 (grid0.coords t 1).val) 0#32) : BitVec 32) 0#32) = 1#1) ↔ t.val % 8 = 0 := by
  rw [← coord1 t]; exact first_word (grid0.coords t 1)

/-- The accumulated outputs' buffers are fresh at a head's first block only. -/
theorem fresh_7 (t : Fin cfg0.N) : cfg0.fresh 7 t.val = decide (t.val % 8 = 0) :=
  Pipeline.Cfg.fresh_tab cfg0 7 (fun n => decide (n % 8 = 0)) rfl (fun t => by
    rw [show cfg0.idle 7 (cfg0.grid.coords t) = false from rfl, Bool.false_and, Bool.or_false]
    rw [Bool.eq_iff_iff, flush0_7 t, decide_eq_true_iff]; omega) t.val (Nat.le_of_lt t.isLt)

theorem fresh_8 (t : Fin cfg0.N) : cfg0.fresh 8 t.val = decide (t.val % 8 = 0) :=
  Pipeline.Cfg.fresh_tab cfg0 8 (fun n => decide (n % 8 = 0)) rfl (fun t => by
    rw [show cfg0.idle 8 (cfg0.grid.coords t) = false from rfl, Bool.false_and, Bool.or_false]
    rw [Bool.eq_iff_iff, flush0_8 t, decide_eq_true_iff]; omega) t.val (Nat.le_of_lt t.isLt)

theorem before_7 (c : Dev nD) (t : Fin cfg0.N) (h : ¬ t.val % 8 = 0) (d) :
    (dats m 0 c).before 7 t d = (accQ m c (t.val - 1) (Nat.lt_of_le_of_lt (Nat.sub_le _ _) t.isLt)).1 := by
  rw [Dat.before_out_traj _ 7 rfl (fun _ _ => rfl) (fun t _ h => absurd h Bool.false_ne_true) t.val t rfl d,
    if_neg (by rw [fresh_7, decide_eq_true_iff]; exact h)]
  dsimp only [dats]

theorem before_8 (c : Dev nD) (t : Fin cfg0.N) (h : ¬ t.val % 8 = 0) (d) :
    (dats m 0 c).before 8 t d = (accQ m c (t.val - 1) (Nat.lt_of_le_of_lt (Nat.sub_le _ _) t.isLt)).2 := by
  rw [Dat.before_out_traj _ 8 rfl (fun _ _ => rfl) (fun t _ h => absurd h Bool.false_ne_true) t.val t rfl d,
    if_neg (by rw [fresh_8, decide_eq_true_iff]; exact h)]
  dsimp only [dats]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2400000 in
theorem body_sound (c : Dev nD) (t : Fin cfg0.N) :
    pre m c t ⊢ wp frame (wpE (defs₀ (F := Ideal)) Variants.none c none) Set.univ (bodyAt0 t) (fun _ => post m c t) := by
  unfold pre post bodyAt0
  simp only [before_0, leaves_0, before_1, leaves_1, before_2, leaves_2, before_3, leaves_3, before_4, leaves_4, before_5, leaves_5, before_6, leaves_6, leaves_7, leaves_8, leaves_9, leaves_10, leaves_11]
  rw [show (dats m 0 c).Φ t.succ = (dats m 0 c).Φ t.castSucc from rfl,
    show (dats m 0 c).owesAt () t.succ = (dats m 0 c).owesAt () t.castSucc from rfl]
  by_cases h : t.val % 8 = 0
  · have e7 : (dats m 0 c).after 7 t = (addQ m c t (fun _ => 0, fun _ => 0)).1 := by dsimp only [dats]; rw [accQ_first m c t h]
    have e8 : (dats m 0 c).after 8 t = (addQ m c t (fun _ => 0, fun _ => 0)).2 := by dsimp only [dats]; rw [accQ_first m c t h]
    rw [e7, e8, after_9 m c t, after_10 m c t, after_11 m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_A c (grid0.coords t) _ _ _ _ _ _ _ _ _ _ _ _ _ _ _ _ _ _ _ _ _ _ _ _ (iblk m c 0 t) (iblk m c 5 t) (iblk m c 1 t) (iblk m c 2 t) (iblk m c 3 t) (iblk m c 4 t) (iblk m c 6 t) ((first_iff t).mpr h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

  · have e7 : (dats m 0 c).after 7 t = (addQ m c t (accQ m c (t.val - 1) (Nat.lt_of_le_of_lt (Nat.sub_le _ _) t.isLt))).1 := by dsimp only [dats]; rw [accQ_next m c t h]
    have e8 : (dats m 0 c).after 8 t = (addQ m c t (accQ m c (t.val - 1) (Nat.lt_of_le_of_lt (Nat.sub_le _ _) t.isLt))).2 := by dsimp only [dats]; rw [accQ_next m c t h]
    rw [e7, e8, after_9 m c t, after_10 m c t, after_11 m c t]
    simp only [before_7 m c t h, before_8 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_B c (grid0.coords t) _ _ _ _ _ _ _ _ _ _ _ _ _ _ _ _ _ _ _ _ _ _ _ _ (iblk m c 0 t) (iblk m c 5 t) (iblk m c 1 t) (iblk m c 2 t) (iblk m c 3 t) (iblk m c 4 t) (iblk m c 6 t) (fun hh => h ((first_iff t).mp hh)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row]
  exact triple_restated (body_sound m c t) rfl .rfl fun _ => .rfl

set_option backward.isDefEq.respectTransparency.types false in
/-- The program runs to its end with every array at what the data says and every counter at zero. -/
theorem run_main : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program over real values runs to its end, leaves its arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  exact ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

end Cert.Proof
end
-- ==== Proof.Frames.lean ====
/- The frames of the reference, and the claim that the two programs differ in the named constant alone. -/
module

public import proofs.«01_k».proof.Defs
public import proofs.«01_k».proof.Proof.Gen.ReferenceIdeal.Run
public import proofs.«01_k».proof.Proof.Launched.Frame
public import proofs.«01_k».proof.Proof.Outs
public import Idealize.ShloMosaic.Lib.Quiescent

@[expose] public section
noncomputable section
namespace Cert.Proof
open Idealize.ShloMosaic Idealize.ShloMosaic.TcCoe Idealize.SL.Sem

theorem frame_reference (m) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

end Cert.Proof
end
-- ==== Proof.Model.lean ====
/- The gradient of the forgetting attention over the reals, and one block of the kernel as sums of it. `q`, `k`, `v`, `d`
   are the queries, keys, values and the output's cotangent by head and position, `F` the sums of log f, `M` any row shift
   (the row maxima, in the programs). -/
module

public import proofs.«01_k».proof.Proof.Block

@[expose] public section
noncomputable section
namespace Cert.Proof
open Cert.KernelIdeal Cert.KernelIdeal.Gen
open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

structure Data where
  q : Fin 8 → Fin 16384 → Fin 64 → ℝ
  k : Fin 8 → Fin 16384 → Fin 64 → ℝ
  v : Fin 8 → Fin 16384 → Fin 64 → ℝ
  d : Fin 8 → Fin 16384 → Fin 64 → ℝ
  F : Fin 8 → Fin 16384 → ℝ
  M : Fin 8 → Fin 16384 → ℝ

namespace Data
variable (D : Data) (h : Fin 8) (i j : Fin 16384) (a : Fin 64)

/-- The score, -/
def s : ℝ := (∑ a, D.q h i a * D.k h j a) * (1 / 8) + D.F h i - D.F h j
/-- its exponential under the mask, -/
def e : ℝ := if j.val ≤ i.val then Real.exp (D.s h i j - D.M h i) else 0
/-- the row's total, -/
def l : ℝ := ∑ j, D.e h i j
/-- the weight, -/
def p : ℝ := D.e h i j / D.l h i
/-- the cotangent of the weight, -/
def dp : ℝ := ∑ a, D.d h i a * D.v h j a
/-- the output, -/
def o : ℝ := ∑ j, D.v h j a * D.p h i j
/-- the cotangent against the output, -/
def dl : ℝ := ∑ a, D.d h i a * D.o h i a
/-- and the cotangent of the score. -/
def ds : ℝ := D.p h i j * (D.dp h i j - D.dl h i)

def dq : ℝ := ∑ j, D.k h j a * (1 / 8) * D.ds h i j
def rs : ℝ := ∑ j, D.ds h i j
def dk : ℝ := ∑ i, D.q h i a * (1 / 8) * D.ds h i j
def dv : ℝ := ∑ i, D.d h i a * D.p h i j
def dfk : ℝ := ∑ i, D.ds h i j

theorem e_nonneg : 0 ≤ D.e h i j := by
  unfold e; split
  · exact (Real.exp_pos _).le
  · exact le_rfl

theorem l_pos : 0 < D.l h i :=
  Finset.sum_pos' (fun j _ => D.e_nonneg h i j) ⟨i, Finset.mem_univ _, by unfold e; rw [if_pos le_rfl]; exact Real.exp_pos _⟩

theorem dl_eq : D.dl h i = ∑ j, D.p h i j * D.dp h i j := by
  unfold dl o dp
  simp only [Finset.mul_sum]
  rw [Finset.sum_comm]
  exact Finset.sum_congr rfl fun j _ => Finset.sum_congr rfl fun a _ => by ring

theorem p_of_lt (hij : i.val < j.val) : D.p h i j = 0 := by
  unfold p e; rw [if_neg (by omega), zero_div]

/-- The cotangent of the score as the softmax's rule writes it. -/
theorem ds_eq : (D.dp h i j * (1 / D.l h i) + -∑ k, D.dp h i k * (1 / (D.l h i * D.l h i)) * D.e h i k) * D.e h i j = D.ds h i j := by
  have hl := (D.l_pos h i).ne'
  have hs : ∑ k, D.dp h i k * (1 / (D.l h i * D.l h i)) * D.e h i k = (1 / D.l h i) * D.dl h i := by
    rw [dl_eq, Finset.mul_sum]
    refine Finset.sum_congr rfl fun k _ => ?_
    unfold p; field_simp
  rw [hs]; unfold ds p; field_simp; ring

/-- One over the logarithm of two. -/
def l2 : ℝ := 1 / Real.log 2
/-- The row's log-sum. -/
def lse : ℝ := D.M h i + Real.log (D.l h i)

/-- The rows of the arrays the kernel's products run over. -/
def qa (c : Fin 128) : ℝ :=
  if hc : c.val < 64 then D.q h i ⟨c.val, hc⟩ * (1 / 8 * l2) else if c.val = 64 then D.F h i * l2 - D.lse h i * l2
  else if 67 ≤ c.val ∧ c.val < 70 then 1 else 0
def ka (c : Fin 128) : ℝ :=
  if hc : c.val < 64 then D.k h j ⟨c.val, hc⟩ else if c.val < 67 then 1 else if c.val = 67 then -(D.F h j * l2) else 0
def da (c : Fin 128) : ℝ :=
  if hc : c.val < 64 then D.d h i ⟨c.val, hc⟩ else if c.val = 64 then D.dl h i else 0
def va (c : Fin 128) : ℝ :=
  if hc : c.val < 64 then D.v h j ⟨c.val, hc⟩ else if c.val < 67 then -1 else 0

end Data

theorem sum_128 (f : Fin 128 → ℝ) : ∑ c, f c = ∑ a : Fin 64, f ⟨a.val, by omega⟩ + ∑ a : Fin 64, f ⟨64 + a.val, by omega⟩ :=
  Fin.sum_univ_add (a := 64) (b := 64) f

/-- A sum of 64 terms that are zero but at two places. -/
theorem sum_two (x y : ℝ) (n : ℕ) (hn : 0 < n) (hn' : n < 64) :
    ∑ a : Fin 64, (if a.val = 0 then x else if a.val = n then y else 0) = x + y := by
  have e : ∀ a : Fin 64, (if a.val = 0 then x else if a.val = n then y else 0) = (if a = 0 then x else 0) + (if a = ⟨n, hn'⟩ then y else 0) := by
    intro a
    simp only [Fin.ext_iff]
    show _ = (if a.val = 0 then x else 0) + _
    split_ifs <;> first | (exfalso; omega) | simp
  simp only [e, Finset.sum_add_distrib, Finset.sum_ite_eq', Finset.mem_univ, if_true]

namespace Data
variable (D : Data) (h : Fin 8) (i j : Fin 16384) (a : Fin 64)

theorem sum_qk : ∑ c, D.qa h i c * D.ka h j c = l2 * (D.s h i j - D.lse h i) := by
  rw [sum_128]
  have e1 : ∀ a : Fin 64, D.qa h i ⟨a.val, by omega⟩ * D.ka h j ⟨a.val, by omega⟩ = D.q h i a * D.k h j a * (1 / 8 * l2) := by
    intro a; unfold qa ka; simp only [a.isLt, dif_pos]; ring
  have e2 : ∀ a : Fin 64, D.qa h i ⟨64 + a.val, by omega⟩ * D.ka h j ⟨64 + a.val, by omega⟩
      = if a.val = 0 then D.F h i * l2 - D.lse h i * l2 else if a.val = 3 then -(D.F h j * l2) else 0 := by
    intro a; unfold qa ka; dsimp only
    split_ifs <;> first | (exfalso; omega) | simp
  rw [Finset.sum_congr rfl fun a _ => e1 a, Finset.sum_congr rfl fun a _ => e2 a, sum_two _ _ 3 (by decide) (by decide), ← Finset.sum_mul]
  unfold s; ring

theorem sum_dv : ∑ c, D.da h i c * D.va h j c = D.dp h i j - D.dl h i := by
  rw [sum_128]
  have e1 : ∀ a : Fin 64, D.da h i ⟨a.val, by omega⟩ * D.va h j ⟨a.val, by omega⟩ = D.d h i a * D.v h j a := by
    intro a; unfold da va; simp only [a.isLt, dif_pos]
  have e2 : ∀ a : Fin 64, D.da h i ⟨64 + a.val, by omega⟩ * D.va h j ⟨64 + a.val, by omega⟩
      = if a.val = 0 then -D.dl h i else if a.val = 1 then 0 else 0 := by
    intro a; unfold da va; dsimp only
    split_ifs <;> first | (exfalso; omega) | simp
  rw [Finset.sum_congr rfl fun a _ => e1 a, Finset.sum_congr rfl fun a _ => e2 a, sum_two _ _ 1 (by decide) (by decide)]
  unfold dp; ring

theorem rpow_l2 (x : ℝ) : Real.rpow 2 (l2 * x) = Real.exp x := by
  have hl : Real.log 2 ≠ 0 := (Real.log_pos (by norm_num)).ne'
  show (2 : ℝ) ^ (l2 * x) = _
  rw [Real.rpow_def_of_pos (by norm_num)]
  unfold l2; congr 1; field_simp

/-- The kernel's weight is the softmax's. -/
theorem rpow_sum (hij : j.val ≤ i.val) : Real.rpow 2 (∑ c, D.qa h i c * D.ka h j c) = D.p h i j := by
  rw [sum_qk, rpow_l2]
  unfold lse p e
  rw [if_pos hij, show D.s h i j - (D.M h i + Real.log (D.l h i)) = (D.s h i j - D.M h i) - Real.log (D.l h i) by ring, Real.exp_sub,
    Real.exp_log (D.l_pos h i)]

end Data

/-- The positions in their eight blocks. -/
abbrev at' (j : Fin 8) (k : Fin 2048) : Fin 16384 := ⟨2048 * j.val + k.val, by omega⟩

theorem sum_blocks (f : Fin 16384 → ℝ) : ∑ j : Fin 8, ∑ k : Fin 2048, f (at' j k) = ∑ n, f n := by
  rw [← Fintype.sum_prod_type' (f := fun j k => f (at' j k))]
  refine Fintype.sum_equiv (finProdFinEquiv (m := 8) (n := 2048)) _ _ fun x => congrArg f (Fin.ext ?_)
  show 2048 * x.1.val + x.2.val = x.2.val + 2048 * x.1.val
  omega

section
variable (D : Data) (h : Fin 8) (j : Fin 8) {x0 x5 : FVec Ideal S2048x128 .bf16} {x1 x2 : FVec Ideal S16384x128 .bf16}
  {x3 x4 : FVec Ideal S64x16384 .bf16} {x6 : FVec Ideal S64x2048 .bf16}

/-- The blocks a grid point reads are the rows of a head's block. -/
structure Reads (x0 x5 : FVec Ideal S2048x128 .bf16) (x1 x2 : FVec Ideal S16384x128 .bf16)
    (x3 x4 : FVec Ideal S64x16384 .bf16) (x6 : FVec Ideal S64x2048 .bf16) : Prop where
  ka : ∀ k c, x0 (ix2 k c) = (D.ka h (at' j k) c : EReal)
  va : ∀ k c, x5 (ix2 k c) = (D.va h (at' j k) c : EReal)
  qa : ∀ i c, x1 (ix2 i c) = (D.qa h i c : EReal)
  da : ∀ i c, x2 (ix2 i c) = (D.da h i c : EReal)
  qt : ∀ a i, x3 (ix2 a i) = (D.q h i a * (1 / 8) : ℝ)
  dt : ∀ a i, x4 (ix2 a i) = (D.d h i a : EReal)
  kt : ∀ a k, x6 (ix2 a k) = (D.k h (at' j k) a * (1 / 8) : ℝ)

variable {D h j} (r : Reads D h j x0 x5 x1 x2 x3 x4 x6)
include r

theorem P_real (i : Fin 16384) (k : Fin 2048) : P j.val x0 x1 i k = (D.p h i (at' j k) : EReal) := by
  unfold P
  simp only [r.qa, r.ka, ← EReal.coe_mul, coe_sum, Ideal.exp2_coe]
  split
  next hc => rw [D.rpow_sum h i (at' j k) hc]
  next hc => rw [D.p_of_lt h i (at' j k) (by show i.val < 2048 * j.val + k.val; omega)]; rfl

theorem DS_real (i : Fin 16384) (k : Fin 2048) : DS j.val x0 x5 x1 x2 i k = (D.ds h i (at' j k) : EReal) := by
  unfold DS
  rw [P_real r]
  simp only [r.da, r.va, ← EReal.coe_mul, coe_sum]
  rw [D.sum_dv]; rfl

theorem DQ_real (a : Fin 64) (i : Fin 16384) :
    DQ j.val x0 x5 x1 x2 x6 ⟨a.val, by omega⟩ i = ((∑ k : Fin 2048, D.k h (at' j k) a * (1 / 8) * D.ds h i (at' j k) : ℝ) : EReal) := by
  unfold DQ
  rw [← coe_sum]
  refine Finset.sum_congr rfl fun k _ => ?_
  rw [DS_real r, EReal.coe_mul]
  unfold aug
  rw [dif_pos a.isLt]
  exact congrArg (· * _) (r.kt a k)

theorem DQ_real_64 (i : Fin 16384) :
    DQ j.val x0 x5 x1 x2 x6 64 i = ((∑ k : Fin 2048, D.ds h i (at' j k) : ℝ) : EReal) := by
  unfold DQ
  rw [← coe_sum]
  refine Finset.sum_congr rfl fun k _ => ?_
  rw [DS_real r]
  unfold aug
  rw [dif_neg (by decide), if_pos (by decide), one_mul]

theorem DQ_real_rest (b : Fin 80) (hb : 64 < b.val) (i : Fin 16384) : DQ j.val x0 x5 x1 x2 x6 b i = 0 := by
  unfold DQ
  refine Finset.sum_eq_zero fun k _ => ?_
  unfold aug
  rw [dif_neg (by omega), if_neg (by omega), zero_mul]

theorem dk_real (a : Fin 64) (k : Fin 2048) : dkBlk j.val x0 x5 x1 x2 x3 (ix2 a k) = (D.dk h (at' j k) a : EReal) := by
  show accK j.val x0 x5 x1 x2 x3 16384 ⟨a.val, by omega⟩ k = _
  unfold accK Data.dk
  rw [below_all, ← coe_sum]
  refine Finset.sum_congr rfl fun i _ => ?_
  rw [DS_real r, EReal.coe_mul]
  unfold aug
  rw [dif_pos a.isLt]
  exact congrArg (· * _) (r.qt a i)

theorem dv_real (a : Fin 64) (k : Fin 2048) : dvBlk j.val x0 x1 x4 (ix2 a k) = (D.dv h (at' j k) a : EReal) := by
  show accV j.val x0 x1 x4 16384 a k = _
  unfold accV Data.dv
  rw [below_all, ← coe_sum]
  refine Finset.sum_congr rfl fun i _ => ?_
  rw [P_real r, EReal.coe_mul, r.dt]

theorem df_real (k : Fin 2048) : dfBlk j.val x0 x5 x1 x2 x3 (ix3 0 0 k) = (D.dfk h (at' j k) : EReal) := by
  show accK j.val x0 x5 x1 x2 x3 16384 64 k = _
  unfold accK Data.dfk
  rw [below_all, ← coe_sum]
  refine Finset.sum_congr rfl fun i _ => ?_
  rw [DS_real r]
  unfold aug
  rw [dif_neg (by decide), if_pos (by decide), one_mul]

end
end Cert.Proof
end
-- ==== Proof.Base.lean ====
/- The programs' own numbers as the reals' data: finite arguments give real sums of log f, real scores under the mask, real
   row maxima, exponentials and totals. -/
module

public import proofs.«01_k».proof.Proof.Model
public import proofs.«01_k».proof.Proof.Gen.ReferenceIdeal.Read
public import Idealize.ShloMosaic.Lib.Pointwise
public import Idealize.ShloMosaic.Lib.Tactic.CleanTypes

@[expose] public section
set_option maxRecDepth 65536
noncomputable section
namespace Cert.Proof
open Cert.KernelIdeal Cert.KernelIdeal.Gen Cert.ReferenceIdeal.Read
open Idealize.ShloMosaic

abbrev Arr := FVec Ideal S16384x512 .f32
abbrev Arr8 := FVec Ideal S16384x8 .f32

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- Every element is a real. -/
def Real' {s : Shape} {φ : FTy} (x : FVec Ideal s φ) : Prop := ∀ i, x i = ((x i).toReal : EReal)

theorem Real'.of_lt {x : EReal} (h : max x (-x) < ⊤) : x = (x.toReal : EReal) := by
  refine (EReal.coe_toReal ?_ ?_).symm
  · rintro rfl; simp at h
  · rintro rfl; simp at h

theorem foldl_real {α : Type} (f : α → EReal) (hf : ∀ a, ∃ r : ℝ, f a = r) (l : List α) (r : EReal) (hr : ∃ r' : ℝ, r = r') :
    ∃ r' : ℝ, l.foldl (fun r a => r + f a) r = r' := by
  induction l generalizing r with
  | nil => exact hr
  | cons a l ih =>
    obtain ⟨x, rfl⟩ := hr
    obtain ⟨y, hy⟩ := hf a
    exact ih _ ⟨x + y, by show (x : EReal) + f a = _; rw [hy]; rfl⟩

theorem fold_max_real {n : ℕ} (f : Fin n → EReal) (i : Fin n) {r : ℝ} (hi : f i = r) (ht : ∀ k, f k ≠ ⊤) :
    ∃ r' : ℝ, Finset.fold max ⊥ f Finset.univ = r' := by
  have e : Finset.fold max ⊥ f Finset.univ = Finset.univ.sup f := rfl
  rw [e]
  refine ⟨(Finset.univ.sup f).toReal, (EReal.coe_toReal ?_ ?_).symm⟩
  · exact ((Finset.sup_lt_iff bot_lt_top).2 fun k _ => lt_top_iff_ne_top.2 (ht k)).ne
  · intro hb
    have := Finset.le_sup (f := f) (Finset.mem_univ i)
    rw [hb, hi] at this
    exact EReal.coe_ne_bot r (le_bot_iff.1 this)

/-- The running sums of reals are reals. -/
theorem real_F (x3 : Arr8) (h : Real' x3) (hd : Fin 8) (i : Fin 16384) :
    val_main_v5 (F := Ideal) x3 (ix2 hd i) = ((val_main_v5 (F := Ideal) x3 (ix2 hd i)).toReal : EReal) := by
  suffices hr : ∃ r : ℝ, val_main_v5 (F := Ideal) x3 (ix2 hd i) = r by
    obtain ⟨r, hr⟩ := hr; rw [hr]; rfl
  rw [val_main_v5_apply]
  generalize idx_main_v5 (ix2 hd i) = y
  have hz : (val_main_call0_call0_v0 (F := Ideal)) (Shape.Idx.first h_S_) = 0 := by
    rw [val_main_call0_call0_v0_apply, val_main_call0_call0_cst_apply]; exact Ideal.ofBits_zero_f32
  unfold val_main_v4 Host.reduceWindowAdd
  rw [hz, Ideal.hostReduceWindowAdd_def]
  unfold Ideal.hostReduceWindowAdd Host.reduceWindow
  refine foldl_real _ (fun n => ?_) _ _ ⟨0, rfl⟩
  split
  · exact ⟨_, h _⟩
  · exact ⟨0, rfl⟩

section
variable (x0 x1 x2 : Arr) (x3 : Arr8) (x4 : Arr)

/-- The reals the arguments make. -/
def dat : Data where
  q h i a := (val_main_v0 (F := Ideal) x0 (ix3 i h a)).toReal
  k h i a := (val_main_v1 (F := Ideal) x1 (ix3 i h a)).toReal
  v h i a := (val_main_v2 (F := Ideal) x2 (ix3 i h a)).toReal
  d h i a := (val_main_v3 (F := Ideal) x4 (ix3 i h a)).toReal
  F h i := (val_main_v5 (F := Ideal) x3 (ix2 h i)).toReal
  M h i := (val_main_v23 (F := Ideal) x0 x1 x3 (ix2 h i)).toReal

/-- The arguments are real. -/
structure Reals : Prop where
  x0 : Real' x0
  x1 : Real' x1
  x2 : Real' x2
  x3 : Real' x3
  x4 : Real' x4

variable {x0 x1 x2 x3 x4} (R : Reals x0 x1 x2 x3 x4)
include R

theorem q_at (h : Fin 8) (i : Fin 16384) (a : Fin 64) : val_main_v0 (F := Ideal) x0 (ix3 i h a) = ((dat x0 x1 x2 x3 x4).q h i a : EReal) := by
  unfold dat; dsimp only; rw [val_main_v0_apply]; exact R.x0 _
theorem k_at (h : Fin 8) (i : Fin 16384) (a : Fin 64) : val_main_v1 (F := Ideal) x1 (ix3 i h a) = ((dat x0 x1 x2 x3 x4).k h i a : EReal) := by
  unfold dat; dsimp only; rw [val_main_v1_apply]; exact R.x1 _
theorem v_at (h : Fin 8) (i : Fin 16384) (a : Fin 64) : val_main_v2 (F := Ideal) x2 (ix3 i h a) = ((dat x0 x1 x2 x3 x4).v h i a : EReal) := by
  unfold dat; dsimp only; rw [val_main_v2_apply]; exact R.x2 _
theorem d_at (h : Fin 8) (i : Fin 16384) (a : Fin 64) : val_main_v3 (F := Ideal) x4 (ix3 i h a) = ((dat x0 x1 x2 x3 x4).d h i a : EReal) := by
  unfold dat; dsimp only; rw [val_main_v3_apply]; exact R.x4 _
theorem F_at (h : Fin 8) (i : Fin 16384) : val_main_v5 (F := Ideal) x3 (ix2 h i) = ((dat x0 x1 x2 x3 x4).F h i : EReal) := by
  unfold dat; dsimp only; exact real_F x3 R.x3 h i

/-- The score under the mask. -/
theorem s_at (h : Fin 8) (i j : Fin 16384) : val_main_v22_0 (F := Ideal) x0 x1 x3 (ix3 h i j)
    = if j.val ≤ i.val then (((dat x0 x1 x2 x3 x4).s h i j : ℝ) : EReal) else ⊥ := by
  pointwise [val_main_v22_0, val_main_v22_1, val_main_v14, val_main_v13, val_main_v12, val_main_v11, val_main_v10, val_main_v9, val_main_v8, val_main_v7, val_main_cst, val_main_v6, val_main_v15, val_main_v16, val_main_v17, val_main_v18, val_main_v19, val_main_v20, val_main_v21, val_main_call1_v2, val_main_call1_v0, val_main_cst_0]
  rw [Idealize.ShloMosaic.WordCmp.cmpi_sle_ofNat (by omega) (by omega), Idealize.ShloMosaic.WordCmp.select_ofBool]
  simp only [q_at R, k_at R, F_at R, ofBits_eighth, ← EReal.coe_mul, coe_sum, ← EReal.coe_add, ← EReal.coe_sub, decide_eq_true_eq]
  refine if_congr Iff.rfl rfl ?_
  exact ofBits_bot

theorem s_at_self (h : Fin 8) (i : Fin 16384) : val_main_v22_0 (F := Ideal) x0 x1 x3 (ix3 h i i) = (((dat x0 x1 x2 x3 x4).s h i i : ℝ) : EReal) := by
  rw [s_at R, if_pos le_rfl]

theorem M_at (h : Fin 8) (i : Fin 16384) : val_main_v23 (F := Ideal) x0 x1 x3 (ix2 h i) = ((dat x0 x1 x2 x3 x4).M h i : EReal) := by
  suffices hr : ∃ r : ℝ, val_main_v23 (F := Ideal) x0 x1 x3 (ix2 h i) = r by
    unfold dat; dsimp only; obtain ⟨r, hr⟩ := hr; rw [hr]; rfl
  unfold val_main_v23
  clean_types
  pointwise [val_main_cst_1]
  rw [ofBits_bot]
  refine fold_max_real _ i (s_at_self R h i) fun j => ?_
  rw [s_at R]
  split
  · exact EReal.coe_ne_top _
  · exact bot_ne_top

/-- The exponential of a score under the mask. -/
theorem exp_s (h : Fin 8) (i j : Fin 16384) :
    Ideal.exp ((if j.val ≤ i.val then (((dat x0 x1 x2 x3 x4).s h i j : ℝ) : EReal) else ⊥) - ((dat x0 x1 x2 x3 x4).M h i : EReal))
      = ((dat x0 x1 x2 x3 x4).e h i j : EReal) := by
  unfold Data.e
  split
  · rw [← EReal.coe_sub, Ideal.exp_coe]
  · rw [EReal.bot_sub, Ideal.exp_bot]; rfl

end
end Cert.Proof
end
-- ==== Proof.Terms.lean ====
/- What the host makes of the arguments for the kernel, as terms. The lines it shares with the reference are the
   reference's values. -/
module

public import proofs.«01_k».proof.Proof.Base

@[expose] public section
set_option maxRecDepth 16384
noncomputable section
namespace Cert.Proof
open Cert.KernelIdeal Cert.KernelIdeal.Gen Cert.ReferenceIdeal.Read
open Idealize.ShloMosaic

/-- The row maxima, a column. -/
def hM (x0 x1 : Arr) (x3 : Arr8) : FVec Ideal S8x16384x1 .f32 :=
  broadcastInDim S8x16384x1 ![0, 1] bcast_S8x16384_S8x16384x1_0_1 (val_main_v23 (F := Ideal) x0 x1 x3)

/-- The exponentials, -/
def hE (x0 x1 : Arr) (x3 : Arr8) : FVec Ideal S8x16384x16384 .f32 :=
  Host.exp (subf (val_main_v22_0 (F := Ideal) x0 x1 x3) (broadcastInDim S8x16384x16384 ![0, 1, 2] bcast_S8x16384x1_S8x16384x16384_0_1_2 (hM x0 x1 x3)))

/-- their sums over each row, -/
def hL (x0 x1 : Arr) (x3 : Arr8) : FVec Ideal S8x16384x1 .f32 :=
  broadcastInDim S8x16384x1 ![0, 1] bcast_S8x16384_S8x16384x1_0_1 (Host.reduceAdd (hE x0 x1 x3) (constant S_ .f32 0x00000000#32) reducesTo_S8x16384x16384_S8x16384_d2 h_S_)

/-- the weights, -/
def hP (x0 x1 : Arr) (x3 : Arr8) : FVec Ideal S8x16384x16384 .f32 :=
  Host.divf (hE x0 x1 x3) (broadcastInDim S8x16384x16384 ![0, 1, 2] bcast_S8x16384x1_S8x16384x16384_0_1_2 (hL x0 x1 x3))

/-- and the output. -/
def hO (x0 x1 x2 : Arr) (x3 : Arr8) : FVec Ideal S16384x8x64 .f32 :=
  transpose S16384x8x64 [2, 0, 1] (Host.dotGeneral (F := Ideal) (φ₁ := .f32) (φ₂ := .f32) dot_S16384x8x64_S8x16384x16384_S8x64x16384_0_2_2_1_1_0 none (val_main_v2 (F := Ideal) x2) (hP x0 x1 x3)) transposes_S8x64x16384_S16384x8x64_2_0_1

/-- The sums of log f, a row per query, -/
def hF (x3 : Arr8) : Arr8 := transpose S16384x8 [1, 0] (val_main_v5 (F := Ideal) x3) transposes_S8x16384_S16384x8_1_0

/-- and each row's log-sum. -/
def hLse (x0 x1 : Arr) (x3 : Arr8) : Arr8 :=
  transpose S16384x8 [1, 0] (shapeCast S8x16384 (addf (hM x0 x1 x3) (Host.log (hL x0 x1 x3))) shapeCasts_S8x16384x1_S8x16384) transposes_S8x16384_S16384x8_1_0

def hLog2e : FVec Ideal S_ .f32 := Host.divf (constant S_ .f32 0x3F800000#32) (Host.log (constant S_ .f32 0x40000000#32))

/-- An array as the sum of three pieces. -/
def split3 (x : FVec Ideal S16384x8x1 .f32) : FVec Ideal S16384x8x3 .bf16 :=
  concatenate S16384x8x3 2
    [⟨S16384x8x1, (truncf .bf16 x bitsLt_bf16_f32 : FVec Ideal S16384x8x1 .bf16)⟩,
     ⟨S16384x8x1, (truncf .bf16 (subf x (extf .f32 (truncf .bf16 x bitsLt_bf16_f32) bitsLt_bf16_f32)) bitsLt_bf16_f32 : FVec Ideal S16384x8x1 .bf16)⟩,
     ⟨S16384x8x1, (truncf .bf16 (subf (subf x (extf .f32 (truncf .bf16 x bitsLt_bf16_f32) bitsLt_bf16_f32))
        (extf .f32 (truncf .bf16 (subf x (extf .f32 (truncf .bf16 x bitsLt_bf16_f32) bitsLt_bf16_f32)) bitsLt_bf16_f32) bitsLt_bf16_f32)) bitsLt_bf16_f32 : FVec Ideal S16384x8x1 .bf16)⟩]
    concatenates_S16384x8x1_S16384x8x1_S16384x8x1_S16384x8x3_d2

def hFq (x0 x1 : Arr) (x3 : Arr8) : FVec Ideal S16384x8x1 .f32 :=
  broadcastInDim S16384x8x1 ![0, 1] bcast_S16384x8_S16384x8x1_0_1
    (subf (mulf (hF x3) (broadcastInDim S16384x8 ![] bcast_S_S16384x8 hLog2e)) (mulf (hLse x0 x1 x3) (broadcastInDim S16384x8 ![] bcast_S_S16384x8 hLog2e)))

def hFk (x3 : Arr8) : FVec Ideal S16384x8x1 .f32 :=
  broadcastInDim S16384x8x1 ![0, 1] bcast_S16384x8_S16384x8x1_0_1 (mulf (hF x3) (broadcastInDim S16384x8 ![] bcast_S_S16384x8 hLog2e))

def hDelta (x0 x1 x2 : Arr) (x3 : Arr8) (x4 : Arr) : FVec Ideal S16384x8x1 .f32 :=
  broadcastInDim S16384x8x1 ![0, 1] bcast_S16384x8_S16384x8x1_0_1
    (Host.reduceAdd (mulf (val_main_v3 (F := Ideal) x4) (hO x0 x1 x2 x3)) (constant S_ .f32 0x00000000#32) reducesTo_S16384x8x64_S16384x8_d2 h_S_)

def hOnes : FVec Ideal S16384x8x3 .bf16 := broadcastInDim S16384x8x3 ![] bcast_S_S16384x8x3 (constant (F := Ideal) S_ .bf16 0x3F80#16)
def hZ58 : FVec Ideal S16384x8x58 .bf16 := broadcastInDim S16384x8x58 ![] bcast_S_S16384x8x58 (constant (F := Ideal) S_ .bf16 0x0000#16)
def hZ61 : FVec Ideal S16384x8x61 .bf16 := broadcastInDim S16384x8x61 ![] bcast_S_S16384x8x61 (constant (F := Ideal) S_ .bf16 0x0000#16)

def hQ (x0 x1 : Arr) (x3 : Arr8) : FVec Ideal S16384x8x128 .bf16 :=
  concatenate S16384x8x128 2
    [⟨S16384x8x64, (truncf .bf16 (mulf (val_main_v0 (F := Ideal) x0) (broadcastInDim S16384x8x64 ![] bcast_S_S16384x8x64 (mulf (constant S_ .f32 0x3E000000#32) hLog2e))) bitsLt_bf16_f32 : FVec Ideal S16384x8x64 .bf16)⟩,
     ⟨S16384x8x3, split3 (hFq x0 x1 x3)⟩, ⟨S16384x8x3, hOnes⟩, ⟨S16384x8x58, hZ58⟩]
    concatenates_S16384x8x64_S16384x8x3_S16384x8x3_S16384x8x58_S16384x8x128_d2

def hK (x1 : Arr) (x3 : Arr8) : FVec Ideal S16384x8x128 .bf16 :=
  concatenate S16384x8x128 2
    [⟨S16384x8x64, (truncf .bf16 (val_main_v1 (F := Ideal) x1) bitsLt_bf16_f32 : FVec Ideal S16384x8x64 .bf16)⟩,
     ⟨S16384x8x3, hOnes⟩, ⟨S16384x8x3, Host.negf (split3 (hFk x3))⟩, ⟨S16384x8x58, hZ58⟩]
    concatenates_S16384x8x64_S16384x8x3_S16384x8x3_S16384x8x58_S16384x8x128_d2

def hV (x2 : Arr) : FVec Ideal S16384x8x128 .bf16 :=
  concatenate S16384x8x128 2
    [⟨S16384x8x64, (truncf .bf16 (val_main_v2 (F := Ideal) x2) bitsLt_bf16_f32 : FVec Ideal S16384x8x64 .bf16)⟩,
     ⟨S16384x8x3, Host.negf hOnes⟩, ⟨S16384x8x61, hZ61⟩]
    concatenates_S16384x8x64_S16384x8x3_S16384x8x61_S16384x8x128_d2

def hD (x0 x1 x2 : Arr) (x3 : Arr8) (x4 : Arr) : FVec Ideal S16384x8x128 .bf16 :=
  concatenate S16384x8x128 2
    [⟨S16384x8x64, (truncf .bf16 (val_main_v3 (F := Ideal) x4) bitsLt_bf16_f32 : FVec Ideal S16384x8x64 .bf16)⟩,
     ⟨S16384x8x3, split3 (hDelta x0 x1 x2 x3 x4)⟩, ⟨S16384x8x61, hZ61⟩]
    concatenates_S16384x8x64_S16384x8x3_S16384x8x61_S16384x8x128_d2

/-- An argument times an eighth, turned. -/
def eighthT (y : FVec Ideal S16384x8x64 .f32) : FVec Ideal S512x16384 .bf16 :=
  transpose S512x16384 [1, 0] (shapeCast S16384x512 (truncf .bf16 (mulf y (broadcastInDim S16384x8x64 ![] bcast_S_S16384x8x64 (constant S_ .f32 0x3E000000#32))) bitsLt_bf16_f32 : FVec Ideal S16384x8x64 .bf16) shapeCasts_S16384x8x64_S16384x512) transposes_S16384x512_S512x16384_1_0

/-- An argument turned. -/
def turned (y : FVec Ideal S16384x8x64 .f32) : FVec Ideal S512x16384 .bf16 :=
  transpose S512x16384 [1, 0] (shapeCast S16384x512 (truncf .bf16 y bitsLt_bf16_f32 : FVec Ideal S16384x8x64 .bf16) shapeCasts_S16384x8x64_S16384x512) transposes_S16384x512_S512x16384_1_0

end Cert.Proof
end
-- ==== Proof.Host.lean ====
/- The host leaves the terms of Terms.lean in its buffers and in the launch's arrays. -/
module

public import proofs.«01_k».proof.Proof.Gen.KernelIdeal.Frame
public import proofs.«01_k».proof.Proof.Terms
public import Idealize.ShloMosaic.Lib.StableHlo.RunRead

@[expose] public section
set_option maxRecDepth 16384
noncomputable section
namespace Cert.Proof
open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev aq : Arr := m ((c : Thread nD τ).loc main_arg0)
abbrev ak : Arr := m ((c : Thread nD τ).loc main_arg1)
abbrev av : Arr := m ((c : Thread nD τ).loc main_arg2)
abbrev ag : Arr8 := m ((c : Thread nD τ).loc main_arg3)
abbrev ad : Arr := m ((c : Thread nD τ).loc main_arg4)

set_option maxHeartbeats 4000000 in
theorem V_qt : V m c main_v102 = eighthT (val_main_v0 (F := Ideal) (aq m c)) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_kt : V m c main_v107 = eighthT (val_main_v1 (F := Ideal) (ak m c)) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_dt : V m c main_v110 = turned (val_main_v3 (F := Ideal) (ad m c)) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_va : V m c main_v93 = shapeCast S16384x1024 (hV (av m c)) shapeCasts_S16384x8x128_S16384x1024 := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_ka : V m c main_v88 = shapeCast S16384x1024 (hK (ak m c) (ag m c)) shapeCasts_S16384x8x128_S16384x1024 := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_s : V m c main_v22 = val_main_v22_0 (F := Ideal) (aq m c) (ak m c) (ag m c) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_M : V m c main_v24 = hM (aq m c) (ak m c) (ag m c) := by
  unfold hM val_main_v23; rw [← V_s m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_E : V m c main_v27 = hE (aq m c) (ak m c) (ag m c) := by
  unfold hE; rw [← V_s m c, ← V_M m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp

set_option maxHeartbeats 4000000 in
theorem V_L : V m c main_v29 = hL (aq m c) (ak m c) (ag m c) := by
  unfold hL; rw [← V_E m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp

set_option maxHeartbeats 4000000 in
theorem V_O : V m c main_v33 = hO (aq m c) (ak m c) (av m c) (ag m c) := by
  unfold hO hP; rw [← V_E m c, ← V_L m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_F : V m c main_v34 = hF (ag m c) := by
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_Lse : V m c main_v38 = hLse (aq m c) (ak m c) (ag m c) := by
  unfold hLse; rw [← V_M m c, ← V_L m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_Fq : V m c main_v48 = hFq (aq m c) (ak m c) (ag m c) := by
  unfold hFq hLog2e; rw [← V_F m c, ← V_Lse m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp

set_option maxHeartbeats 4000000 in
theorem V_Delta : V m c main_v70 = hDelta (aq m c) (ak m c) (av m c) (ag m c) (ad m c) := by
  unfold hDelta; rw [← V_O m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_qa : V m c main_v84 = shapeCast S16384x1024 (hQ (aq m c) (ak m c) (ag m c)) shapeCasts_S16384x8x128_S16384x1024 := by
  unfold hQ split3 hOnes hZ58 hLog2e; rw [← V_Fq m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

set_option maxHeartbeats 4000000 in
theorem V_da : V m c main_v97 = shapeCast S16384x1024 (hD (aq m c) (ak m c) (av m c) (ag m c) (ad m c)) shapeCasts_S16384x8x128_S16384x1024 := by
  unfold hD split3 hZ61; rw [← V_Delta m c]
  unfold V
  simp only [hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_reads_simp
  rfl

end Cert.Proof
end
-- ==== Proof.Lanes.lean ====
/- The host's terms at an index: the reals' rows that the kernel's products run over. -/
module

public import proofs.«01_k».proof.Proof.Terms

@[expose] public section
set_option maxRecDepth 65536
noncomputable section
namespace Cert.Proof
open Cert.KernelIdeal Cert.KernelIdeal.Gen Cert.ReferenceIdeal.Read
open Idealize.ShloMosaic

theorem hLog2e_at : hLog2e ix0 = (Data.l2 : EReal) := by
  pointwise [hLog2e]
  rw [ofBits_two, Ideal.log_coe, if_neg (by norm_num), Ideal.div_coe (Real.log_pos (by norm_num)).ne', one_mul]; rfl

theorem split3_at (x : FVec Ideal S16384x8x1 .f32) (i : Fin 16384) (h : Fin 8) (b : Fin 3) (r : ℝ) (hx : x (ix3 i h 0) = r) :
    split3 x (ix3 i h b) = ((if b.val = 0 then r else 0 : ℝ) : EReal) := by
  pointwise [split3]
  fin_vals b with hb
  all_goals simp only [hb, Nat.reduceSub, Nat.reduceLT, ↓reduceDIte, ↓reduceIte]
  · exact hx
  · have e : x (ix3 i h ⟨0, by decide⟩) = r := hx
    rw [e, ← EReal.coe_sub, sub_self]; rfl
  · have e : x (ix3 i h ⟨0, by decide⟩) = r := hx
    rw [e, ← EReal.coe_sub, sub_self, ← EReal.coe_sub, sub_self]; rfl

theorem hOnes_at (y : S16384x8x3.Idx) : hOnes y = 1 := Ideal.ofBits_one_bf16

theorem hZ58_at (y : S16384x8x58.Idx) : hZ58 y = 0 := Ideal.ofBits_zero_bf16

section
variable {x0 x1 x2 : Arr} {x3 : Arr8} {x4 : Arr} (R : Reals x0 x1 x2 x3 x4)
include R

theorem hM_at (h : Fin 8) (i : Fin 16384) : hM x0 x1 x3 (ix3 h i 0) = ((dat x0 x1 x2 x3 x4).M h i : EReal) := by
  rw [← M_at R]
  pointwise [hM]

theorem hE_at (h : Fin 8) (i j : Fin 16384) : hE x0 x1 x3 (ix3 h i j) = ((dat x0 x1 x2 x3 x4).e h i j : EReal) := by
  rw [← exp_s R, ← hM_at R, ← s_at R]
  pointwise [hE]

theorem hL_at (h : Fin 8) (i : Fin 16384) : hL x0 x1 x3 (ix3 h i 0) = ((dat x0 x1 x2 x3 x4).l h i : EReal) := by
  pointwise [hL]
  simp only [hE_at R, coe_sum]; rfl

theorem hP_at (h : Fin 8) (i j : Fin 16384) : hP x0 x1 x3 (ix3 h i j) = ((dat x0 x1 x2 x3 x4).p h i j : EReal) := by
  pointwise [hP]
  rw [hE_at R, hL_at R, Ideal.div_coe (Data.l_pos _ h i).ne', ← EReal.coe_mul, mul_one_div]; rfl

theorem hO_at (h : Fin 8) (i : Fin 16384) (a : Fin 64) : hO x0 x1 x2 x3 (ix3 i h a) = ((dat x0 x1 x2 x3 x4).o h i a : EReal) := by
  pointwise [hO]
  simp only [v_at R, hP_at R, ← EReal.coe_mul, coe_sum]; rfl

theorem hF_at (h : Fin 8) (i : Fin 16384) : hF x3 (ix2 i h) = ((dat x0 x1 x2 x3 x4).F h i : EReal) := by
  rw [← F_at R]
  pointwise [hF]

omit R in
theorem lse_cast (y : FVec Ideal S8x16384x1 .f32) (h : Fin 8) (i : Fin 16384) :
    shapeCast S8x16384 y shapeCasts_S8x16384x1_S8x16384 (ix2 h i) = y (ix3 h i 0) :=
  shapeCast_apply y shapeCasts_S8x16384x1_S8x16384 (ix2 h i) (ix3 h i 0) (by
    rewrite [Shape.rowMajor_val_two, Shape.rowMajor_val_three]
    show (h.val * 16384 + i.val) * 1 + 0 = h.val * 16384 + i.val
    omega)

omit R in
theorem lse_sum {a b : FVec Ideal S8x16384x1 .f32} {y : S8x16384x1.Idx} {r t : ℝ} (ha : a y = r) (hb : b y = t) (ht : 0 < t) :
    addf a (Host.log b) y = ((r + Real.log t : ℝ) : EReal) := by
  show a y + Ideal.log (b y) = _
  rw [ha, hb, Ideal.log_coe, if_neg ht.not_ge, ← EReal.coe_add]

theorem hLse_at (h : Fin 8) (i : Fin 16384) : hLse x0 x1 x3 (ix2 i h) = ((dat x0 x1 x2 x3 x4).lse h i : EReal) := by
  have key : ∀ y : FVec Ideal S8x16384 .f32, transpose S16384x8 [1, 0] y transposes_S8x16384_S16384x8_1_0 (ix2 i h) = y (ix2 h i) := by
    intro y; pointwise []
  unfold hLse
  refine (key _).trans ((lse_cast _ h i).trans ?_)
  refine (lse_sum (hM_at R h i) (hL_at R h i) (Data.l_pos _ h i)).trans ?_
  unfold Data.lse; rfl

theorem hFq_at (h : Fin 8) (i : Fin 16384) : hFq x0 x1 x3 (ix3 i h 0)
    = (((dat x0 x1 x2 x3 x4).F h i * Data.l2 - (dat x0 x1 x2 x3 x4).lse h i * Data.l2 : ℝ) : EReal) := by
  have key : ∀ f y : Arr8, (broadcastInDim S16384x8x1 ![0, 1] bcast_S16384x8_S16384x8x1_0_1
      (subf (mulf f (broadcastInDim S16384x8 ![] bcast_S_S16384x8 hLog2e)) (mulf y (broadcastInDim S16384x8 ![] bcast_S_S16384x8 hLog2e)))
        : FVec Ideal S16384x8x1 .f32) (ix3 i h 0) = f (ix2 i h) * hLog2e ix0 - y (ix2 i h) * hLog2e ix0 := by intro f y; pointwise []
  unfold hFq
  refine (key _ _).trans ?_
  rw [hF_at R, hLse_at R, hLog2e_at, ← EReal.coe_mul, ← EReal.coe_mul, ← EReal.coe_sub]

theorem hFk_at (h : Fin 8) (i : Fin 16384) : hFk x3 (ix3 i h 0) = (((dat x0 x1 x2 x3 x4).F h i * Data.l2 : ℝ) : EReal) := by
  pointwise [hFk]
  rw [hF_at R, hLog2e_at, ← EReal.coe_mul]

theorem hDelta_at (h : Fin 8) (i : Fin 16384) : hDelta x0 x1 x2 x3 x4 (ix3 i h 0) = ((dat x0 x1 x2 x3 x4).dl h i : EReal) := by
  pointwise [hDelta]
  simp only [d_at R, hO_at R, ← EReal.coe_mul, coe_sum]; rfl

theorem hQ_at (h : Fin 8) (i : Fin 16384) (c : Fin 128) : hQ x0 x1 x3 (ix3 i h c) = ((dat x0 x1 x2 x3 x4).qa h i c : EReal) := by
  pointwise [hQ, hOnes, hZ58]
  unfold Data.qa
  split
  next h1 => rw [q_at R, ofBits_eighth, hLog2e_at, ← EReal.coe_mul, ← EReal.coe_mul]
  next h1 =>
    split
    next h2 =>
      rw [split3_at _ _ _ _ _ (hFq_at R h i)]
      refine congrArg _ ?_
      dsimp only
      split_ifs <;> first | (exfalso; omega) | rfl
    next h2 =>
      rw [if_neg (by omega)]
      split
      next h3 => rw [if_pos (by omega)]; rfl
      next h3 => rw [if_neg (by omega)]; rfl

theorem hK_at (h : Fin 8) (i : Fin 16384) (c : Fin 128) : hK x1 x3 (ix3 i h c) = ((dat x0 x1 x2 x3 x4).ka h i c : EReal) := by
  pointwise [hK]
  simp only [hOnes_at, hZ58_at]
  unfold Data.ka
  split
  next h1 => rw [k_at R]
  next h1 =>
    split
    next h2 => rw [if_pos (show c.val < 67 by omega)]; rfl
    next h2 =>
      rw [if_neg (show ¬ c.val < 67 by omega)]
      split
      next h3 =>
        refine (congrArg Neg.neg (split3_at _ _ _ _ _ (hFk_at R h i))).trans ?_
        rw [← EReal.coe_neg]
        refine congrArg _ ?_
        dsimp only
        split_ifs <;> first | (exfalso; omega) | simp
      next h3 => rw [if_neg (show ¬ c.val = 67 by omega)]; rfl

theorem hV_at (h : Fin 8) (i : Fin 16384) (c : Fin 128) : hV x2 (ix3 i h c) = ((dat x0 x1 x2 x3 x4).va h i c : EReal) := by
  pointwise [hV, hOnes, hZ61]
  unfold Data.va
  split
  next h1 => rw [v_at R]
  next h1 =>
    split
    next h2 => rw [if_pos (by omega)]; simp
    next h2 => rw [if_neg (by omega)]; rfl

theorem hD_at (h : Fin 8) (i : Fin 16384) (c : Fin 128) : hD x0 x1 x2 x3 x4 (ix3 i h c) = ((dat x0 x1 x2 x3 x4).da h i c : EReal) := by
  pointwise [hD, hZ61]
  unfold Data.da
  split
  next h1 => rw [d_at R]
  next h1 =>
    split
    next h2 =>
      rw [split3_at _ _ _ _ _ (hDelta_at R h i)]
      refine congrArg _ ?_
      dsimp only
      split_ifs <;> first | (exfalso; omega) | rfl
    next h2 => rw [if_neg (by omega)]; rfl

omit R in
theorem eighthT_at (y : FVec Ideal S16384x8x64 .f32) (r : Fin 512) (i : Fin 16384) :
    eighthT y (ix2 r i) = y (ix3 i ⟨r.val / 64, by omega⟩ ⟨r.val % 64, by omega⟩) * ((1 / 8 : ℝ) : EReal) := by
  rw [← ofBits_eighth]
  pointwise [eighthT]

omit R in
theorem turned_at (y : FVec Ideal S16384x8x64 .f32) (r : Fin 512) (i : Fin 16384) :
    turned y (ix2 r i) = y (ix3 i ⟨r.val / 64, by omega⟩ ⟨r.val % 64, by omega⟩) := by
  pointwise [turned]

omit R in
/-- A head's columns of an array with 128 lanes a head. -/
theorem lane_at (x : FVec Ideal S16384x8x128 .bf16) (i : Fin 16384) (l : Fin 1024) :
    shapeCast S16384x1024 x shapeCasts_S16384x8x128_S16384x1024 (ix2 i l) = x (ix3 i ⟨l.val / 128, by omega⟩ ⟨l.val % 128, by omega⟩) := by
  pointwise []

end
end Cert.Proof
end
-- ==== Proof.Blocks.lean ====
/- A grid point's seven input blocks are the rows of its head's block: what the model of one block asks of them. -/
module

public import proofs.«01_k».proof.Proof.Host
public import proofs.«01_k».proof.Proof.Lanes
public import Idealize.ShloMosaic.Lib.Pipeline.ValueKit

@[expose] public section
set_option maxRecDepth 16384
noncomputable section
namespace Cert.Proof
open Cert.KernelIdeal Cert.KernelIdeal.Gen Cert.ReferenceIdeal.Read
open Idealize.ShloMosaic Idealize.ShloMosaic.TcCoe Idealize.SL.Sem

/-- The block indices of the windows at a point. -/
theorem index_at : ∀ t : Fin grid0.N,
    win0_0.index t = ![t.val % 8, t.val / 8] ∧ win0_1.index t = ![0, t.val / 8] ∧ win0_2.index t = ![0, t.val / 8]
    ∧ win0_3.index t = ![t.val / 8, 0] ∧ win0_4.index t = ![t.val / 8, 0] ∧ win0_5.index t = ![t.val % 8, t.val / 8]
    ∧ win0_6.index t = ![t.val / 8, t.val % 8] ∧ win0_7.index t = ![t.val / 8, 0] ∧ win0_8.index t = ![t.val / 8, 0, 0]
    ∧ win0_9.index t = ![t.val / 8, t.val % 8] ∧ win0_10.index t = ![t.val / 8, t.val % 8] ∧ win0_11.index t = ![t.val / 8, 0, t.val % 8] := by
  decide +kernel

variable (m : (ℓ : Loc nD τ sig) → Buf (Elt Ideal) ℓ) (c : Dev nD)

/-- Head `h`'s lane `l`, and its row `a`. -/
abbrev lane (h : Fin 8) (l : Fin 128) : Fin 1024 := ⟨128 * h.val + l.val, by omega⟩
abbrev headRow (h : Fin 8) (a : Fin 64) : Fin 512 := ⟨64 * h.val + a.val, by omega⟩

section
variable {t : Fin cfg0.N} {h j : Fin 8} (ht : t.val = 8 * h.val + j.val)
include ht

theorem t_mod : t.val % 8 = j.val := by omega
theorem t_div : t.val / 8 = h.val := by omega

theorem read_ka (k : Fin 2048) (l : Fin 128) : (iblk m c 0 t : FVec Ideal S2048x128 .bf16) (ix2 k l) = (V m c main_v88 : FVec Ideal S16384x1024 .bf16) (ix2 (at' j k) (lane h l)) := by
  obtain ⟨e0, e1, e2, e3, e4, e5, e6, -⟩ := index_at t
  simp only [t_div ht, t_mod ht] at e0 e1 e2 e3 e4 e5 e6
  unfold iblk
  show (V m c main_v88 : FVec Ideal S16384x1024 .bf16) _ = _
  refine congrArg (V m c main_v88 : FVec Ideal S16384x1024 .bf16) ?_
  blk_ext [e0]
theorem read_va (k : Fin 2048) (l : Fin 128) : (iblk m c 5 t : FVec Ideal S2048x128 .bf16) (ix2 k l) = (V m c main_v93 : FVec Ideal S16384x1024 .bf16) (ix2 (at' j k) (lane h l)) := by
  obtain ⟨e0, e1, e2, e3, e4, e5, e6, -⟩ := index_at t
  simp only [t_div ht, t_mod ht] at e0 e1 e2 e3 e4 e5 e6
  unfold iblk
  show (V m c main_v93 : FVec Ideal S16384x1024 .bf16) _ = _
  refine congrArg (V m c main_v93 : FVec Ideal S16384x1024 .bf16) ?_
  blk_ext [e5]
theorem read_qa (k : Fin 16384) (l : Fin 128) : (iblk m c 1 t : FVec Ideal S16384x128 .bf16) (ix2 k l) = (V m c main_v84 : FVec Ideal S16384x1024 .bf16) (ix2 k (lane h l)) := by
  obtain ⟨e0, e1, e2, e3, e4, e5, e6, -⟩ := index_at t
  simp only [t_div ht, t_mod ht] at e0 e1 e2 e3 e4 e5 e6
  unfold iblk
  show (V m c main_v84 : FVec Ideal S16384x1024 .bf16) _ = _
  refine congrArg (V m c main_v84 : FVec Ideal S16384x1024 .bf16) ?_
  blk_ext [e1]
theorem read_da (k : Fin 16384) (l : Fin 128) : (iblk m c 2 t : FVec Ideal S16384x128 .bf16) (ix2 k l) = (V m c main_v97 : FVec Ideal S16384x1024 .bf16) (ix2 k (lane h l)) := by
  obtain ⟨e0, e1, e2, e3, e4, e5, e6, -⟩ := index_at t
  simp only [t_div ht, t_mod ht] at e0 e1 e2 e3 e4 e5 e6
  unfold iblk
  show (V m c main_v97 : FVec Ideal S16384x1024 .bf16) _ = _
  refine congrArg (V m c main_v97 : FVec Ideal S16384x1024 .bf16) ?_
  blk_ext [e2]
theorem read_qt (a : Fin 64) (k : Fin 16384) : (iblk m c 3 t : FVec Ideal S64x16384 .bf16) (ix2 a k) = (V m c main_v102 : FVec Ideal S512x16384 .bf16) (ix2 (headRow h a) k) := by
  obtain ⟨e0, e1, e2, e3, e4, e5, e6, -⟩ := index_at t
  simp only [t_div ht, t_mod ht] at e0 e1 e2 e3 e4 e5 e6
  unfold iblk
  show (V m c main_v102 : FVec Ideal S512x16384 .bf16) _ = _
  refine congrArg (V m c main_v102 : FVec Ideal S512x16384 .bf16) ?_
  blk_ext [e3]
theorem read_dt (a : Fin 64) (k : Fin 16384) : (iblk m c 4 t : FVec Ideal S64x16384 .bf16) (ix2 a k) = (V m c main_v110 : FVec Ideal S512x16384 .bf16) (ix2 (headRow h a) k) := by
  obtain ⟨e0, e1, e2, e3, e4, e5, e6, -⟩ := index_at t
  simp only [t_div ht, t_mod ht] at e0 e1 e2 e3 e4 e5 e6
  unfold iblk
  show (V m c main_v110 : FVec Ideal S512x16384 .bf16) _ = _
  refine congrArg (V m c main_v110 : FVec Ideal S512x16384 .bf16) ?_
  blk_ext [e4]
theorem read_kt (a : Fin 64) (k : Fin 2048) : (iblk m c 6 t : FVec Ideal S64x2048 .bf16) (ix2 a k) = (V m c main_v107 : FVec Ideal S512x16384 .bf16) (ix2 (headRow h a) (at' j k)) := by
  obtain ⟨e0, e1, e2, e3, e4, e5, e6, -⟩ := index_at t
  simp only [t_div ht, t_mod ht] at e0 e1 e2 e3 e4 e5 e6
  unfold iblk
  show (V m c main_v107 : FVec Ideal S512x16384 .bf16) _ = _
  refine congrArg (V m c main_v107 : FVec Ideal S512x16384 .bf16) ?_
  blk_ext [e6]

variable {m c} (R : Reals (aq m c) (ak m c) (av m c) (ag m c) (ad m c))
include R

omit ht R in
theorem lane_h (x : FVec Ideal S16384x8x128 .bf16) (h : Fin 8) (i : Fin 16384) (l : Fin 128) :
    shapeCast S16384x1024 x shapeCasts_S16384x8x128_S16384x1024 (ix2 i (lane h l)) = x (ix3 i h l) := by
  have e := lane_at x i (lane h l)
  rwa [show (⟨(lane h l).val / 128, by omega⟩ : Fin 8) = h from Fin.ext (by show (128 * h.val + l.val) / 128 = h.val; omega),
    show (⟨(lane h l).val % 128, by omega⟩ : Fin 128) = l from Fin.ext (by show (128 * h.val + l.val) % 128 = l.val; omega)] at e

omit ht R in
theorem eighth_h (y : FVec Ideal S16384x8x64 .f32) (h : Fin 8) (a : Fin 64) (i : Fin 16384) :
    eighthT y (ix2 (headRow h a) i) = y (ix3 i h a) * ((1 / 8 : ℝ) : EReal) := by
  have e := eighthT_at y (headRow h a) i
  rwa [show (⟨(headRow h a).val / 64, by omega⟩ : Fin 8) = h from Fin.ext (by show (64 * h.val + a.val) / 64 = h.val; omega),
    show (⟨(headRow h a).val % 64, by omega⟩ : Fin 64) = a from Fin.ext (by show (64 * h.val + a.val) % 64 = a.val; omega)] at e

omit ht R in
theorem turned_h (y : FVec Ideal S16384x8x64 .f32) (h : Fin 8) (a : Fin 64) (i : Fin 16384) :
    turned y (ix2 (headRow h a) i) = y (ix3 i h a) := by
  have e := turned_at y (headRow h a) i
  rwa [show (⟨(headRow h a).val / 64, by omega⟩ : Fin 8) = h from Fin.ext (by show (64 * h.val + a.val) / 64 = h.val; omega),
    show (⟨(headRow h a).val % 64, by omega⟩ : Fin 64) = a from Fin.ext (by show (64 * h.val + a.val) % 64 = a.val; omega)] at e

theorem reads : Reads (dat (aq m c) (ak m c) (av m c) (ag m c) (ad m c)) h j (iblk m c 0 t) (iblk m c 5 t) (iblk m c 1 t) (iblk m c 2 t)
    (iblk m c 3 t) (iblk m c 4 t) (iblk m c 6 t) where
  ka k l := (read_ka m c ht k l).trans (by rw [V_ka, lane_h]; exact hK_at R h _ l)
  va k l := (read_va m c ht k l).trans (by rw [V_va, lane_h]; exact hV_at R h _ l)
  qa i l := (read_qa m c ht i l).trans (by rw [V_qa, lane_h]; exact hQ_at R h _ l)
  da i l := (read_da m c ht i l).trans (by rw [V_da, lane_h]; exact hD_at R h _ l)
  qt a i := (read_qt m c ht a i).trans (by rw [V_qt, eighth_h, q_at R, EReal.coe_mul])
  dt a i := (read_dt m c ht a i).trans (by rw [V_dt, turned_h, d_at R])
  kt a k := (read_kt m c ht a k).trans (by rw [V_kt, eighth_h, k_at R, EReal.coe_mul])

end
end Cert.Proof
end
-- ==== Proof.RefVals.lean ====
/- The reference's five results at an index, as the reals' gradient. -/
module

public import proofs.«01_k».proof.Proof.Base

@[expose] public section
set_option maxRecDepth 65536
noncomputable section
namespace Cert.Proof
open Cert.KernelIdeal Cert.KernelIdeal.Gen Cert.ReferenceIdeal.Read
open Idealize.ShloMosaic

section
variable {x0 x1 x2 : Arr} {x3 : Arr8} {x4 : Arr} (R : Reals x0 x1 x2 x3 x4)
include R

omit R in
theorem mask_at (h : Fin 8) (i j : Fin 16384) : val_main_v22_1 (F := Ideal) (ix3 h i j) = BitVec.ofBool (decide (j.val ≤ i.val)) := by
  pointwise [val_main_v22_1, val_main_v15, val_main_v16, val_main_v17, val_main_v18, val_main_v19, val_main_v20, val_main_v21]
  exact Idealize.ShloMosaic.WordCmp.cmpi_sle_ofNat (by omega) (by omega)

theorem r30 (h : Fin 8) (i : Fin 16384) : val_main_v30 (F := Ideal) x0 x1 x3 (ix2 h i) = ((dat x0 x1 x2 x3 x4).M h i : EReal) := by
  have e : val_main_v29 (F := Ideal) (ix2 h i) = ⊥ := by
    pointwise [val_main_v29, val_main_cst_3]
    exact ofBits_bot
  rw [val_main_v30_apply, e, M_at R]
  exact max_eq_right bot_le

theorem r41 (h : Fin 8) (i j : Fin 16384) : val_main_v41 (F := Ideal) x0 x1 x3 (ix3 h i j) = ((dat x0 x1 x2 x3 x4).M h i : EReal) := by
  rw [← r30 R]
  pointwise [val_main_v41, val_main_v40]

theorem r43 (h : Fin 8) (i j : Fin 16384) : val_main_v43 (F := Ideal) x0 x1 x3 (ix3 h i j) = ((dat x0 x1 x2 x3 x4).e h i j : EReal) := by
  rw [val_main_v43_apply, val_main_v42_apply, r41 R, s_at R]
  exact exp_s R h i j

theorem r44 (h : Fin 8) (i : Fin 16384) : val_main_v44 (F := Ideal) x0 x1 x3 (ix2 h i) = ((dat x0 x1 x2 x3 x4).l h i : EReal) := by
  pointwise [val_main_v44, val_main_cst_9]
  simp only [r43 R, coe_sum]; rfl

theorem r47 (h : Fin 8) (i j : Fin 16384) : val_main_v47 (F := Ideal) x0 x1 x3 (ix3 h i j) = ((dat x0 x1 x2 x3 x4).p h i j : EReal) := by
  pointwise [val_main_v47, val_main_v46, val_main_v45]
  rw [r43 R, r44 R, Ideal.div_coe (Data.l_pos _ h i).ne', ← EReal.coe_mul, mul_one_div]; rfl

theorem r50 (h : Fin 8) (i : Fin 16384) : val_main_v50 (F := Ideal) x0 x1 x3 (ix3 h i 0)
    = ((1 / ((dat x0 x1 x2 x3 x4).l h i * (dat x0 x1 x2 x3 x4).l h i) : ℝ) : EReal) := by
  pointwise [val_main_v50, val_main_v49, val_main_v48, val_main_v45, val_main_cst_10]
  have hl := (Data.l_pos (dat x0 x1 x2 x3 x4) h i).ne'
  rw [r44 R, ← EReal.coe_mul, Ideal.div_coe (mul_ne_zero hl hl), one_mul]

theorem r54 (h : Fin 8) (i j : Fin 16384) : val_main_v54 (F := Ideal) x2 x4 (ix3 h i j) = ((dat x0 x1 x2 x3 x4).dp h i j : EReal) := by
  pointwise [val_main_v54, val_main_v53]
  simp only [d_at R, v_at R, ← EReal.coe_mul, coe_sum]; rfl

theorem r55 (h : Fin 8) (a : Fin 64) (j : Fin 16384) : val_main_v55 (F := Ideal) x0 x1 x3 x4 (ix3 h a j) = ((dat x0 x1 x2 x3 x4).dv h j a : EReal) := by
  pointwise [val_main_v55, val_main_v53]
  simp only [d_at R, r47 R, ← EReal.coe_mul, coe_sum]; rfl

theorem r60 (h : Fin 8) (i : Fin 16384) : val_main_v60 (F := Ideal) x0 x1 x2 x3 x4 (ix2 h i)
    = ((∑ j, (dat x0 x1 x2 x3 x4).dp h i j * (1 / ((dat x0 x1 x2 x3 x4).l h i * (dat x0 x1 x2 x3 x4).l h i)) * (dat x0 x1 x2 x3 x4).e h i j : ℝ) : EReal) := by
  pointwise [val_main_v60, val_main_v59, val_main_v58, val_main_v57, val_main_cst_11]
  simp only [r54 R, r50 R, r43 R, ← EReal.coe_mul, coe_sum]

/-- The cotangent of the score. -/
theorem r69 (h : Fin 8) (i j : Fin 16384) : val_main_v69 (F := Ideal) x0 x1 x2 x3 x4 (ix3 h i j) = ((dat x0 x1 x2 x3 x4).ds h i j : EReal) := by
  rw [val_main_v69_apply, mask_at]
  pointwise [val_main_v68, val_main_v67, val_main_v66, val_main_v65, val_main_v64, val_main_v63, val_main_v62, val_main_v61, val_main_v45, val_main_cst_12, val_main_call2_v0, val_main_call2_cst]
  rw [Fin.sum_univ_one, r54 R, r44 R, r60 R, r43 R]
  split
  next hij =>
    have hl := (Data.l_pos (dat x0 x1 x2 x3 x4) h i).ne'
    rw [Ideal.div_coe hl, ← EReal.coe_neg, ← EReal.coe_mul, ← EReal.coe_add, ← EReal.coe_mul]
    exact congrArg _ (Data.ds_eq _ h i j)
  next hij =>
    unfold Data.ds
    rw [Data.p_of_lt _ h i j (by omega), zero_mul]; rfl

theorem r78 (h : Fin 8) (i j : Fin 16384) : val_main_v78 (F := Ideal) x0 x1 x2 x3 x4 (ix3 h i j) = (((dat x0 x1 x2 x3 x4).ds h i j * (1 / 8) : ℝ) : EReal) := by
  have e : val_main_v77 (F := Ideal) (ix3 h i j) = ((1 / 8 : ℝ) : EReal) := by
    pointwise [val_main_v77, val_main_cst_17]
    exact ofBits_eighth
  rw [val_main_v78_apply, e, r69 R, EReal.coe_mul]
  rfl

theorem r81 (h : Fin 8) (i : Fin 16384) (a : Fin 64) : val_main_v81 (F := Ideal) x0 x1 x2 x3 x4 (ix3 h i a) = ((dat x0 x1 x2 x3 x4).dq h i a : EReal) := by
  pointwise [val_main_v81]
  simp only [r78 R, k_at R, ← EReal.coe_mul, coe_sum]
  refine congrArg _ (Finset.sum_congr rfl fun j _ => ?_)
  ring

theorem r79 (h : Fin 8) (j : Fin 16384) (a : Fin 64) : val_main_v79 (F := Ideal) x0 x1 x2 x3 x4 (ix3 h j a) = ((dat x0 x1 x2 x3 x4).dk h j a : EReal) := by
  pointwise [val_main_v79]
  simp only [r78 R, q_at R, ← EReal.coe_mul, coe_sum]
  refine congrArg _ (Finset.sum_congr rfl fun j _ => ?_)
  ring

/-- The gradient of the queries, -/
theorem ref_dq (r : Fin 512) (i : Fin 16384) : val_main_v86 (F := Ideal) x0 x1 x2 x3 x4 (ix2 r i)
    = ((dat x0 x1 x2 x3 x4).dq ⟨r.val / 64, by omega⟩ i ⟨r.val % 64, by omega⟩ : EReal) := by
  rw [← r81 R]
  pointwise [val_main_v86, val_main_v85, val_main_v82]
/-- of the keys -/
theorem ref_dk (r : Fin 512) (j : Fin 16384) : val_main_v89 (F := Ideal) x0 x1 x2 x3 x4 (ix2 r j)
    = ((dat x0 x1 x2 x3 x4).dk ⟨r.val / 64, by omega⟩ j ⟨r.val % 64, by omega⟩ : EReal) := by
  rw [← r79 R]
  pointwise [val_main_v89, val_main_v88, val_main_v87, val_main_v80]
/-- and of the values, -/
theorem ref_dv (r : Fin 512) (j : Fin 16384) : val_main_v92 (F := Ideal) x0 x1 x3 x4 (ix2 r j)
    = ((dat x0 x1 x2 x3 x4).dv ⟨r.val / 64, by omega⟩ j ⟨r.val % 64, by omega⟩ : EReal) := by
  rw [← r55 R]
  pointwise [val_main_v92, val_main_v91, val_main_v90, val_main_v56]

theorem r76 (h : Fin 8) (i : Fin 16384) : val_main_v76 (F := Ideal) x0 x1 x2 x3 x4 (ix2 h i) = ((dat x0 x1 x2 x3 x4).rs h i : EReal) := by
  pointwise [val_main_v76, val_main_v75, val_main_v74, val_main_cst_16, val_main_cst_15]
  simp only [Fin.sum_univ_one, r69 R, coe_sum]; rfl

/-- of the sums of log f where they enter a query's place, in the first of eight rows, -/
theorem ref_rs (h : Fin 8) (b : Fin 8) (i : Fin 16384) : val_main_v84 (F := Ideal) x0 x1 x2 x3 x4 (ix3 h b i)
    = if b.val = 0 then ((dat x0 x1 x2 x3 x4).rs h i : EReal) else 0 := by
  pointwise [val_main_v84, val_main_v83, val_main_call3_v0, val_main_c]
  split
  next hb => rw [if_pos (by omega), r76 R]
  next hb => rw [if_neg (by omega)]; simp [FloatOps.sitofp]

/-- and less that of a key's place. -/
theorem ref_dfk (h : Fin 8) (j : Fin 16384) : val_main_v94 (F := Ideal) x0 x1 x2 x3 x4 (ix3 h 0 j) = ((dat x0 x1 x2 x3 x4).dfk h j : EReal) := by
  pointwise [val_main_v94, val_main_v93, val_main_v73, val_main_v72, val_main_v71, val_main_v70, val_main_cst_13, val_main_cst_14]
  simp only [Fin.sum_univ_one, r69 R, ← EReal.coe_neg, coe_sum]
  unfold Data.dfk
  rw [Finset.sum_neg_distrib, neg_neg]

end
end Cert.Proof
end
-- ==== Proof.Final.lean ====
/- What the launch leaves in its five output arrays: the reals' gradient. -/
module

public import proofs.«01_k».proof.Proof.Outs
public import proofs.«01_k».proof.Proof.Blocks
public import proofs.«01_k».proof.Proof.RefVals

@[expose] public section
set_option maxRecDepth 16384
noncomputable section
namespace Cert.Proof
open Cert.KernelIdeal Cert.KernelIdeal.Gen Cert.ReferenceIdeal.Read
open Idealize.ShloMosaic Idealize.ShloMosaic.TcCoe Idealize.SL.Sem

namespace Data
variable (D : Data) (h : Fin 8) (i : Fin 16384) (a : Fin 64)
/-- The shares of one block of keys in a query's gradient and in its row sum. -/
def dqOf (n : ℕ) : ℝ := if hn : n < 8 then ∑ k : Fin 2048, D.k h (at' ⟨n, hn⟩ k) a * (1 / 8) * D.ds h i (at' ⟨n, hn⟩ k) else 0
def rsOf (n : ℕ) : ℝ := if hn : n < 8 then ∑ k : Fin 2048, D.ds h i (at' ⟨n, hn⟩ k) else 0

theorem dq_blocks : ∑ n ∈ Finset.range 8, D.dqOf h i a n = D.dq h i a := by
  rw [Finset.sum_range]
  unfold dq
  rw [← sum_blocks]
  refine Finset.sum_congr rfl fun j _ => ?_
  unfold dqOf; rw [dif_pos j.isLt]
theorem rs_blocks : ∑ n ∈ Finset.range 8, D.rsOf h i n = D.rs h i := by
  rw [Finset.sum_range]
  unfold rs
  rw [← sum_blocks]
  refine Finset.sum_congr rfl fun j _ => ?_
  unfold rsOf; rw [dif_pos j.isLt]
end Data

variable {m : (ℓ : Loc nD τ sig) → Buf (Elt Ideal) ℓ} {c : Dev nD} (R : Reals (aq m c) (ak m c) (av m c) (ag m c) (ad m c))
include R

section
variable {t : Fin cfg0.N} {h : Fin 8} {n : ℕ} (hn : n < 8) (ht : t.val = 8 * h.val + n)
include hn ht

theorem addQ_1 (p : FVec Ideal S64x16384 .f32 × FVec Ideal S1x8x16384 .f32) (a : Fin 64) (i : Fin 16384) :
    (addQ m c t p).1 (ix2 a i) = p.1 (ix2 a i) + ((dat (aq m c) (ak m c) (av m c) (ag m c) (ad m c)).dqOf h i a n : EReal) := by
  have hj : (grid0.coords t 1).val = (⟨n, hn⟩ : Fin 8).val := (coord1 t).trans (by show t.val % 8 = n; omega)
  unfold addQ dqUpTo
  dsimp only
  rw [hj, if_pos (show ((ix2 a i : S64x16384.Idx) 1).val < 16384 from i.isLt)]
  refine congrArg (_ + ·) ?_
  refine (DQ_real (reads (j := ⟨n, hn⟩) ht R) a i).trans ?_
  unfold Data.dqOf; rw [dif_pos hn]

theorem addQ_2 (p : FVec Ideal S64x16384 .f32 × FVec Ideal S1x8x16384 .f32) (b : Fin 8) (i : Fin 16384) :
    (addQ m c t p).2 (ix3 0 b i) = p.2 (ix3 0 b i) + if b.val = 0 then ((dat (aq m c) (ak m c) (av m c) (ag m c) (ad m c)).rsOf h i n : EReal) else 0 := by
  have hj : (grid0.coords t 1).val = (⟨n, hn⟩ : Fin 8).val := (coord1 t).trans (by show t.val % 8 = n; omega)
  unfold addQ rsUpTo
  dsimp only
  rw [hj, if_pos (show ((ix3 0 b i : S1x8x16384.Idx) 2).val < 16384 from i.isLt)]
  refine congrArg (_ + ·) ?_
  split
  next hb =>
    obtain rfl : b = 0 := Fin.ext hb
    refine (DQ_real_64 (reads (j := ⟨n, hn⟩) ht R) i).trans ?_
    unfold Data.rsOf; rw [dif_pos hn]
  next hb => exact DQ_real_rest (reads (j := ⟨n, hn⟩) ht R) _ (by show 64 < 64 + b.val; omega) i

end

/-- The accumulated arrays at a head's block `n`. -/
theorem acc_at (h : Fin 8) : ∀ (n : ℕ) (hn : n < 8) (t : Fin cfg0.N) (ht : t.val = 8 * h.val + n),
    (∀ (a : Fin 64) (i : Fin 16384), (accQ m c t.val t.isLt).1 (ix2 a i)
      = ((∑ j ∈ Finset.range (n + 1), (dat (aq m c) (ak m c) (av m c) (ag m c) (ad m c)).dqOf h i a j : ℝ) : EReal))
    ∧ ∀ (b : Fin 8) (i : Fin 16384), (accQ m c t.val t.isLt).2 (ix3 0 b i)
      = if b.val = 0 then ((∑ j ∈ Finset.range (n + 1), (dat (aq m c) (ak m c) (av m c) (ag m c) (ad m c)).rsOf h i j : ℝ) : EReal) else 0 := by
  intro n
  induction n with
  | zero =>
    intro hn t ht
    rw [accQ_first m c t (by omega)]
    refine ⟨fun a i => ?_, fun b i => ?_⟩
    · rw [addQ_1 R hn ht, Finset.sum_range_one]; exact zero_add _
    · rw [addQ_2 R hn ht, Finset.sum_range_one]; exact zero_add _
  | succ n ih =>
    intro hn t ht
    rw [accQ_next m c t (by omega)]
    obtain ⟨h1, h2⟩ := ih (by omega) ⟨t.val - 1, Nat.lt_of_le_of_lt (Nat.sub_le _ _) t.isLt⟩ (by show t.val - 1 = _; omega)
    refine ⟨fun a i => ?_, fun b i => ?_⟩
    · rw [addQ_1 R hn ht, Finset.sum_range_succ, EReal.coe_add]
      exact congrArg (· + _) (h1 a i)
    · rw [addQ_2 R hn ht, Finset.sum_range_succ, EReal.coe_add]
      refine (congrArg (· + _) (h2 b i)).trans ?_
      split
      · rfl
      · exact zero_add _

omit R in
theorem head_of (h : Fin 8) (a : Fin 64) : (⟨(headRow h a).val / 64, by omega⟩ : Fin 8) = h := Fin.ext (by show (64 * h.val + a.val) / 64 = h.val; omega)
omit R in
theorem in_head (h : Fin 8) (a : Fin 64) : (⟨(headRow h a).val % 64, by omega⟩ : Fin 64) = a := Fin.ext (by show (64 * h.val + a.val) % 64 = a.val; omega)

theorem dq_row (h : Fin 8) (a : Fin 64) (i : Fin 16384) :
    val_main_v86 (F := Ideal) (aq m c) (ak m c) (av m c) (ag m c) (ad m c) (ix2 (headRow h a) i) = ((dat (aq m c) (ak m c) (av m c) (ag m c) (ad m c)).dq h i a : EReal) :=
  (ref_dq R (headRow h a) i).trans (by rw [head_of, in_head])
theorem dk_row (h : Fin 8) (a : Fin 64) (i : Fin 16384) :
    val_main_v89 (F := Ideal) (aq m c) (ak m c) (av m c) (ag m c) (ad m c) (ix2 (headRow h a) i) = ((dat (aq m c) (ak m c) (av m c) (ag m c) (ad m c)).dk h i a : EReal) :=
  (ref_dk R (headRow h a) i).trans (by rw [head_of, in_head])
theorem dv_row (h : Fin 8) (a : Fin 64) (i : Fin 16384) :
    val_main_v92 (F := Ideal) (aq m c) (ak m c) (ag m c) (ad m c) (ix2 (headRow h a) i) = ((dat (aq m c) (ak m c) (av m c) (ag m c) (ad m c)).dv h i a : EReal) :=
  (ref_dv R (headRow h a) i).trans (by rw [head_of, in_head])

/-- The head and the block of keys of a point. -/
abbrev hd (t : Fin cfg0.N) : Fin 8 := ⟨t.val / 8, by have : t.val < 64 := Nat.lt_of_lt_of_eq t.isLt N_0; omega⟩
abbrev kb (t : Fin cfg0.N) : Fin 8 := ⟨t.val % 8, by omega⟩
omit R in
theorem pt (t : Fin cfg0.N) : t.val = 8 * (hd t).val + (kb t).val := by show t.val = 8 * (t.val / 8) + t.val % 8; omega

theorem arr_7 : (dats m 0 c).arrAt 7 (cfgs 0).N = (val_main_v86 (F := Ideal) (aq m c) (ak m c) (av m c) (ag m c) (ad m c) : FVec Ideal S512x16384 .f32) := by
  refine (dats m 0 c).arrAt_eq_of_covers 7 _ (by decide +kernel) fun t hf y => ?_
  have h7 : t.val % 8 = 7 := (flush0_7 t).mp hf
  obtain ⟨-, -, -, -, -, -, -, e, -⟩ := index_at t
  obtain ⟨a, i, rfl⟩ : ∃ (a : Fin 64) (i : Fin 16384), y = ix2 a i := ⟨y 0, y 1, by funext d; fin_cases d <;> rfl⟩
  refine Eq.trans ?_ (congrArg (val_main_v86 (F := Ideal) (aq m c) (ak m c) (av m c) (ag m c) (ad m c)) (?_ : ix2 (headRow (hd t) a) i = _))
  · rw [dq_row R, ← Data.dq_blocks]
    exact (acc_at R (hd t) 7 (by omega) t (by show t.val = 8 * (t.val / 8) + 7; omega)).1 a i
  · symm; blk_ext [e]

theorem arr_8 : (dats m 0 c).arrAt 8 (cfgs 0).N = (val_main_v84 (F := Ideal) (aq m c) (ak m c) (av m c) (ag m c) (ad m c) : FVec Ideal S8x8x16384 .f32) := by
  refine (dats m 0 c).arrAt_eq_of_covers 8 _ (by decide +kernel) fun t hf y => ?_
  have h7 : t.val % 8 = 7 := (flush0_8 t).mp hf
  obtain ⟨-, -, -, -, -, -, -, -, e, -⟩ := index_at t
  obtain ⟨b, i, rfl⟩ : ∃ (b : Fin 8) (i : Fin 16384), y = ix3 0 b i := ⟨y 1, y 2, by
    funext d; fin_cases d
    · exact Subsingleton.elim (α := Fin 1) _ _
    · rfl
    · rfl⟩
  refine Eq.trans ?_ (congrArg (val_main_v84 (F := Ideal) (aq m c) (ak m c) (av m c) (ag m c) (ad m c)) (?_ : ix3 (hd t) b i = _))
  · rw [ref_rs R, ← Data.rs_blocks]
    exact (acc_at R (hd t) 7 (by omega) t (by show t.val = 8 * (t.val / 8) + 7; omega)).2 b i
  · symm; blk_ext [e]

theorem arr_9 : (dats m 0 c).arrAt 9 (cfgs 0).N = (val_main_v89 (F := Ideal) (aq m c) (ak m c) (av m c) (ag m c) (ad m c) : FVec Ideal S512x16384 .bf16) := by
  refine (dats m 0 c).arrAt_eq_of_covers 9 _ (by decide +kernel) fun t hf y => ?_
  obtain ⟨-, -, -, -, -, -, -, -, -, e, -⟩ := index_at t
  obtain ⟨a, k, rfl⟩ : ∃ (a : Fin 64) (k : Fin 2048), y = ix2 a k := ⟨y 0, y 1, by funext d; fin_cases d <;> rfl⟩
  refine Eq.trans ?_ (congrArg (val_main_v89 (F := Ideal) (aq m c) (ak m c) (av m c) (ag m c) (ad m c)) (?_ : ix2 (headRow (hd t) a) (at' (kb t) k) = _))
  · rw [dk_row R, ← dk_real (reads (pt t) R) a k]
    have e' : (dats m 0 c).after 9 t = dkBlk (kb t).val (iblk m c 0 t) (iblk m c 5 t) (iblk m c 1 t) (iblk m c 2 t) (iblk m c 3 t) := (after_9 m c t).trans (by rw [coord1])
    exact congrFun e' (ix2 a k)
  · symm; blk_ext [e]

theorem arr_10 : (dats m 0 c).arrAt 10 (cfgs 0).N = (val_main_v92 (F := Ideal) (aq m c) (ak m c) (ag m c) (ad m c) : FVec Ideal S512x16384 .bf16) := by
  refine (dats m 0 c).arrAt_eq_of_covers 10 _ (by decide +kernel) fun t hf y => ?_
  obtain ⟨-, -, -, -, -, -, -, -, -, -, e, -⟩ := index_at t
  obtain ⟨a, k, rfl⟩ : ∃ (a : Fin 64) (k : Fin 2048), y = ix2 a k := ⟨y 0, y 1, by funext d; fin_cases d <;> rfl⟩
  refine Eq.trans ?_ (congrArg (val_main_v92 (F := Ideal) (aq m c) (ak m c) (ag m c) (ad m c)) (?_ : ix2 (headRow (hd t) a) (at' (kb t) k) = _))
  · rw [dv_row R, ← dv_real (reads (pt t) R) a k]
    have e' : (dats m 0 c).after 10 t = dvBlk (kb t).val (iblk m c 0 t) (iblk m c 1 t) (iblk m c 4 t) := (after_10 m c t).trans (by rw [coord1])
    exact congrFun e' (ix2 a k)
  · symm; blk_ext [e]

theorem arr_11 : (dats m 0 c).arrAt 11 (cfgs 0).N = (val_main_v94 (F := Ideal) (aq m c) (ak m c) (av m c) (ag m c) (ad m c) : FVec Ideal S8x1x16384 .f32) := by
  refine (dats m 0 c).arrAt_eq_of_covers 11 _ (by decide +kernel) fun t hf y => ?_
  obtain ⟨-, -, -, -, -, -, -, -, -, -, -, e⟩ := index_at t
  obtain ⟨k, rfl⟩ : ∃ k : Fin 2048, y = ix3 0 0 k := ⟨y 2, by
    funext d; fin_cases d
    · exact Subsingleton.elim (α := Fin 1) _ _
    · exact Subsingleton.elim (α := Fin 1) _ _
    · rfl⟩
  refine Eq.trans ?_ (congrArg (val_main_v94 (F := Ideal) (aq m c) (ak m c) (av m c) (ag m c) (ad m c)) (?_ : ix3 (hd t) 0 (at' (kb t) k) = _))
  · rw [ref_dfk R, ← df_real (reads (pt t) R) k]
    have e' : (dats m 0 c).after 11 t = dfBlk (kb t).val (iblk m c 0 t) (iblk m c 5 t) (iblk m c 1 t) (iblk m c 2 t) (iblk m c 3 t) := (after_11 m c t).trans (by rw [coord1])
    exact congrFun e' (ix3 0 0 k)
  · symm; blk_ext [e]

end Cert.Proof
end
-- ==== Proof.Value.lean ====
/- The kernel over real values ends with the reference's gradients, on finite arguments. -/
module

public import proofs.«01_k».proof.Defs
public import proofs.«01_k».proof.Proof.Final
public import proofs.«01_k».proof.Proof.Gen.ReferenceIdeal.Run

@[expose] public section
set_option maxRecDepth 16384
noncomputable section
namespace Cert.Proof
open Cert.KernelIdeal Cert.KernelIdeal.Gen Cert.ReferenceIdeal.Read
open Idealize.ShloMosaic Idealize.ShloMosaic.TcCoe Idealize.SL.Sem

theorem facts_finite : Cert.Pre_finite.Facts where
  bcast_S_S16384x512 := by decide
  bcast_S_S16384x8 := by decide

/-- An argument every element of which tests below infinity in size is of reals. -/
theorem real_of {s : Shape} (x : FVec Ideal s .f32) (b : FVec Ideal s .f32) (hb : ∀ i, b i = (⊤ : EReal))
    (h : cmpf .olt (Host.absf x) b = fun _ => 1#1) : Real' x := fun i => by
  have hi := congrFun h i
  refine Real'.of_lt ?_
  by_contra hn
  have : cmpf .olt (Host.absf x) b i = 0#1 := by
    pointwise []
    rw [hb i]
    exact congrArg BitVec.ofBool (decide_eq_false hn)
  rw [this] at hi
  exact absurd hi (by decide)

theorem reals (m : (ℓ : Loc nD τ sig) → Buf (Elt Ideal) ℓ) (h : Pre_KernelIdeal_finite (hPre_finite := facts_finite) m) (c : Dev nD) :
    Reals (aq m c) (ak m c) (av m c) (ag m c) (ad m c) := by
  obtain ⟨h0, h1, h2, h3, h4⟩ := h c
  refine ⟨real_of _ _ (fun i => ?_) h0, real_of _ _ (fun i => ?_) h1, real_of _ _ (fun i => ?_) h2, real_of _ _ (fun i => ?_) h3, real_of _ _ (fun i => ?_) h4⟩ <;> exact ofBits_top

theorem algebraic : algebraic_KernelIdeal_ReferenceIdeal_pre_finite (hKernelIdeal := Cert.KernelIdeal.Gen.facts) (hReferenceIdeal := Cert.ReferenceIdeal.Gen.facts) (hPre_finite := facts_finite) := by
  intro m g m' g' hp hm
  refine ⟨fun c => val_main_v86 (F := Ideal) (aq m c) (ak m c) (av m c) (ag m c) (ad m c), fun c => val_main_v84 (F := Ideal) (aq m c) (ak m c) (av m c) (ag m c) (ad m c),
    fun c => val_main_v89 (F := Ideal) (aq m c) (ak m c) (av m c) (ag m c) (ad m c), fun c => val_main_v92 (F := Ideal) (aq m c) (ak m c) (ag m c) (ad m c),
    fun c => val_main_v94 (F := Ideal) (aq m c) (ak m c) (av m c) (ag m c) (ad m c), ?_, ?_⟩
  · refine (θ_run defs _ _).mono (fun r h c => ?_) (run_main m g)
    have R := reals m hp c
    exact ⟨((h.1 c).1 7).trans (arr_7 R), ((h.1 c).1 8).trans (arr_8 R), ((h.1 c).1 9).trans (arr_9 R), ((h.1 c).1 10).trans (arr_10 R), ((h.1 c).1 11).trans (arr_11 R),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩
  · refine (θ_run Cert.ReferenceIdeal.defs _ _).mono (fun r h c => ?_) (Cert.ReferenceIdeal.Value.run m' g')
    obtain ⟨e0, e1, e2, e3, e4⟩ := hm c
    obtain ⟨h0, h1, h2, h3, h4, ha⟩ := h c
    refine ⟨h0.trans ((val_main_v86_eq m' c).trans ?_), h1.trans ((val_main_v84_eq m' c).trans ?_), h2.trans ((val_main_v89_eq m' c).trans ?_),
      h3.trans ((val_main_v92_eq m' c).trans ?_), h4.trans ((val_main_v94_eq m' c).trans ?_), ha⟩
    · rw [e0, e1, e2, e3, e4]
    · rw [e0, e1, e2, e3, e4]
    · rw [e0, e1, e2, e3, e4]
    · rw [e0, e1, e3, e4]
    · rw [e0, e1, e2, e3, e4]

end Cert.Proof
end
-- ==== Proof.Products.lean ====
/- Sums over equal tiles, for the matrix products of the mixer's calls. -/
module

public import Idealize.ShloMosaic.Lib.ValueIdx

@[expose] public section
noncomputable section
namespace Cert.Proof
open Idealize.ShloMosaic

theorem corner : (![0, 0] : Fin 2 → Nat) = fun _ => 0 := funext fun a => by fin_cases a <;> rfl

/-- A row or a column `k` of tile `b`. -/
abbrev inTile {n : ℕ} (b : Fin n) (k : Fin 1024) : Fin (n * 1024) := ⟨1024 * b.val + k.val, by omega⟩

/-- The sum of the first `n` tiles, a tile at a time. -/
theorem sum_tiles (n : ℕ) (f : Fin (n * 1024) → EReal) : ∑ b : Fin n, ∑ k : Fin 1024, f (inTile b k) = ∑ i, f i := by
  rw [← Fintype.sum_prod_type' (f := fun b k => f (inTile b k))]
  refine Fintype.sum_equiv (finProdFinEquiv (m := n) (n := 1024)) _ _ fun x => congrArg f (Fin.ext ?_)
  show 1024 * x.1.val + x.2.val = x.2.val + 1024 * x.1.val
  omega

/-- A sum kept from point to point, restarted every `b` points, holds the contributions since the restart. -/
theorem kept_sum {N b : ℕ} (s p : Fin N → EReal) (h0 : ∀ t : Fin N, t.val % b = 0 → s t = p t)
    (h1 : ∀ t : Fin N, ¬t.val % b = 0 → s t = s ⟨t.val - 1, by omega⟩ + p t) :
    ∀ (n : ℕ) (t : Fin N) (h : t.val % b = n), s t = ∑ q : Fin (n + 1), p ⟨t.val - n + q.val, by have := Nat.mod_le t.val b; omega⟩ := by
  intro n
  induction n with
  | zero =>
    intro t h
    rw [h0 t h, Fin.sum_univ_one]
    rfl
  | succ n ih =>
    intro t h
    have hle := Nat.mod_le t.val b
    have hp : (t.val - 1) % b = n := by
      have e : t.val = b * (t.val / b) + (n + 1) := by rw [← h]; exact (Nat.div_add_mod _ _).symm
      have hb : n + 1 < b ∨ b = 0 := by
        rcases Nat.eq_zero_or_pos b with hb | hb
        · exact Or.inr hb
        · exact Or.inl (h ▸ Nat.mod_lt _ hb)
      rcases hb with hb | hb
      · have e' : t.val - 1 = n + b * (t.val / b) := by omega
        rw [e', Nat.add_mul_mod_self_left, Nat.mod_eq_of_lt (by omega)]
      · subst hb; rw [Nat.mod_zero] at h ⊢; omega
    rw [h1 t (by omega), ih ⟨t.val - 1, by omega⟩ hp, Fin.sum_univ_castSucc (n := n + 1)]
    refine congrArg₂ (· + ·) (Finset.sum_congr rfl fun q _ => congrArg p (Fin.ext ?_)) (congrArg p (Fin.ext ?_))
    · show t.val - 1 - n + q.val = t.val - (n + 1) + q.val
      omega
    · show t.val = t.val - (n + 1) + (n + 1)
      omega

end Cert.Proof
end
-- ==== Proof.Ff1Value.lean ====
/- The mixer's first product over real values ends with the reference's. -/
module

public import proofs.«01_k».proof.Defs
public import proofs.«01_k».proof.Proof.Products
public import proofs.«01_k».proof.Proof.Gen.Ff1Ideal.Value
public import proofs.«01_k».proof.Proof.Gen.Ff1ReferenceIdeal.Run
public import proofs.«01_k».proof.Proof.Gen.Ff1ReferenceIdeal.Read
public import Idealize.ShloMosaic.Lib.StableHlo.RunRead
public import Idealize.ShloMosaic.Lib.Pipeline.ValueKit

@[expose] public section
set_option maxRecDepth 16384
noncomputable section
namespace Cert.Proof.Ff1
open Cert.Ff1Ideal Cert.Ff1Ideal.Gen Cert.Ff1ReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev au : FVec Ideal S16384x1024 .f32 := m ((c : Thread nD τ).loc main_arg0)
abbrev aw : FVec Ideal S1024x4096 .f32 := m ((c : Thread nD τ).loc main_arg1)

theorem V_u (i : S16384x1024.Idx) : (V m c main_v0 : FVec Ideal S16384x1024 .bf16) i = au m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem V_w (i : S1024x4096.Idx) : (V m c main_v1 : FVec Ideal S1024x4096 .bf16) i = aw m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem index_at : ∀ t : Fin grid0.N,
    win0_0.index t = ![t.val / 4, 0] ∧ win0_1.index t = ![0, t.val % 4] ∧ win0_2.index t = ![t.val / 4, t.val % 4] := by
  decide +kernel

abbrev row (t : Fin cfg0.N) : Fin 16 := ⟨t.val / 4, by have h := lt_of_lt_of_eq t.isLt N_0; omega⟩
abbrev col (t : Fin cfg0.N) : Fin 4 := ⟨t.val % 4, by omega⟩

theorem read_u (t : Fin cfg0.N) (a k : Fin 1024) : (iblk m c 0 t : FVec Ideal S1024x1024 .bf16) (ix2 a k) = au m c (ix2 (inTile (row t) a) k) := by
  obtain ⟨e, -, -⟩ := index_at t
  rw [← V_u]
  unfold iblk
  show (V m c main_v0 : FVec Ideal S16384x1024 .bf16) _ = _
  refine congrArg (V m c main_v0 : FVec Ideal S16384x1024 .bf16) ?_
  blk_ext [e]

theorem read_w (t : Fin cfg0.N) (k b : Fin 1024) : (iblk m c 1 t : FVec Ideal S1024x1024 .bf16) (ix2 k b) = aw m c (ix2 k (inTile (col t) b)) := by
  obtain ⟨-, e, -⟩ := index_at t
  rw [← V_w]
  unfold iblk
  show (V m c main_v1 : FVec Ideal S1024x4096 .bf16) _ = _
  refine congrArg (V m c main_v1 : FVec Ideal S1024x4096 .bf16) ?_
  blk_ext [e]

theorem out_at (x y : FVec Ideal S1024x1024 .bf16) (a b : Fin 1024) :
    out0_2 (F := Ideal) x y (ix2 a b) = ∑ k : Fin 1024, x (ix2 a k) * y (ix2 k b) := by
  unfold out0_2 r0_0
  rw [View.canon_unit_zero corner]
  unfold k0_pay1
  simp only [View.ld_unit_zero (S := S1024x1024) corner, shapeCast_self]
  pointwise

theorem ref_at (x : FVec Ideal S16384x1024 .f32) (y : FVec Ideal S1024x4096 .f32) (i : Fin 16384) (j : Fin 4096) :
    (val_main_v1 (F := Ideal) x y : FVec Ideal S16384x4096 .bf16) (ix2 i j) = ∑ k : Fin 1024, x (ix2 i k) * y (ix2 k j) := by
  pointwise [val_main_v1, val_main_v0]

theorem arr : (dats m 0 c).arrAt 2 cfg0.N = (val_main_v1 (F := Ideal) (au m c) (aw m c) : FVec Ideal S16384x4096 .bf16) := by
  refine (dats m 0 c).arrAt_eq_of_covers 2 _ (by decide +kernel) fun t hf y => ?_
  obtain ⟨-, -, e⟩ := index_at t
  obtain ⟨a, b, rfl⟩ : ∃ (a b : Fin 1024), y = ix2 a b := ⟨y 0, y 1, by funext d; fin_cases d <;> rfl⟩
  refine Eq.trans ?_ (congrArg (val_main_v1 (F := Ideal) (au m c) (aw m c)) (?_ : ix2 (inTile (row t) a) (inTile (col t) b) = _))
  · rw [ref_at]
    refine (congrFun (after0_2 m c t) (ix2 a b)).trans ((out_at _ _ a b).trans ?_)
    exact Finset.sum_congr rfl fun k _ => by rw [read_u, read_w]
  · symm; blk_ext [e]

theorem frame_reference : quiescent_Ff1ReferenceIdeal (hFf1ReferenceIdeal := Cert.Ff1ReferenceIdeal.Gen.facts) := fun m ρ _ =>
  (θ_run Cert.Ff1ReferenceIdeal.defs _ _).mono (fun r h => ⟨fun c => (h c).2, sem_eq_zero_of_no_sems (by decide) r.2⟩)
    (Cert.Ff1ReferenceIdeal.Value.run (F := Ideal) m ρ)

theorem algebraic : algebraic_Ff1Ideal_Ff1ReferenceIdeal (hFf1Ideal := Cert.Ff1Ideal.Gen.facts) (hFf1ReferenceIdeal := Cert.Ff1ReferenceIdeal.Gen.facts) := by
  intro m g m' g' hp hm
  refine ⟨fun c => val_main_v1 (F := Ideal) (au m c) (aw m c), ?_, ?_⟩
  · exact (θ_run defs _ _).mono (fun r h c => ⟨(h c).1.trans (arr m c), (h c).2⟩) (Cert.Ff1Ideal.Value.run_blocks m g)
  · refine (θ_run Cert.Ff1ReferenceIdeal.defs _ _).mono (fun r h c => ?_) (Cert.Ff1ReferenceIdeal.Value.run m' g')
    obtain ⟨e0, e1⟩ := hm c
    refine ⟨(h c).1.trans ((val_main_v1_eq _ _).trans ?_), (h c).2⟩
    rw [e0, e1]

end Cert.Proof.Ff1
end
-- ==== Proof.DActValue.lean ====
/- The gradient of the mixer's activation over real values ends with the reference's. -/
module

public import proofs.«01_k».proof.Defs
public import proofs.«01_k».proof.Proof.Products
public import proofs.«01_k».proof.Proof.Gen.DActIdeal.Value
public import proofs.«01_k».proof.Proof.Gen.DActReferenceIdeal.Run
public import proofs.«01_k».proof.Proof.Gen.DActReferenceIdeal.Read
public import Idealize.ShloMosaic.Lib.StableHlo.RunRead
public import Idealize.ShloMosaic.Lib.Pipeline.ValueKit

@[expose] public section
set_option maxRecDepth 16384
noncomputable section
namespace Cert.Proof.DAct
open Cert.DActIdeal Cert.DActIdeal.Gen Cert.DActReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev aa : FVec Ideal S16384x4096 .f32 := m ((c : Thread nD τ).loc main_arg0)
abbrev aw : FVec Ideal S4096x1024 .f32 := m ((c : Thread nD τ).loc main_arg1)
abbrev ad : FVec Ideal S16384x1024 .f32 := m ((c : Thread nD τ).loc main_arg2)

theorem V_a (i : S16384x4096.Idx) : (V m c main_v0 : FVec Ideal S16384x4096 .bf16) i = aa m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem V_d (i : S16384x1024.Idx) : (V m c main_v2 : FVec Ideal S16384x1024 .bf16) i = ad m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem V_w (k : Fin 1024) (j : Fin 4096) : (V m c main_v3 : FVec Ideal S1024x4096 .bf16) (ix2 k j) = aw m c (ix2 j k) := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  exact transpose_apply [1, 0] _ transposes_S4096x1024_S1024x4096_1_0 (ix2 k j) (ix2 j k) (fun b => match b with
    | ⟨0, _⟩ => rfl
    | ⟨1, _⟩ => rfl)

theorem index_at : ∀ t : Fin grid0.N,
    win0_0.index t = ![t.val / 4, 0] ∧ win0_1.index t = ![0, t.val % 4] ∧ win0_2.index t = ![t.val / 4, t.val % 4] ∧ win0_3.index t = ![t.val / 4, t.val % 4] := by
  decide +kernel

abbrev row (t : Fin cfg0.N) : Fin 16 := ⟨t.val / 4, by have h := lt_of_lt_of_eq t.isLt N_0; omega⟩
abbrev col (t : Fin cfg0.N) : Fin 4 := ⟨t.val % 4, by omega⟩

theorem read_d (t : Fin cfg0.N) (a k : Fin 1024) : (iblk m c 0 t : FVec Ideal S1024x1024 .bf16) (ix2 a k) = ad m c (ix2 (inTile (row t) a) k) := by
  obtain ⟨e, -⟩ := index_at t
  rw [← V_d]
  unfold iblk
  show (V m c main_v2 : FVec Ideal S16384x1024 .bf16) _ = _
  refine congrArg (V m c main_v2 : FVec Ideal S16384x1024 .bf16) ?_
  blk_ext [e]

theorem read_w (t : Fin cfg0.N) (k b : Fin 1024) : (iblk m c 1 t : FVec Ideal S1024x1024 .bf16) (ix2 k b) = aw m c (ix2 (inTile (col t) b) k) := by
  obtain ⟨-, e, -⟩ := index_at t
  rw [← V_w]
  unfold iblk
  show (V m c main_v3 : FVec Ideal S1024x4096 .bf16) _ = _
  refine congrArg (V m c main_v3 : FVec Ideal S1024x4096 .bf16) ?_
  blk_ext [e]

theorem read_a (t : Fin cfg0.N) (a b : Fin 1024) : (iblk m c 2 t : FVec Ideal S1024x1024 .bf16) (ix2 a b) = aa m c (ix2 (inTile (row t) a) (inTile (col t) b)) := by
  obtain ⟨-, -, e, -⟩ := index_at t
  rw [← V_a]
  unfold iblk
  show (V m c main_v0 : FVec Ideal S16384x4096 .bf16) _ = _
  refine congrArg (V m c main_v0 : FVec Ideal S16384x4096 .bf16) ?_
  blk_ext [e]

/-- Twice the positive part, as printed. -/
abbrev slope (a : EReal) : EReal := Ideal.ofBits .f32 0x40000000#32 * max a 0

theorem out_at (x y z : FVec Ideal S1024x1024 .bf16) (a b : Fin 1024) :
    out0_3 (F := Ideal) x y z (ix2 a b) = (∑ k : Fin 1024, x (ix2 a k) * y (ix2 k b)) * slope (z (ix2 a b)) := by
  unfold out0_3 r0_0
  rw [View.canon_unit_zero corner]
  unfold k0_pay1
  simp only [View.ld_unit_zero (S := S1024x1024) corner, shapeCast_self]
  pointwise

theorem ref_at (x : FVec Ideal S16384x4096 .f32) (y : FVec Ideal S4096x1024 .f32) (z : FVec Ideal S16384x1024 .f32) (i : Fin 16384) (j : Fin 4096) :
    (val_main_v12 (F := Ideal) x y z : FVec Ideal S16384x4096 .bf16) (ix2 i j) = (∑ k : Fin 1024, z (ix2 i k) * y (ix2 j k)) * slope (x (ix2 i j)) := by
  pointwise [val_main_v12, val_main_v11, val_main_v10, val_main_v9, val_main_v8, val_main_v6, val_main_v5, val_main_v2, val_main_v1, val_main_v0, val_main_cst, val_main_cst_1, val_main_cst_2, val_main_call0_v0, val_main_call0_cst]
  split_ifs with h
  · rfl
  · rw [slope, max_eq_right (not_lt.mp h), mul_zero, mul_zero]

theorem arr : (dats m 0 c).arrAt 3 cfg0.N = (val_main_v12 (F := Ideal) (aa m c) (aw m c) (ad m c) : FVec Ideal S16384x4096 .bf16) := by
  refine (dats m 0 c).arrAt_eq_of_covers 3 _ (by decide +kernel) fun t hf y => ?_
  obtain ⟨-, -, -, e⟩ := index_at t
  obtain ⟨a, b, rfl⟩ : ∃ (a b : Fin 1024), y = ix2 a b := ⟨y 0, y 1, by funext d; fin_cases d <;> rfl⟩
  refine Eq.trans ?_ (congrArg (val_main_v12 (F := Ideal) (aa m c) (aw m c) (ad m c)) (?_ : ix2 (inTile (row t) a) (inTile (col t) b) = _))
  · rw [ref_at]
    refine (congrFun (after0_3 m c t) (ix2 a b)).trans ((out_at _ _ _ a b).trans ?_)
    rw [read_a]
    exact congrArg (· * _) (Finset.sum_congr rfl fun k _ => by rw [read_d, read_w])
  · symm; blk_ext [e]

theorem frame_reference : quiescent_DActReferenceIdeal (hDActReferenceIdeal := Cert.DActReferenceIdeal.Gen.facts) := fun m ρ _ =>
  (θ_run Cert.DActReferenceIdeal.defs _ _).mono (fun r h => ⟨fun c => (h c).2, sem_eq_zero_of_no_sems (by decide) r.2⟩)
    (Cert.DActReferenceIdeal.Value.run (F := Ideal) m ρ)

theorem algebraic : algebraic_DActIdeal_DActReferenceIdeal (hDActIdeal := Cert.DActIdeal.Gen.facts) (hDActReferenceIdeal := Cert.DActReferenceIdeal.Gen.facts) := by
  intro m g m' g' hp hm
  refine ⟨fun c => val_main_v12 (F := Ideal) (aa m c) (aw m c) (ad m c), ?_, ?_⟩
  · exact (θ_run defs _ _).mono (fun r h c => ⟨(h c).1.trans (arr m c), (h c).2⟩) (Cert.DActIdeal.Value.run_blocks m g)
  · refine (θ_run Cert.DActReferenceIdeal.defs _ _).mono (fun r h c => ?_) (Cert.DActReferenceIdeal.Value.run m' g')
    obtain ⟨e0, e1, e2⟩ := hm c
    refine ⟨(h c).1.trans ((val_main_v12_eq _ _ _).trans ?_), (h c).2⟩
    rw [e0, e1, e2]

end Cert.Proof.DAct
end
-- ==== Proof.DwFf2Value.lean ====
/- The mixer's second weight gradient over real values ends with the reference's. -/
module

public import proofs.«01_k».proof.Defs
public import proofs.«01_k».proof.Proof.Products
public import proofs.«01_k».proof.Proof.Gen.DwFf2Ideal.Value
public import proofs.«01_k».proof.Proof.Gen.DwFf2ReferenceIdeal.Run
public import proofs.«01_k».proof.Proof.Gen.DwFf2ReferenceIdeal.Read
public import Idealize.ShloMosaic.Lib.StableHlo.RunRead
public import Idealize.ShloMosaic.Lib.Pipeline.ValueKit

@[expose] public section
set_option maxRecDepth 16384
noncomputable section
namespace Cert.Proof.DwFf2
open Cert.DwFf2Ideal Cert.DwFf2Ideal.Gen Cert.DwFf2ReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x4096 .f32 := m ((c : Thread nD τ).loc main_arg0)
abbrev ay : FVec Ideal S16384x1024 .f32 := m ((c : Thread nD τ).loc main_arg1)

theorem V_x (i : S16384x4096.Idx) : (V m c main_v0 : FVec Ideal S16384x4096 .bf16) i = ax m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem V_y (i : S16384x1024.Idx) : (V m c main_v1 : FVec Ideal S16384x1024 .bf16) i = ay m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem index_at : ∀ t : Fin grid0.N,
    win0_0.index t = ![t.val % 16, t.val / 16] ∧ win0_1.index t = ![t.val % 16, 0] ∧ win0_2.index t = ![t.val / 16, 0] := by
  decide +kernel

/-- The tile of the summed axis at a point, and the output's tile. -/
abbrev step (t : Fin cfg0.N) : Fin 16 := ⟨t.val % 16, by omega⟩
abbrev row (t : Fin cfg0.N) : Fin 4 := ⟨t.val / 16, by have h := lt_of_lt_of_eq t.isLt N_0; omega⟩
abbrev col (t : Fin cfg0.N) : Fin 1 := 0

/-- The blocks at a point, and the point of the same tile that many steps in. -/
abbrev xb (t : Fin cfg0.N) : FVec Ideal S1024x1024 .bf16 := iblk m c 0 t
abbrev yb (t : Fin cfg0.N) : FVec Ideal S1024x1024 .bf16 := iblk m c 1 t
abbrev turn (t : Fin cfg0.N) (h : t.val % 16 = 15) (q : Fin 16) : Fin cfg0.N :=
  ⟨t.val - 15 + q.val, lt_of_lt_of_eq (by have := lt_of_lt_of_eq t.isLt N_0; omega) N_0.symm⟩

theorem read_x (t : Fin cfg0.N) (k a : Fin 1024) : xb m c t (ix2 k a) = ax m c (ix2 (inTile (step t) k) (inTile (row t) a)) := by
  obtain ⟨e, -, -⟩ := index_at t
  rw [← V_x]
  unfold xb iblk
  show (V m c main_v0 : FVec Ideal S16384x4096 .bf16) _ = _
  refine congrArg (V m c main_v0 : FVec Ideal S16384x4096 .bf16) ?_
  blk_ext [e]

theorem read_y (t : Fin cfg0.N) (k b : Fin 1024) : yb m c t (ix2 k b) = ay m c (ix2 (inTile (step t) k) (inTile (col t) b)) := by
  obtain ⟨-, e, -⟩ := index_at t
  rw [← V_y]
  unfold yb iblk
  show (V m c main_v1 : FVec Ideal S16384x1024 .bf16) _ = _
  refine congrArg (V m c main_v1 : FVec Ideal S16384x1024 .bf16) ?_
  blk_ext [e]

/-- The square of the positive part. -/
abbrev sq (a : EReal) : EReal := max a 0 * max a 0

/-- What a point leaves in the sum, over what it finds there. -/
theorem more (x y : FVec Ideal S1024x1024 .bf16) (s : FVec Ideal S1024x1024 .f32) (a b : Fin 1024) :
    k0_pay2 (F := Ideal) x s y (ix2 a b) = s (ix2 a b) + ∑ k : Fin 1024, sq (x (ix2 k a)) * y (ix2 k b) := by
  unfold k0_pay2
  simp only [shapeCast_self]
  pointwise

theorem zero (a b : Fin 1024) : k0_pay1 (F := Ideal) (ix2 a b) = 0 := by
  unfold k0_pay1
  simp only [shapeCast_self]
  pointwise

theorem sum_A {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x y : Vec F S1024x1024 .bf16) :
    sout0_A_0 (F := F) c i a3 h3 a4 h4 a5 h5 a6 h6 hc0 hc1 x y = k0_pay2 (F := F) x k0_pay1 y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) corner, View.readCov_unit_zero (S := S1024x1024) _ corner]
  simp only [View.readAt_eq_ld, h3.read_unread, h4.read_unread, View.ld_unit_zero (S := S1024x1024) corner]

theorem sum_B {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x y : Vec F S1024x1024 .bf16) (s : Vec F S1024x1024 .f32) :
    sout0_B_0 (F := F) c i a3 h3 a4 h4 a5 h5 a6 h6 hc0 hc1 x y s = k0_pay2 (F := F) x s y := by
  unfold sout0_B_0
  rw [View.read_writes_eq_canon _ _ _ (scover0_B_0 c i a3 h3 a4 h4 a5 h5 a6 h6 hc0 hc1 x y s)]
  unfold kernelRun0_B
  dsimp only
  rw [View.canon_unit_zero corner]
  simp only [View.readAt_eq_ld, h3.read_unread, h4.read_unread, h6.read_unread, View.ld_unit_zero (S := S1024x1024) corner]

theorem sum_C {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x y : Vec F S1024x1024 .bf16) (s : Vec F S1024x1024 .f32) :
    sout0_C_0 (F := F) c i a3 h3 a4 h4 a5 h5 a6 h6 hc0 hc1 x y s = k0_pay2 (F := F) x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero corner]
  simp only [View.readAt_eq_ld, h3.read_unread, h4.read_unread, h6.read_unread, View.ld_unit_zero (S := S1024x1024) corner]

theorem out_C {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x y : Vec F S1024x1024 .bf16) (s : Vec F S1024x1024 .f32) :
    out0_C_2 (F := F) c i a3 h3 a4 h4 a5 h5 a6 h6 hc0 hc1 x y s = k0_pay2 (F := F) x s y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero corner, View.readCov_unit_zero (S := S1024x1024) _ corner]
  simp only [View.readAt_eq_ld, h3.read_unread, h4.read_unread, h6.read_unread, View.ld_unit_zero (S := S1024x1024) corner]

/-- What a point adds to the output's element `(a, b)` of its tile. -/
abbrev part (t : Fin cfg0.N) (a b : Fin 1024) : EReal :=
  ∑ k : Fin 1024, sq (xb m c t (ix2 k a)) * yb m c t (ix2 k b)

/-- After a tile's last point the sum holds all sixteen contributions. -/
theorem held (t : Fin cfg0.N) (h : t.val % 16 = 15) (a b : Fin 1024) :
    (outsAt0 m c t.val t.isLt).2 (ix2 a b) = ∑ q : Fin 16, part m c (turn t h q) a b := by
  refine kept_sum (b := 16) (fun t => (outsAt0 m c t.val t.isLt).2 (ix2 a b)) (fun t => part m c t a b) (fun t ht => ?_) (fun t ht => ?_) 15 t h
  · rw [outsAt0_A m c t ht (by omega)]
    dsimp only
    rw [sum_A, more, zero, zero_add]
  · dsimp only
    by_cases h15 : t.val % 16 = 15
    · rw [outsAt0_C m c t ht h15]
      dsimp only
      rw [sum_C, more]
    · rw [outsAt0_B m c t ht h15]
      dsimp only
      rw [sum_B, more]

/-- The last point writes the whole sum. -/
theorem wrote (t : Fin cfg0.N) (h : t.val % 16 = 15) : (outsAt0 m c t.val t.isLt).1 = (outsAt0 m c t.val t.isLt).2 := by
  rw [outsAt0_C m c t (by omega) h]
  dsimp only
  rw [out_C, sum_C]

theorem ref_at (x : FVec Ideal S16384x4096 .f32) (y : FVec Ideal S16384x1024 .f32) (i : Fin 4096) (j : Fin 1024) :
    (val_main_v5 (F := Ideal) x y : FVec Ideal S4096x1024 .f32) (ix2 i j) = ∑ k : Fin 16384, sq (x (ix2 k i)) * y (ix2 k j) := by
  pointwise [val_main_v5, val_main_v4, val_main_v2, val_main_v1, val_main_call0_v0, val_main_call0_cst]
  exact Finset.sum_congr rfl fun k _ => mul_comm (G := EReal) _ _

theorem arr : (dats m 0 c).arrAt 2 cfg0.N = (val_main_v5 (F := Ideal) (ax m c) (ay m c) : FVec Ideal S4096x1024 .f32) := by
  refine (dats m 0 c).arrAt_eq_of_covers 2 _ (by decide +kernel) fun t hf y => ?_
  have h15 : t.val % 16 = 15 := (flush0_2 t).mp hf
  obtain ⟨-, -, e⟩ := index_at t
  obtain ⟨a, b, rfl⟩ : ∃ (a b : Fin 1024), y = ix2 a b := ⟨y 0, y 1, by funext d; fin_cases d <;> rfl⟩
  refine Eq.trans ?_ (congrArg (val_main_v5 (F := Ideal) (ax m c) (ay m c)) (?_ : ix2 (inTile (row t) a) (inTile (col t) b) = _))
  · rw [ref_at, ← sum_tiles 16]
    refine (congrFun ((after0_2 m c t).trans (wrote m c t h15)) (ix2 a b)).trans ((held m c t h15 a b).trans ?_)
    refine Finset.sum_congr rfl fun q _ => Finset.sum_congr rfl fun k _ => ?_
    have hs : step (turn t h15 q) = q := Fin.ext (by show (t.val - 15 + q.val) % 16 = q.val; omega)
    have hr : row (turn t h15 q) = row t := Fin.ext (by show (t.val - 15 + q.val) / 16 = t.val / 16; omega)
    have hc : col (turn t h15 q) = col t := rfl
    rw [read_x, read_y, hs, hr, hc]
  · symm; blk_ext [e]

theorem frame_reference : quiescent_DwFf2ReferenceIdeal (hDwFf2ReferenceIdeal := Cert.DwFf2ReferenceIdeal.Gen.facts) := fun m ρ _ =>
  (θ_run Cert.DwFf2ReferenceIdeal.defs _ _).mono (fun r h => ⟨fun c => (h c).2, sem_eq_zero_of_no_sems (by decide) r.2⟩)
    (Cert.DwFf2ReferenceIdeal.Value.run (F := Ideal) m ρ)

theorem algebraic : algebraic_DwFf2Ideal_DwFf2ReferenceIdeal (hDwFf2Ideal := Cert.DwFf2Ideal.Gen.facts) (hDwFf2ReferenceIdeal := Cert.DwFf2ReferenceIdeal.Gen.facts) := by
  intro m g m' g' hp hm
  refine ⟨fun c => val_main_v5 (F := Ideal) (ax m c) (ay m c), ?_, ?_⟩
  · exact (θ_run defs _ _).mono (fun r h c => ⟨(h c).1.trans (arr m c), (h c).2⟩) (Cert.DwFf2Ideal.Value.run_blocks m g)
  · refine (θ_run Cert.DwFf2ReferenceIdeal.defs _ _).mono (fun r h c => ?_) (Cert.DwFf2ReferenceIdeal.Value.run m' g')
    obtain ⟨e0, e1⟩ := hm c
    refine ⟨(h c).1.trans ((val_main_v5_eq _ _).trans ?_), (h c).2⟩
    rw [e0, e1]

end Cert.Proof.DwFf2
end
-- ==== Proof.DwFf1Value.lean ====
/- The mixer's first weight gradient over real values ends with the reference's. -/
module

public import proofs.«01_k».proof.Defs
public import proofs.«01_k».proof.Proof.Products
public import proofs.«01_k».proof.Proof.Gen.DwFf1Ideal.Value
public import proofs.«01_k».proof.Proof.Gen.DwFf1ReferenceIdeal.Run
public import proofs.«01_k».proof.Proof.Gen.DwFf1ReferenceIdeal.Read
public import Idealize.ShloMosaic.Lib.StableHlo.RunRead
public import Idealize.ShloMosaic.Lib.Pipeline.ValueKit

@[expose] public section
set_option maxRecDepth 16384
noncomputable section
namespace Cert.Proof.DwFf1
open Cert.DwFf1Ideal Cert.DwFf1Ideal.Gen Cert.DwFf1ReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x1024 .f32 := m ((c : Thread nD τ).loc main_arg0)
abbrev ay : FVec Ideal S16384x4096 .f32 := m ((c : Thread nD τ).loc main_arg1)

theorem V_x (i : S16384x1024.Idx) : (V m c main_v0 : FVec Ideal S16384x1024 .bf16) i = ax m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem V_y (i : S16384x4096.Idx) : (V m c main_v1 : FVec Ideal S16384x4096 .bf16) i = ay m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem index_at : ∀ t : Fin grid0.N,
    win0_0.index t = ![t.val % 16, 0] ∧ win0_1.index t = ![t.val % 16, t.val / 16] ∧ win0_2.index t = ![0, t.val / 16] := by
  decide +kernel

/-- The tile of the summed axis at a point, and the output's tile. -/
abbrev step (t : Fin cfg0.N) : Fin 16 := ⟨t.val % 16, by omega⟩
abbrev row (t : Fin cfg0.N) : Fin 1 := 0
abbrev col (t : Fin cfg0.N) : Fin 4 := ⟨t.val / 16, by have h := lt_of_lt_of_eq t.isLt N_0; omega⟩

/-- The blocks at a point, and the point of the same tile that many steps in. -/
abbrev xb (t : Fin cfg0.N) : FVec Ideal S1024x1024 .bf16 := iblk m c 0 t
abbrev yb (t : Fin cfg0.N) : FVec Ideal S1024x1024 .bf16 := iblk m c 1 t
abbrev turn (t : Fin cfg0.N) (h : t.val % 16 = 15) (q : Fin 16) : Fin cfg0.N :=
  ⟨t.val - 15 + q.val, lt_of_lt_of_eq (by have := lt_of_lt_of_eq t.isLt N_0; omega) N_0.symm⟩

theorem read_x (t : Fin cfg0.N) (k a : Fin 1024) : xb m c t (ix2 k a) = ax m c (ix2 (inTile (step t) k) (inTile (row t) a)) := by
  obtain ⟨e, -, -⟩ := index_at t
  rw [← V_x]
  unfold xb iblk
  show (V m c main_v0 : FVec Ideal S16384x1024 .bf16) _ = _
  refine congrArg (V m c main_v0 : FVec Ideal S16384x1024 .bf16) ?_
  blk_ext [e]

theorem read_y (t : Fin cfg0.N) (k b : Fin 1024) : yb m c t (ix2 k b) = ay m c (ix2 (inTile (step t) k) (inTile (col t) b)) := by
  obtain ⟨-, e, -⟩ := index_at t
  rw [← V_y]
  unfold yb iblk
  show (V m c main_v1 : FVec Ideal S16384x4096 .bf16) _ = _
  refine congrArg (V m c main_v1 : FVec Ideal S16384x4096 .bf16) ?_
  blk_ext [e]

/-- What a point leaves in the sum, over what it finds there. -/
theorem more (x y : FVec Ideal S1024x1024 .bf16) (s : FVec Ideal S1024x1024 .f32) (a b : Fin 1024) :
    k0_pay2 (F := Ideal) x s y (ix2 a b) = s (ix2 a b) + ∑ k : Fin 1024, x (ix2 k a) * y (ix2 k b) := by
  unfold k0_pay2
  simp only [shapeCast_self]
  pointwise

theorem zero (a b : Fin 1024) : k0_pay1 (F := Ideal) (ix2 a b) = 0 := by
  unfold k0_pay1
  simp only [shapeCast_self]
  pointwise

theorem sum_A {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x y : Vec F S1024x1024 .bf16) :
    sout0_A_0 (F := F) c i a3 h3 a4 h4 a5 h5 a6 h6 hc0 hc1 x y = k0_pay2 (F := F) x k0_pay1 y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) corner, View.readCov_unit_zero (S := S1024x1024) _ corner]
  simp only [View.readAt_eq_ld, h3.read_unread, h4.read_unread, View.ld_unit_zero (S := S1024x1024) corner]

theorem sum_B {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x y : Vec F S1024x1024 .bf16) (s : Vec F S1024x1024 .f32) :
    sout0_B_0 (F := F) c i a3 h3 a4 h4 a5 h5 a6 h6 hc0 hc1 x y s = k0_pay2 (F := F) x s y := by
  unfold sout0_B_0
  rw [View.read_writes_eq_canon _ _ _ (scover0_B_0 c i a3 h3 a4 h4 a5 h5 a6 h6 hc0 hc1 x y s)]
  unfold kernelRun0_B
  dsimp only
  rw [View.canon_unit_zero corner]
  simp only [View.readAt_eq_ld, h3.read_unread, h4.read_unread, h6.read_unread, View.ld_unit_zero (S := S1024x1024) corner]

theorem sum_C {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x y : Vec F S1024x1024 .bf16) (s : Vec F S1024x1024 .f32) :
    sout0_C_0 (F := F) c i a3 h3 a4 h4 a5 h5 a6 h6 hc0 hc1 x y s = k0_pay2 (F := F) x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero corner]
  simp only [View.readAt_eq_ld, h3.read_unread, h4.read_unread, h6.read_unread, View.ld_unit_zero (S := S1024x1024) corner]

theorem out_C {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x y : Vec F S1024x1024 .bf16) (s : Vec F S1024x1024 .f32) :
    out0_C_2 (F := F) c i a3 h3 a4 h4 a5 h5 a6 h6 hc0 hc1 x y s = k0_pay2 (F := F) x s y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero corner, View.readCov_unit_zero (S := S1024x1024) _ corner]
  simp only [View.readAt_eq_ld, h3.read_unread, h4.read_unread, h6.read_unread, View.ld_unit_zero (S := S1024x1024) corner]

/-- What a point adds to the output's element `(a, b)` of its tile. -/
abbrev part (t : Fin cfg0.N) (a b : Fin 1024) : EReal :=
  ∑ k : Fin 1024, xb m c t (ix2 k a) * yb m c t (ix2 k b)

/-- After a tile's last point the sum holds all sixteen contributions. -/
theorem held (t : Fin cfg0.N) (h : t.val % 16 = 15) (a b : Fin 1024) :
    (outsAt0 m c t.val t.isLt).2 (ix2 a b) = ∑ q : Fin 16, part m c (turn t h q) a b := by
  refine kept_sum (b := 16) (fun t => (outsAt0 m c t.val t.isLt).2 (ix2 a b)) (fun t => part m c t a b) (fun t ht => ?_) (fun t ht => ?_) 15 t h
  · rw [outsAt0_A m c t ht (by omega)]
    dsimp only
    rw [sum_A, more, zero, zero_add]
  · dsimp only
    by_cases h15 : t.val % 16 = 15
    · rw [outsAt0_C m c t ht h15]
      dsimp only
      rw [sum_C, more]
    · rw [outsAt0_B m c t ht h15]
      dsimp only
      rw [sum_B, more]

/-- The last point writes the whole sum. -/
theorem wrote (t : Fin cfg0.N) (h : t.val % 16 = 15) : (outsAt0 m c t.val t.isLt).1 = (outsAt0 m c t.val t.isLt).2 := by
  rw [outsAt0_C m c t (by omega) h]
  dsimp only
  rw [out_C, sum_C]

theorem ref_at (x : FVec Ideal S16384x1024 .f32) (y : FVec Ideal S16384x4096 .f32) (i : Fin 1024) (j : Fin 4096) :
    (val_main_v3 (F := Ideal) x y : FVec Ideal S1024x4096 .f32) (ix2 i j) = ∑ k : Fin 16384, x (ix2 k i) * y (ix2 k j) := by
  pointwise [val_main_v3, val_main_v2]
  exact Finset.sum_congr rfl fun k _ => mul_comm _ _

theorem arr : (dats m 0 c).arrAt 2 cfg0.N = (val_main_v3 (F := Ideal) (ax m c) (ay m c) : FVec Ideal S1024x4096 .f32) := by
  refine (dats m 0 c).arrAt_eq_of_covers 2 _ (by decide +kernel) fun t hf y => ?_
  have h15 : t.val % 16 = 15 := (flush0_2 t).mp hf
  obtain ⟨-, -, e⟩ := index_at t
  obtain ⟨a, b, rfl⟩ : ∃ (a b : Fin 1024), y = ix2 a b := ⟨y 0, y 1, by funext d; fin_cases d <;> rfl⟩
  refine Eq.trans ?_ (congrArg (val_main_v3 (F := Ideal) (ax m c) (ay m c)) (?_ : ix2 (inTile (row t) a) (inTile (col t) b) = _))
  · rw [ref_at, ← sum_tiles 16]
    refine (congrFun ((after0_2 m c t).trans (wrote m c t h15)) (ix2 a b)).trans ((held m c t h15 a b).trans ?_)
    refine Finset.sum_congr rfl fun q _ => Finset.sum_congr rfl fun k _ => ?_
    have hs : step (turn t h15 q) = q := Fin.ext (by show (t.val - 15 + q.val) % 16 = q.val; omega)
    have hr : row (turn t h15 q) = row t := rfl
    have hc : col (turn t h15 q) = col t := Fin.ext (by show (t.val - 15 + q.val) / 16 = t.val / 16; omega)
    rw [read_x, read_y, hs, hr, hc]
  · symm; blk_ext [e]

theorem frame_reference : quiescent_DwFf1ReferenceIdeal (hDwFf1ReferenceIdeal := Cert.DwFf1ReferenceIdeal.Gen.facts) := fun m ρ _ =>
  (θ_run Cert.DwFf1ReferenceIdeal.defs _ _).mono (fun r h => ⟨fun c => (h c).2, sem_eq_zero_of_no_sems (by decide) r.2⟩)
    (Cert.DwFf1ReferenceIdeal.Value.run (F := Ideal) m ρ)

theorem algebraic : algebraic_DwFf1Ideal_DwFf1ReferenceIdeal (hDwFf1Ideal := Cert.DwFf1Ideal.Gen.facts) (hDwFf1ReferenceIdeal := Cert.DwFf1ReferenceIdeal.Gen.facts) := by
  intro m g m' g' hp hm
  refine ⟨fun c => val_main_v3 (F := Ideal) (ax m c) (ay m c), ?_, ?_⟩
  · exact (θ_run defs _ _).mono (fun r h c => ⟨(h c).1.trans (arr m c), (h c).2⟩) (Cert.DwFf1Ideal.Value.run_blocks m g)
  · refine (θ_run Cert.DwFf1ReferenceIdeal.defs _ _).mono (fun r h c => ?_) (Cert.DwFf1ReferenceIdeal.Value.run m' g')
    obtain ⟨e0, e1⟩ := hm c
    refine ⟨(h c).1.trans ((val_main_v3_eq _ _).trans ?_), (h c).2⟩
    rw [e0, e1]

end Cert.Proof.DwFf1
end
-- ==== Proof.ProjRun.lean ====
/- The projection's launch with its outputs named: what each output's buffer holds after each grid point, and the run from that. -/
module

public import proofs.«01_k».proof.Proof.Products
public import proofs.«01_k».proof.Proof.Gen.ProjIdeal.Frame
public import Idealize.ShloMosaic.Lib.Pipeline.TableIdle
public import Idealize.ShloMosaic.Lib.Pipeline.ValueKit

@[expose] public section
set_option maxRecDepth 16384
noncomputable section
namespace Cert.Proof.Proj
open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two products of a point. -/
def wide (x : Vec F S1024x1024 .bf16) (y : Vec F S1024x1664 .bf16) : Vec F S1024x1664 .bf16 :=
  truncf .bf16 (matmul dot_S1024x1024_S1024x1664_S1024x1664_1_0_0_1_n_n none (shapeCast S1024x1024 x shapeCasts_S1024x1024_S1024x1024 : FVec F S1024x1024 .bf16)
    (shapeCast S1024x1664 y shapeCasts_S1024x1664_S1024x1664 : FVec F S1024x1664 .bf16) (constant S1024x1664 .f32 0x00000000#32 : FVec F S1024x1664 .f32)) bitsLt_bf16_f32

def slim (x : Vec F S1024x1024 .bf16) (z : Vec F S1024x128 .bf16) : Vec F S1024x128 .f32 :=
  matmul dot_S1024x1024_S1024x128_S1024x128_1_0_0_1_n_n none (shapeCast S1024x1024 x shapeCasts_S1024x1024_S1024x1024 : FVec F S1024x1024 .bf16)
    (shapeCast S1024x128 z shapeCasts_S1024x128_S1024x128 : FVec F S1024x128 .bf16) (constant S1024x128 .f32 0x00000000#32 : FVec F S1024x128 .f32)

section
variable (c : Dev nD) (i : grid0.Coords) (a2 : Memref sig .tc .vmem S1024x1024 .bf16) (h2 : a2.IsWhole) (a3 : Memref sig .tc .vmem S1024x1664 .bf16) (h3 : a3.IsWhole)
  (a4 : Memref sig .tc .vmem S1024x128 .bf16) (h4 : a4.IsWhole) (a5 : Memref sig .tc .vmem S1024x1664 .bf16) (h5 : a5.IsWhole) (a6 : Memref sig .tc .vmem S1024x128 .f32) (h6 : a6.IsWhole)
  (x : Vec F S1024x1024 .bf16) (y : Vec F S1024x1664 .bf16) (z : Vec F S1024x128 .bf16)

theorem wide_writes (b : BufTy.Contents (Elt F) a5.view.ty) (p : Vec F S1024x1664 .bf16) :
    a5.view.read (Elt F) (a5.view.writes (Elt F) b [⟨Rect.unit (s := S1024x1664) ![0, 0] S1024x1664.size inb_S1024x1664_S1024x1664_0_0, p⟩]) = p := by
  refine (View.read_writes_eq_canon _ _ _ (fun y => View.cover_of_tiled
    [⟨Rect.unit (s := S1024x1664) ![0, 0] S1024x1664.size inb_S1024x1664_S1024x1664_0_0, p⟩] S1024x1664.size (by rfl) y)).trans ?_
  rw [View.canon_unit_zero corner]

theorem slim_writes (b : BufTy.Contents (Elt F) a6.view.ty) (p : Vec F S1024x128 .f32) :
    a6.view.read (Elt F) (a6.view.writes (Elt F) b [⟨Rect.unit (s := S1024x128) ![0, 0] S1024x128.size inb_S1024x128_S1024x128_0_0, p⟩]) = p := by
  refine (View.read_writes_eq_canon _ _ _ (fun y => View.cover_of_tiled
    [⟨Rect.unit (s := S1024x128) ![0, 0] S1024x128.size inb_S1024x128_S1024x128_0_0, p⟩] S1024x128.size (by rfl) y)).trans ?_
  rw [View.canon_unit_zero corner]

set_option maxHeartbeats 1000000 in
/-- A point at the first column writes both products. -/
theorem first (hc : k0_cond1 i = 1#1) (E : Set ℕ) (K : PUnit → sProp 𝕄) :
    iprop(owns (c : Thread nD τ) a2 fullShare x ∗ owns (c : Thread nD τ) a3 fullShare y ∗ owns (c : Thread nD τ) a4 fullShare z
        ∗ (∃ d, owns (c : Thread nD τ) a5 fullShare d) ∗ (∃ d, owns (c : Thread nD τ) a6 fullShare d)
        ∗ (iprop(owns (c : Thread nD τ) a2 fullShare x ∗ owns (c : Thread nD τ) a3 fullShare y ∗ owns (c : Thread nD τ) a4 fullShare z
            ∗ owns (c : Thread nD τ) a5 fullShare (wide x y) ∗ owns (c : Thread nD τ) a6 fullShare (slim x z)) -∗ K ⟨⟩))
      ⊢ wp frame (wpE (defs₀ (F := F)) Variants.none c none) E (cc0_proj_main i a2 h2 a3 h3 a4 h4 a5 h5 a6 h6) K := by
  unfold cc0_proj_main owns
  iintro ⟨⟨%f2, %e2, H2⟩, ⟨%f3, %e3, H3⟩, ⟨%f4, %e4, H4⟩, ⟨%d5, %f5, -, H5⟩, ⟨%d6, %f6, -, H6⟩, Hk⟩
  obtain rfl := h2.eq_unread e2; obtain rfl := h3.eq_unread e3; obtain rfl := h4.eq_unread e4
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    rw [wide_writes]
    sl_unfold_words
    simp only [View.readAt_eq_ld, h2.read_unread, h3.read_unread, View.ld_unit_zero (S := S1024x1024) corner, View.ld_unit_zero (S := S1024x1664) corner]
    rfl
  iexists _; isplitr
  swap; · iexact H6
  ipureintro
  rw [slim_writes]
  sl_unfold_words
  simp only [View.readAt_eq_ld, h2.read_unread, h4.read_unread, View.ld_unit_zero (S := S1024x1024) corner, View.ld_unit_zero (S := S1024x128) corner]
  rfl

set_option maxHeartbeats 1000000 in
/-- A point at a later column writes the wide product alone. -/
theorem later (s : Vec F S1024x128 .f32) (hc : ¬k0_cond1 i = 1#1) (E : Set ℕ) (K : PUnit → sProp 𝕄) :
    iprop(owns (c : Thread nD τ) a2 fullShare x ∗ owns (c : Thread nD τ) a3 fullShare y ∗ owns (c : Thread nD τ) a4 fullShare z
        ∗ (∃ d, owns (c : Thread nD τ) a5 fullShare d) ∗ owns (c : Thread nD τ) a6 fullShare s
        ∗ (iprop(owns (c : Thread nD τ) a2 fullShare x ∗ owns (c : Thread nD τ) a3 fullShare y ∗ owns (c : Thread nD τ) a4 fullShare z
            ∗ owns (c : Thread nD τ) a5 fullShare (wide x y) ∗ owns (c : Thread nD τ) a6 fullShare s) -∗ K ⟨⟩))
      ⊢ wp frame (wpE (defs₀ (F := F)) Variants.none c none) E (cc0_proj_main i a2 h2 a3 h3 a4 h4 a5 h5 a6 h6) K := by
  unfold cc0_proj_main owns
  iintro ⟨⟨%f2, %e2, H2⟩, ⟨%f3, %e3, H3⟩, ⟨%f4, %e4, H4⟩, ⟨%d5, %f5, -, H5⟩, ⟨%f6, %e6, H6⟩, Hk⟩
  obtain rfl := h2.eq_unread e2; obtain rfl := h3.eq_unread e3; obtain rfl := h4.eq_unread e4; obtain rfl := h6.eq_unread e6
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    rw [wide_writes]
    sl_unfold_words
    simp only [View.readAt_eq_ld, h2.read_unread, h3.read_unread, View.ld_unit_zero (S := S1024x1024) corner, View.ld_unit_zero (S := S1024x1664) corner]
    rfl
  iexists _; isplitr; · ipureintro; exact h6.read_unread _
  iexact H6

end

/-- The first point of a point's row of tiles, where the narrow product is made. -/
abbrev start (t : Fin cfg0.N) : Fin cfg0.N := ⟨t.val - t.val % 4, lt_of_le_of_lt (Nat.sub_le _ _) t.isLt⟩

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wide (iblk m c 0 t) (iblk m c 1 t)
    | ⟨4, _⟩ => slim (iblk m c 0 (start t)) (iblk m c 2 (start t))
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d

theorem leaves_0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl]; dsimp only [dats]
theorem leaves_1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl]; dsimp only [dats]
theorem leaves_2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl]; dsimp only [dats]
theorem leaves_3 (c : Dev nD) (t : Fin cfg0.N) :
    (dats m 0 c).leavesExact 3 t = owns (c : Thread nD τ) (st0_3 t) fullShare (wide (iblk m c 0 t) (iblk m c 1 t)) := by
  unfold Dat.leavesExact; rw [show cfg0.idle 3 (grid0.coords t) = false from rfl]; dsimp only [dats]

/-- The narrow product is made at the first column's points. -/
theorem cond_iff : ∀ t : Fin cfg0.N, k0_cond1 (grid0.coords t) = 1#1 ↔ t.val % 4 = 0 := by
  decide +kernel

theorem idle_4 (t : Fin cfg0.N) : cfg0.idle 4 (cfg0.grid.coords t) = !decide (t.val % 4 = 0) := by
  show (!(k0_cond1 (grid0.coords t) == 1#1)) = _
  rw [Bool.eq_iff_iff]
  simp only [Bool.not_eq_true', beq_eq_false_iff_ne, ne_eq, decide_eq_false_iff_not, cond_iff t]

theorem fresh_4 (t : Fin cfg0.N) : cfg0.fresh 4 t.val = decide (t.val % 4 = 0) :=
  Pipeline.Cfg.fresh_tab cfg0 4 (fun n => decide (n % 4 = 0)) rfl (fun t => by
    rw [idle_4 t, Bool.eq_iff_iff]
    simp only [Bool.or_eq_true, Bool.and_eq_true, Bool.not_eq_true', decide_eq_false_iff_not, flush0_4 t, decide_eq_true_iff]
    omega) t.val (Nat.le_of_lt t.isLt)

theorem after_4 (c : Dev nD) (t : Fin cfg0.N) : (dats m 0 c).after 4 t = slim (iblk m c 0 (start t)) (iblk m c 2 (start t)) := by
  dsimp only [dats]

theorem before_4 (c : Dev nD) (t : Fin cfg0.N) (h : ¬t.val % 4 = 0) (d) : (dats m 0 c).before 4 t d = (dats m 0 c).after 4 t := by
  have carry (t : Fin cfg0.N) (h : ¬t.val % 4 = 0) : (dats m 0 c).after 4 t = (dats m 0 c).after 4 ⟨t.val - 1, by omega⟩ := by
    rw [after_4, after_4]
    have e : start t = start ⟨t.val - 1, by omega⟩ := Fin.ext (by show t.val - t.val % 4 = t.val - 1 - (t.val - 1) % 4; omega)
    rw [e]
  rw [Dat.before_out_traj _ 4 rfl (fun _ _ => rfl) (fun t _ hi _ => carry t (by
      rw [idle_4] at hi; simpa using hi)) t.val t rfl d,
    if_neg (by rw [fresh_4, decide_eq_true_iff]; exact h), carry t h]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- At a later column the narrow product's buffer goes back as it came. -/
theorem leave_4 (c : Dev nD) (t : Fin cfg0.N) (h : ¬t.val % 4 = 0) :
    owns (c : Thread nD τ) (st0_4 t) fullShare ((dats m 0 c).after 4 t) ⊢ ((dats m 0 c).leavesExact 4 t : sProp 𝕄) := by
  have hi : cfg0.idle 4 (cfg0.grid.coords t) = true := by rw [idle_4]; simpa using h
  by_cases hf : (cfg0.win 4).flush t = true
  · unfold Dat.leavesExact
    rw [show cfg0.idle 4 (cfg0.grid.coords t) = true from hi, hf]
  · rw [Dat.leavesExact_idle (dats m 0 c) 4 t hi (by simpa using hf)]
    simp only [before_4 m c t h]
    iintro H
    iexists (fun _ => FloatOps.ofBits _ 0)
    iexact H

set_option maxHeartbeats 1600000 in
theorem body_sound (c : Dev nD) (t : Fin cfg0.N) :
    pre m c t ⊢ wp frame (wpE (defs₀ (F := F)) Variants.none c none) Set.univ (bodyAt0 t) (fun _ => post m c t) := by
  unfold pre post bodyAt0
  simp only [before_0, leaves_0, before_1, leaves_1, before_2, leaves_2, leaves_3]
  rw [show (dats m 0 c).Φ t.succ = (dats m 0 c).Φ t.castSucc from rfl,
    show (dats m 0 c).owesAt () t.succ = (dats m 0 c).owesAt () t.castSucc from rfl]
  by_cases h : t.val % 4 = 0
  · have e : start t = t := Fin.ext (by show t.val - t.val % 4 = t.val; omega)
    have l4 : (dats m 0 c).leavesExact 4 t = owns (c : Thread nD τ) (st0_4 t) fullShare (slim (iblk m c 0 t) (iblk m c 2 t)) := by
      unfold Dat.leavesExact; rw [show cfg0.idle 4 (cfg0.grid.coords t) = false from by rw [idle_4]; simpa using h]
      dsimp only
      rw [after_4, e]
    rw [l4]
    iintro ⟨HΦ, Ho, ⟨%d0, H0⟩, ⟨%d1, H1⟩, ⟨%d2, H2⟩, ⟨%d3, H3⟩, ⟨%d4, H4⟩⟩
    iapply (first c (grid0.coords t) _ _ _ _ _ _ _ _ _ _ (iblk m c 0 t) (iblk m c 1 t) (iblk m c 2 t) ((cond_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_4 m c t h]
    iintro ⟨HΦ, Ho, ⟨%d0, H0⟩, ⟨%d1, H1⟩, ⟨%d2, H2⟩, ⟨%d3, H3⟩, ⟨%d4, H4⟩⟩
    iapply (later c (grid0.coords t) _ _ _ _ _ _ _ _ _ _ (iblk m c 0 t) (iblk m c 1 t) (iblk m c 2 t) _ (fun hh => h ((cond_iff t).mp hh)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leave_4 m c t h)
    iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ := fun t => by
  rw [bigSep_W0, bigSep_W0, row]
  exact triple_restated (body_sound m c t) rfl .rfl fun _ => .rfl

set_option backward.isDefEq.respectTransparency.types false in
/-- The program runs to its end with every array at what the data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program runs to its end, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Proj
end
-- ==== Proof.ProjValue.lean ====
/- The projection over real values ends with the reference's two products. -/
module

public import proofs.«01_k».proof.Defs
public import proofs.«01_k».proof.Proof.ProjRun
public import proofs.«01_k».proof.Proof.Gen.Proj
public import proofs.«01_k».proof.Proof.Gen.ProjReferenceIdeal.Run
public import proofs.«01_k».proof.Proof.Gen.ProjReferenceIdeal.Read
public import Idealize.ShloMosaic.Lib.StableHlo.RunRead

@[expose] public section
set_option maxRecDepth 16384
noncomputable section
namespace Cert.Proof.Proj
open Cert.ProjIdeal Cert.ProjIdeal.Gen Cert.ProjReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x1024 .f32 := m ((c : Thread nD τ).loc main_arg0)
abbrev ay : FVec Ideal S1024x6656 .f32 := m ((c : Thread nD τ).loc main_arg1)
abbrev az : FVec Ideal S1024x128 .f32 := m ((c : Thread nD τ).loc main_arg2)

theorem V_x (i : S16384x1024.Idx) : (V m c main_v0 : FVec Ideal S16384x1024 .bf16) i = ax m c i := by
  unfold V
  simp only [hostOps0, List.flatten_cons, List.flatten_nil, List.append_nil, List.cons_append, List.nil_append, TRef.unary, TRef.toBuf, TRef.ofBuf, cast_eq]
  after_reads_simp
  rfl

theorem V_y (i : S1024x6656.Idx) : (V m c main_v1 : FVec Ideal S1024x6656 .bf16) i = ay m c i := by
  unfold V
  simp only [hostOps0, List.flatten_cons, List.flatten_nil, List.append_nil, List.cons_append, List.nil_append, TRef.unary, TRef.toBuf, TRef.ofBuf, cast_eq]
  after_reads_simp
  rfl

theorem V_z (i : S1024x128.Idx) : (V m c main_v2 : FVec Ideal S1024x128 .bf16) i = az m c i := by
  unfold V
  simp only [hostOps0, List.flatten_cons, List.flatten_nil, List.append_nil, List.cons_append, List.nil_append, TRef.unary, TRef.toBuf, TRef.ofBuf, cast_eq]
  after_reads_simp
  rfl

theorem index_at : ∀ t : Fin grid0.N,
    win0_0.index t = ![t.val / 4, 0] ∧ win0_1.index t = ![0, t.val % 4] ∧ win0_2.index t = ![0, 0] ∧ win0_3.index t = ![t.val / 4, t.val % 4] ∧ win0_4.index t = ![t.val / 4, 0] := by
  decide +kernel

/-- A point's tile of rows, and its tile of columns. -/
abbrev rows (t : Fin cfg0.N) : Fin 16 := ⟨t.val / 4, by have h := lt_of_lt_of_eq t.isLt N_0; omega⟩
abbrev col (t : Fin cfg0.N) (b : Fin 1664) : Fin 6656 := ⟨1664 * (t.val % 4) + b.val, by omega⟩

abbrev xb (t : Fin cfg0.N) : FVec Ideal S1024x1024 .bf16 := iblk m c 0 t
abbrev yb (t : Fin cfg0.N) : FVec Ideal S1024x1664 .bf16 := iblk m c 1 t
abbrev zb (t : Fin cfg0.N) : FVec Ideal S1024x128 .bf16 := iblk m c 2 t

theorem read_x (t : Fin cfg0.N) (a k : Fin 1024) : xb m c t (ix2 a k) = ax m c (ix2 (inTile (rows t) a) k) := by
  obtain ⟨e, -⟩ := index_at t
  rw [← V_x]
  unfold xb iblk
  show (V m c main_v0 : FVec Ideal S16384x1024 .bf16) _ = _
  refine congrArg (V m c main_v0 : FVec Ideal S16384x1024 .bf16) ?_
  blk_ext [e]

theorem read_y (t : Fin cfg0.N) (k : Fin 1024) (b : Fin 1664) : yb m c t (ix2 k b) = ay m c (ix2 k (col t b)) := by
  obtain ⟨-, e, -⟩ := index_at t
  rw [← V_y]
  unfold yb iblk
  show (V m c main_v1 : FVec Ideal S1024x6656 .bf16) _ = _
  refine congrArg (V m c main_v1 : FVec Ideal S1024x6656 .bf16) ?_
  blk_ext [e]

theorem read_z (t : Fin cfg0.N) (k : Fin 1024) (b : Fin 128) : zb m c t (ix2 k b) = az m c (ix2 k b) := by
  obtain ⟨-, -, e, -⟩ := index_at t
  rw [← V_z]
  unfold zb iblk
  show (V m c main_v2 : FVec Ideal S1024x128 .bf16) _ = _
  refine congrArg (V m c main_v2 : FVec Ideal S1024x128 .bf16) ?_
  blk_ext [e]

theorem wide_at (x : FVec Ideal S1024x1024 .bf16) (y : FVec Ideal S1024x1664 .bf16) (a : Fin 1024) (b : Fin 1664) :
    wide (F := Ideal) x y (ix2 a b) = ∑ k : Fin 1024, x (ix2 a k) * y (ix2 k b) := by
  unfold wide
  simp only [shapeCast_self]
  pointwise

theorem slim_at (x : FVec Ideal S1024x1024 .bf16) (z : FVec Ideal S1024x128 .bf16) (a : Fin 1024) (b : Fin 128) :
    slim (F := Ideal) x z (ix2 a b) = ∑ k : Fin 1024, x (ix2 a k) * z (ix2 k b) := by
  unfold slim
  simp only [shapeCast_self]
  pointwise

theorem ref_wide (x : FVec Ideal S16384x1024 .f32) (y : FVec Ideal S1024x6656 .f32) (i : Fin 16384) (j : Fin 6656) :
    (val_main_v1 (F := Ideal) x y : FVec Ideal S16384x6656 .bf16) (ix2 i j) = ∑ k : Fin 1024, x (ix2 i k) * y (ix2 k j) := by
  pointwise [val_main_v1, val_main_v0]

theorem ref_slim (x : FVec Ideal S16384x1024 .f32) (z : FVec Ideal S1024x128 .f32) (i : Fin 16384) (j : Fin 128) :
    (val_main_v2 (F := Ideal) x z : FVec Ideal S16384x128 .f32) (ix2 i j) = ∑ k : Fin 1024, x (ix2 i k) * z (ix2 k j) := by
  pointwise [val_main_v2]

theorem after_3 (t : Fin cfg0.N) : (dats m 0 c).after 3 t = wide (xb m c t) (yb m c t) := by
  dsimp only [dats]

theorem arr_3 : (dats m 0 c).arrAt 3 cfg0.N = (val_main_v1 (F := Ideal) (ax m c) (ay m c) : FVec Ideal S16384x6656 .bf16) := by
  refine (dats m 0 c).arrAt_eq_of_covers 3 _ (by decide +kernel) fun t hf y => ?_
  obtain ⟨-, -, -, e, -⟩ := index_at t
  obtain ⟨a, b, rfl⟩ : ∃ (a : Fin 1024) (b : Fin 1664), y = ix2 a b := ⟨y 0, y 1, by funext d; fin_cases d <;> rfl⟩
  refine Eq.trans ?_ (congrArg (val_main_v1 (F := Ideal) (ax m c) (ay m c)) (?_ : ix2 (inTile (rows t) a) (col t b) = _))
  · rw [ref_wide]
    refine (congrFun (after_3 m c t) (ix2 a b)).trans ((wide_at _ _ a b).trans ?_)
    exact Finset.sum_congr rfl fun k _ => by rw [read_x, read_y]
  · symm; blk_ext [e]

theorem arr_4 : (dats m 0 c).arrAt 4 cfg0.N = (val_main_v2 (F := Ideal) (ax m c) (az m c) : FVec Ideal S16384x128 .f32) := by
  refine (dats m 0 c).arrAt_eq_of_covers 4 _ (by decide +kernel) fun t hf y => ?_
  obtain ⟨-, -, -, -, e⟩ := index_at t
  obtain ⟨a, b, rfl⟩ : ∃ (a : Fin 1024) (b : Fin 128), y = ix2 a b := ⟨y 0, y 1, by funext d; fin_cases d <;> rfl⟩
  refine Eq.trans ?_ (congrArg (val_main_v2 (F := Ideal) (ax m c) (az m c)) (?_ : ix2 (inTile (rows t) a) b = _))
  · rw [ref_slim]
    refine (congrFun (after_4 m c t) (ix2 a b)).trans ((slim_at _ _ a b).trans ?_)
    have er : rows (start t) = rows t := Fin.ext (by show (t.val - t.val % 4) / 4 = t.val / 4; omega)
    refine Finset.sum_congr rfl fun k _ => ?_
    have hx := read_x m c (start t) a k
    have hz := read_z m c (start t) k b
    rw [er] at hx
    exact congrArg₂ (· * ·) hx hz
  · symm; blk_ext [e]

/-- The printed program and its idealized one have the same text, body by body. -/
theorem bodies_same : @Cert.Proj.defs₀ Bits _ Cert.Proj.Gen.facts = defs₀ (F := Bits) := by
  unfold Cert.Proj.defs₀ defs₀
  refine congrArg Defs.onTc ?_
  funext l a
  match l, a with
  | 0, (t, s) => rfl

theorem frame_compiled : quiescent_Proj (hProj := Cert.Proj.Gen.facts) := fun m ρ _ => by
  have e : @Cert.Proj.defs Bits _ Cert.Proj.Gen.facts = defs (F := Bits) := congrArg (Pipeline.defs pcfgs) bodies_same
  rw [e]
  exact frame (F := Bits) m ρ

theorem frame_reference : quiescent_ProjReferenceIdeal (hProjReferenceIdeal := Cert.ProjReferenceIdeal.Gen.facts) := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

theorem algebraic : algebraic_ProjIdeal_ProjReferenceIdeal (hProjIdeal := Cert.ProjIdeal.Gen.facts) (hProjReferenceIdeal := Cert.ProjReferenceIdeal.Gen.facts) := by
  intro m g m' g' hp hm
  refine ⟨fun c => val_main_v1 (F := Ideal) (ax m c) (ay m c), fun c => val_main_v2 (F := Ideal) (ax m c) (az m c), ?_, ?_⟩
  · refine (θ_run defs _ _).mono (fun r h c => ?_) (θ_run_and (run_main m g) (frame m g))
    exact ⟨((h.1.1 c).1 3).trans (arr_3 m c), ((h.1.1 c).1 4).trans (arr_4 m c), h.2.1 c⟩
  · refine (θ_run Cert.ProjReferenceIdeal.defs _ _).mono (fun r h c => ?_) (Cert.ProjReferenceIdeal.Value.run m' g')
    obtain ⟨e0, e1, e2⟩ := hm c
    refine ⟨(h c).1.trans ((val_main_v1_eq _ _).trans ?_), (h c).2.1.trans ((val_main_v2_eq _ _).trans ?_), (h c).2.2⟩
    · rw [e0, e1]
    · rw [e0, e2]

end Cert.Proof.Proj
end
-- ==== Proof.DwGatesValue.lean ====
/- The gradient of the gates' columns of w_in over real values ends with the reference's. -/
module

public import proofs.«01_k».proof.Defs
public import proofs.«01_k».proof.Proof.Products
public import proofs.«01_k».proof.Proof.Gen.DwGatesIdeal.Value
public import proofs.«01_k».proof.Proof.Gen.DwGatesReferenceIdeal.Run
public import proofs.«01_k».proof.Proof.Gen.DwGatesReferenceIdeal.Read
public import Idealize.ShloMosaic.Lib.StableHlo.RunRead
public import Idealize.ShloMosaic.Lib.Pipeline.ValueKit

@[expose] public section
set_option maxRecDepth 16384
noncomputable section
namespace Cert.Proof.DwGates
open Cert.DwGatesIdeal Cert.DwGatesIdeal.Gen Cert.DwGatesReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x1024 .f32 := m ((c : Thread nD τ).loc main_arg0)
abbrev ay : FVec Ideal S16384x3072 .f32 := m ((c : Thread nD τ).loc main_arg1)

theorem V_x (i : S16384x1024.Idx) : (V m c main_v0 : FVec Ideal S16384x1024 .bf16) i = ax m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem V_y (i : S16384x3072.Idx) : (V m c main_v1 : FVec Ideal S16384x3072 .bf16) i = ay m c i := by
  unfold V
  simp only [hostOps0, List.flatten_cons, List.flatten_nil, List.append_nil, List.cons_append, List.nil_append, TRef.binary, TRef.nullary, TRef.ternary, TRef.unary, TRef.toBuf, TRef.ofBuf, cast_eq]
  after_reads_simp
  rfl

theorem index_at : ∀ t : Fin grid0.N,
    win0_0.index t = ![t.val % 16, 0] ∧ win0_1.index t = ![t.val % 16, t.val / 16] ∧ win0_2.index t = ![0, t.val / 16] := by
  decide +kernel

/-- The tile of the summed axis at a point, and the output's tile. -/
abbrev step (t : Fin cfg0.N) : Fin 16 := ⟨t.val % 16, by omega⟩
abbrev row (t : Fin cfg0.N) : Fin 1 := 0
abbrev col (t : Fin cfg0.N) : Fin 3 := ⟨t.val / 16, by have h := lt_of_lt_of_eq t.isLt N_0; omega⟩

/-- The blocks at a point, and the point of the same tile that many steps in. -/
abbrev xb (t : Fin cfg0.N) : FVec Ideal S1024x1024 .bf16 := iblk m c 0 t
abbrev yb (t : Fin cfg0.N) : FVec Ideal S1024x1024 .bf16 := iblk m c 1 t
abbrev turn (t : Fin cfg0.N) (h : t.val % 16 = 15) (q : Fin 16) : Fin cfg0.N :=
  ⟨t.val - 15 + q.val, lt_of_lt_of_eq (by have := lt_of_lt_of_eq t.isLt N_0; omega) N_0.symm⟩

theorem read_x (t : Fin cfg0.N) (k a : Fin 1024) : xb m c t (ix2 k a) = ax m c (ix2 (inTile (step t) k) (inTile (row t) a)) := by
  obtain ⟨e, -, -⟩ := index_at t
  rw [← V_x]
  unfold xb iblk
  show (V m c main_v0 : FVec Ideal S16384x1024 .bf16) _ = _
  refine congrArg (V m c main_v0 : FVec Ideal S16384x1024 .bf16) ?_
  blk_ext [e]

theorem read_y (t : Fin cfg0.N) (k b : Fin 1024) : yb m c t (ix2 k b) = ay m c (ix2 (inTile (step t) k) (inTile (col t) b)) := by
  obtain ⟨-, e, -⟩ := index_at t
  rw [← V_y]
  unfold yb iblk
  show (V m c main_v1 : FVec Ideal S16384x3072 .bf16) _ = _
  refine congrArg (V m c main_v1 : FVec Ideal S16384x3072 .bf16) ?_
  blk_ext [e]

/-- What a point leaves in the sum, over what it finds there. -/
theorem more (x y : FVec Ideal S1024x1024 .bf16) (s : FVec Ideal S1024x1024 .f32) (a b : Fin 1024) :
    k0_pay2 (F := Ideal) x s y (ix2 a b) = s (ix2 a b) + ∑ k : Fin 1024, x (ix2 k a) * y (ix2 k b) := by
  unfold k0_pay2
  simp only [shapeCast_self]
  pointwise

theorem zero (a b : Fin 1024) : k0_pay1 (F := Ideal) (ix2 a b) = 0 := by
  unfold k0_pay1
  simp only [shapeCast_self]
  pointwise

theorem sum_A {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x y : Vec F S1024x1024 .bf16) :
    sout0_A_0 (F := F) c i a3 h3 a4 h4 a5 h5 a6 h6 hc0 hc1 x y = k0_pay2 (F := F) x k0_pay1 y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) corner, View.readCov_unit_zero (S := S1024x1024) _ corner]
  simp only [View.readAt_eq_ld, h3.read_unread, h4.read_unread, View.ld_unit_zero (S := S1024x1024) corner]

theorem sum_B {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x y : Vec F S1024x1024 .bf16) (s : Vec F S1024x1024 .f32) :
    sout0_B_0 (F := F) c i a3 h3 a4 h4 a5 h5 a6 h6 hc0 hc1 x y s = k0_pay2 (F := F) x s y := by
  unfold sout0_B_0
  rw [View.read_writes_eq_canon _ _ _ (scover0_B_0 c i a3 h3 a4 h4 a5 h5 a6 h6 hc0 hc1 x y s)]
  unfold kernelRun0_B
  dsimp only
  rw [View.canon_unit_zero corner]
  simp only [View.readAt_eq_ld, h3.read_unread, h4.read_unread, h6.read_unread, View.ld_unit_zero (S := S1024x1024) corner]

theorem sum_C {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x y : Vec F S1024x1024 .bf16) (s : Vec F S1024x1024 .f32) :
    sout0_C_0 (F := F) c i a3 h3 a4 h4 a5 h5 a6 h6 hc0 hc1 x y s = k0_pay2 (F := F) x s y := by
  unfold sout0_C_0
  rw [View.read_writes_eq_canon _ _ _ (scover0_C_0 c i a3 h3 a4 h4 a5 h5 a6 h6 hc0 hc1 x y s)]
  unfold kernelRun0_C
  dsimp only
  sl_unfold_words
  rw [View.canon_unit_zero corner]
  simp only [View.readAt_eq_ld, h3.read_unread, h4.read_unread, h6.read_unread, View.ld_unit_zero (S := S1024x1024) corner]

theorem out_C {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x y : Vec F S1024x1024 .bf16) (s : Vec F S1024x1024 .f32) :
    out0_C_2 (F := F) c i a3 h3 a4 h4 a5 h5 a6 h6 hc0 hc1 x y s = k0_pay2 (F := F) x s y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero corner, View.readCov_unit_zero (S := S1024x1024) _ corner]
  simp only [View.readAt_eq_ld, h3.read_unread, h4.read_unread, h6.read_unread, View.ld_unit_zero (S := S1024x1024) corner]

/-- What a point adds to the output's element `(a, b)` of its tile. -/
abbrev part (t : Fin cfg0.N) (a b : Fin 1024) : EReal :=
  ∑ k : Fin 1024, xb m c t (ix2 k a) * yb m c t (ix2 k b)

/-- After a tile's last point the sum holds all sixteen contributions. -/
theorem held (t : Fin cfg0.N) (h : t.val % 16 = 15) (a b : Fin 1024) :
    (outsAt0 m c t.val t.isLt).2 (ix2 a b) = ∑ q : Fin 16, part m c (turn t h q) a b := by
  refine kept_sum (b := 16) (fun t => (outsAt0 m c t.val t.isLt).2 (ix2 a b)) (fun t => part m c t a b) (fun t ht => ?_) (fun t ht => ?_) 15 t h
  · rw [outsAt0_A m c t ht (by omega)]
    dsimp only
    rw [sum_A, more, zero, zero_add]
  · dsimp only
    by_cases h15 : t.val % 16 = 15
    · rw [outsAt0_C m c t ht h15]
      dsimp only
      rw [sum_C, more]
    · rw [outsAt0_B m c t ht h15]
      dsimp only
      rw [sum_B, more]

/-- The last point writes the whole sum. -/
theorem wrote (t : Fin cfg0.N) (h : t.val % 16 = 15) : (outsAt0 m c t.val t.isLt).1 = (outsAt0 m c t.val t.isLt).2 := by
  rw [outsAt0_C m c t (by omega) h]
  dsimp only
  rw [out_C, sum_C]

theorem ref_at (x : FVec Ideal S16384x1024 .f32) (y : FVec Ideal S16384x3072 .f32) (i : Fin 1024) (j : Fin 3072) :
    (val_main_v3 (F := Ideal) x y : FVec Ideal S1024x3072 .f32) (ix2 i j) = ∑ k : Fin 16384, x (ix2 k i) * y (ix2 k j) := by
  pointwise [val_main_v3, val_main_v2]
  exact Finset.sum_congr rfl fun k _ => mul_comm _ _

theorem arr : (dats m 0 c).arrAt 2 cfg0.N = (val_main_v3 (F := Ideal) (ax m c) (ay m c) : FVec Ideal S1024x3072 .f32) := by
  refine (dats m 0 c).arrAt_eq_of_covers 2 _ (by decide +kernel) fun t hf y => ?_
  have h15 : t.val % 16 = 15 := (flush0_2 t).mp hf
  obtain ⟨-, -, e⟩ := index_at t
  obtain ⟨a, b, rfl⟩ : ∃ (a b : Fin 1024), y = ix2 a b := ⟨y 0, y 1, by funext d; fin_cases d <;> rfl⟩
  refine Eq.trans ?_ (congrArg (val_main_v3 (F := Ideal) (ax m c) (ay m c)) (?_ : ix2 (inTile (row t) a) (inTile (col t) b) = _))
  · rw [ref_at, ← sum_tiles 16]
    refine (congrFun ((after0_2 m c t).trans (wrote m c t h15)) (ix2 a b)).trans ((held m c t h15 a b).trans ?_)
    refine Finset.sum_congr rfl fun q _ => Finset.sum_congr rfl fun k _ => ?_
    have hs : step (turn t h15 q) = q := Fin.ext (by show (t.val - 15 + q.val) % 16 = q.val; omega)
    have hr : row (turn t h15 q) = row t := rfl
    have hc : col (turn t h15 q) = col t := Fin.ext (by show (t.val - 15 + q.val) / 16 = t.val / 16; omega)
    rw [read_x, read_y, hs, hr, hc]
  · symm; blk_ext [e]

theorem frame_reference : quiescent_DwGatesReferenceIdeal (hDwGatesReferenceIdeal := Cert.DwGatesReferenceIdeal.Gen.facts) := fun m ρ _ =>
  (θ_run Cert.DwGatesReferenceIdeal.defs _ _).mono (fun r h => ⟨fun c => (h c).2, sem_eq_zero_of_no_sems (by decide) r.2⟩)
    (Cert.DwGatesReferenceIdeal.Value.run (F := Ideal) m ρ)

theorem algebraic : algebraic_DwGatesIdeal_DwGatesReferenceIdeal (hDwGatesIdeal := Cert.DwGatesIdeal.Gen.facts) (hDwGatesReferenceIdeal := Cert.DwGatesReferenceIdeal.Gen.facts) := by
  intro m g m' g' hp hm
  refine ⟨fun c => val_main_v3 (F := Ideal) (ax m c) (ay m c), ?_, ?_⟩
  · exact (θ_run defs _ _).mono (fun r h c => ⟨(h c).1.trans (arr m c), (h c).2⟩) (Cert.DwGatesIdeal.Value.run_blocks m g)
  · refine (θ_run Cert.DwGatesReferenceIdeal.defs _ _).mono (fun r h c => ?_) (Cert.DwGatesReferenceIdeal.Value.run m' g')
    obtain ⟨e0, e1⟩ := hm c
    refine ⟨(h c).1.trans ((val_main_v3_eq _ _).trans ?_), (h c).2⟩
    rw [e0, e1]

end Cert.Proof.DwGates
end
-- ==== Proof.DwGlaValue.lean ====
/- The gradient of the linear-attention queries', keys' and values' columns of w_in over real values ends with the reference's. -/
module

public import proofs.«01_k».proof.Defs
public import proofs.«01_k».proof.Proof.Products
public import proofs.«01_k».proof.Proof.Gen.DwGlaIdeal.Value
public import proofs.«01_k».proof.Proof.Gen.DwGlaReferenceIdeal.Run
public import proofs.«01_k».proof.Proof.Gen.DwGlaReferenceIdeal.Read
public import Idealize.ShloMosaic.Lib.StableHlo.RunRead
public import Idealize.ShloMosaic.Lib.Pipeline.ValueKit

@[expose] public section
set_option maxRecDepth 16384
noncomputable section
namespace Cert.Proof.DwGla
open Cert.DwGlaIdeal Cert.DwGlaIdeal.Gen Cert.DwGlaReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x1024 .f32 := m ((c : Thread nD τ).loc main_arg0)
abbrev aq : FVec Ideal S16384x256 .f32 := m ((c : Thread nD τ).loc main_arg1)
abbrev ak : FVec Ideal S16384x256 .f32 := m ((c : Thread nD τ).loc main_arg2)
abbrev av : FVec Ideal S16384x512 .f32 := m ((c : Thread nD τ).loc main_arg3)

theorem V_x (i : S16384x1024.Idx) : (V m c main_v0 : FVec Ideal S16384x1024 .bf16) i = ax m c i := by
  unfold V
  simp only [hostOps0, List.flatten_cons, List.flatten_nil, List.append_nil, List.cons_append, List.nil_append, TRef.unary, TRef.toBuf, TRef.ofBuf, cast_eq]
  after_reads_simp
  rfl

theorem V_q (i : S16384x256.Idx) : (V m c main_v1 : FVec Ideal S16384x256 .bf16) i = aq m c i := by
  unfold V
  simp only [hostOps0, List.flatten_cons, List.flatten_nil, List.append_nil, List.cons_append, List.nil_append, TRef.unary, TRef.toBuf, TRef.ofBuf, cast_eq]
  after_reads_simp
  rfl

theorem V_k (i : S16384x256.Idx) : (V m c main_v2 : FVec Ideal S16384x256 .bf16) i = ak m c i := by
  unfold V
  simp only [hostOps0, List.flatten_cons, List.flatten_nil, List.append_nil, List.cons_append, List.nil_append, TRef.unary, TRef.toBuf, TRef.ofBuf, cast_eq]
  after_reads_simp
  rfl

theorem V_v (i : S16384x512.Idx) : (V m c main_v3 : FVec Ideal S16384x512 .bf16) i = av m c i := by
  unfold V
  simp only [hostOps0, List.flatten_cons, List.flatten_nil, List.append_nil, List.cons_append, List.nil_append, TRef.unary, TRef.toBuf, TRef.ofBuf, cast_eq]
  after_reads_simp
  rfl

theorem index_at : ∀ t : Fin grid0.N,
    win0_0.index t = ![t.val, 0] ∧ win0_1.index t = ![t.val, 0] ∧ win0_2.index t = ![t.val, 0] ∧ win0_3.index t = ![t.val, 0] ∧ win0_4.index t = ![0, 0] := by
  decide +kernel

/-- The tile of the summed axis at a point. -/
abbrev step (t : Fin cfg0.N) : Fin 16 := ⟨t.val, lt_of_lt_of_eq t.isLt N_0⟩

/-- The blocks at a point, and the point that many steps in. -/
abbrev xb (t : Fin cfg0.N) : FVec Ideal S1024x1024 .bf16 := iblk m c 0 t
abbrev qb (t : Fin cfg0.N) : FVec Ideal S1024x256 .bf16 := iblk m c 1 t
abbrev kb (t : Fin cfg0.N) : FVec Ideal S1024x256 .bf16 := iblk m c 2 t
abbrev vb (t : Fin cfg0.N) : FVec Ideal S1024x512 .bf16 := iblk m c 3 t
abbrev turn (t : Fin cfg0.N) (h : t.val % 16 = 15) (q : Fin 16) : Fin cfg0.N :=
  ⟨t.val - 15 + q.val, lt_of_lt_of_eq (by have := lt_of_lt_of_eq t.isLt N_0; omega) N_0.symm⟩

theorem read_x (t : Fin cfg0.N) (k : Fin 1024) (a : Fin 1024) : xb m c t (ix2 k a) = ax m c (ix2 (inTile (step t) k) a) := by
  obtain ⟨e, -⟩ := index_at t
  rw [← V_x]
  unfold xb iblk
  show (V m c main_v0 : FVec Ideal S16384x1024 .bf16) _ = _
  refine congrArg (V m c main_v0 : FVec Ideal S16384x1024 .bf16) ?_
  blk_ext [e]

theorem read_q (t : Fin cfg0.N) (k : Fin 1024) (a : Fin 256) : qb m c t (ix2 k a) = aq m c (ix2 (inTile (step t) k) a) := by
  obtain ⟨-, e, -⟩ := index_at t
  rw [← V_q]
  unfold qb iblk
  show (V m c main_v1 : FVec Ideal S16384x256 .bf16) _ = _
  refine congrArg (V m c main_v1 : FVec Ideal S16384x256 .bf16) ?_
  blk_ext [e]

theorem read_k (t : Fin cfg0.N) (k : Fin 1024) (a : Fin 256) : kb m c t (ix2 k a) = ak m c (ix2 (inTile (step t) k) a) := by
  obtain ⟨-, -, e, -⟩ := index_at t
  rw [← V_k]
  unfold kb iblk
  show (V m c main_v2 : FVec Ideal S16384x256 .bf16) _ = _
  refine congrArg (V m c main_v2 : FVec Ideal S16384x256 .bf16) ?_
  blk_ext [e]

theorem read_v (t : Fin cfg0.N) (k : Fin 1024) (a : Fin 512) : vb m c t (ix2 k a) = av m c (ix2 (inTile (step t) k) a) := by
  obtain ⟨-, -, -, e, -⟩ := index_at t
  rw [← V_v]
  unfold vb iblk
  show (V m c main_v3 : FVec Ideal S16384x512 .bf16) _ = _
  refine congrArg (V m c main_v3 : FVec Ideal S16384x512 .bf16) ?_
  blk_ext [e]

/-- A point's blocks side by side. -/
def joined (q k : FVec Ideal S1024x256 .bf16) (v : FVec Ideal S1024x512 .bf16) : FVec Ideal S1024x1024 .bf16 :=
  concatenate S1024x1024 1 [⟨S1024x256, shapeCast S1024x256 q shapeCasts_S1024x256_S1024x256⟩, ⟨S1024x256, shapeCast S1024x256 k shapeCasts_S1024x256_S1024x256⟩,
    ⟨S1024x512, shapeCast S1024x512 v shapeCasts_S1024x512_S1024x512⟩] concatenates_S1024x256_S1024x256_S1024x512_S1024x1024_d1

/-- They are rows of the arrays side by side. -/
theorem joined_at (t : Fin cfg0.N) (k b : Fin 1024) :
    joined (qb m c t) (kb m c t) (vb m c t) (ix2 k b) = (val_main_v0 (F := Ideal) (aq m c) (ak m c) (av m c) : FVec Ideal S16384x1024 .f32) (ix2 (inTile (step t) k) b) := by
  pointwise [joined, val_main_v0]
  simp only [shapeCast_self, read_q, read_k, read_v]

/-- What a point leaves in the sum, over what it finds there. -/
theorem more (x : FVec Ideal S1024x1024 .bf16) (q k : FVec Ideal S1024x256 .bf16) (v : FVec Ideal S1024x512 .bf16) (s : FVec Ideal S1024x1024 .f32) (a b : Fin 1024) :
    k0_pay2 (F := Ideal) q k v s x (ix2 a b) = s (ix2 a b) + ∑ i : Fin 1024, x (ix2 i a) * joined q k v (ix2 i b) := by
  unfold k0_pay2
  simp only [shapeCast_self]
  rw [← joined]
  generalize joined q k v = y
  pointwise

theorem zero (a b : Fin 1024) : k0_pay1 (F := Ideal) (ix2 a b) = 0 := by
  unfold k0_pay1
  simp only [shapeCast_self]
  pointwise

theorem sum_A {F : FTy → Type} [FloatOps F] (c : Dev nD) (i : grid0.Coords) (a1 : Memref sig .tc .vmem S1024x1024 .bf16) (h1 : a1.IsWhole) (a2 : Memref sig .tc .vmem S1024x256 .bf16) (h2 : a2.IsWhole) (a3 : Memref sig .tc .vmem S1024x256 .bf16) (h3 : a3.IsWhole) (a4 : Memref sig .tc .vmem S1024x512 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x : Vec F S1024x1024 .bf16) (q k : Vec F S1024x256 .bf16) (v : Vec F S1024x512 .bf16) :
    sout0_A_0 (F := F) c i a1 h1 a2 h2 a3 h3 a4 h4 a5 h5 a6 h6 hc0 hc1 x q k v = k0_pay2 (F := F) q k v k0_pay1 x := by
  unfold sout0_A_0
  rw [View.read_writes_eq_canon _ _ _ (scover0_A_0 c i a1 h1 a2 h2 a3 h3 a4 h4 a5 h5 a6 h6 hc0 hc1 x q k v)]
  unfold kernelRun0_A
  dsimp only
  sl_unfold_words
  rw [View.canon_cons_unit_zero (S := S1024x1024) corner, View.readCov_unit_zero (S := S1024x1024) _ corner]
  simp only [View.readAt_eq_ld, h1.read_unread, h2.read_unread, h3.read_unread, h4.read_unread, View.ld_unit_zero (S := S1024x1024) corner, View.ld_unit_zero (S := S1024x256) corner, View.ld_unit_zero (S := S1024x512) corner]

theorem sum_B {F : FTy → Type} [FloatOps F] (c : Dev nD) (i : grid0.Coords) (a1 : Memref sig .tc .vmem S1024x1024 .bf16) (h1 : a1.IsWhole) (a2 : Memref sig .tc .vmem S1024x256 .bf16) (h2 : a2.IsWhole) (a3 : Memref sig .tc .vmem S1024x256 .bf16) (h3 : a3.IsWhole) (a4 : Memref sig .tc .vmem S1024x512 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x : Vec F S1024x1024 .bf16) (q k : Vec F S1024x256 .bf16) (v : Vec F S1024x512 .bf16) (s : Vec F S1024x1024 .f32) :
    sout0_B_0 (F := F) c i a1 h1 a2 h2 a3 h3 a4 h4 a5 h5 a6 h6 hc0 hc1 x q k v s = k0_pay2 (F := F) q k v s x := by
  unfold sout0_B_0
  rw [View.read_writes_eq_canon _ _ _ (scover0_B_0 c i a1 h1 a2 h2 a3 h3 a4 h4 a5 h5 a6 h6 hc0 hc1 x q k v s)]
  unfold kernelRun0_B
  dsimp only
  rw [View.canon_unit_zero corner]
  simp only [View.readAt_eq_ld, h1.read_unread, h2.read_unread, h3.read_unread, h4.read_unread, h6.read_unread, View.ld_unit_zero (S := S1024x1024) corner, View.ld_unit_zero (S := S1024x256) corner, View.ld_unit_zero (S := S1024x512) corner]

theorem sum_C {F : FTy → Type} [FloatOps F] (c : Dev nD) (i : grid0.Coords) (a1 : Memref sig .tc .vmem S1024x1024 .bf16) (h1 : a1.IsWhole) (a2 : Memref sig .tc .vmem S1024x256 .bf16) (h2 : a2.IsWhole) (a3 : Memref sig .tc .vmem S1024x256 .bf16) (h3 : a3.IsWhole) (a4 : Memref sig .tc .vmem S1024x512 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x : Vec F S1024x1024 .bf16) (q k : Vec F S1024x256 .bf16) (v : Vec F S1024x512 .bf16) (s : Vec F S1024x1024 .f32) :
    sout0_C_0 (F := F) c i a1 h1 a2 h2 a3 h3 a4 h4 a5 h5 a6 h6 hc0 hc1 x q k v s = k0_pay2 (F := F) q k v s x := by
  unfold sout0_C_0
  rw [View.read_writes_eq_canon _ _ _ (scover0_C_0 c i a1 h1 a2 h2 a3 h3 a4 h4 a5 h5 a6 h6 hc0 hc1 x q k v s)]
  unfold kernelRun0_C
  dsimp only
  sl_unfold_words
  rw [View.canon_unit_zero corner]
  simp only [View.readAt_eq_ld, h1.read_unread, h2.read_unread, h3.read_unread, h4.read_unread, h6.read_unread, View.ld_unit_zero (S := S1024x1024) corner, View.ld_unit_zero (S := S1024x256) corner, View.ld_unit_zero (S := S1024x512) corner]

theorem out_C {F : FTy → Type} [FloatOps F] (c : Dev nD) (i : grid0.Coords) (a1 : Memref sig .tc .vmem S1024x1024 .bf16) (h1 : a1.IsWhole) (a2 : Memref sig .tc .vmem S1024x256 .bf16) (h2 : a2.IsWhole) (a3 : Memref sig .tc .vmem S1024x256 .bf16) (h3 : a3.IsWhole) (a4 : Memref sig .tc .vmem S1024x512 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x : Vec F S1024x1024 .bf16) (q k : Vec F S1024x256 .bf16) (v : Vec F S1024x512 .bf16) (s : Vec F S1024x1024 .f32) :
    out0_C_4 (F := F) c i a1 h1 a2 h2 a3 h3 a4 h4 a5 h5 a6 h6 hc0 hc1 x q k v s = k0_pay2 (F := F) q k v s x := by
  unfold out0_C_4
  rw [View.read_writes_eq_canon _ _ _ (cover0_C_4 c i a1 h1 a2 h2 a3 h3 a4 h4 a5 h5 a6 h6 hc0 hc1 x q k v s)]
  unfold kernelRun0_C
  dsimp only
  sl_unfold_words
  rw [View.canon_unit_zero corner, View.readCov_unit_zero (S := S1024x1024) _ corner]
  simp only [View.readAt_eq_ld, h1.read_unread, h2.read_unread, h3.read_unread, h4.read_unread, h6.read_unread, View.ld_unit_zero (S := S1024x1024) corner, View.ld_unit_zero (S := S1024x256) corner, View.ld_unit_zero (S := S1024x512) corner]

/-- What a point adds to the output's element `(a, b)` of its tile. -/
abbrev part (t : Fin cfg0.N) (a b : Fin 1024) : EReal :=
  ∑ k : Fin 1024, xb m c t (ix2 k a) * joined (qb m c t) (kb m c t) (vb m c t) (ix2 k b)

/-- After a tile's last point the sum holds all sixteen contributions. -/
theorem held (t : Fin cfg0.N) (h : t.val % 16 = 15) (a b : Fin 1024) :
    (outsAt0 m c t.val t.isLt).2 (ix2 a b) = ∑ q : Fin 16, part m c (turn t h q) a b := by
  refine kept_sum (b := 16) (fun t => (outsAt0 m c t.val t.isLt).2 (ix2 a b)) (fun t => part m c t a b) (fun t ht => ?_) (fun t ht => ?_) 15 t h
  · rw [outsAt0_A m c t ht (by omega)]
    dsimp only
    rw [sum_A, more, zero, zero_add]
  · dsimp only
    by_cases h15 : t.val % 16 = 15
    · rw [outsAt0_C m c t ht h15]
      dsimp only
      rw [sum_C, more]
    · rw [outsAt0_B m c t ht h15]
      dsimp only
      rw [sum_B, more]

/-- The last point writes the whole sum. -/
theorem wrote (t : Fin cfg0.N) (h : t.val % 16 = 15) : (outsAt0 m c t.val t.isLt).1 = (outsAt0 m c t.val t.isLt).2 := by
  rw [outsAt0_C m c t (by omega) h]
  dsimp only
  rw [out_C, sum_C]

theorem ref_at (x : FVec Ideal S16384x1024 .f32) (q k : FVec Ideal S16384x256 .f32) (v : FVec Ideal S16384x512 .f32) (i j : Fin 1024) :
    (val_main_v4 (F := Ideal) x q k v : FVec Ideal S1024x1024 .f32) (ix2 i j)
      = ∑ l : Fin 16384, x (ix2 l i) * (val_main_v0 (F := Ideal) q k v : FVec Ideal S16384x1024 .f32) (ix2 l j) := by
  unfold val_main_v4 val_main_v3
  generalize (val_main_v0 (F := Ideal) q k v : FVec Ideal S16384x1024 .f32) = y
  pointwise
  exact Finset.sum_congr rfl fun k _ => mul_comm _ _

theorem arr : (dats m 0 c).arrAt 4 cfg0.N = (val_main_v4 (F := Ideal) (ax m c) (aq m c) (ak m c) (av m c) : FVec Ideal S1024x1024 .f32) := by
  refine (dats m 0 c).arrAt_eq_of_covers 4 _ (by decide +kernel) fun t hf y => ?_
  have h15 : t.val % 16 = 15 := (flush0_4 t).mp hf
  obtain ⟨-, -, -, -, e⟩ := index_at t
  obtain ⟨a, b, rfl⟩ : ∃ (a b : Fin 1024), y = ix2 a b := ⟨y 0, y 1, by funext d; fin_cases d <;> rfl⟩
  refine Eq.trans ?_ (congrArg (val_main_v4 (F := Ideal) (ax m c) (aq m c) (ak m c) (av m c)) (?_ : ix2 a b = _))
  · rw [ref_at, ← sum_tiles 16]
    refine (congrFun ((after0_4 m c t).trans (wrote m c t h15)) (ix2 a b)).trans ((held m c t h15 a b).trans ?_)
    refine Finset.sum_congr rfl fun q _ => Finset.sum_congr rfl fun k _ => ?_
    have hs : step (turn t h15 q) = q := Fin.ext (by have := lt_of_lt_of_eq t.isLt N_0; show t.val - 15 + q.val = q.val; omega)
    rw [read_x, joined_at, hs]
  · symm; blk_ext [e]

theorem frame_reference : quiescent_DwGlaReferenceIdeal (hDwGlaReferenceIdeal := Cert.DwGlaReferenceIdeal.Gen.facts) := fun m ρ _ =>
  (θ_run Cert.DwGlaReferenceIdeal.defs _ _).mono (fun r h => ⟨fun c => (h c).2, sem_eq_zero_of_no_sems (by decide) r.2⟩)
    (Cert.DwGlaReferenceIdeal.Value.run (F := Ideal) m ρ)

theorem algebraic : algebraic_DwGlaIdeal_DwGlaReferenceIdeal (hDwGlaIdeal := Cert.DwGlaIdeal.Gen.facts) (hDwGlaReferenceIdeal := Cert.DwGlaReferenceIdeal.Gen.facts) := by
  intro m g m' g' hp hm
  refine ⟨fun c => val_main_v4 (F := Ideal) (ax m c) (aq m c) (ak m c) (av m c), ?_, ?_⟩
  · exact (θ_run defs _ _).mono (fun r h c => ⟨(h c).1.trans (arr m c), (h c).2⟩) (Cert.DwGlaIdeal.Value.run_blocks m g)
  · refine (θ_run Cert.DwGlaReferenceIdeal.defs _ _).mono (fun r h c => ?_) (Cert.DwGlaReferenceIdeal.Value.run m' g')
    obtain ⟨e0, e1, e2, e3⟩ := hm c
    refine ⟨(h c).1.trans ((val_main_v4_eq _ _ _ _).trans ?_), (h c).2⟩
    rw [e0, e1, e2, e3]

end Cert.Proof.DwGla
end
-- ==== Proof.DwPairValue.lean ====
/- The gradient of a pair of heads' arrays' columns of w_in over real values ends with the reference's. -/
module

public import proofs.«01_k».proof.Defs
public import proofs.«01_k».proof.Proof.Products
public import proofs.«01_k».proof.Proof.Gen.DwPairIdeal.Value
public import proofs.«01_k».proof.Proof.Gen.DwPairReferenceIdeal.Run
public import proofs.«01_k».proof.Proof.Gen.DwPairReferenceIdeal.Read
public import Idealize.ShloMosaic.Lib.StableHlo.RunRead
public import Idealize.ShloMosaic.Lib.Pipeline.ValueKit

@[expose] public section
set_option maxRecDepth 16384
noncomputable section
namespace Cert.Proof.DwPair
open Cert.DwPairIdeal Cert.DwPairIdeal.Gen Cert.DwPairReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x1024 .f32 := m ((c : Thread nD τ).loc main_arg0)
abbrev aq : FVec Ideal S16384x512 .f32 := m ((c : Thread nD τ).loc main_arg1)
abbrev av : FVec Ideal S16384x512 .f32 := m ((c : Thread nD τ).loc main_arg2)

theorem V_x (i : S16384x1024.Idx) : (V m c main_v0 : FVec Ideal S16384x1024 .bf16) i = ax m c i := by
  unfold V
  simp only [hostOps0, List.flatten_cons, List.flatten_nil, List.append_nil, List.cons_append, List.nil_append, TRef.unary, TRef.toBuf, TRef.ofBuf, cast_eq]
  after_reads_simp
  rfl

theorem V_q (i : S16384x512.Idx) : (V m c main_v1 : FVec Ideal S16384x512 .bf16) i = aq m c i := by
  unfold V
  simp only [hostOps0, List.flatten_cons, List.flatten_nil, List.append_nil, List.cons_append, List.nil_append, TRef.unary, TRef.toBuf, TRef.ofBuf, cast_eq]
  after_reads_simp
  rfl

theorem V_v (i : S16384x512.Idx) : (V m c main_v2 : FVec Ideal S16384x512 .bf16) i = av m c i := by
  unfold V
  simp only [hostOps0, List.flatten_cons, List.flatten_nil, List.append_nil, List.cons_append, List.nil_append, TRef.unary, TRef.toBuf, TRef.ofBuf, cast_eq]
  after_reads_simp
  rfl

theorem index_at : ∀ t : Fin grid0.N,
    win0_0.index t = ![t.val, 0] ∧ win0_1.index t = ![t.val, 0] ∧ win0_2.index t = ![t.val, 0] ∧ win0_3.index t = ![0, 0] := by
  decide +kernel

/-- The tile of the summed axis at a point. -/
abbrev step (t : Fin cfg0.N) : Fin 16 := ⟨t.val, lt_of_lt_of_eq t.isLt N_0⟩

/-- The blocks at a point, and the point that many steps in. -/
abbrev xb (t : Fin cfg0.N) : FVec Ideal S1024x1024 .bf16 := iblk m c 0 t
abbrev qb (t : Fin cfg0.N) : FVec Ideal S1024x512 .bf16 := iblk m c 1 t
abbrev vb (t : Fin cfg0.N) : FVec Ideal S1024x512 .bf16 := iblk m c 2 t
abbrev turn (t : Fin cfg0.N) (h : t.val % 16 = 15) (q : Fin 16) : Fin cfg0.N :=
  ⟨t.val - 15 + q.val, lt_of_lt_of_eq (by have := lt_of_lt_of_eq t.isLt N_0; omega) N_0.symm⟩

theorem read_x (t : Fin cfg0.N) (k : Fin 1024) (a : Fin 1024) : xb m c t (ix2 k a) = ax m c (ix2 (inTile (step t) k) a) := by
  obtain ⟨e, -⟩ := index_at t
  rw [← V_x]
  unfold xb iblk
  show (V m c main_v0 : FVec Ideal S16384x1024 .bf16) _ = _
  refine congrArg (V m c main_v0 : FVec Ideal S16384x1024 .bf16) ?_
  blk_ext [e]

theorem read_q (t : Fin cfg0.N) (k : Fin 1024) (a : Fin 512) : qb m c t (ix2 k a) = aq m c (ix2 (inTile (step t) k) a) := by
  obtain ⟨-, e, -⟩ := index_at t
  rw [← V_q]
  unfold qb iblk
  show (V m c main_v1 : FVec Ideal S16384x512 .bf16) _ = _
  refine congrArg (V m c main_v1 : FVec Ideal S16384x512 .bf16) ?_
  blk_ext [e]

theorem read_v (t : Fin cfg0.N) (k : Fin 1024) (a : Fin 512) : vb m c t (ix2 k a) = av m c (ix2 (inTile (step t) k) a) := by
  obtain ⟨-, -, e, -⟩ := index_at t
  rw [← V_v]
  unfold vb iblk
  show (V m c main_v2 : FVec Ideal S16384x512 .bf16) _ = _
  refine congrArg (V m c main_v2 : FVec Ideal S16384x512 .bf16) ?_
  blk_ext [e]

/-- A point's blocks side by side. -/
def joined (q v : FVec Ideal S1024x512 .bf16) : FVec Ideal S1024x1024 .bf16 :=
  concatenate S1024x1024 1 [⟨S1024x512, shapeCast S1024x512 q shapeCasts_S1024x512_S1024x512⟩, ⟨S1024x512, shapeCast S1024x512 v shapeCasts_S1024x512_S1024x512⟩] concatenates_S1024x512_S1024x512_S1024x1024_d1

/-- They are rows of the arrays side by side. -/
theorem joined_at (t : Fin cfg0.N) (k b : Fin 1024) :
    joined (qb m c t) (vb m c t) (ix2 k b) = (val_main_v0 (F := Ideal) (aq m c) (av m c) : FVec Ideal S16384x1024 .f32) (ix2 (inTile (step t) k) b) := by
  pointwise [joined, val_main_v0]
  simp only [shapeCast_self, read_q, read_v]

/-- What a point leaves in the sum, over what it finds there. -/
theorem more (x : FVec Ideal S1024x1024 .bf16) (q v : FVec Ideal S1024x512 .bf16) (s : FVec Ideal S1024x1024 .f32) (a b : Fin 1024) :
    k0_pay2 (F := Ideal) q v s x (ix2 a b) = s (ix2 a b) + ∑ i : Fin 1024, x (ix2 i a) * joined q v (ix2 i b) := by
  unfold k0_pay2
  simp only [shapeCast_self]
  rw [← joined]
  generalize joined q v = y
  pointwise

theorem zero (a b : Fin 1024) : k0_pay1 (F := Ideal) (ix2 a b) = 0 := by
  unfold k0_pay1
  simp only [shapeCast_self]
  pointwise

theorem sum_A {F : FTy → Type} [FloatOps F] (c : Dev nD) (i : grid0.Coords) (a1 : Memref sig .tc .vmem S1024x1024 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (hc0 : cond0_0 i) (hc1 : ¬cond0_1 i) (x : Vec F S1024x1024 .bf16) (q v : Vec F S1024x512 .bf16) :
    sout0_A_0 (F := F) c i a1 h1 a2 h2 a3 h3 a4 h4 a5 h5 hc0 hc1 x q v = k0_pay2 (F := F) q v k0_pay1 x := by
  unfold sout0_A_0
  rw [View.read_writes_eq_canon _ _ _ (scover0_A_0 c i a1 h1 a2 h2 a3 h3 a4 h4 a5 h5 hc0 hc1 x q v)]
  unfold kernelRun0_A
  dsimp only
  sl_unfold_words
  rw [View.canon_cons_unit_zero (S := S1024x1024) corner, View.readCov_unit_zero (S := S1024x1024) _ corner]
  simp only [View.readAt_eq_ld, h1.read_unread, h2.read_unread, h3.read_unread, View.ld_unit_zero (S := S1024x1024) corner, View.ld_unit_zero (S := S1024x512) corner]

theorem sum_B {F : FTy → Type} [FloatOps F] (c : Dev nD) (i : grid0.Coords) (a1 : Memref sig .tc .vmem S1024x1024 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (hc0 : ¬cond0_0 i) (hc1 : ¬cond0_1 i) (x : Vec F S1024x1024 .bf16) (q v : Vec F S1024x512 .bf16) (s : Vec F S1024x1024 .f32) :
    sout0_B_0 (F := F) c i a1 h1 a2 h2 a3 h3 a4 h4 a5 h5 hc0 hc1 x q v s = k0_pay2 (F := F) q v s x := by
  unfold sout0_B_0
  rw [View.read_writes_eq_canon _ _ _ (scover0_B_0 c i a1 h1 a2 h2 a3 h3 a4 h4 a5 h5 hc0 hc1 x q v s)]
  unfold kernelRun0_B
  dsimp only
  rw [View.canon_unit_zero corner]
  simp only [View.readAt_eq_ld, h1.read_unread, h2.read_unread, h3.read_unread, h5.read_unread, View.ld_unit_zero (S := S1024x1024) corner, View.ld_unit_zero (S := S1024x512) corner]

theorem sum_C {F : FTy → Type} [FloatOps F] (c : Dev nD) (i : grid0.Coords) (a1 : Memref sig .tc .vmem S1024x1024 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (hc0 : ¬cond0_0 i) (hc1 : cond0_1 i) (x : Vec F S1024x1024 .bf16) (q v : Vec F S1024x512 .bf16) (s : Vec F S1024x1024 .f32) :
    sout0_C_0 (F := F) c i a1 h1 a2 h2 a3 h3 a4 h4 a5 h5 hc0 hc1 x q v s = k0_pay2 (F := F) q v s x := by
  unfold sout0_C_0
  rw [View.read_writes_eq_canon _ _ _ (scover0_C_0 c i a1 h1 a2 h2 a3 h3 a4 h4 a5 h5 hc0 hc1 x q v s)]
  unfold kernelRun0_C
  dsimp only
  sl_unfold_words
  rw [View.canon_unit_zero corner]
  simp only [View.readAt_eq_ld, h1.read_unread, h2.read_unread, h3.read_unread, h5.read_unread, View.ld_unit_zero (S := S1024x1024) corner, View.ld_unit_zero (S := S1024x512) corner]

theorem out_C {F : FTy → Type} [FloatOps F] (c : Dev nD) (i : grid0.Coords) (a1 : Memref sig .tc .vmem S1024x1024 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (hc0 : ¬cond0_0 i) (hc1 : cond0_1 i) (x : Vec F S1024x1024 .bf16) (q v : Vec F S1024x512 .bf16) (s : Vec F S1024x1024 .f32) :
    out0_C_3 (F := F) c i a1 h1 a2 h2 a3 h3 a4 h4 a5 h5 hc0 hc1 x q v s = k0_pay2 (F := F) q v s x := by
  unfold out0_C_3
  rw [View.read_writes_eq_canon _ _ _ (cover0_C_3 c i a1 h1 a2 h2 a3 h3 a4 h4 a5 h5 hc0 hc1 x q v s)]
  unfold kernelRun0_C
  dsimp only
  sl_unfold_words
  rw [View.canon_unit_zero corner, View.readCov_unit_zero (S := S1024x1024) _ corner]
  simp only [View.readAt_eq_ld, h1.read_unread, h2.read_unread, h3.read_unread, h5.read_unread, View.ld_unit_zero (S := S1024x1024) corner, View.ld_unit_zero (S := S1024x512) corner]

/-- What a point adds to the output's element `(a, b)` of its tile. -/
abbrev part (t : Fin cfg0.N) (a b : Fin 1024) : EReal :=
  ∑ k : Fin 1024, xb m c t (ix2 k a) * joined (qb m c t) (vb m c t) (ix2 k b)

/-- After a tile's last point the sum holds all sixteen contributions. -/
theorem held (t : Fin cfg0.N) (h : t.val % 16 = 15) (a b : Fin 1024) :
    (outsAt0 m c t.val t.isLt).2 (ix2 a b) = ∑ q : Fin 16, part m c (turn t h q) a b := by
  refine kept_sum (b := 16) (fun t => (outsAt0 m c t.val t.isLt).2 (ix2 a b)) (fun t => part m c t a b) (fun t ht => ?_) (fun t ht => ?_) 15 t h
  · rw [outsAt0_A m c t ht (by omega)]
    dsimp only
    rw [sum_A, more, zero, zero_add]
  · dsimp only
    by_cases h15 : t.val % 16 = 15
    · rw [outsAt0_C m c t ht h15]
      dsimp only
      rw [sum_C, more]
    · rw [outsAt0_B m c t ht h15]
      dsimp only
      rw [sum_B, more]

/-- The last point writes the whole sum. -/
theorem wrote (t : Fin cfg0.N) (h : t.val % 16 = 15) : (outsAt0 m c t.val t.isLt).1 = (outsAt0 m c t.val t.isLt).2 := by
  rw [outsAt0_C m c t (by omega) h]
  dsimp only
  rw [out_C, sum_C]

theorem ref_at (x : FVec Ideal S16384x1024 .f32) (q v : FVec Ideal S16384x512 .f32) (i j : Fin 1024) :
    (val_main_v4 (F := Ideal) x q v : FVec Ideal S1024x1024 .f32) (ix2 i j)
      = ∑ l : Fin 16384, x (ix2 l i) * (val_main_v0 (F := Ideal) q v : FVec Ideal S16384x1024 .f32) (ix2 l j) := by
  unfold val_main_v4 val_main_v3
  generalize (val_main_v0 (F := Ideal) q v : FVec Ideal S16384x1024 .f32) = y
  pointwise
  exact Finset.sum_congr rfl fun k _ => mul_comm _ _

theorem arr : (dats m 0 c).arrAt 3 cfg0.N = (val_main_v4 (F := Ideal) (ax m c) (aq m c) (av m c) : FVec Ideal S1024x1024 .f32) := by
  refine (dats m 0 c).arrAt_eq_of_covers 3 _ (by decide +kernel) fun t hf y => ?_
  have h15 : t.val % 16 = 15 := (flush0_3 t).mp hf
  obtain ⟨-, -, -, e⟩ := index_at t
  obtain ⟨a, b, rfl⟩ : ∃ (a b : Fin 1024), y = ix2 a b := ⟨y 0, y 1, by funext d; fin_cases d <;> rfl⟩
  refine Eq.trans ?_ (congrArg (val_main_v4 (F := Ideal) (ax m c) (aq m c) (av m c)) (?_ : ix2 a b = _))
  · rw [ref_at, ← sum_tiles 16]
    refine (congrFun ((after0_3 m c t).trans (wrote m c t h15)) (ix2 a b)).trans ((held m c t h15 a b).trans ?_)
    refine Finset.sum_congr rfl fun q _ => Finset.sum_congr rfl fun k _ => ?_
    have hs : step (turn t h15 q) = q := Fin.ext (by have := lt_of_lt_of_eq t.isLt N_0; show t.val - 15 + q.val = q.val; omega)
    rw [read_x, joined_at, hs]
  · symm; blk_ext [e]

theorem frame_reference : quiescent_DwPairReferenceIdeal (hDwPairReferenceIdeal := Cert.DwPairReferenceIdeal.Gen.facts) := fun m ρ _ =>
  (θ_run Cert.DwPairReferenceIdeal.defs _ _).mono (fun r h => ⟨fun c => (h c).2, sem_eq_zero_of_no_sems (by decide) r.2⟩)
    (Cert.DwPairReferenceIdeal.Value.run (F := Ideal) m ρ)

theorem algebraic : algebraic_DwPairIdeal_DwPairReferenceIdeal (hDwPairIdeal := Cert.DwPairIdeal.Gen.facts) (hDwPairReferenceIdeal := Cert.DwPairReferenceIdeal.Gen.facts) := by
  intro m g m' g' hp hm
  refine ⟨fun c => val_main_v4 (F := Ideal) (ax m c) (aq m c) (av m c), ?_, ?_⟩
  · exact (θ_run defs _ _).mono (fun r h c => ⟨(h c).1.trans (arr m c), (h c).2⟩) (Cert.DwPairIdeal.Value.run_blocks m g)
  · refine (θ_run Cert.DwPairReferenceIdeal.defs _ _).mono (fun r h c => ?_) (Cert.DwPairReferenceIdeal.Value.run m' g')
    obtain ⟨e0, e1, e2⟩ := hm c
    refine ⟨(h c).1.trans ((val_main_v4_eq _ _ _).trans ?_), (h c).2⟩
    rw [e0, e1, e2]

end Cert.Proof.DwPair
end
-- ==== Proof.Norm.lean ====
/- The backward of a row's RMS norm over the extended reals: the short form a kernel computes is the long form of the chain rule. -/
module

public import Idealize.ShloMosaic.Lib.ValueIdx
public import Idealize.ShloMosaic.Lib.Pointwise

@[expose] public section
noncomputable section
namespace Cert.Proof
open Idealize.ShloMosaic

theorem ofBits_width : Ideal.ofBits .f32 0x44800000#32 = ((1024 : ℝ) : EReal) := by
  simp [Ideal.ofBits, Ideal.ieee, -EReal.coe_mul]; norm_num

theorem ofBits_minus_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A row's mean square with eps added, from the row's sum of squares. -/
def meanSq (s : EReal) : EReal := Ideal.div s (Ideal.ofBits .f32 0x44800000#32) + Ideal.ofBits .f32 0x358637BD#32

theorem sum_sq_nonneg {n : ℕ} (x : Fin n → EReal) : 0 ≤ ∑ k, x k * x k :=
  Finset.sum_nonneg fun k _ => by
    rcases le_total 0 (x k) with h | h
    · exact EReal.mul_nonneg_iff.mpr (Or.inl ⟨h, h⟩)
    · exact EReal.mul_nonneg_iff.mpr (Or.inr ⟨h, h⟩)

/-- It is plus infinity or a positive real. -/
theorem meanSq_cases (s : EReal) (h : 0 ≤ s) : meanSq s = ⊤ ∨ ∃ r : ℝ, 0 < r ∧ meanSq s = (r : EReal) := by
  obtain ⟨e, he, hb⟩ := ofBits_eps
  unfold meanSq
  rw [hb, ofBits_width, Ideal.div_coe (by norm_num)]
  induction s with
  | bot => simp at h
  | top => left; rw [EReal.top_mul_coe_of_pos (by norm_num)]; rfl
  | coe s =>
    right
    have hs : 0 ≤ s := by exact_mod_cast h
    exact ⟨s * (1 / 1024) + e, by positivity, by norm_cast⟩

/-- Its reciprocal square root is a nonnegative real, which divided by it is the real's cube. -/
theorem scale_cube (s : EReal) (h : 0 ≤ s) : ∃ r : ℝ, 0 ≤ r ∧ Ideal.rsqrt (meanSq s) = (r : EReal) ∧
    Ideal.div (Ideal.rsqrt (meanSq s)) (meanSq s) = ((r * r * r : ℝ) : EReal) := by
  rcases meanSq_cases s h with e | ⟨v, hv, e⟩
  · rw [e]
    refine ⟨0, le_refl _, rfl, ?_⟩
    simp [Ideal.div]
  · rw [e, Ideal.rsqrt_coe, if_neg (not_lt.mpr hv.le), if_neg hv.ne']
    refine ⟨(Real.sqrt v)⁻¹, by positivity, rfl, ?_⟩
    rw [Ideal.div_coe hv.ne', ← EReal.coe_mul]
    refine congrArg _ ?_
    have q : Real.sqrt v * Real.sqrt v = v := Real.mul_self_sqrt hv.le
    rw [mul_assoc, ← mul_inv, q]
    ring

/-- A nonnegative real factor goes inside a sum. -/
theorem real_mul_sum {n : ℕ} (r : ℝ) (h : 0 ≤ r) (f : Fin n → EReal) : (r : EReal) * ∑ k, f k = ∑ k, (r : EReal) * f k :=
  map_sum ({ toFun := fun y => (r : EReal) * y, map_zero' := mul_zero _,
             map_add' := fun a b => EReal.left_distrib_of_nonneg_of_ne_top (by exact_mod_cast h) (EReal.coe_ne_top r) a b } : EReal →+ EReal) f _

theorem minus_halves (b : EReal) : ((-(1 / 2) : ℝ) : EReal) * b + ((-(1 / 2) : ℝ) : EReal) * b = -b := by
  induction b with
  | bot => rw [EReal.coe_mul_bot_of_neg (by norm_num)]; rfl
  | top => rw [EReal.coe_mul_top_of_neg (by norm_num)]; rfl
  | coe b => norm_cast; ring

/-- One element of the gradient of a row `x`, of scale `ρ`, from the gradient `u` of the scaled row, the gain `g` and the
    gradient `d` by the other path. -/
theorem norm_back {n : ℕ} (x u g : Fin n → EReal) (d : EReal) (s : EReal) (h : 0 ≤ s) (i : Fin n) :
    d + Ideal.rsqrt (meanSq s) * (u i * g i - x i * Ideal.rsqrt (meanSq s) *
        Ideal.div (∑ k, u k * g k * (x k * Ideal.rsqrt (meanSq s))) (Ideal.ofBits .f32 0x44800000#32)) =
      d + u i * g i * Ideal.rsqrt (meanSq s) +
        x i * Ideal.div ((∑ k, x k * (u k * g k)) * (Ideal.ofBits .f32 0xBF000000#32 * Ideal.div (Ideal.rsqrt (meanSq s)) (meanSq s))) (Ideal.ofBits .f32 0x44800000#32) +
        Ideal.div ((∑ k, x k * (u k * g k)) * (Ideal.ofBits .f32 0xBF000000#32 * Ideal.div (Ideal.rsqrt (meanSq s)) (meanSq s))) (Ideal.ofBits .f32 0x44800000#32) * x i := by
  obtain ⟨r, hr, e, e3⟩ := scale_cube s h
  rw [e3, e, ofBits_width, ofBits_minus_half, Ideal.div_coe (by norm_num), Ideal.div_coe (by norm_num)]
  have hq : ∑ k, u k * g k * (x k * (r : EReal)) = (r : EReal) * ∑ k, x k * (u k * g k) := by
    rw [real_mul_sum r hr]
    exact Finset.sum_congr rfl fun k _ => by ac_rfl
  rw [hq]
  generalize ∑ k, x k * (u k * g k) = q
  generalize u i * g i = y
  generalize x i = z
  rw [sub_eq_add_neg, EReal.left_distrib_of_nonneg_of_ne_top (by exact_mod_cast hr) (EReal.coe_ne_top r), mul_neg, ← minus_halves, add_assoc d, add_assoc d, add_assoc]
  simp only [EReal.coe_mul]
  refine congrArg (d + ·) (congrArg₂ (· + ·) (mul_comm _ _) (congrArg₂ (· + ·) ?_ ?_)) <;> ac_rfl

/-- A sum over 2048, 64 at a time. -/
theorem sum_steps (f : Fin 2048 → EReal) : ∑ t : Fin 32, ∑ q : Fin 64, f ⟨64 * t.val + q.val, by omega⟩ = ∑ i, f i := by
  rw [← Fintype.sum_prod_type' (f := fun (t : Fin 32) (q : Fin 64) => f ⟨64 * t.val + q.val, by omega⟩)]
  refine Fintype.sum_equiv (finProdFinEquiv (m := 32) (n := 64)) _ _ fun x => congrArg f (Fin.ext ?_)
  show 64 * x.1.val + x.2.val = x.2.val + 64 * x.1.val
  omega

end Cert.Proof
end
-- ==== Proof.DH1Value.lean ====
/- The gradient of the residual stream by the feed-forward's norm over real values ends with the reference's. -/
module

public import proofs.«01_k».proof.Defs
public import proofs.«01_k».proof.Proof.Products
public import proofs.«01_k».proof.Proof.Norm
public import proofs.«01_k».proof.Proof.Gen.DH1Ideal.Value
public import proofs.«01_k».proof.Proof.Gen.DH1ReferenceIdeal.Run
public import proofs.«01_k».proof.Proof.Gen.DH1ReferenceIdeal.Read
public import Idealize.ShloMosaic.Lib.StableHlo.RunRead
public import Idealize.ShloMosaic.Lib.Pipeline.ValueKit

@[expose] public section
set_option maxRecDepth 16384
noncomputable section
namespace Cert.Proof.DH1
open Cert.DH1Ideal Cert.DH1Ideal.Gen Cert.DH1ReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ah : FVec Ideal S16384x1024 .f32 := m ((c : Thread nD τ).loc main_arg0)
abbrev ag : FVec Ideal S1x1024 .f32 := m ((c : Thread nD τ).loc main_arg1)
abbrev aw : FVec Ideal S1024x4096 .f32 := m ((c : Thread nD τ).loc main_arg2)
abbrev aa : FVec Ideal S16384x4096 .f32 := m ((c : Thread nD τ).loc main_arg3)
abbrev ad : FVec Ideal S16384x1024 .f32 := m ((c : Thread nD τ).loc main_arg4)

theorem V_a (i : S16384x4096.Idx) : (V m c main_v0 : FVec Ideal S16384x4096 .bf16) i = aa m c i := by
  unfold V
  simp only [hostOps0, List.flatten_cons, List.flatten_nil, List.append_nil, List.cons_append, List.nil_append, TRef.binary, TRef.nullary, TRef.unary, TRef.toBuf, TRef.ofBuf, cast_eq]
  after_reads_simp
  rfl

theorem V_w (l : Fin 4096) (j : Fin 1024) : (V m c main_v2 : FVec Ideal S4096x1024 .bf16) (ix2 l j) = aw m c (ix2 j l) := by
  unfold V
  simp only [hostOps0, List.flatten_cons, List.flatten_nil, List.append_nil, List.cons_append, List.nil_append, TRef.binary, TRef.nullary, TRef.unary, TRef.toBuf, TRef.ofBuf, cast_eq]
  after_reads_simp
  pointwise

theorem V_h : (V m c main_arg0 : FVec Ideal S16384x1024 .f32) = ah m c := by
  unfold V
  simp only [hostOps0, List.flatten_cons, List.flatten_nil, List.append_nil, List.cons_append, List.nil_append, TRef.binary, TRef.nullary, TRef.unary, TRef.toBuf, TRef.ofBuf, cast_eq]
  after_reads_simp

theorem V_g : (V m c main_arg1 : FVec Ideal S1x1024 .f32) = ag m c := by
  unfold V
  simp only [hostOps0, List.flatten_cons, List.flatten_nil, List.append_nil, List.cons_append, List.nil_append, TRef.binary, TRef.nullary, TRef.unary, TRef.toBuf, TRef.ofBuf, cast_eq]
  after_reads_simp

theorem V_d : (V m c main_arg4 : FVec Ideal S16384x1024 .f32) = ad m c := by
  unfold V
  simp only [hostOps0, List.flatten_cons, List.flatten_nil, List.append_nil, List.cons_append, List.nil_append, TRef.binary, TRef.nullary, TRef.unary, TRef.toBuf, TRef.ofBuf, cast_eq]
  after_reads_simp

/-- The scale of the rows is computed as the reference computes it. -/
theorem V_r : (V m c main_v10 : FVec Ideal S16384x1 .f32) = (val_main_v10 (F := Ideal) (ah m c) : FVec Ideal S16384x1 .f32) := by
  unfold V
  simp only [hostOps0, List.flatten_cons, List.flatten_nil, List.append_nil, List.cons_append, List.nil_append, TRef.binary, TRef.nullary, TRef.unary, TRef.toBuf, TRef.ofBuf, cast_eq]
  after_reads_simp
  rfl

theorem index_at : ∀ t : Fin grid0.N,
    win0_0.index t = ![t.val, 0] ∧ win0_1.index t = ![0, 0] ∧ win0_2.index t = ![t.val, 0] ∧ win0_3.index t = ![t.val, 0] ∧ win0_4.index t = ![0, 0]
      ∧ win0_5.index t = ![t.val, 0] ∧ win0_6.index t = ![t.val, 0] ∧ win0_7.index t = ![t.val, 0] ∧ win0_8.index t = ![0, 0] := by
  decide +kernel

/-- Row `k` of the point's block. -/
abbrev row (t : Fin cfg0.N) (k : Fin 512) : Fin 16384 := ⟨512 * t.val + k.val, by have := lt_of_lt_of_eq t.isLt N_0; omega⟩

/-- The blocks at a point. -/
abbrev ab (t : Fin cfg0.N) : FVec Ideal S512x4096 .bf16 := iblk m c 0 t
abbrev wb (t : Fin cfg0.N) : FVec Ideal S4096x1024 .bf16 := iblk m c 1 t
abbrev hb (t : Fin cfg0.N) : FVec Ideal S512x1024 .f32 := iblk m c 2 t
abbrev rb (t : Fin cfg0.N) : FVec Ideal S512x1 .f32 := iblk m c 3 t
abbrev gb (t : Fin cfg0.N) : FVec Ideal S1x1024 .f32 := iblk m c 4 t
abbrev db (t : Fin cfg0.N) : FVec Ideal S512x1024 .f32 := iblk m c 5 t

theorem read_a (t : Fin cfg0.N) (k : Fin 512) (l : Fin 4096) : ab m c t (ix2 k l) = aa m c (ix2 (row t k) l) := by
  obtain ⟨e, -⟩ := index_at t
  rw [← V_a]
  unfold ab iblk
  show (V m c main_v0 : FVec Ideal S16384x4096 .bf16) _ = _
  refine congrArg (V m c main_v0 : FVec Ideal S16384x4096 .bf16) ?_
  blk_ext [e]

theorem read_w (t : Fin cfg0.N) (l : Fin 4096) (j : Fin 1024) : wb m c t (ix2 l j) = aw m c (ix2 j l) := by
  obtain ⟨-, e, -⟩ := index_at t
  rw [← V_w]
  unfold wb iblk
  show (V m c main_v2 : FVec Ideal S4096x1024 .bf16) _ = _
  refine congrArg (V m c main_v2 : FVec Ideal S4096x1024 .bf16) ?_
  blk_ext [e]

theorem read_h (t : Fin cfg0.N) (k : Fin 512) (j : Fin 1024) : hb m c t (ix2 k j) = ah m c (ix2 (row t k) j) := by
  obtain ⟨-, -, e, -⟩ := index_at t
  rw [← V_h]
  unfold hb iblk
  show (V m c main_arg0 : FVec Ideal S16384x1024 .f32) _ = _
  refine congrArg (V m c main_arg0 : FVec Ideal S16384x1024 .f32) ?_
  blk_ext [e]

theorem read_r (t : Fin cfg0.N) (k : Fin 512) (z : Fin 1) :
    rb m c t (ix2 k z) = (val_main_v10 (F := Ideal) (ah m c) : FVec Ideal S16384x1 .f32) (ix2 (row t k) z) := by
  obtain ⟨-, -, -, e, -⟩ := index_at t
  rw [← V_r]
  unfold rb iblk
  show (V m c main_v10 : FVec Ideal S16384x1 .f32) _ = _
  refine congrArg (V m c main_v10 : FVec Ideal S16384x1 .f32) ?_
  blk_ext [e]

theorem read_g (t : Fin cfg0.N) (z : Fin 1) (j : Fin 1024) : gb m c t (ix2 z j) = ag m c (ix2 z j) := by
  obtain ⟨-, -, -, -, e, -⟩ := index_at t
  rw [← V_g]
  unfold gb iblk
  show (V m c main_arg1 : FVec Ideal S1x1024 .f32) _ = _
  refine congrArg (V m c main_arg1 : FVec Ideal S1x1024 .f32) ?_
  blk_ext [e]

theorem read_d (t : Fin cfg0.N) (k : Fin 512) (j : Fin 1024) : db m c t (ix2 k j) = ad m c (ix2 (row t k) j) := by
  obtain ⟨-, -, -, -, -, e, -⟩ := index_at t
  rw [← V_d]
  unfold db iblk
  show (V m c main_arg4 : FVec Ideal S16384x1024 .f32) _ = _
  refine congrArg (V m c main_arg4 : FVec Ideal S16384x1024 .f32) ?_
  blk_ext [e]

/-- The gradient of the norm's output, and the normalized rows, are rows of the reference's. -/
theorem du_at (t : Fin cfg0.N) (k : Fin 512) (j : Fin 1024) :
    k0_pay4 (F := Ideal) (ab m c t) (wb m c t) (ix2 k j) = (val_main_v18 (F := Ideal) (aw m c) (aa m c) : FVec Ideal S16384x1024 .f32) (ix2 (row t k) j) := by
  unfold k0_pay4
  simp only [shapeCast_self]
  pointwise [val_main_v18]
  simp only [read_a, read_w]

theorem xn_at (t : Fin cfg0.N) (k : Fin 512) (j : Fin 1024) :
    k0_pay5 (F := Ideal) (hb m c t) (rb m c t) (ix2 k j) = (val_main_v15 (F := Ideal) (ah m c) : FVec Ideal S16384x1024 .f32) (ix2 (row t k) j) := by
  unfold k0_pay5
  simp only [shapeCast_self]
  pointwise [val_main_v15, val_main_v14]
  simp only [read_h, read_r]

theorem scale_at (h : FVec Ideal S16384x1024 .f32) (i : Fin 16384) (z : Fin 1) :
    (val_main_v10 (F := Ideal) h : FVec Ideal S16384x1 .f32) (ix2 i z) = Ideal.rsqrt (meanSq (∑ k : Fin 1024, h (ix2 i k) * h (ix2 i k))) := by
  pointwise [val_main_v10, val_main_v9, val_main_v8, val_main_v7, val_main_v6, val_main_v5, val_main_v4, val_main_v3, val_main_cst, val_main_cst_0, val_main_cst_1]
  rfl

theorem square_at (h : FVec Ideal S16384x1024 .f32) (i : Fin 16384) (z : Fin 1) :
    (val_main_v9 (F := Ideal) h : FVec Ideal S16384x1 .f32) (ix2 i z) = meanSq (∑ k : Fin 1024, h (ix2 i k) * h (ix2 i k)) := by
  pointwise [val_main_v9, val_main_v8, val_main_v7, val_main_v6, val_main_v5, val_main_v4, val_main_v3, val_main_cst, val_main_cst_0, val_main_cst_1]
  rfl

theorem gained_at (g : FVec Ideal S1x1024 .f32) (w : FVec Ideal S1024x4096 .f32) (a : FVec Ideal S16384x4096 .f32) (i : Fin 16384) (j : Fin 1024) :
    (val_main_v20 (F := Ideal) g w a : FVec Ideal S16384x1024 .f32) (ix2 i j) = (val_main_v18 (F := Ideal) w a : FVec Ideal S16384x1024 .f32) (ix2 i j) * g (ix2 0 j) := by
  pointwise [val_main_v20, val_main_v2, val_main_v1, val_main_v0]

/-- What a point leaves in its rows of the first output. -/
abbrev dx (t : Fin cfg0.N) : FVec Ideal S512x1024 .f32 :=
  k0_pay1 (F := Ideal) (k0_pay7 (ab m c t) (wb m c t) (gb m c t)) (db m c t) (k0_pay8 (rb m c t)) (k0_pay9 (ab m c t) (wb m c t) (hb m c t) (rb m c t) (gb m c t))

theorem dx_at (t : Fin cfg0.N) (k : Fin 512) (j : Fin 1024) :
    dx m c t (ix2 k j) = (val_main_v35 (F := Ideal) (ah m c) (ag m c) (aw m c) (aa m c) (ad m c) : FVec Ideal S16384x1024 .f32) (ix2 (row t k) j) := by
  unfold dx k0_pay1 k0_pay8 k0_pay9 k0_pay7 k0_pay5
  simp only [shapeCast_self]
  generalize ha : k0_pay4 (F := Ideal) (ab m c t) (wb m c t) = u
  pointwise [val_main_v35, val_main_v34, val_main_v33, val_main_v32, val_main_v31, val_main_v30, val_main_v29, val_main_v28, val_main_v27, val_main_v26, val_main_v25, val_main_v24, val_main_v23, val_main_v22, val_main_v21, val_main_v13, val_main_v12, val_main_v11, val_main_cst_2, val_main_cst_3, val_main_cst_4, val_main_cst_5]
  subst ha
  simp only [du_at, read_h, read_r, read_g, read_d, gained_at, scale_at, square_at, Fin.sum_univ_one]
  exact norm_back (fun k' => ah m c (ix2 (row t k) k')) (fun k' => (val_main_v18 (F := Ideal) (aw m c) (aa m c) : FVec Ideal S16384x1024 .f32) (ix2 (row t k) k'))
    (fun k' => ag m c (ix2 0 k')) _ _ (sum_sq_nonneg _) j

/-- What a point adds to the third output. -/
abbrev part (t : Fin cfg0.N) (e : Fin 8) (j : Fin 1024) : EReal :=
  ∑ q : Fin 64, (val_main_v19 (F := Ideal) (ah m c) (aw m c) (aa m c) : FVec Ideal S16384x1024 .f32) (ix2 (row t ⟨q.val * 8 + e.val, by omega⟩) j)

theorem more (t : Fin cfg0.N) (s : FVec Ideal S8x1024 .f32) (e : Fin 8) (j : Fin 1024) :
    k0_pay6 (F := Ideal) (ab m c t) (wb m c t) (hb m c t) (rb m c t) s (ix2 e j) = s (ix2 e j) + part m c t e j := by
  unfold k0_pay6
  simp only [shapeCast_self]
  pointwise [val_main_v19]
  simp only [du_at, xn_at]
  exact congrArg (s (ix2 e j) + ·) (Finset.sum_congr rfl fun q _ => mul_comm _ _)

theorem zero (e : Fin 8) (j : Fin 1024) : k0_pay3 (F := Ideal) (ix2 e j) = 0 := by
  unfold k0_pay3
  pointwise

section
variable {F : FTy → Type} [FloatOps F] (i : grid0.Coords) (a1 : Memref sig .tc .vmem S512x4096 .bf16) (h1 : a1.IsWhole) (a2 : Memref sig .tc .vmem S4096x1024 .bf16) (h2 : a2.IsWhole) (a3 : Memref sig .tc .vmem S512x1024 .f32) (h3 : a3.IsWhole) (a4 : Memref sig .tc .vmem S512x1 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S8x1024 .f32) (h9 : a9.IsWhole)
  (a : Vec F S512x4096 .bf16) (w : Vec F S4096x1024 .bf16) (h : Vec F S512x1024 .f32) (r : Vec F S512x1 .f32) (g : Vec F S1x1024 .f32) (d : Vec F S512x1024 .f32)

theorem out_A (hc0 : cond0_0 i) :
    (out0_A_6 (F := F) c i a1 h1 a2 h2 a3 h3 a4 h4 a5 h5 a6 h6 a7 h7 a8 h8 a9 h9 hc0 a w h r g d, out0_A_7 (F := F) c i a1 h1 a2 h2 a3 h3 a4 h4 a5 h5 a6 h6 a7 h7 a8 h8 a9 h9 hc0 a w h r g d, out0_A_8 (F := F) c i a1 h1 a2 h2 a3 h3 a4 h4 a5 h5 a6 h6 a7 h7 a8 h8 a9 h9 hc0 a w h r g d)
      = (k0_pay1 (k0_pay7 a w g) d (k0_pay8 r) (k0_pay9 a w h r g), k0_pay2 (k0_pay7 a w g) d (k0_pay8 r) (k0_pay9 a w h r g), k0_pay6 a w h r k0_pay3) := by
  unfold out0_A_6 out0_A_7 out0_A_8
  rw [View.read_writes_eq_canon _ _ _ (cover0_A_6 c i a1 h1 a2 h2 a3 h3 a4 h4 a5 h5 a6 h6 a7 h7 a8 h8 a9 h9 hc0 a w h r g d), View.read_writes_eq_canon _ _ _ (cover0_A_7 c i a1 h1 a2 h2 a3 h3 a4 h4 a5 h5 a6 h6 a7 h7 a8 h8 a9 h9 hc0 a w h r g d), View.read_writes_eq_canon _ _ _ (cover0_A_8 c i a1 h1 a2 h2 a3 h3 a4 h4 a5 h5 a6 h6 a7 h7 a8 h8 a9 h9 hc0 a w h r g d)]
  unfold kernelRun0_A
  dsimp only
  sl_unfold_words
  rw [View.canon_unit_zero (S := S512x1024) (e := .f32) corner, View.canon_unit_zero (S := S512x1024) (e := .bf16) corner, View.canon_cons_unit_zero (S := S8x1024) corner, View.readCov_unit_zero (S := S8x1024) _ corner]
  simp only [View.readAt_eq_ld, h1.read_unread, h2.read_unread, h3.read_unread, h4.read_unread, h5.read_unread, h6.read_unread, View.ld_unit_zero (S := S512x4096) corner, View.ld_unit_zero (S := S4096x1024) corner, View.ld_unit_zero (S := S512x1024) corner, View.ld_unit_zero (S := S512x1) corner, View.ld_unit_zero (S := S1x1024) corner]

theorem out_B (hc0 : ¬cond0_0 i) (s : Vec F S8x1024 .f32) :
    (out0_B_6 (F := F) c i a1 h1 a2 h2 a3 h3 a4 h4 a5 h5 a6 h6 a7 h7 a8 h8 a9 h9 hc0 a w h r g d s, out0_B_7 (F := F) c i a1 h1 a2 h2 a3 h3 a4 h4 a5 h5 a6 h6 a7 h7 a8 h8 a9 h9 hc0 a w h r g d s, out0_B_8 (F := F) c i a1 h1 a2 h2 a3 h3 a4 h4 a5 h5 a6 h6 a7 h7 a8 h8 a9 h9 hc0 a w h r g d s)
      = (k0_pay1 (k0_pay7 a w g) d (k0_pay8 r) (k0_pay9 a w h r g), k0_pay2 (k0_pay7 a w g) d (k0_pay8 r) (k0_pay9 a w h r g), k0_pay6 a w h r s) := by
  unfold out0_B_6 out0_B_7 out0_B_8
  rw [View.read_writes_eq_canon _ _ _ (cover0_B_6 c i a1 h1 a2 h2 a3 h3 a4 h4 a5 h5 a6 h6 a7 h7 a8 h8 a9 h9 hc0 a w h r g d s), View.read_writes_eq_canon _ _ _ (cover0_B_7 c i a1 h1 a2 h2 a3 h3 a4 h4 a5 h5 a6 h6 a7 h7 a8 h8 a9 h9 hc0 a w h r g d s), View.read_writes_eq_canon _ _ _ (cover0_B_8 c i a1 h1 a2 h2 a3 h3 a4 h4 a5 h5 a6 h6 a7 h7 a8 h8 a9 h9 hc0 a w h r g d s)]
  unfold kernelRun0_B
  dsimp only
  sl_unfold_words
  rw [View.canon_unit_zero (S := S512x1024) (e := .f32) corner, View.canon_unit_zero (S := S512x1024) (e := .bf16) corner, View.canon_unit_zero (S := S8x1024) corner]
  simp only [View.readAt_eq_ld, h1.read_unread, h2.read_unread, h3.read_unread, h4.read_unread, h5.read_unread, h6.read_unread, h9.read_unread, View.ld_unit_zero (S := S512x4096) corner, View.ld_unit_zero (S := S4096x1024) corner, View.ld_unit_zero (S := S512x1024) corner, View.ld_unit_zero (S := S512x1) corner, View.ld_unit_zero (S := S1x1024) corner, View.ld_unit_zero (S := S8x1024) corner]

end

/-- What a point leaves in the two outputs of its rows. -/
theorem left (t : Fin cfg0.N) : (outsAt0 m c t.val t.isLt).1 = dx m c t ∧ (outsAt0 m c t.val t.isLt).2.1 = truncf .bf16 (dx m c t) bitsLt_bf16_f32 := by
  by_cases h0 : t.val % 32 = 0
  · rw [outsAt0_A m c t h0, out_A]
    exact ⟨rfl, rfl⟩
  · rw [outsAt0_B m c t h0, out_B]
    exact ⟨rfl, rfl⟩

/-- The point that many steps in. -/
abbrev turn (t : Fin cfg0.N) (h : t.val % 32 = 31) (q : Fin 32) : Fin cfg0.N :=
  ⟨t.val - 31 + q.val, lt_of_lt_of_eq (by have := lt_of_lt_of_eq t.isLt N_0; omega) N_0.symm⟩

/-- After the last point the third output holds all thirty-two contributions. -/
theorem held (t : Fin cfg0.N) (h : t.val % 32 = 31) (e : Fin 8) (j : Fin 1024) :
    (outsAt0 m c t.val t.isLt).2.2 (ix2 e j) = ∑ q : Fin 32, part m c (turn t h q) e j := by
  refine kept_sum (b := 32) (fun t => (outsAt0 m c t.val t.isLt).2.2 (ix2 e j)) (fun t => part m c t e j) (fun t ht => ?_) (fun t ht => ?_) 31 t h
  · rw [outsAt0_A m c t ht, out_A]
    dsimp only
    rw [more, zero, zero_add]
  · dsimp only
    rw [outsAt0_B m c t ht, out_B]
    dsimp only
    rw [more]

theorem dg_ref_at (h : FVec Ideal S16384x1024 .f32) (w : FVec Ideal S1024x4096 .f32) (a : FVec Ideal S16384x4096 .f32) (e : Fin 8) (j : Fin 1024) :
    (val_main_v37 (F := Ideal) h w a : FVec Ideal S8x1024 .f32) (ix2 e j)
      = ∑ l : Fin 2048, (val_main_v19 (F := Ideal) h w a : FVec Ideal S16384x1024 .f32) (ix2 (⟨l.val * 8 + e.val, by omega⟩ : Fin 16384) j) := by
  pointwise [val_main_v37, val_main_v36, val_main_cst_6]

theorem arr_dx : (dats m 0 c).arrAt 6 cfg0.N = (val_main_v35 (F := Ideal) (ah m c) (ag m c) (aw m c) (aa m c) (ad m c) : FVec Ideal S16384x1024 .f32) := by
  refine (dats m 0 c).arrAt_eq_of_covers 6 _ (by decide +kernel) fun t hf y => ?_
  obtain ⟨-, -, -, -, -, -, e, -⟩ := index_at t
  obtain ⟨k, j, rfl⟩ : ∃ (k : Fin 512) (j : Fin 1024), y = ix2 k j := ⟨y 0, y 1, by funext d; fin_cases d <;> rfl⟩
  refine Eq.trans ?_ (congrArg (val_main_v35 (F := Ideal) (ah m c) (ag m c) (aw m c) (aa m c) (ad m c)) (?_ : ix2 (row t k) j = _))
  · exact (congrFun ((after0_6 m c t).trans (left m c t).1) (ix2 k j)).trans (dx_at m c t k j)
  · symm; blk_ext [e]

theorem arr_dx16 : (dats m 0 c).arrAt 7 cfg0.N = (val_main_v38 (F := Ideal) (ah m c) (ag m c) (aw m c) (aa m c) (ad m c) : FVec Ideal S16384x1024 .bf16) := by
  refine (dats m 0 c).arrAt_eq_of_covers 7 _ (by decide +kernel) fun t hf y => ?_
  obtain ⟨-, -, -, -, -, -, -, e, -⟩ := index_at t
  obtain ⟨k, j, rfl⟩ : ∃ (k : Fin 512) (j : Fin 1024), y = ix2 k j := ⟨y 0, y 1, by funext d; fin_cases d <;> rfl⟩
  refine Eq.trans ?_ (congrArg (val_main_v38 (F := Ideal) (ah m c) (ag m c) (aw m c) (aa m c) (ad m c)) (?_ : ix2 (row t k) j = _))
  · exact (congrFun ((after0_7 m c t).trans (left m c t).2) (ix2 k j)).trans (dx_at m c t k j)
  · symm; blk_ext [e]

theorem arr_dg : (dats m 0 c).arrAt 8 cfg0.N = (val_main_v37 (F := Ideal) (ah m c) (aw m c) (aa m c) : FVec Ideal S8x1024 .f32) := by
  refine (dats m 0 c).arrAt_eq_of_covers 8 _ (by decide +kernel) fun t hf y => ?_
  have h31 : t.val % 32 = 31 := (flush0_8 t).mp hf
  obtain ⟨-, -, -, -, -, -, -, -, e⟩ := index_at t
  obtain ⟨k, j, rfl⟩ : ∃ (k : Fin 8) (j : Fin 1024), y = ix2 k j := ⟨y 0, y 1, by funext d; fin_cases d <;> rfl⟩
  refine Eq.trans ?_ (congrArg (val_main_v37 (F := Ideal) (ah m c) (aw m c) (aa m c)) (?_ : ix2 k j = _))
  · rw [dg_ref_at, ← sum_steps]
    refine (congrFun (after0_8 m c t) (ix2 k j)).trans ((held m c t h31 k j).trans ?_)
    refine Finset.sum_congr rfl fun s _ => Finset.sum_congr rfl fun q _ => ?_
    refine congrArg (fun l : Fin 16384 => (val_main_v19 (F := Ideal) (ah m c) (aw m c) (aa m c) : FVec Ideal S16384x1024 .f32) (ix2 l j)) (Fin.ext ?_)
    have := lt_of_lt_of_eq t.isLt N_0
    show 512 * (t.val - 31 + s.val) + (q.val * 8 + k.val) = (64 * s.val + q.val) * 8 + k.val
    omega
  · symm; blk_ext [e]

theorem frame_reference : quiescent_DH1ReferenceIdeal (hDH1ReferenceIdeal := Cert.DH1ReferenceIdeal.Gen.facts) := fun m ρ _ =>
  (θ_run Cert.DH1ReferenceIdeal.defs _ _).mono (fun r h => ⟨fun c => (h c).2.2.2, sem_eq_zero_of_no_sems (by decide) r.2⟩)
    (Cert.DH1ReferenceIdeal.Value.run (F := Ideal) m ρ)

theorem algebraic : algebraic_DH1Ideal_DH1ReferenceIdeal (hDH1Ideal := Cert.DH1Ideal.Gen.facts) (hDH1ReferenceIdeal := Cert.DH1ReferenceIdeal.Gen.facts) := by
  intro m g m' g' hp hm
  refine ⟨fun c => val_main_v35 (F := Ideal) (ah m c) (ag m c) (aw m c) (aa m c) (ad m c), fun c => val_main_v38 (F := Ideal) (ah m c) (ag m c) (aw m c) (aa m c) (ad m c),
    fun c => val_main_v37 (F := Ideal) (ah m c) (aw m c) (aa m c), ?_, ?_⟩
  · exact (θ_run defs _ _).mono (fun r h c => ⟨(h c).1.trans (arr_dx m c), (h c).2.1.trans (arr_dx16 m c), (h c).2.2.1.trans (arr_dg m c), (h c).2.2.2⟩) (Cert.DH1Ideal.Value.run_blocks m g)
  · refine (θ_run Cert.DH1ReferenceIdeal.defs _ _).mono (fun r h c => ?_) (Cert.DH1ReferenceIdeal.Value.run m' g')
    obtain ⟨e0, e1, e2, e3, e4⟩ := hm c
    refine ⟨(h c).1.trans ((val_main_v35_eq _ _).trans ?_), (h c).2.1.trans ((val_main_v38_eq _ _).trans ?_), (h c).2.2.1.trans ((val_main_v37_eq _ _ _).trans ?_), (h c).2.2.2⟩
    · rw [e0, e1, e2, e3, e4]
    · rw [e0, e1, e2, e3, e4]
    · rw [e0, e2, e3]

end Cert.Proof.DH1
end
-- ==== Proof.DXValue.lean ====
/- The gradient of the layer's input over real values ends with the reference's. -/
module

public import proofs.«01_k».proof.Defs
public import proofs.«01_k».proof.Proof.Products
public import proofs.«01_k».proof.Proof.Norm
public import proofs.«01_k».proof.Proof.Gen.DXIdeal.Value
public import proofs.«01_k».proof.Proof.Gen.DXReferenceIdeal.Run
public import proofs.«01_k».proof.Proof.Gen.DXReferenceIdeal.Read
public import Idealize.ShloMosaic.Lib.StableHlo.RunRead
public import Idealize.ShloMosaic.Lib.Pipeline.ValueKit

@[expose] public section
set_option maxRecDepth 16384
noncomputable section
namespace Cert.Proof.DX
open Cert.DXIdeal Cert.DXIdeal.Gen Cert.DXReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev ax : FVec Ideal S16384x1024 .f32 := m ((c : Thread nD τ).loc main_arg0)
abbrev ag : FVec Ideal S1x1024 .f32 := m ((c : Thread nD τ).loc main_arg1)
abbrev aw : FVec Ideal S1024x6680 .f32 := m ((c : Thread nD τ).loc main_arg2)
abbrev ad : FVec Ideal S16384x1024 .f32 := m ((c : Thread nD τ).loc main_arg3)
abbrev agates : FVec Ideal S16384x3072 .f32 := m ((c : Thread nD τ).loc main_arg4)
abbrev agq : FVec Ideal S16384x256 .f32 := m ((c : Thread nD τ).loc main_arg5)
abbrev agk : FVec Ideal S16384x256 .f32 := m ((c : Thread nD τ).loc main_arg6)
abbrev agv : FVec Ideal S16384x512 .f32 := m ((c : Thread nD τ).loc main_arg7)
abbrev agg : FVec Ideal S16384x512 .f32 := m ((c : Thread nD τ).loc main_arg8)
abbrev afq : FVec Ideal S16384x512 .f32 := m ((c : Thread nD τ).loc main_arg9)
abbrev afk : FVec Ideal S16384x512 .f32 := m ((c : Thread nD τ).loc main_arg10)
abbrev afv : FVec Ideal S16384x512 .f32 := m ((c : Thread nD τ).loc main_arg11)
abbrev amq : FVec Ideal S16384x512 .f32 := m ((c : Thread nD τ).loc main_arg12)
abbrev ae : FVec Ideal S16384x128 .f32 := m ((c : Thread nD τ).loc main_arg13)

theorem V_parts : (V m c main_v10 : FVec Ideal S16384x3072 .bf16) = agates m c
    ∧ (V m c main_v11 : FVec Ideal S16384x256 .bf16) = agq m c
    ∧ (V m c main_v12 : FVec Ideal S16384x256 .bf16) = agk m c
    ∧ (V m c main_v13 : FVec Ideal S16384x512 .bf16) = agv m c
    ∧ (V m c main_v14 : FVec Ideal S16384x512 .bf16) = agg m c
    ∧ (V m c main_v15 : FVec Ideal S16384x512 .bf16) = afq m c
    ∧ (V m c main_v16 : FVec Ideal S16384x512 .bf16) = afk m c
    ∧ (V m c main_v17 : FVec Ideal S16384x512 .bf16) = afv m c
    ∧ (V m c main_v18 : FVec Ideal S16384x512 .bf16) = amq m c
    ∧ (V m c main_v19 : FVec Ideal S16384x128 .bf16) = ae m c := by
  unfold V
  refine ⟨?_, ?_, ?_, ?_, ?_, ?_, ?_, ?_, ?_, ?_⟩ <;> (after_reads_simp; rfl)

theorem V_rows : (V m c main_arg0 : FVec Ideal S16384x1024 .f32) = ax m c ∧ (V m c main_arg1 : FVec Ideal S1x1024 .f32) = ag m c
    ∧ (V m c main_arg3 : FVec Ideal S16384x1024 .f32) = ad m c := by
  unfold V
  refine ⟨?_, ?_, ?_⟩ <;> after_reads_simp

/-- The scale of the rows is computed as the reference computes it. -/
theorem V_r : (V m c main_v29 : FVec Ideal S16384x1 .f32) = (val_main_v13 (F := Ideal) (ax m c) : FVec Ideal S16384x1 .f32) := by
  unfold V
  after_reads_simp
  rfl

/-- The columns of the weights beside one another in the kernel's order, the wide ones and the narrow ones. -/
theorem V_wide : (upto hostOps0 (fun b => m (c, b)) 21 (Proc.devRef .tc main_v5) : FVec Ideal S1024x6656 .bf16) =
    concatenate S1024x6656 1 [⟨S1024x3072, extractStridedSlice S1024x3072 ![0, 3608] (aw m c) slices_S1024x6680_S1024x3072_0_3608⟩,
        ⟨S1024x1536, extractStridedSlice S1024x1536 ![0, 0] (aw m c) slices_S1024x6680_S1024x1536_0_0⟩,
        ⟨S1024x1536, extractStridedSlice S1024x1536 ![0, 1552] (aw m c) slices_S1024x6680_S1024x1536_0_1552⟩,
        ⟨S1024x512, extractStridedSlice S1024x512 ![0, 3096] (aw m c) slices_S1024x6680_S1024x512_0_3096⟩]
      concatenates_S1024x3072_S1024x1536_S1024x1536_S1024x512_S1024x6656_d1 := by
  after_reads_simp
  rfl

theorem V_narrow : (upto hostOps0 (fun b => m (c, b)) 21 (Proc.devRef .tc main_v9) : FVec Ideal S1024x128 .bf16) =
    concatenate S1024x128 1 [⟨S1024x16, extractStridedSlice S1024x16 ![0, 1536] (aw m c) slices_S1024x6680_S1024x16_0_1536⟩,
        ⟨S1024x8, extractStridedSlice S1024x8 ![0, 3088] (aw m c) slices_S1024x6680_S1024x8_0_3088⟩,
        ⟨S1024x104, broadcastInDim S1024x104 ![] bcast_S_S1024x104 (constant S_ .bf16 0x0000#16 : FVec Ideal S_ .bf16)⟩]
      concatenates_S1024x16_S1024x8_S1024x104_S1024x128_d1 := by
  after_reads_simp
  have e0 : (upto hostOps0 (fun b => m (c, b)) 10 (Proc.devRef .tc main_v6) : FVec Ideal S1024x16 .bf16) = extractStridedSlice S1024x16 ![0, 1536] (aw m c) slices_S1024x6680_S1024x16_0_1536 := by
    after_reads_simp
    rfl
  have e1 : (upto hostOps0 (fun b => m (c, b)) 10 (Proc.devRef .tc main_v7) : FVec Ideal S1024x8 .bf16) = extractStridedSlice S1024x8 ![0, 3088] (aw m c) slices_S1024x6680_S1024x8_0_3088 := by
    after_reads_simp
    rfl
  have e2 : (upto hostOps0 (fun b => m (c, b)) 10 (Proc.devRef .tc main_v8) : FVec Ideal S1024x104 .bf16) = broadcastInDim S1024x104 ![] bcast_S_S1024x104 (constant S_ .bf16 0x0000#16 : FVec Ideal S_ .bf16) := by
    after_reads_simp
  rw [← e0, ← e1, ← e2]
  rfl

abbrev cols : FVec Ideal S6784x1024 .bf16 := V m c main_v21

set_option maxHeartbeats 4000000 in
theorem cols_at (j : Fin 1024) :
    (∀ l : Fin 3072, cols m c (ix2 ⟨l.val, by omega⟩ j) = aw m c (ix2 j ⟨3608 + l.val, by omega⟩))
    ∧ (∀ l : Fin 256, cols m c (ix2 ⟨3072 + l.val, by omega⟩ j) = aw m c (ix2 j ⟨l.val, by omega⟩))
    ∧ (∀ l : Fin 256, cols m c (ix2 ⟨3328 + l.val, by omega⟩ j) = aw m c (ix2 j ⟨256 + l.val, by omega⟩))
    ∧ (∀ l : Fin 512, cols m c (ix2 ⟨3584 + l.val, by omega⟩ j) = aw m c (ix2 j ⟨512 + l.val, by omega⟩))
    ∧ (∀ l : Fin 512, cols m c (ix2 ⟨4096 + l.val, by omega⟩ j) = aw m c (ix2 j ⟨1024 + l.val, by omega⟩))
    ∧ (∀ l : Fin 512, cols m c (ix2 ⟨4608 + l.val, by omega⟩ j) = aw m c (ix2 j ⟨1552 + l.val, by omega⟩))
    ∧ (∀ l : Fin 512, cols m c (ix2 ⟨5120 + l.val, by omega⟩ j) = aw m c (ix2 j ⟨2064 + l.val, by omega⟩))
    ∧ (∀ l : Fin 512, cols m c (ix2 ⟨5632 + l.val, by omega⟩ j) = aw m c (ix2 j ⟨2576 + l.val, by omega⟩))
    ∧ (∀ l : Fin 512, cols m c (ix2 ⟨6144 + l.val, by omega⟩ j) = aw m c (ix2 j ⟨3096 + l.val, by omega⟩))
    ∧ (∀ l : Fin 16, cols m c (ix2 ⟨6656 + l.val, by omega⟩ j) = aw m c (ix2 j ⟨1536 + l.val, by omega⟩))
    ∧ (∀ l : Fin 8, cols m c (ix2 ⟨6656 + (16 + l.val), by omega⟩ j) = aw m c (ix2 j ⟨3088 + l.val, by omega⟩))
    ∧ (∀ l : Fin 104, cols m c (ix2 ⟨6656 + (24 + l.val), by omega⟩ j) = 0) := by
  have e : cols m c = transpose S6784x1024 [1, 0] (concatenate S1024x6784 1
      [⟨S1024x6656, (upto hostOps0 (fun b => m (c, b)) 21 (Proc.devRef .tc main_v5) : FVec Ideal S1024x6656 .bf16)⟩,
        ⟨S1024x128, (upto hostOps0 (fun b => m (c, b)) 21 (Proc.devRef .tc main_v9) : FVec Ideal S1024x128 .bf16)⟩]
      concatenates_S1024x6656_S1024x128_S1024x6784_d1) transposes_S1024x6784_S6784x1024_1_0 := by
    unfold cols V
    after_reads_simp
  rw [e, V_wide, V_narrow]
  refine ⟨fun l => ?_, fun l => ?_, fun l => ?_, fun l => ?_, fun l => ?_, fun l => ?_, fun l => ?_, fun l => ?_, fun l => ?_, fun l => ?_, fun l => ?_, fun l => ?_⟩ <;> pointwise <;>
    repeat (first | rw [dif_pos (by omega)] | rw [dif_neg (by omega)])
  all_goals exact congrArg (aw m c) (congrArg (ix2 j) (Fin.ext (by dsimp only; omega)))

/-- The reference's gradients side by side. -/
abbrev beside : FVec Ideal Cert.DXReferenceIdeal.S16384x6680 .f32 := val_main_v2 (F := Ideal) (agates m c) (agq m c) (agk m c) (agv m c) (agg m c) (afq m c) (afk m c) (afv m c) (amq m c) (ae m c)

set_option maxHeartbeats 4000000 in
theorem beside_at (i : Fin 16384) :
    (∀ l : Fin 256, beside m c (ix2 i ⟨l.val, by omega⟩) = agq m c (ix2 i l))
    ∧ (∀ l : Fin 256, beside m c (ix2 i ⟨256 + l.val, by omega⟩) = agk m c (ix2 i l))
    ∧ (∀ l : Fin 512, beside m c (ix2 i ⟨512 + l.val, by omega⟩) = agv m c (ix2 i l))
    ∧ (∀ l : Fin 512, beside m c (ix2 i ⟨1024 + l.val, by omega⟩) = agg m c (ix2 i l))
    ∧ (∀ l : Fin 16, beside m c (ix2 i ⟨1536 + l.val, by omega⟩) = ae m c (ix2 i ⟨l.val, by omega⟩))
    ∧ (∀ l : Fin 512, beside m c (ix2 i ⟨1552 + l.val, by omega⟩) = afq m c (ix2 i l))
    ∧ (∀ l : Fin 512, beside m c (ix2 i ⟨2064 + l.val, by omega⟩) = afk m c (ix2 i l))
    ∧ (∀ l : Fin 512, beside m c (ix2 i ⟨2576 + l.val, by omega⟩) = afv m c (ix2 i l))
    ∧ (∀ l : Fin 8, beside m c (ix2 i ⟨3088 + l.val, by omega⟩) = ae m c (ix2 i ⟨16 + l.val, by omega⟩))
    ∧ (∀ l : Fin 512, beside m c (ix2 i ⟨3096 + l.val, by omega⟩) = amq m c (ix2 i l))
    ∧ (∀ l : Fin 3072, beside m c (ix2 i ⟨3608 + l.val, by omega⟩) = agates m c (ix2 i l)) := by
  refine ⟨fun l => ?_, fun l => ?_, fun l => ?_, fun l => ?_, fun l => ?_, fun l => ?_, fun l => ?_, fun l => ?_, fun l => ?_, fun l => ?_, fun l => ?_⟩ <;> pointwise [beside, val_main_v2, val_main_v0, val_main_v1] <;>
    repeat (first | rw [dif_pos (by omega)] | rw [dif_neg (by omega)])
  all_goals congr 2 <;> exact Fin.ext (by dsimp only; omega)

theorem cut (a b n : ℕ) (h : a + b = n) (f : Fin n → EReal) : ∑ i, f i = ∑ i : Fin a, f ⟨i.val, by omega⟩ + ∑ i : Fin b, f ⟨a + i.val, by omega⟩ := by
  subst h
  exact Fin.sum_univ_add f

/-- A sum over the columns, by the gradients they belong to. -/
theorem cut_columns (f : Fin 6680 → EReal) : ∑ l, f l =
    (∑ l : Fin 256, f ⟨l.val, by omega⟩) + (∑ l : Fin 256, f ⟨256 + l.val, by omega⟩) + (∑ l : Fin 512, f ⟨512 + l.val, by omega⟩) + (∑ l : Fin 512, f ⟨1024 + l.val, by omega⟩) + (∑ l : Fin 16, f ⟨1536 + l.val, by omega⟩) + (∑ l : Fin 512, f ⟨1552 + l.val, by omega⟩) + (∑ l : Fin 512, f ⟨2064 + l.val, by omega⟩) + (∑ l : Fin 512, f ⟨2576 + l.val, by omega⟩) + (∑ l : Fin 8, f ⟨3088 + l.val, by omega⟩) + (∑ l : Fin 512, f ⟨3096 + l.val, by omega⟩) + (∑ l : Fin 3072, f ⟨3608 + l.val, by omega⟩) := by
  rw [cut 3608 3072 6680 rfl]
  rw [cut 3096 512 3608 rfl]
  rw [cut 3088 8 3096 rfl]
  rw [cut 2576 512 3088 rfl]
  rw [cut 2064 512 2576 rfl]
  rw [cut 1552 512 2064 rfl]
  rw [cut 1536 16 1552 rfl]
  rw [cut 1024 512 1536 rfl]
  rw [cut 512 512 1024 rfl]
  rw [cut 256 256 512 rfl]

theorem index_at : ∀ t : Fin grid0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![t.val, 0] ∧ win0_12.index t = ![t.val, 0] ∧ win0_13.index t = ![0, 0] ∧ win0_14.index t = ![t.val, 0] ∧ win0_15.index t = ![t.val, 0] ∧ win0_16.index t = ![0, 0] := by
  decide +kernel

/-- Row `k` of the point's block. -/
abbrev row (t : Fin cfg0.N) (k : Fin 512) : Fin 16384 := ⟨512 * t.val + k.val, by have := lt_of_lt_of_eq t.isLt N_0; omega⟩

/-- The blocks at a point. -/
abbrev bgates (t : Fin cfg0.N) : FVec Ideal S512x3072 .bf16 := iblk m c 0 t
abbrev bgq (t : Fin cfg0.N) : FVec Ideal S512x256 .bf16 := iblk m c 1 t
abbrev bgk (t : Fin cfg0.N) : FVec Ideal S512x256 .bf16 := iblk m c 2 t
abbrev bgv (t : Fin cfg0.N) : FVec Ideal S512x512 .bf16 := iblk m c 3 t
abbrev bgg (t : Fin cfg0.N) : FVec Ideal S512x512 .bf16 := iblk m c 4 t
abbrev bfq (t : Fin cfg0.N) : FVec Ideal S512x512 .bf16 := iblk m c 5 t
abbrev bfk (t : Fin cfg0.N) : FVec Ideal S512x512 .bf16 := iblk m c 6 t
abbrev bfv (t : Fin cfg0.N) : FVec Ideal S512x512 .bf16 := iblk m c 7 t
abbrev bmq (t : Fin cfg0.N) : FVec Ideal S512x512 .bf16 := iblk m c 8 t
abbrev be (t : Fin cfg0.N) : FVec Ideal S512x128 .bf16 := iblk m c 9 t
abbrev wb (t : Fin cfg0.N) : FVec Ideal S6784x1024 .bf16 := iblk m c 10 t
abbrev xb (t : Fin cfg0.N) : FVec Ideal S512x1024 .f32 := iblk m c 11 t
abbrev rb (t : Fin cfg0.N) : FVec Ideal S512x1 .f32 := iblk m c 12 t
abbrev gb (t : Fin cfg0.N) : FVec Ideal S1x1024 .f32 := iblk m c 13 t
abbrev db (t : Fin cfg0.N) : FVec Ideal S512x1024 .f32 := iblk m c 14 t

set_option maxHeartbeats 4000000 in
theorem read_parts (t : Fin cfg0.N) (k : Fin 512) :
    (∀ l : Fin 3072, bgates m c t (ix2 k l) = agates m c (ix2 (row t k) l))
    ∧ (∀ l : Fin 256, bgq m c t (ix2 k l) = agq m c (ix2 (row t k) l))
    ∧ (∀ l : Fin 256, bgk m c t (ix2 k l) = agk m c (ix2 (row t k) l))
    ∧ (∀ l : Fin 512, bgv m c t (ix2 k l) = agv m c (ix2 (row t k) l))
    ∧ (∀ l : Fin 512, bgg m c t (ix2 k l) = agg m c (ix2 (row t k) l))
    ∧ (∀ l : Fin 512, bfq m c t (ix2 k l) = afq m c (ix2 (row t k) l))
    ∧ (∀ l : Fin 512, bfk m c t (ix2 k l) = afk m c (ix2 (row t k) l))
    ∧ (∀ l : Fin 512, bfv m c t (ix2 k l) = afv m c (ix2 (row t k) l))
    ∧ (∀ l : Fin 512, bmq m c t (ix2 k l) = amq m c (ix2 (row t k) l))
    ∧ (∀ l : Fin 128, be m c t (ix2 k l) = ae m c (ix2 (row t k) l)) := by
  obtain ⟨e0, e1, e2, e3, e4, e5, e6, e7, e8, e9, -⟩ := index_at t
  obtain ⟨v0, v1, v2, v3, v4, v5, v6, v7, v8, v9⟩ := V_parts m c
  unfold bgates bgq bgk bgv bgg bfq bfk bfv bmq be iblk
  exact ⟨fun l => (congrFun v0 _).trans (congrArg (agates m c) (by blk_ext [e0])), fun l => (congrFun v1 _).trans (congrArg (agq m c) (by blk_ext [e1])), fun l => (congrFun v2 _).trans (congrArg (agk m c) (by blk_ext [e2])), fun l => (congrFun v3 _).trans (congrArg (agv m c) (by blk_ext [e3])), fun l => (congrFun v4 _).trans (congrArg (agg m c) (by blk_ext [e4])), fun l => (congrFun v5 _).trans (congrArg (afq m c) (by blk_ext [e5])), fun l => (congrFun v6 _).trans (congrArg (afk m c) (by blk_ext [e6])), fun l => (congrFun v7 _).trans (congrArg (afv m c) (by blk_ext [e7])), fun l => (congrFun v8 _).trans (congrArg (amq m c) (by blk_ext [e8])), fun l => (congrFun v9 _).trans (congrArg (ae m c) (by blk_ext [e9]))⟩

theorem read_w (t : Fin cfg0.N) (l : Fin 6784) (j : Fin 1024) : wb m c t (ix2 l j) = cols m c (ix2 l j) := by
  obtain ⟨-, -, -, -, -, -, -, -, -, -, e, -⟩ := index_at t
  unfold wb iblk
  exact congrArg (V m c main_v21 : FVec Ideal S6784x1024 .bf16) (by blk_ext [e])

theorem read_x (t : Fin cfg0.N) (k : Fin 512) (j : Fin 1024) : xb m c t (ix2 k j) = ax m c (ix2 (row t k) j) := by
  obtain ⟨-, -, -, -, -, -, -, -, -, -, -, e, -⟩ := index_at t
  unfold xb iblk
  exact (congrFun (V_rows m c).1 _).trans (congrArg (ax m c) (by blk_ext [e]))

theorem read_r (t : Fin cfg0.N) (k : Fin 512) (z : Fin 1) : rb m c t (ix2 k z) = (val_main_v13 (F := Ideal) (ax m c) : FVec Ideal S16384x1 .f32) (ix2 (row t k) z) := by
  obtain ⟨-, -, -, -, -, -, -, -, -, -, -, -, e, -⟩ := index_at t
  unfold rb iblk
  exact (congrFun (V_r m c) _).trans (congrArg (val_main_v13 (F := Ideal) (ax m c) : FVec Ideal S16384x1 .f32) (by blk_ext [e]))

theorem read_g (t : Fin cfg0.N) (z : Fin 1) (j : Fin 1024) : gb m c t (ix2 z j) = ag m c (ix2 z j) := by
  obtain ⟨-, -, -, -, -, -, -, -, -, -, -, -, -, e, -⟩ := index_at t
  unfold gb iblk
  exact (congrFun (V_rows m c).2.1 _).trans (congrArg (ag m c) (by blk_ext [e]))

theorem read_d (t : Fin cfg0.N) (k : Fin 512) (j : Fin 1024) : db m c t (ix2 k j) = ad m c (ix2 (row t k) j) := by
  obtain ⟨-, -, -, -, -, -, -, -, -, -, -, -, -, -, e, -⟩ := index_at t
  unfold db iblk
  exact (congrFun (V_rows m c).2.2 _).trans (congrArg (ad m c) (by blk_ext [e]))

/-- Each product's rows of the weights. -/
theorem loads (w : FVec Ideal S6784x1024 .bf16) (j : Fin 1024) :
    (∀ l : Fin 3072, ((View.ld (Val := Elt Ideal) (e' := .bf16) w (Rect.unit (s := S6784x1024) ![0, 0] S3072x1024.size inb_S6784x1024_S3072x1024_0_0)) : FVec Ideal S3072x1024 .bf16) (ix2 l j) = w (ix2 ⟨l.val, by omega⟩ j))
    ∧ (∀ l : Fin 256, ((View.ld (Val := Elt Ideal) (e' := .bf16) w (Rect.unit (s := S6784x1024) ![3072, 0] S256x1024.size inb_S6784x1024_S256x1024_3072_0)) : FVec Ideal S256x1024 .bf16) (ix2 l j) = w (ix2 ⟨3072 + l.val, by omega⟩ j))
    ∧ (∀ l : Fin 256, ((View.ld (Val := Elt Ideal) (e' := .bf16) w (Rect.unit (s := S6784x1024) ![3328, 0] S256x1024.size inb_S6784x1024_S256x1024_3328_0)) : FVec Ideal S256x1024 .bf16) (ix2 l j) = w (ix2 ⟨3328 + l.val, by omega⟩ j))
    ∧ (∀ l : Fin 512, ((View.ld (Val := Elt Ideal) (e' := .bf16) w (Rect.unit (s := S6784x1024) ![3584, 0] S512x1024.size inb_S6784x1024_S512x1024_3584_0)) : FVec Ideal S512x1024 .bf16) (ix2 l j) = w (ix2 ⟨3584 + l.val, by omega⟩ j))
    ∧ (∀ l : Fin 512, ((View.ld (Val := Elt Ideal) (e' := .bf16) w (Rect.unit (s := S6784x1024) ![4096, 0] S512x1024.size inb_S6784x1024_S512x1024_4096_0)) : FVec Ideal S512x1024 .bf16) (ix2 l j) = w (ix2 ⟨4096 + l.val, by omega⟩ j))
    ∧ (∀ l : Fin 512, ((View.ld (Val := Elt Ideal) (e' := .bf16) w (Rect.unit (s := S6784x1024) ![4608, 0] S512x1024.size inb_S6784x1024_S512x1024_4608_0)) : FVec Ideal S512x1024 .bf16) (ix2 l j) = w (ix2 ⟨4608 + l.val, by omega⟩ j))
    ∧ (∀ l : Fin 512, ((View.ld (Val := Elt Ideal) (e' := .bf16) w (Rect.unit (s := S6784x1024) ![5120, 0] S512x1024.size inb_S6784x1024_S512x1024_5120_0)) : FVec Ideal S512x1024 .bf16) (ix2 l j) = w (ix2 ⟨5120 + l.val, by omega⟩ j))
    ∧ (∀ l : Fin 512, ((View.ld (Val := Elt Ideal) (e' := .bf16) w (Rect.unit (s := S6784x1024) ![5632, 0] S512x1024.size inb_S6784x1024_S512x1024_5632_0)) : FVec Ideal S512x1024 .bf16) (ix2 l j) = w (ix2 ⟨5632 + l.val, by omega⟩ j))
    ∧ (∀ l : Fin 512, ((View.ld (Val := Elt Ideal) (e' := .bf16) w (Rect.unit (s := S6784x1024) ![6144, 0] S512x1024.size inb_S6784x1024_S512x1024_6144_0)) : FVec Ideal S512x1024 .bf16) (ix2 l j) = w (ix2 ⟨6144 + l.val, by omega⟩ j))
    ∧ (∀ l : Fin 128, ((View.ld (Val := Elt Ideal) (e' := .bf16) w (Rect.unit (s := S6784x1024) ![6656, 0] S128x1024.size inb_S6784x1024_S128x1024_6656_0)) : FVec Ideal S128x1024 .bf16) (ix2 l j) = w (ix2 ⟨6656 + l.val, by omega⟩ j)) := by
  refine ⟨fun l => ?_, fun l => ?_, fun l => ?_, fun l => ?_, fun l => ?_, fun l => ?_, fun l => ?_, fun l => ?_, fun l => ?_, fun l => ?_⟩ <;> refine View.ld_unit_apply_of (Val := Elt Ideal) (S := S6784x1024) (e := .bf16) w _ _ _ _ _ fun a => ?_ <;> fin_cases a <;>
    first | rfl | exact (Nat.zero_add _).symm

/-- The ten products added up. -/
abbrev du {F : FTy → Type} [FloatOps F] (x0 : Vec F S512x3072 .bf16) (x1 : Vec F S512x256 .bf16) (x2 : Vec F S512x256 .bf16) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x128 .bf16) (x10 : Vec F S6784x1024 .bf16) : FVec F S512x1024 .f32 :=
  k0_pay7 (k0_pay5 x0 (View.ld x10 (Rect.unit (s := S6784x1024) ![0, 0] S3072x1024.size inb_S6784x1024_S3072x1024_0_0)) x1 (View.ld x10 (Rect.unit (s := S6784x1024) ![3072, 0] S256x1024.size inb_S6784x1024_S256x1024_3072_0)) x2 (View.ld x10 (Rect.unit (s := S6784x1024) ![3328, 0] S256x1024.size inb_S6784x1024_S256x1024_3328_0)) x3 (View.ld x10 (Rect.unit (s := S6784x1024) ![3584, 0] S512x1024.size inb_S6784x1024_S512x1024_3584_0))) (k0_pay6 x4 (View.ld x10 (Rect.unit (s := S6784x1024) ![4096, 0] S512x1024.size inb_S6784x1024_S512x1024_4096_0))) x5 (View.ld x10 (Rect.unit (s := S6784x1024) ![4608, 0] S512x1024.size inb_S6784x1024_S512x1024_4608_0)) x6 (View.ld x10 (Rect.unit (s := S6784x1024) ![5120, 0] S512x1024.size inb_S6784x1024_S512x1024_5120_0)) x7 (View.ld x10 (Rect.unit (s := S6784x1024) ![5632, 0] S512x1024.size inb_S6784x1024_S512x1024_5632_0)) x8 (View.ld x10 (Rect.unit (s := S6784x1024) ![6144, 0] S512x1024.size inb_S6784x1024_S512x1024_6144_0)) x9 (View.ld x10 (Rect.unit (s := S6784x1024) ![6656, 0] S128x1024.size inb_S6784x1024_S128x1024_6656_0))

theorem products_at (x0 : FVec Ideal S512x3072 .bf16) (y0 : FVec Ideal S3072x1024 .bf16) (x1 : FVec Ideal S512x256 .bf16) (y1 : FVec Ideal S256x1024 .bf16) (x2 : FVec Ideal S512x256 .bf16) (y2 : FVec Ideal S256x1024 .bf16) (x3 : FVec Ideal S512x512 .bf16) (y3 : FVec Ideal S512x1024 .bf16) (x4 : FVec Ideal S512x512 .bf16) (y4 : FVec Ideal S512x1024 .bf16) (x5 : FVec Ideal S512x512 .bf16) (y5 : FVec Ideal S512x1024 .bf16) (x6 : FVec Ideal S512x512 .bf16) (y6 : FVec Ideal S512x1024 .bf16) (x7 : FVec Ideal S512x512 .bf16) (y7 : FVec Ideal S512x1024 .bf16) (x8 : FVec Ideal S512x512 .bf16) (y8 : FVec Ideal S512x1024 .bf16) (x9 : FVec Ideal S512x128 .bf16) (y9 : FVec Ideal S128x1024 .bf16) (k : Fin 512) (j : Fin 1024) :
    k0_pay7 (F := Ideal) (k0_pay5 x0 y0 x1 y1 x2 y2 x3 y3) (k0_pay6 x4 y4) x5 y5 x6 y6 x7 y7 x8 y8 x9 y9 (ix2 k j)
      = (∑ l, x0 (ix2 k l) * y0 (ix2 l j)) + (∑ l, x1 (ix2 k l) * y1 (ix2 l j)) + (∑ l, x2 (ix2 k l) * y2 (ix2 l j)) + (∑ l, x3 (ix2 k l) * y3 (ix2 l j)) + (∑ l, x4 (ix2 k l) * y4 (ix2 l j)) + (∑ l, x5 (ix2 k l) * y5 (ix2 l j)) + (∑ l, x6 (ix2 k l) * y6 (ix2 l j)) + (∑ l, x7 (ix2 k l) * y7 (ix2 l j)) + (∑ l, x8 (ix2 k l) * y8 (ix2 l j)) + (∑ l, x9 (ix2 k l) * y9 (ix2 l j)) := by
  unfold k0_pay7 k0_pay5 k0_pay6
  simp only [shapeCast_self]
  pointwise

/-- The reference's gradient of the norm's output. -/
abbrev rdu : FVec Ideal S16384x1024 .f32 := val_main_v21 (F := Ideal) (aw m c) (agates m c) (agq m c) (agk m c) (agv m c) (agg m c) (afq m c) (afk m c) (afv m c) (amq m c) (ae m c)
abbrev rdg : FVec Ideal S16384x1024 .f32 := val_main_v22 (F := Ideal) (ax m c) (aw m c) (agates m c) (agq m c) (agk m c) (agv m c) (agg m c) (afq m c) (afk m c) (afv m c) (amq m c) (ae m c)
abbrev rdx : FVec Ideal S16384x1024 .f32 := val_main_v38 (F := Ideal) (ax m c) (ag m c) (aw m c) (ad m c) (agates m c) (agq m c) (agk m c) (agv m c) (agg m c) (afq m c) (afk m c) (afv m c) (amq m c) (ae m c)
abbrev rsum : FVec Ideal S8x1024 .f32 := val_main_v40 (F := Ideal) (ax m c) (aw m c) (agates m c) (agq m c) (agk m c) (agv m c) (agg m c) (afq m c) (afk m c) (afv m c) (amq m c) (ae m c)

theorem rdu_at (i : Fin 16384) (j : Fin 1024) : rdu m c (ix2 i j) = ∑ l : Fin 6680, beside m c (ix2 i l) * aw m c (ix2 j l) := by
  pointwise [val_main_v21]

theorem rdg_at (i : Fin 16384) (j : Fin 1024) :
    rdg m c (ix2 i j) = ax m c (ix2 i j) * (val_main_v13 (F := Ideal) (ax m c) : FVec Ideal S16384x1 .f32) (ix2 i 0) * rdu m c (ix2 i j) := by
  pointwise [val_main_v22, val_main_v18, val_main_v17]

/-- The gradient of the norm's output at a point. -/
abbrev pdu (t : Fin cfg0.N) : FVec Ideal S512x1024 .f32 := du (F := Ideal) (bgates m c t) (bgq m c t) (bgk m c t) (bgv m c t) (bgg m c t) (bfq m c t) (bfk m c t) (bfv m c t) (bmq m c t) (be m c t) (wb m c t)

theorem du_at (t : Fin cfg0.N) (k : Fin 512) (j : Fin 1024) : pdu m c t (ix2 k j) = rdu m c (ix2 (row t k) j) := by
  obtain ⟨l0, l1, l2, l3, l4, l5, l6, l7, l8, l9⟩ := loads (wb m c t) j
  obtain ⟨r0, r1, r2, r3, r4, r5, r6, r7, r8, r9⟩ := read_parts m c t k
  obtain ⟨c0, c1, c2, c3, c4, c5, c6, c7, c8, c9, c10, c11⟩ := cols_at m c j
  obtain ⟨s0, s1, s2, s3, s4, s5, s6, s7, s8, s9, s10⟩ := beside_at m c (row t k)
  unfold pdu du
  rw [products_at, rdu_at, cut_columns]
  simp only [l0, l1, l2, l3, l4, l5, l6, l7, l8, l9, read_w, r0, r1, r2, r3, r4, r5, r6, r7, r8, r9]
  rw [cut 24 104 128 rfl (fun l => ae m c (ix2 (row t k) l) * cols m c (ix2 ⟨6656 + l.val, by omega⟩ j)),
    cut 16 8 24 rfl (fun l => ae m c (ix2 (row t k) ⟨l.val, by omega⟩) * cols m c (ix2 ⟨6656 + l.val, by omega⟩ j))]
  simp only [c0, c1, c2, c3, c4, c5, c6, c7, c8, c9, c10, c11, s0, s1, s2, s3, s4, s5, s6, s7, s8, s9, s10, mul_zero, Finset.sum_const_zero, add_zero]
  ac_rfl

theorem scale_at (h : FVec Ideal S16384x1024 .f32) (i : Fin 16384) (z : Fin 1) :
    (val_main_v13 (F := Ideal) h : FVec Ideal S16384x1 .f32) (ix2 i z) = Ideal.rsqrt (meanSq (∑ k : Fin 1024, h (ix2 i k) * h (ix2 i k))) := by
  pointwise [val_main_v13, val_main_v12, val_main_v11, val_main_v10, val_main_v9, val_main_v8, val_main_v7, val_main_v6, val_main_cst, val_main_cst_0, val_main_cst_1]
  rfl

theorem square_at (h : FVec Ideal S16384x1024 .f32) (i : Fin 16384) (z : Fin 1) :
    (val_main_v12 (F := Ideal) h : FVec Ideal S16384x1 .f32) (ix2 i z) = meanSq (∑ k : Fin 1024, h (ix2 i k) * h (ix2 i k)) := by
  pointwise [val_main_v12, val_main_v11, val_main_v10, val_main_v9, val_main_v8, val_main_v7, val_main_v6, val_main_cst, val_main_cst_0, val_main_cst_1]
  rfl

theorem gained_at (i : Fin 16384) (j : Fin 1024) :
    (val_main_v23 (F := Ideal) (ag m c) (aw m c) (agates m c) (agq m c) (agk m c) (agv m c) (agg m c) (afq m c) (afk m c) (afv m c) (amq m c) (ae m c) : FVec Ideal S16384x1024 .f32) (ix2 i j) = rdu m c (ix2 i j) * ag m c (ix2 0 j) := by
  pointwise [val_main_v23, val_main_v5, val_main_v4, val_main_v3]

/-- What a point leaves in its rows of the first output. -/
abbrev dx (t : Fin cfg0.N) : FVec Ideal S512x1024 .f32 := k0_pay3 (F := Ideal) (pdu m c t) (xb m c t) (rb m c t) (gb m c t) (db m c t) (rb m c t)

theorem dx_at (t : Fin cfg0.N) (k : Fin 512) (j : Fin 1024) : dx m c t (ix2 k j) = rdx m c (ix2 (row t k) j) := by
  unfold dx k0_pay3 k0_pay1
  simp only [shapeCast_self]
  generalize ha : pdu m c t = u
  pointwise [val_main_v38, val_main_v37, val_main_v36, val_main_v35, val_main_v34, val_main_v33, val_main_v32, val_main_v31, val_main_v30, val_main_v29, val_main_v28, val_main_v27, val_main_v26, val_main_v25, val_main_v24, val_main_v16, val_main_v15, val_main_v14, val_main_cst_2, val_main_cst_3, val_main_cst_4, val_main_cst_5]
  subst ha
  simp only [du_at, read_x, read_r, read_g, read_d, gained_at, scale_at, square_at, Fin.sum_univ_one]
  exact norm_back (fun k' => ax m c (ix2 (row t k) k')) (fun k' => rdu m c (ix2 (row t k) k')) (fun k' => ag m c (ix2 0 k')) _ _ (sum_sq_nonneg _) j

/-- What a point adds to the second output. -/
abbrev part (t : Fin cfg0.N) (e : Fin 8) (j : Fin 1024) : EReal := ∑ q : Fin 64, rdg m c (ix2 (row t ⟨q.val * 8 + e.val, by omega⟩) j)

theorem more (t : Fin cfg0.N) (s : FVec Ideal S8x1024 .f32) (e : Fin 8) (j : Fin 1024) :
    k0_pay2 (F := Ideal) (pdu m c t) (xb m c t) (rb m c t) s (ix2 e j) = s (ix2 e j) + part m c t e j := by
  unfold k0_pay2 k0_pay1
  simp only [shapeCast_self]
  generalize ha : pdu m c t = u
  pointwise
  subst ha
  simp only [du_at, read_x, read_r]
  exact congrArg (s (ix2 e j) + ·) (Finset.sum_congr rfl fun q _ => (mul_comm _ _).trans (rdg_at m c _ j).symm)

theorem zero (e : Fin 8) (j : Fin 1024) : k0_pay4 (F := Ideal) (ix2 e j) = 0 := by
  unfold k0_pay4
  pointwise

section
variable {F : FTy → Type} [FloatOps F] (i : grid0.Coords) (a1 : Memref sig .tc .vmem S512x3072 .bf16) (h1 : a1.IsWhole) (a2 : Memref sig .tc .vmem S512x256 .bf16) (h2 : a2.IsWhole) (a3 : Memref sig .tc .vmem S512x256 .bf16) (h3 : a3.IsWhole) (a4 : Memref sig .tc .vmem S512x512 .bf16) (h4 : a4.IsWhole) (a5 : Memref sig .tc .vmem S512x512 .bf16) (h5 : a5.IsWhole) (a6 : Memref sig .tc .vmem S512x512 .bf16) (h6 : a6.IsWhole) (a7 : Memref sig .tc .vmem S512x512 .bf16) (h7 : a7.IsWhole) (a8 : Memref sig .tc .vmem S512x512 .bf16) (h8 : a8.IsWhole) (a9 : Memref sig .tc .vmem S512x512 .bf16) (h9 : a9.IsWhole) (a10 : Memref sig .tc .vmem S512x128 .bf16) (h10 : a10.IsWhole) (a11 : Memref sig .tc .vmem S6784x1024 .bf16) (h11 : a11.IsWhole) (a12 : Memref sig .tc .vmem S512x1024 .f32) (h12 : a12.IsWhole) (a13 : Memref sig .tc .vmem S512x1 .f32) (h13 : a13.IsWhole) (a14 : Memref sig .tc .vmem S1x1024 .f32) (h14 : a14.IsWhole) (a15 : Memref sig .tc .vmem S512x1024 .f32) (h15 : a15.IsWhole) (a16 : Memref sig .tc .vmem S512x1024 .f32) (h16 : a16.IsWhole) (a17 : Memref sig .tc .vmem S8x1024 .f32) (h17 : a17.IsWhole)
  (x0 : Vec F S512x3072 .bf16) (x1 : Vec F S512x256 .bf16) (x2 : Vec F S512x256 .bf16) (x3 : Vec F S512x512 .bf16) (x4 : Vec F S512x512 .bf16) (x5 : Vec F S512x512 .bf16) (x6 : Vec F S512x512 .bf16) (x7 : Vec F S512x512 .bf16) (x8 : Vec F S512x512 .bf16) (x9 : Vec F S512x128 .bf16) (x10 : Vec F S6784x1024 .bf16) (x11 : Vec F S512x1024 .f32) (x12 : Vec F S512x1 .f32) (x13 : Vec F S1x1024 .f32) (x14 : Vec F S512x1024 .f32)

theorem out_A (hc0 : cond0_0 i) :
    (out0_A_15 (F := F) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14, out0_A_16 (F := F) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14)
      = (k0_pay3 (du x0 x1 x2 x3 x4 x5 x6 x7 x8 x9 x10) x11 x12 x13 x14 x12, k0_pay2 (du x0 x1 x2 x3 x4 x5 x6 x7 x8 x9 x10) x11 x12 k0_pay4) := by
  unfold out0_A_15 out0_A_16
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14), View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14)]
  unfold kernelRun0_A
  dsimp only
  sl_unfold_words
  rw [View.canon_unit_zero (S := S512x1024) (e := .f32) corner, View.canon_cons_unit_zero (S := S8x1024) corner, View.readCov_unit_zero (S := S8x1024) _ corner]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S512x3072) corner, View.ld_unit_zero (S := S512x256) corner, View.ld_unit_zero (S := S512x512) corner, View.ld_unit_zero (S := S512x128) corner,
    View.ld_unit_zero (S := S512x1024) corner, View.ld_unit_zero (S := S512x1) corner, View.ld_unit_zero (S := S1x1024) corner]

theorem out_B (hc0 : ¬cond0_0 i) (s : Vec F S8x1024 .f32) :
    (out0_B_15 (F := F) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14 s, out0_B_16 (F := F) c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14 s)
      = (k0_pay3 (du x0 x1 x2 x3 x4 x5 x6 x7 x8 x9 x10) x11 x12 x13 x14 x12, k0_pay2 (du x0 x1 x2 x3 x4 x5 x6 x7 x8 x9 x10) x11 x12 s) := by
  unfold out0_B_15 out0_B_16
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14 s), View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 x8 x9 x10 x11 x12 x13 x14 s)]
  unfold kernelRun0_B
  dsimp only
  sl_unfold_words
  rw [View.canon_unit_zero (S := S512x1024) (e := .f32) corner, View.canon_unit_zero (S := S8x1024) corner]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h17.read_unread, View.ld_unit_zero (S := S512x3072) corner, View.ld_unit_zero (S := S512x256) corner, View.ld_unit_zero (S := S512x512) corner, View.ld_unit_zero (S := S512x128) corner,
    View.ld_unit_zero (S := S512x1024) corner, View.ld_unit_zero (S := S512x1) corner, View.ld_unit_zero (S := S1x1024) corner, View.ld_unit_zero (S := S8x1024) corner]

end

/-- What a point leaves in the output of its rows. -/
theorem left (t : Fin cfg0.N) : (outsAt0 m c t.val t.isLt).1 = dx m c t := by
  by_cases h0 : t.val % 32 = 0
  · rw [outsAt0_A m c t h0, out_A]
  · rw [outsAt0_B m c t h0, out_B]

/-- The point that many steps in. -/
abbrev turn (t : Fin cfg0.N) (h : t.val % 32 = 31) (q : Fin 32) : Fin cfg0.N :=
  ⟨t.val - 31 + q.val, lt_of_lt_of_eq (by have := lt_of_lt_of_eq t.isLt N_0; omega) N_0.symm⟩

/-- After the last point the second output holds all thirty-two contributions. -/
theorem held (t : Fin cfg0.N) (h : t.val % 32 = 31) (e : Fin 8) (j : Fin 1024) :
    (outsAt0 m c t.val t.isLt).2 (ix2 e j) = ∑ q : Fin 32, part m c (turn t h q) e j := by
  refine kept_sum (b := 32) (fun t => (outsAt0 m c t.val t.isLt).2 (ix2 e j)) (fun t => part m c t e j) (fun t ht => ?_) (fun t ht => ?_) 31 t h
  · rw [outsAt0_A m c t ht, out_A]
    dsimp only
    rw [more, zero, zero_add]
  · dsimp only
    rw [outsAt0_B m c t ht, out_B]
    dsimp only
    rw [more]

theorem dg_ref (e : Fin 8) (j : Fin 1024) : rsum m c (ix2 e j) = ∑ l : Fin 2048, rdg m c (ix2 (⟨l.val * 8 + e.val, by omega⟩ : Fin 16384) j) := by
  pointwise [val_main_v40, val_main_v39, val_main_cst_6]

theorem arr_dx : (dats m 0 c).arrAt 15 cfg0.N = rdx m c := by
  refine (dats m 0 c).arrAt_eq_of_covers 15 _ (by decide +kernel) fun t hf y => ?_
  obtain ⟨-, -, -, -, -, -, -, -, -, -, -, -, -, -, -, e, -⟩ := index_at t
  obtain ⟨k, j, rfl⟩ : ∃ (k : Fin 512) (j : Fin 1024), y = ix2 k j := ⟨y 0, y 1, by funext d; fin_cases d <;> rfl⟩
  refine Eq.trans ?_ (congrArg (rdx m c) (?_ : ix2 (row t k) j = _))
  · exact (congrFun ((after0_15 m c t).trans (left m c t)) (ix2 k j)).trans (dx_at m c t k j)
  · symm; blk_ext [e]

theorem arr_dg : (dats m 0 c).arrAt 16 cfg0.N = rsum m c := by
  refine (dats m 0 c).arrAt_eq_of_covers 16 _ (by decide +kernel) fun t hf y => ?_
  have h31 : t.val % 32 = 31 := (flush0_16 t).mp hf
  obtain ⟨-, -, -, -, -, -, -, -, -, -, -, -, -, -, -, -, e⟩ := index_at t
  obtain ⟨k, j, rfl⟩ : ∃ (k : Fin 8) (j : Fin 1024), y = ix2 k j := ⟨y 0, y 1, by funext d; fin_cases d <;> rfl⟩
  refine Eq.trans ?_ (congrArg (rsum m c) (?_ : ix2 k j = _))
  · rw [dg_ref, ← sum_steps]
    refine (congrFun (after0_16 m c t) (ix2 k j)).trans ((held m c t h31 k j).trans ?_)
    refine Finset.sum_congr rfl fun s _ => Finset.sum_congr rfl fun q _ => congrArg (rdg m c) (congrArg (ix2 · j) (Fin.ext ?_))
    have := lt_of_lt_of_eq t.isLt N_0
    show 512 * (t.val - 31 + s.val) + (q.val * 8 + k.val) = (64 * s.val + q.val) * 8 + k.val
    omega
  · symm; blk_ext [e]

theorem frame_reference : quiescent_DXReferenceIdeal (hDXReferenceIdeal := Cert.DXReferenceIdeal.Gen.facts) := fun m ρ _ =>
  (θ_run Cert.DXReferenceIdeal.defs _ _).mono (fun r h => ⟨fun c => (h c).2.2, sem_eq_zero_of_no_sems (by decide) r.2⟩)
    (Cert.DXReferenceIdeal.Value.run (F := Ideal) m ρ)

theorem algebraic : algebraic_DXIdeal_DXReferenceIdeal (hDXIdeal := Cert.DXIdeal.Gen.facts) (hDXReferenceIdeal := Cert.DXReferenceIdeal.Gen.facts) := by
  intro m g m' g' hp hm
  refine ⟨fun c => rdx m c, fun c => rsum m c, ?_, ?_⟩
  · exact (θ_run defs _ _).mono (fun r h c => ⟨(h c).1.trans (arr_dx m c), (h c).2.1.trans (arr_dg m c), (h c).2.2⟩) (Cert.DXIdeal.Value.run_blocks m g)
  · refine (θ_run Cert.DXReferenceIdeal.defs _ _).mono (fun r h c => ?_) (Cert.DXReferenceIdeal.Value.run m' g')
    obtain ⟨e0, e1, e2, e3, e4, e5, e6, e7, e8, e9, e10, e11, e12, e13⟩ := hm c
    refine ⟨(h c).1.trans ((val_main_v38_eq _ _).trans ?_), (h c).2.1.trans ((val_main_v40_eq _ _ _ _ _ _ _ _ _ _ _ _).trans ?_), (h c).2.2⟩
    · rw [e0, e1, e2, e3, e4, e5, e6, e7, e8, e9, e10, e11, e12, e13]
    · rw [e0, e2, e4, e5, e6, e7, e8, e9, e10, e11, e12, e13]

end Cert.Proof.DX
end
-- ==== Proof.Ff2Value.lean ====
/- The mixer's second product with the loss and the gradient of the last norm's input over real values ends with the reference's. -/
module

public import proofs.«01_k».proof.Defs
public import proofs.«01_k».proof.Proof.Products
public import proofs.«01_k».proof.Proof.Norm
public import proofs.«01_k».proof.Proof.Gen.Ff2Ideal.Value
public import proofs.«01_k».proof.Proof.Gen.Ff2ReferenceIdeal.Run
public import proofs.«01_k».proof.Proof.Gen.Ff2ReferenceIdeal.Read
public import Idealize.ShloMosaic.Lib.StableHlo.RunRead
public import Idealize.ShloMosaic.Lib.Pipeline.ValueKit

@[expose] public section
set_option maxRecDepth 16384
noncomputable section
namespace Cert.Proof.Ff2
open Cert.Ff2Ideal Cert.Ff2Ideal.Gen Cert.Ff2ReferenceIdeal.Read
open Idealize.ShloMosaic Idealize.ShloMosaic.TcCoe Idealize.SL.Sem Idealize.ShloMosaic.StableHlo

variable (m : (ℓ : Loc nD τ sig) → Buf (Elt Ideal) ℓ) (c : Dev nD)

abbrev aa : FVec Ideal S16384x4096 .f32 := m ((c : Thread nD τ).loc main_arg0)
abbrev aw : FVec Ideal S4096x1024 .f32 := m ((c : Thread nD τ).loc main_arg1)
abbrev ah : FVec Ideal S16384x1024 .f32 := m ((c : Thread nD τ).loc main_arg2)
abbrev ag : FVec Ideal S1x1024 .f32 := m ((c : Thread nD τ).loc main_arg3)
abbrev ay : FVec Ideal S16384x1024 .f32 := m ((c : Thread nD τ).loc main_arg4)

theorem V_a (i : S16384x4096.Idx) : (V m c main_v0 : FVec Ideal S16384x4096 .bf16) i = aa m c i := by
  unfold V
  simp only [hostOps0, List.flatten_cons, List.flatten_nil, List.append_nil, List.cons_append, List.nil_append, TRef.unary, TRef.toBuf, TRef.ofBuf, cast_eq]
  after_reads_simp
  rfl

theorem V_w (i : S4096x1024.Idx) : (V m c main_v1 : FVec Ideal S4096x1024 .bf16) i = aw m c i := by
  unfold V
  simp only [hostOps0, List.flatten_cons, List.flatten_nil, List.append_nil, List.cons_append, List.nil_append, TRef.unary, TRef.toBuf, TRef.ofBuf, cast_eq]
  after_reads_simp
  rfl

theorem V_h : (V m c main_arg2 : FVec Ideal S16384x1024 .f32) = ah m c := by
  unfold V
  simp only [hostOps0, List.flatten_cons, List.flatten_nil, List.append_nil, List.cons_append, List.nil_append, TRef.unary, TRef.toBuf, TRef.ofBuf, cast_eq]
  after_reads_simp

theorem V_g : (V m c main_arg3 : FVec Ideal S1x1024 .f32) = ag m c := by
  unfold V
  simp only [hostOps0, List.flatten_cons, List.flatten_nil, List.append_nil, List.cons_append, List.nil_append, TRef.unary, TRef.toBuf, TRef.ofBuf, cast_eq]
  after_reads_simp

theorem V_y : (V m c main_arg4 : FVec Ideal S16384x1024 .f32) = ay m c := by
  unfold V
  simp only [hostOps0, List.flatten_cons, List.flatten_nil, List.append_nil, List.cons_append, List.nil_append, TRef.unary, TRef.toBuf, TRef.ofBuf, cast_eq]
  after_reads_simp

theorem index_at : ∀ t : Fin grid0.N,
    win0_0.index t = ![t.val, 0] ∧ win0_1.index t = ![0, 0] ∧ win0_2.index t = ![t.val, 0] ∧ win0_3.index t = ![0, 0] ∧ win0_4.index t = ![t.val, 0]
      ∧ win0_5.index t = ![t.val, 0] ∧ win0_6.index t = ![t.val, 0] ∧ win0_7.index t = ![0, 0] ∧ win0_8.index t = ![0, 0] := by
  decide +kernel

/-- Row `k` of the point's block. -/
abbrev row (t : Fin cfg0.N) (k : Fin 512) : Fin 16384 := ⟨512 * t.val + k.val, by have := lt_of_lt_of_eq t.isLt N_0; omega⟩

/-- The blocks at a point. -/
abbrev ab (t : Fin cfg0.N) : FVec Ideal S512x4096 .bf16 := iblk m c 0 t
abbrev wb (t : Fin cfg0.N) : FVec Ideal S4096x1024 .bf16 := iblk m c 1 t
abbrev hb (t : Fin cfg0.N) : FVec Ideal S512x1024 .f32 := iblk m c 2 t
abbrev gb (t : Fin cfg0.N) : FVec Ideal S1x1024 .f32 := iblk m c 3 t
abbrev yb (t : Fin cfg0.N) : FVec Ideal S512x1024 .f32 := iblk m c 4 t

theorem read_a (t : Fin cfg0.N) (k : Fin 512) (l : Fin 4096) : ab m c t (ix2 k l) = aa m c (ix2 (row t k) l) := by
  obtain ⟨e, -⟩ := index_at t
  rw [← V_a]
  unfold ab iblk
  show (V m c main_v0 : FVec Ideal S16384x4096 .bf16) _ = _
  refine congrArg (V m c main_v0 : FVec Ideal S16384x4096 .bf16) ?_
  blk_ext [e]

theorem read_w (t : Fin cfg0.N) (l : Fin 4096) (j : Fin 1024) : wb m c t (ix2 l j) = aw m c (ix2 l j) := by
  obtain ⟨-, e, -⟩ := index_at t
  rw [← V_w]
  unfold wb iblk
  show (V m c main_v1 : FVec Ideal S4096x1024 .bf16) _ = _
  refine congrArg (V m c main_v1 : FVec Ideal S4096x1024 .bf16) ?_
  blk_ext [e]

theorem read_h (t : Fin cfg0.N) (k : Fin 512) (j : Fin 1024) : hb m c t (ix2 k j) = ah m c (ix2 (row t k) j) := by
  obtain ⟨-, -, e, -⟩ := index_at t
  rw [← V_h]
  unfold hb iblk
  show (V m c main_arg2 : FVec Ideal S16384x1024 .f32) _ = _
  refine congrArg (V m c main_arg2 : FVec Ideal S16384x1024 .f32) ?_
  blk_ext [e]

theorem read_g (t : Fin cfg0.N) (z : Fin 1) (j : Fin 1024) : gb m c t (ix2 z j) = ag m c (ix2 z j) := by
  obtain ⟨-, -, -, e, -⟩ := index_at t
  rw [← V_g]
  unfold gb iblk
  show (V m c main_arg3 : FVec Ideal S1x1024 .f32) _ = _
  refine congrArg (V m c main_arg3 : FVec Ideal S1x1024 .f32) ?_
  blk_ext [e]

theorem read_y (t : Fin cfg0.N) (k : Fin 512) (j : Fin 1024) : yb m c t (ix2 k j) = ay m c (ix2 (row t k) j) := by
  obtain ⟨-, -, -, -, e, -⟩ := index_at t
  rw [← V_y]
  unfold yb iblk
  show (V m c main_arg4 : FVec Ideal S16384x1024 .f32) _ = _
  refine congrArg (V m c main_arg4 : FVec Ideal S16384x1024 .f32) ?_
  blk_ext [e]

/-- The reference's arrays of these arguments: the residual stream, its rows normalized, the error, its square, the error's gradient,
    and the gradient of the gain row by row. -/
abbrev rh : FVec Ideal S16384x1024 .f32 := val_main_v3 (F := Ideal) (aa m c) (aw m c) (ah m c)
abbrev rx : FVec Ideal S16384x1024 .f32 := val_main_v19 (F := Ideal) (aa m c) (aw m c) (ah m c)
abbrev re : FVec Ideal S16384x1024 .f32 := val_main_v21 (F := Ideal) (aa m c) (aw m c) (ah m c) (ag m c) (ay m c)
abbrev rq : FVec Ideal S16384x1024 .f32 := val_main_v22 (F := Ideal) (aa m c) (aw m c) (ah m c) (ag m c) (ay m c)
abbrev rd : FVec Ideal S16384x1024 .f32 := val_main_v38 (F := Ideal) (aa m c) (aw m c) (ah m c) (ag m c) (ay m c)
abbrev rg : FVec Ideal S16384x1024 .f32 := val_main_v39 (F := Ideal) (aa m c) (aw m c) (ah m c) (ag m c) (ay m c)

/-- The sum of squares of a row of the residual stream. -/
abbrev sq (i : Fin 16384) : EReal := ∑ k : Fin 1024, rh m c (ix2 i k) * rh m c (ix2 i k)

theorem scale_ref (i : Fin 16384) (z : Fin 1) :
    (val_main_v14 (F := Ideal) (aa m c) (aw m c) (ah m c) : FVec Ideal Cert.Ff2ReferenceIdeal.S16384x1 .f32) (ix2 i z) = Ideal.rsqrt (meanSq (sq m c i)) := by
  pointwise [val_main_v14, val_main_v13, val_main_v12, val_main_v11, val_main_v10, val_main_v9, val_main_v8, val_main_v7, val_main_cst, val_main_cst_0, val_main_cst_1]
  rfl

theorem square_ref (i : Fin 16384) (z : Fin 1) :
    (val_main_v13 (F := Ideal) (aa m c) (aw m c) (ah m c) : FVec Ideal Cert.Ff2ReferenceIdeal.S16384x1 .f32) (ix2 i z) = meanSq (sq m c i) := by
  pointwise [val_main_v13, val_main_v12, val_main_v11, val_main_v10, val_main_v9, val_main_v8, val_main_v7, val_main_cst, val_main_cst_0, val_main_cst_1]
  rfl

theorem norm_ref (i : Fin 16384) (j : Fin 1024) : rx m c (ix2 i j) = rh m c (ix2 i j) * Ideal.rsqrt (meanSq (sq m c i)) := by
  rw [← scale_ref m c i 0]
  pointwise [val_main_v19, val_main_v18]

theorem err_ref (i : Fin 16384) (j : Fin 1024) : re m c (ix2 i j) = rx m c (ix2 i j) * ag m c (ix2 0 j) - ay m c (ix2 i j) := by
  pointwise [val_main_v21, val_main_v20, val_main_v6, val_main_v5, val_main_v4]

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_part : Ideal.ofBits .f32 0x3A800000#32 = ((1 / 1024 : ℝ) : EReal) := by
  simp [Ideal.ofBits, Ideal.ieee, -EReal.coe_mul]; norm_num

/-- The square's two and the loss's half cancel. -/
theorem halves (e : EReal) : Ideal.div (Ideal.ofBits .f32 0x3F000000#32 * Ideal.ofBits .f32 0x3F800000#32) (Ideal.ofBits .f32 0x44800000#32) *
    (Ideal.ofBits .f32 0x40000000#32 * e) = e * Ideal.ofBits .f32 0x3A800000#32 := by
  rw [ofBits_half, ofBits_one, ofBits_two, ofBits_part, ofBits_width, Ideal.div_coe (by norm_num), ← mul_assoc, ← EReal.coe_mul, ← EReal.coe_mul, ← EReal.coe_mul, mul_comm]
  norm_num

theorem grad_ref (i : Fin 16384) (j : Fin 1024) : rd m c (ix2 i j) = re m c (ix2 i j) * Ideal.ofBits .f32 0x3A800000#32 := by
  rw [← halves]
  pointwise [val_main_v38, val_main_v37, val_main_v36, val_main_v35, val_main_v34, val_main_v33, val_main_v32, val_main_v31, val_main_v30, val_main_v24, val_main_v23, val_main_cst_3, val_main_cst_7, val_main_cst_8, val_main_cst_9, val_main_cst_10]

/-- A point's values are rows of the reference's. -/
theorem stream_at (t : Fin cfg0.N) (k : Fin 512) (j : Fin 1024) : k0_pay8 (F := Ideal) (hb m c t) (ab m c t) (wb m c t) (ix2 k j) = rh m c (ix2 (row t k) j) := by
  unfold k0_pay8
  simp only [shapeCast_self]
  pointwise [val_main_v3, val_main_v2, val_main_v1, val_main_v0, val_main_call0_v0, val_main_call0_cst]
  simp only [read_a, read_w, read_h]

theorem scale_at (t : Fin cfg0.N) (k : Fin 512) (z : Fin 1) : k0_pay9 (F := Ideal) (hb m c t) (ab m c t) (wb m c t) (ix2 k z) = Ideal.rsqrt (meanSq (sq m c (row t k))) := by
  unfold k0_pay9
  generalize hu : k0_pay8 (F := Ideal) (hb m c t) (ab m c t) (wb m c t) = u
  pointwise
  subst hu
  simp only [stream_at]
  rfl

theorem norm_at (t : Fin cfg0.N) (k : Fin 512) (j : Fin 1024) : k0_pay10 (F := Ideal) (hb m c t) (ab m c t) (wb m c t) (ix2 k j) = rx m c (ix2 (row t k) j) := by
  unfold k0_pay10
  generalize hu : k0_pay8 (F := Ideal) (hb m c t) (ab m c t) (wb m c t) = u
  generalize hv : k0_pay9 (F := Ideal) (hb m c t) (ab m c t) (wb m c t) = v
  pointwise
  subst hu hv
  rw [stream_at, scale_at, norm_ref]

theorem err_at (t : Fin cfg0.N) (k : Fin 512) (j : Fin 1024) :
    k0_pay11 (F := Ideal) (hb m c t) (ab m c t) (wb m c t) (gb m c t) (yb m c t) (ix2 k j) = re m c (ix2 (row t k) j) := by
  unfold k0_pay11
  generalize hu : k0_pay10 (F := Ideal) (hb m c t) (ab m c t) (wb m c t) = u
  pointwise
  subst hu
  rw [norm_at, read_g, read_y, err_ref]

/-- What a point leaves in its rows of the first output. -/
abbrev dx (t : Fin cfg0.N) : FVec Ideal S512x1024 .f32 :=
  k0_pay4 (F := Ideal) (k0_pay9 (hb m c t) (ab m c t) (wb m c t)) (k0_pay10 (hb m c t) (ab m c t) (wb m c t)) (gb m c t)
    (k0_pay11 (hb m c t) (ab m c t) (wb m c t) (gb m c t) (yb m c t))

theorem dx_at (t : Fin cfg0.N) (k : Fin 512) (j : Fin 1024) :
    dx m c t (ix2 k j) = (val_main_v54 (F := Ideal) (aa m c) (aw m c) (ah m c) (ag m c) (ay m c) : FVec Ideal S16384x1024 .f32) (ix2 (row t k) j) := by
  have e := norm_back (fun k' => rh m c (ix2 (row t k) k')) (fun k' => re m c (ix2 (row t k) k') * Ideal.ofBits .f32 0x3A800000#32)
    (fun k' => ag m c (ix2 0 k')) 0 (sq m c (row t k)) (sum_sq_nonneg _) j
  simp only [zero_add] at e
  unfold dx k0_pay4 k0_pay2
  generalize hu : k0_pay9 (F := Ideal) (hb m c t) (ab m c t) (wb m c t) = u
  generalize hv : k0_pay10 (F := Ideal) (hb m c t) (ab m c t) (wb m c t) = v
  generalize hw : k0_pay11 (F := Ideal) (hb m c t) (ab m c t) (wb m c t) (gb m c t) (yb m c t) = w
  pointwise [val_main_v54, val_main_v53, val_main_v52, val_main_v51, val_main_v50, val_main_v49, val_main_v48, val_main_v47, val_main_v46, val_main_v45, val_main_v44, val_main_v43, val_main_v42, val_main_v41, val_main_v40, val_main_v17, val_main_v16, val_main_v15, val_main_v6, val_main_v5, val_main_v4, val_main_cst_2, val_main_cst_11, val_main_cst_12, val_main_cst_13]
  subst hu hv hw
  simp only [scale_at, norm_at, err_at, norm_ref, read_g, grad_ref, scale_ref, square_ref, Fin.sum_univ_one]
  exact e

/-- What a point adds to the last output. -/
abbrev part (t : Fin cfg0.N) (e : Fin 8) (j : Fin 1024) : EReal :=
  ∑ q : Fin 64, rg m c (ix2 (row t ⟨q.val * 8 + e.val, by omega⟩) j)

theorem more (t : Fin cfg0.N) (s : FVec Ideal S8x1024 .f32) (e : Fin 8) (j : Fin 1024) :
    k0_pay3 (F := Ideal) (k0_pay10 (hb m c t) (ab m c t) (wb m c t)) (k0_pay11 (hb m c t) (ab m c t) (wb m c t) (gb m c t) (yb m c t)) s (ix2 e j)
      = s (ix2 e j) + part m c t e j := by
  unfold k0_pay3 k0_pay2
  simp only [shapeCast_self]
  generalize hv : k0_pay10 (F := Ideal) (hb m c t) (ab m c t) (wb m c t) = v
  generalize hw : k0_pay11 (F := Ideal) (hb m c t) (ab m c t) (wb m c t) (gb m c t) (yb m c t) = w
  pointwise [val_main_v39]
  subst hv hw
  simp only [norm_at, err_at, grad_ref]
  exact congrArg (s (ix2 e j) + ·) (Finset.sum_congr rfl fun q _ => (mul_comm _ _).trans (congrArg (rx m c (ix2 (row t ⟨q.val * 8 + e.val, by omega⟩) j) * ·) (grad_ref m c _ j).symm))

theorem zero (e : Fin 8) (j : Fin 1024) : k0_pay7 (F := Ideal) (ix2 e j) = 0 := by
  unfold k0_pay7
  pointwise

/-- What a point adds to the sums of the squared error. -/
abbrev loss (t : Fin cfg0.N) (e : Fin 8) (j : Fin 128) : EReal :=
  ∑ b : Fin 8, ∑ q : Fin 64, rq m c (ix2 (row t ⟨q.val * 8 + e.val, by omega⟩) (⟨b.val * 128 + j.val, by omega⟩ : Fin 1024))

theorem folded_at (t : Fin cfg0.N) (e : Fin 8) (j : Fin 1024) :
    k0_pay12 (F := Ideal) (hb m c t) (ab m c t) (wb m c t) (gb m c t) (yb m c t) (ix2 e j) = ∑ q : Fin 64, rq m c (ix2 (row t ⟨q.val * 8 + e.val, by omega⟩) j) := by
  unfold k0_pay12
  generalize hw : k0_pay11 (F := Ideal) (hb m c t) (ab m c t) (wb m c t) (gb m c t) (yb m c t) = w
  pointwise [val_main_v22]
  subst hw
  simp only [err_at]

theorem more_loss (t : Fin cfg0.N) (s : FVec Ideal S8x128 .f32) (e : Fin 8) (j : Fin 128) :
    k0_pay1 (F := Ideal) (k0_pay12 (hb m c t) (ab m c t) (wb m c t) (gb m c t) (yb m c t)) (k0_pay13 (hb m c t) (ab m c t) (wb m c t) (gb m c t) (yb m c t)) s (ix2 e j)
      = s (ix2 e j) + loss m c t e j := by
  unfold k0_pay1 k0_pay13
  simp only [shapeCast_self]
  generalize hw : k0_pay12 (F := Ideal) (hb m c t) (ab m c t) (wb m c t) (gb m c t) (yb m c t) = w
  pointwise
  subst hw
  simp only [folded_at]
  simp only [loss, Fin.sum_univ_eight, Fin.val_zero, Fin.val_one, Fin.val_two, zero_mul, one_mul, zero_add]
  rfl

theorem zero_loss (e : Fin 8) (j : Fin 128) : k0_pay6 (F := Ideal) (ix2 e j) = 0 := by
  unfold k0_pay6
  pointwise

section
variable {F : FTy → Type} [FloatOps F] (i : grid0.Coords) (a1 : Memref sig .tc .vmem S512x4096 .bf16) (h1 : a1.IsWhole) (a2 : Memref sig .tc .vmem S4096x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S8x128 .f32) (h8 : a8.IsWhole) (a9 : Memref sig .tc .vmem S8x1024 .f32) (h9 : a9.IsWhole)
  (a : Vec F S512x4096 .bf16) (w : Vec F S4096x1024 .bf16) (h : Vec F S512x1024 .f32) (g : Vec F S1x1024 .f32) (y : Vec F S512x1024 .f32)

theorem out_A (hc0 : cond0_0 i) :
    (out0_A_5 (F := F) c i a1 h1 a2 h2 a3 h3 a4 h4 a5 h5 a6 h6 a7 h7 a8 h8 a9 h9 hc0 a w h g y, out0_A_6 (F := F) c i a1 h1 a2 h2 a3 h3 a4 h4 a5 h5 a6 h6 a7 h7 a8 h8 a9 h9 hc0 a w h g y, out0_A_7 (F := F) c i a1 h1 a2 h2 a3 h3 a4 h4 a5 h5 a6 h6 a7 h7 a8 h8 a9 h9 hc0 a w h g y, out0_A_8 (F := F) c i a1 h1 a2 h2 a3 h3 a4 h4 a5 h5 a6 h6 a7 h7 a8 h8 a9 h9 hc0 a w h g y)
      = (k0_pay4 (k0_pay9 h a w) (k0_pay10 h a w) g (k0_pay11 h a w g y), k0_pay5 (k0_pay9 h a w) (k0_pay10 h a w) g (k0_pay11 h a w g y),
        k0_pay1 (k0_pay12 h a w g y) (k0_pay13 h a w g y) k0_pay6, k0_pay3 (k0_pay10 h a w) (k0_pay11 h a w g y) k0_pay7) := by
  unfold out0_A_5 out0_A_6 out0_A_7 out0_A_8
  rw [View.read_writes_eq_canon _ _ _ (cover0_A_5 c i a1 h1 a2 h2 a3 h3 a4 h4 a5 h5 a6 h6 a7 h7 a8 h8 a9 h9 hc0 a w h g y), View.read_writes_eq_canon _ _ _ (cover0_A_6 c i a1 h1 a2 h2 a3 h3 a4 h4 a5 h5 a6 h6 a7 h7 a8 h8 a9 h9 hc0 a w h g y), View.read_writes_eq_canon _ _ _ (cover0_A_7 c i a1 h1 a2 h2 a3 h3 a4 h4 a5 h5 a6 h6 a7 h7 a8 h8 a9 h9 hc0 a w h g y), View.read_writes_eq_canon _ _ _ (cover0_A_8 c i a1 h1 a2 h2 a3 h3 a4 h4 a5 h5 a6 h6 a7 h7 a8 h8 a9 h9 hc0 a w h g y)]
  unfold kernelRun0_A
  dsimp only
  sl_unfold_words
  rw [View.canon_unit_zero (S := S512x1024) (e := .f32) corner, View.canon_unit_zero (S := S512x1024) (e := .bf16) corner, View.canon_cons_unit_zero (S := S8x128) corner, View.readCov_unit_zero (S := S8x128) _ corner,
    View.canon_cons_unit_zero (S := S8x1024) corner, View.readCov_unit_zero (S := S8x1024) _ corner]
  simp only [View.readAt_eq_ld, h1.read_unread, h2.read_unread, h3.read_unread, h4.read_unread, h5.read_unread, View.ld_unit_zero (S := S512x4096) corner, View.ld_unit_zero (S := S4096x1024) corner, View.ld_unit_zero (S := S512x1024) corner, View.ld_unit_zero (S := S1x1024) corner]

theorem out_B (hc0 : ¬cond0_0 i) (s : Vec F S8x128 .f32) (s' : Vec F S8x1024 .f32) :
    (out0_B_5 (F := F) c i a1 h1 a2 h2 a3 h3 a4 h4 a5 h5 a6 h6 a7 h7 a8 h8 a9 h9 hc0 a w h g y s s', out0_B_6 (F := F) c i a1 h1 a2 h2 a3 h3 a4 h4 a5 h5 a6 h6 a7 h7 a8 h8 a9 h9 hc0 a w h g y s s', out0_B_7 (F := F) c i a1 h1 a2 h2 a3 h3 a4 h4 a5 h5 a6 h6 a7 h7 a8 h8 a9 h9 hc0 a w h g y s s', out0_B_8 (F := F) c i a1 h1 a2 h2 a3 h3 a4 h4 a5 h5 a6 h6 a7 h7 a8 h8 a9 h9 hc0 a w h g y s s')
      = (k0_pay4 (k0_pay9 h a w) (k0_pay10 h a w) g (k0_pay11 h a w g y), k0_pay5 (k0_pay9 h a w) (k0_pay10 h a w) g (k0_pay11 h a w g y),
        k0_pay1 (k0_pay12 h a w g y) (k0_pay13 h a w g y) s, k0_pay3 (k0_pay10 h a w) (k0_pay11 h a w g y) s') := by
  unfold out0_B_5 out0_B_6 out0_B_7 out0_B_8
  rw [View.read_writes_eq_canon _ _ _ (cover0_B_5 c i a1 h1 a2 h2 a3 h3 a4 h4 a5 h5 a6 h6 a7 h7 a8 h8 a9 h9 hc0 a w h g y s s'), View.read_writes_eq_canon _ _ _ (cover0_B_6 c i a1 h1 a2 h2 a3 h3 a4 h4 a5 h5 a6 h6 a7 h7 a8 h8 a9 h9 hc0 a w h g y s s'), View.read_writes_eq_canon _ _ _ (cover0_B_7 c i a1 h1 a2 h2 a3 h3 a4 h4 a5 h5 a6 h6 a7 h7 a8 h8 a9 h9 hc0 a w h g y s s'), View.read_writes_eq_canon _ _ _ (cover0_B_8 c i a1 h1 a2 h2 a3 h3 a4 h4 a5 h5 a6 h6 a7 h7 a8 h8 a9 h9 hc0 a w h g y s s')]
  unfold kernelRun0_B
  dsimp only
  sl_unfold_words
  rw [View.canon_unit_zero (S := S512x1024) (e := .f32) corner, View.canon_unit_zero (S := S512x1024) (e := .bf16) corner, View.canon_unit_zero (S := S8x128) corner, View.canon_unit_zero (S := S8x1024) corner]
  simp only [View.readAt_eq_ld, h1.read_unread, h2.read_unread, h3.read_unread, h4.read_unread, h5.read_unread, h8.read_unread, h9.read_unread, View.ld_unit_zero (S := S512x4096) corner, View.ld_unit_zero (S := S4096x1024) corner, View.ld_unit_zero (S := S512x1024) corner, View.ld_unit_zero (S := S1x1024) corner, View.ld_unit_zero (S := S8x128) corner, View.ld_unit_zero (S := S8x1024) corner]

end

/-- What a point leaves in the two outputs of its rows. -/
theorem left (t : Fin cfg0.N) : (outsAt0 m c t.val t.isLt).1 = dx m c t ∧ (outsAt0 m c t.val t.isLt).2.1 = truncf .bf16 (dx m c t) bitsLt_bf16_f32 := by
  by_cases h0 : t.val % 32 = 0
  · rw [outsAt0_A m c t h0, out_A]
    exact ⟨rfl, rfl⟩
  · rw [outsAt0_B m c t h0, out_B]
    exact ⟨rfl, rfl⟩

/-- The point that many steps in. -/
abbrev turn (t : Fin cfg0.N) (h : t.val % 32 = 31) (q : Fin 32) : Fin cfg0.N :=
  ⟨t.val - 31 + q.val, lt_of_lt_of_eq (by have := lt_of_lt_of_eq t.isLt N_0; omega) N_0.symm⟩

/-- After the last point the two sums hold all thirty-two contributions. -/
theorem held_loss (t : Fin cfg0.N) (h : t.val % 32 = 31) (e : Fin 8) (j : Fin 128) :
    (outsAt0 m c t.val t.isLt).2.2.1 (ix2 e j) = ∑ q : Fin 32, loss m c (turn t h q) e j := by
  refine kept_sum (b := 32) (fun t => (outsAt0 m c t.val t.isLt).2.2.1 (ix2 e j)) (fun t => loss m c t e j) (fun t ht => ?_) (fun t ht => ?_) 31 t h
  · rw [outsAt0_A m c t ht, out_A]
    dsimp only
    rw [more_loss, zero_loss, zero_add]
  · dsimp only
    rw [outsAt0_B m c t ht, out_B]
    dsimp only
    rw [more_loss]

theorem held (t : Fin cfg0.N) (h : t.val % 32 = 31) (e : Fin 8) (j : Fin 1024) :
    (outsAt0 m c t.val t.isLt).2.2.2 (ix2 e j) = ∑ q : Fin 32, part m c (turn t h q) e j := by
  refine kept_sum (b := 32) (fun t => (outsAt0 m c t.val t.isLt).2.2.2 (ix2 e j)) (fun t => part m c t e j) (fun t ht => ?_) (fun t ht => ?_) 31 t h
  · rw [outsAt0_A m c t ht, out_A]
    dsimp only
    rw [more, zero, zero_add]
  · dsimp only
    rw [outsAt0_B m c t ht, out_B]
    dsimp only
    rw [more]

theorem loss_ref (e : Fin 8) (j : Fin 128) :
    (val_main_v60 (F := Ideal) (aa m c) (aw m c) (ah m c) (ag m c) (ay m c) : FVec Ideal S8x128 .f32) (ix2 e j)
      = ∑ b : Fin 8, ∑ l : Fin 2048, rq m c (ix2 (⟨l.val * 8 + e.val, by omega⟩ : Fin 16384) (⟨b.val * 128 + j.val, by omega⟩ : Fin 1024)) := by
  pointwise [val_main_v60, val_main_v59, val_main_v58, val_main_v57, val_main_cst_16, val_main_cst_15]

theorem dg_ref (e : Fin 8) (j : Fin 1024) :
    (val_main_v56 (F := Ideal) (aa m c) (aw m c) (ah m c) (ag m c) (ay m c) : FVec Ideal S8x1024 .f32) (ix2 e j)
      = ∑ l : Fin 2048, rg m c (ix2 (⟨l.val * 8 + e.val, by omega⟩ : Fin 16384) j) := by
  pointwise [val_main_v56, val_main_v55, val_main_cst_14]

/-- The rows of the points, 64 at a time. -/
theorem row_turn (t : Fin cfg0.N) (h : t.val % 32 = 31) (s : Fin 32) (q : Fin 64) (e : Fin 8) :
    row (turn t h s) ⟨q.val * 8 + e.val, by omega⟩ = (⟨(⟨64 * s.val + q.val, by omega⟩ : Fin 2048).val * 8 + e.val, by omega⟩ : Fin 16384) := by
  refine Fin.ext ?_
  have := lt_of_lt_of_eq t.isLt N_0
  show 512 * (t.val - 31 + s.val) + (q.val * 8 + e.val) = (64 * s.val + q.val) * 8 + e.val
  omega

theorem arr_dx : (dats m 0 c).arrAt 5 cfg0.N = (val_main_v54 (F := Ideal) (aa m c) (aw m c) (ah m c) (ag m c) (ay m c) : FVec Ideal S16384x1024 .f32) := by
  refine (dats m 0 c).arrAt_eq_of_covers 5 _ (by decide +kernel) fun t hf y => ?_
  obtain ⟨-, -, -, -, -, e, -⟩ := index_at t
  obtain ⟨k, j, rfl⟩ : ∃ (k : Fin 512) (j : Fin 1024), y = ix2 k j := ⟨y 0, y 1, by funext d; fin_cases d <;> rfl⟩
  refine Eq.trans ?_ (congrArg (val_main_v54 (F := Ideal) (aa m c) (aw m c) (ah m c) (ag m c) (ay m c)) (?_ : ix2 (row t k) j = _))
  · exact (congrFun ((after0_5 m c t).trans (left m c t).1) (ix2 k j)).trans (dx_at m c t k j)
  · symm; blk_ext [e]

theorem arr_dx16 : (dats m 0 c).arrAt 6 cfg0.N = (val_main_v61 (F := Ideal) (aa m c) (aw m c) (ah m c) (ag m c) (ay m c) : FVec Ideal S16384x1024 .bf16) := by
  refine (dats m 0 c).arrAt_eq_of_covers 6 _ (by decide +kernel) fun t hf y => ?_
  obtain ⟨-, -, -, -, -, -, e, -⟩ := index_at t
  obtain ⟨k, j, rfl⟩ : ∃ (k : Fin 512) (j : Fin 1024), y = ix2 k j := ⟨y 0, y 1, by funext d; fin_cases d <;> rfl⟩
  refine Eq.trans ?_ (congrArg (val_main_v61 (F := Ideal) (aa m c) (aw m c) (ah m c) (ag m c) (ay m c)) (?_ : ix2 (row t k) j = _))
  · exact (congrFun ((after0_6 m c t).trans (left m c t).2) (ix2 k j)).trans (dx_at m c t k j)
  · symm; blk_ext [e]

theorem arr_loss : (dats m 0 c).arrAt 7 cfg0.N = (val_main_v60 (F := Ideal) (aa m c) (aw m c) (ah m c) (ag m c) (ay m c) : FVec Ideal S8x128 .f32) := by
  refine (dats m 0 c).arrAt_eq_of_covers 7 _ (by decide +kernel) fun t hf y => ?_
  have h31 : t.val % 32 = 31 := (flush0_7 t).mp hf
  obtain ⟨-, -, -, -, -, -, -, e, -⟩ := index_at t
  obtain ⟨k, j, rfl⟩ : ∃ (k : Fin 8) (j : Fin 128), y = ix2 k j := ⟨y 0, y 1, by funext d; fin_cases d <;> rfl⟩
  refine Eq.trans ?_ (congrArg (val_main_v60 (F := Ideal) (aa m c) (aw m c) (ah m c) (ag m c) (ay m c)) (?_ : ix2 k j = _))
  · rw [loss_ref]
    refine (congrFun (after0_7 m c t) (ix2 k j)).trans ((held_loss m c t h31 k j).trans (Finset.sum_comm.trans ?_))
    refine Finset.sum_congr rfl fun b _ => ?_
    rw [← sum_steps]
    exact Finset.sum_congr rfl fun s _ => Finset.sum_congr rfl fun q _ => by rw [row_turn]
  · symm; blk_ext [e]

theorem arr_dg : (dats m 0 c).arrAt 8 cfg0.N = (val_main_v56 (F := Ideal) (aa m c) (aw m c) (ah m c) (ag m c) (ay m c) : FVec Ideal S8x1024 .f32) := by
  refine (dats m 0 c).arrAt_eq_of_covers 8 _ (by decide +kernel) fun t hf y => ?_
  have h31 : t.val % 32 = 31 := (flush0_8 t).mp hf
  obtain ⟨-, -, -, -, -, -, -, -, e⟩ := index_at t
  obtain ⟨k, j, rfl⟩ : ∃ (k : Fin 8) (j : Fin 1024), y = ix2 k j := ⟨y 0, y 1, by funext d; fin_cases d <;> rfl⟩
  refine Eq.trans ?_ (congrArg (val_main_v56 (F := Ideal) (aa m c) (aw m c) (ah m c) (ag m c) (ay m c)) (?_ : ix2 k j = _))
  · rw [dg_ref, ← sum_steps]
    refine (congrFun (after0_8 m c t) (ix2 k j)).trans ((held m c t h31 k j).trans ?_)
    exact Finset.sum_congr rfl fun s _ => Finset.sum_congr rfl fun q _ => by rw [row_turn]
  · symm; blk_ext [e]

theorem frame_reference : quiescent_Ff2ReferenceIdeal (hFf2ReferenceIdeal := Cert.Ff2ReferenceIdeal.Gen.facts) := fun m ρ _ =>
  (θ_run Cert.Ff2ReferenceIdeal.defs _ _).mono (fun r h => ⟨fun c => (h c).2.2.2.2, sem_eq_zero_of_no_sems (by decide) r.2⟩)
    (Cert.Ff2ReferenceIdeal.Value.run (F := Ideal) m ρ)

theorem algebraic : algebraic_Ff2Ideal_Ff2ReferenceIdeal (hFf2Ideal := Cert.Ff2Ideal.Gen.facts) (hFf2ReferenceIdeal := Cert.Ff2ReferenceIdeal.Gen.facts) := by
  intro m g m' g' hp hm
  refine ⟨fun c => val_main_v54 (F := Ideal) (aa m c) (aw m c) (ah m c) (ag m c) (ay m c), fun c => val_main_v61 (F := Ideal) (aa m c) (aw m c) (ah m c) (ag m c) (ay m c),
    fun c => val_main_v60 (F := Ideal) (aa m c) (aw m c) (ah m c) (ag m c) (ay m c), fun c => val_main_v56 (F := Ideal) (aa m c) (aw m c) (ah m c) (ag m c) (ay m c), ?_, ?_⟩
  · exact (θ_run defs _ _).mono (fun r h c => ⟨(h c).1.trans (arr_dx m c), (h c).2.1.trans (arr_dx16 m c), (h c).2.2.1.trans (arr_loss m c), (h c).2.2.2.1.trans (arr_dg m c), (h c).2.2.2.2⟩)
      (Cert.Ff2Ideal.Value.run_blocks m g)
  · refine (θ_run Cert.Ff2ReferenceIdeal.defs _ _).mono (fun r h c => ?_) (Cert.Ff2ReferenceIdeal.Value.run m' g')
    obtain ⟨e0, e1, e2, e3, e4⟩ := hm c
    refine ⟨(h c).1.trans ((val_main_v54_eq _ _).trans ?_), (h c).2.1.trans ((val_main_v61_eq _ _).trans ?_), (h c).2.2.1.trans ((val_main_v60_eq _ _).trans ?_),
      (h c).2.2.2.1.trans ((val_main_v56_eq _ _).trans ?_), (h c).2.2.2.2⟩ <;> rw [e0, e1, e2, e3, e4]

end Cert.Proof.Ff2
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1ReferenceIdeal
public import proofs.«01_k».proof.Proof.Gen.Ff1ReferenceIdeal.Run
public import proofs.«01_k».proof.Proof.Gen.Ff1ReferenceIdeal.Read
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.DActIdeal.Value
public import proofs.«01_k».proof.Proof.Gen.DActReferenceIdeal
public import proofs.«01_k».proof.Proof.Gen.DActReferenceIdeal.Run
public import proofs.«01_k».proof.Proof.Gen.DActReferenceIdeal.Read
public import proofs.«01_k».proof.Proof.Gen.DwFf2
public import proofs.«01_k».proof.Proof.Gen.DwFf2.Frame
public import proofs.«01_k».proof.Proof.Gen.DwFf2Ideal
public import proofs.«01_k».proof.Proof.Gen.DwFf2Ideal.Frame
public import proofs.«01_k».proof.Proof.Gen.DwFf2Ideal.Value
public import proofs.«01_k».proof.Proof.Gen.DwFf2ReferenceIdeal
public import proofs.«01_k».proof.Proof.Gen.DwFf2ReferenceIdeal.Run
public import proofs.«01_k».proof.Proof.Gen.DwFf2ReferenceIdeal.Read
public import proofs.«01_k».proof.Proof.Gen.DwFf1
public import proofs.«01_k».proof.Proof.Gen.DwFf1.Frame
public import proofs.«01_k».proof.Proof.Gen.DwFf1Ideal
public import proofs.«01_k».proof.Proof.Gen.DwFf1Ideal.Frame
public import proofs.«01_k».proof.Proof.Gen.DwFf1Ideal.Value
public import proofs.«01_k».proof.Proof.Gen.DwFf1ReferenceIdeal
public import proofs.«01_k».proof.Proof.Gen.DwFf1ReferenceIdeal.Run
public import proofs.«01_k».proof.Proof.Gen.DwFf1ReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.DwGates
public import proofs.«01_k».proof.Proof.Gen.DwGates.Frame
public import proofs.«01_k».proof.Proof.Gen.DwGatesIdeal
public import proofs.«01_k».proof.Proof.Gen.DwGatesIdeal.Frame
public import proofs.«01_k».proof.Proof.Gen.DwGatesIdeal.Value
public import proofs.«01_k».proof.Proof.Gen.DwGatesReferenceIdeal
public import proofs.«01_k».proof.Proof.Gen.DwGatesReferenceIdeal.Run
public import proofs.«01_k».proof.Proof.Gen.DwGatesReferenceIdeal.Read
public import proofs.«01_k».proof.Proof.Gen.DwGla
public import proofs.«01_k».proof.Proof.Gen.DwGla.Frame
public import proofs.«01_k».proof.Proof.Gen.DwGlaIdeal
public import proofs.«01_k».proof.Proof.Gen.DwGlaIdeal.Frame
public import proofs.«01_k».proof.Proof.Gen.DwGlaIdeal.Value
public import proofs.«01_k».proof.Proof.Gen.DwGlaReferenceIdeal
public import proofs.«01_k».proof.Proof.Gen.DwGlaReferenceIdeal.Run
public import proofs.«01_k».proof.Proof.Gen.DwGlaReferenceIdeal.Read
public import proofs.«01_k».proof.Proof.Gen.DwPair
public import proofs.«01_k».proof.Proof.Gen.DwPair.Frame
public import proofs.«01_k».proof.Proof.Gen.DwPairIdeal
public import proofs.«01_k».proof.Proof.Gen.DwPairIdeal.Frame
public import proofs.«01_k».proof.Proof.Gen.DwPairIdeal.Value
public import proofs.«01_k».proof.Proof.Gen.DwPairReferenceIdeal
public import proofs.«01_k».proof.Proof.Gen.DwPairReferenceIdeal.Run
public import proofs.«01_k».proof.Proof.Gen.DwPairReferenceIdeal.Read
public import proofs.«01_k».proof.Proof.Gen.DH1
public import proofs.«01_k».proof.Proof.Gen.DH1.Frame
public import proofs.«01_k».proof.Proof.Gen.DH1Ideal
public import proofs.«01_k».proof.Proof.Gen.DH1Ideal.Frame
public import proofs.«01_k».proof.Proof.Gen.DH1Ideal.Value
public import proofs.«01_k».proof.Proof.Gen.DH1ReferenceIdeal
public import proofs.«01_k».proof.Proof.Gen.DH1ReferenceIdeal.Run
public import proofs.«01_k».proof.Proof.Gen.DH1ReferenceIdeal.Read
public import proofs.«01_k».proof.Proof.Gen.DX
public import proofs.«01_k».proof.Proof.Gen.DX.Frame
public import proofs.«01_k».proof.Proof.Gen.DXIdeal
public import proofs.«01_k».proof.Proof.Gen.DXIdeal.Frame
public import proofs.«01_k».proof.Proof.Gen.DXIdeal.Value
public import proofs.«01_k».proof.Proof.Gen.DXReferenceIdeal
public import proofs.«01_k».proof.Proof.Gen.DXReferenceIdeal.Run
public import proofs.«01_k».proof.Proof.Gen.DXReferenceIdeal.Read
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2ReferenceIdeal
public import proofs.«01_k».proof.Proof.Gen.Ff2ReferenceIdeal.Run
public import proofs.«01_k».proof.Proof.Gen.Ff2ReferenceIdeal.Read
public import proofs.«01_k».proof.Proof.Frames
public import proofs.«01_k».proof.Proof.Value
public import proofs.«01_k».proof.Proof.Ff1Value
public import proofs.«01_k».proof.Proof.DActValue
public import proofs.«01_k».proof.Proof.DwFf2Value
public import proofs.«01_k».proof.Proof.DwFf1Value
public import proofs.«01_k».proof.Proof.ProjValue
public import proofs.«01_k».proof.Proof.DwGatesValue
public import proofs.«01_k».proof.Proof.DwGlaValue
public import proofs.«01_k».proof.Proof.DwPairValue
public import proofs.«01_k».proof.Proof.DH1Value
public import proofs.«01_k».proof.Proof.DXValue
public import proofs.«01_k».proof.Proof.Ff2Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ff1.Gen.facts, Cert.Ff1Ideal.Gen.facts, Cert.Ff1ReferenceIdeal.Gen.facts, Cert.DAct.Gen.facts, Cert.DActIdeal.Gen.facts, Cert.DActReferenceIdeal.Gen.facts, Cert.DwFf2.Gen.facts, Cert.DwFf2Ideal.Gen.facts, Cert.DwFf2ReferenceIdeal.Gen.facts, Cert.DwFf1.Gen.facts, Cert.DwFf1Ideal.Gen.facts, Cert.DwFf1ReferenceIdeal.Gen.facts,
  Cert.Proj.Gen.facts, Cert.ProjIdeal.Gen.facts, Cert.ProjReferenceIdeal.Gen.facts, Cert.DwGates.Gen.facts, Cert.DwGatesIdeal.Gen.facts, Cert.DwGatesReferenceIdeal.Gen.facts, Cert.DwGla.Gen.facts, Cert.DwGlaIdeal.Gen.facts, Cert.DwGlaReferenceIdeal.Gen.facts, Cert.DwPair.Gen.facts, Cert.DwPairIdeal.Gen.facts, Cert.DwPairReferenceIdeal.Gen.facts, Cert.DH1.Gen.facts, Cert.DH1Ideal.Gen.facts, Cert.DH1ReferenceIdeal.Gen.facts, Cert.DX.Gen.facts, Cert.DXIdeal.Gen.facts, Cert.DXReferenceIdeal.Gen.facts, Cert.Ff2.Gen.facts, Cert.Ff2Ideal.Gen.facts, Cert.Ff2ReferenceIdeal.Gen.facts, facts_finite,
  fun m ρ _ => Cert.Proof.Launched.frame m ρ, fun m ρ _ => Cert.Proof.frame m ρ, fun m ρ _ => Cert.Proof.frame m ρ,
  fun m ρ _ => frame_reference m ρ, fun m ρ _ => frame_reference m ρ,
  fun m ρ _ => Cert.Ff1.Gen.frame m ρ, fun m ρ _ => Cert.Ff1Ideal.Gen.frame m ρ, Ff1.frame_reference,
  fun m ρ _ => Cert.DAct.Gen.frame m ρ, fun m ρ _ => Cert.DActIdeal.Gen.frame m ρ, DAct.frame_reference,
  fun m ρ _ => Cert.DwFf2.Gen.frame m ρ, fun m ρ _ => Cert.DwFf2Ideal.Gen.frame m ρ, DwFf2.frame_reference,
  fun m ρ _ => Cert.DwFf1.Gen.frame m ρ, fun m ρ _ => Cert.DwFf1Ideal.Gen.frame m ρ, DwFf1.frame_reference,
  Proj.frame_compiled, fun m ρ _ => Cert.Proof.Proj.frame m ρ, Proj.frame_reference,
  fun m ρ _ => Cert.DwGates.Gen.frame m ρ, fun m ρ _ => Cert.DwGatesIdeal.Gen.frame m ρ, DwGates.frame_reference,
  fun m ρ _ => Cert.DwGla.Gen.frame m ρ, fun m ρ _ => Cert.DwGlaIdeal.Gen.frame m ρ, DwGla.frame_reference,
  fun m ρ _ => Cert.DwPair.Gen.frame m ρ, fun m ρ _ => Cert.DwPairIdeal.Gen.frame m ρ, DwPair.frame_reference,
  fun m ρ _ => Cert.DH1.Gen.frame m ρ, fun m ρ _ => Cert.DH1Ideal.Gen.frame m ρ, DH1.frame_reference,
  fun m ρ _ => Cert.DX.Gen.frame m ρ, fun m ρ _ => Cert.DXIdeal.Gen.frame m ρ, DX.frame_reference,
  fun m ρ _ => Cert.Ff2.Gen.frame m ρ, fun m ρ _ => Cert.Ff2Ideal.Gen.frame m ρ, Ff2.frame_reference,
  preserves, algebraic, trivial, Ff1.algebraic, trivial, DAct.algebraic, trivial, DwFf2.algebraic, trivial, DwFf1.algebraic,
  trivial, Proj.algebraic, trivial, DwGates.algebraic, trivial, DwGla.algebraic, trivial, DwPair.algebraic, trivial, DH1.algebraic,
  trivial, DX.algebraic, trivial, Ff2.algebraic⟩

end Cert.Proof

end
